-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FoxProj (m : (ℓ : Loc Cert.FoxProj.nD Cert.FoxProj.τ Cert.FoxProj.sig) → Buf (Elt Bits) ℓ) : Prop :=
  True

def Pre_FoxProjIdeal (m : (ℓ : Loc Cert.FoxProjIdeal.nD Cert.FoxProjIdeal.τ Cert.FoxProjIdeal.sig) → Buf (Elt Ideal) ℓ) : Prop :=
  True

def Pre_FoxProjRefIdeal (m : (ℓ : Loc Cert.FoxProjRefIdeal.nD Cert.FoxProjRefIdeal.τ Cert.FoxProjRefIdeal.sig) → Buf (Elt Ideal) ℓ) : Prop :=
  True

def Pre_MProj (m : (ℓ : Loc Cert.MProj.nD Cert.MProj.τ Cert.MProj.sig) → Buf (Elt Bits) ℓ) : Prop :=
  True

def Pre_MProjIdeal (m : (ℓ : Loc Cert.MProjIdeal.nD Cert.MProjIdeal.τ Cert.MProjIdeal.sig) → Buf (Elt Ideal) ℓ) : Prop :=
  True

def Pre_MProjRefIdeal (m : (ℓ : Loc Cert.MProjRefIdeal.nD Cert.MProjRefIdeal.τ Cert.MProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Fgate (m : (ℓ : Loc Cert.Fgate.nD Cert.Fgate.τ Cert.Fgate.sig) → Buf (Elt Bits) ℓ) : Prop :=
  True

def Pre_FgateIdeal (m : (ℓ : Loc Cert.FgateIdeal.nD Cert.FgateIdeal.τ Cert.FgateIdeal.sig) → Buf (Elt Ideal) ℓ) : Prop :=
  True

def Pre_FgateRefIdeal (m : (ℓ : Loc Cert.FgateRefIdeal.nD Cert.FgateRefIdeal.τ Cert.FgateRefIdeal.sig) → Buf (Elt Ideal) ℓ) : Prop :=
  True

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_own_lanes [hPre_own_lanes : Cert.Pre_own_lanes.Facts] (m : (ℓ : Loc Cert.FlashIdeal.nD Cert.FlashIdeal.τ Cert.FlashIdeal.sig) → Buf (Elt Ideal) ℓ) : Prop :=
  ∀ c : Dev Cert.FlashIdeal.nD,
    (Cert.Pre_own_lanes.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))) = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_own_lanes [hPre_own_lanes : Cert.Pre_own_lanes.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_own_lanes.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2))) = (fun _ => 1#1)

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmIdeal_finite [hPre_finite : Cert.Pre_finite.Facts] (m : (ℓ : Loc Cert.MlstmIdeal.nD Cert.MlstmIdeal.τ Cert.MlstmIdeal.sig) → Buf (Elt Ideal) ℓ) : Prop :=
  ∀ c : Dev Cert.MlstmIdeal.nD,
    (Cert.Pre_finite.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4))) = (fun _ => 1#1)

def Pre_MlstmRefIdeal (m : (ℓ : Loc Cert.MlstmRefIdeal.nD Cert.MlstmRefIdeal.τ Cert.MlstmRefIdeal.sig) → Buf (Elt Ideal) ℓ) : Prop :=
  True

def Pre_MlstmRefIdeal_finite [hPre_finite : Cert.Pre_finite.Facts] (m : (ℓ : Loc Cert.MlstmRefIdeal.nD Cert.MlstmRefIdeal.τ Cert.MlstmRefIdeal.sig) → Buf (Elt Ideal) ℓ) : Prop :=
  ∀ c : Dev Cert.MlstmRefIdeal.nD,
    (Cert.Pre_finite.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FoxProj [hFoxProj : Cert.FoxProj.Facts] : Prop :=
  ∀ (m : (ℓ : Loc Cert.FoxProj.nD Cert.FoxProj.τ Cert.FoxProj.sig) → Buf (Elt Bits) ℓ) (g : Dev Cert.FoxProj.nD → PrngReg), Pre_FoxProj m →
    θ_run (Cert.FoxProj.defs (F := Bits)) (onTc (τ := Cert.FoxProj.τ) (Cert.FoxProj.main (F := Bits))) ⟨m, fun _ => 0, g⟩ (fun r => (∀ c : Dev Cert.FoxProj.nD,
      r.2.mem ((c.tc : Thread Cert.FoxProj.nD Cert.FoxProj.τ).loc Cert.FoxProj.main_arg0) = m ((c.tc : Thread Cert.FoxProj.nD Cert.FoxProj.τ).loc Cert.FoxProj.main_arg0)
      ∧ r.2.mem ((c.tc : Thread Cert.FoxProj.nD Cert.FoxProj.τ).loc Cert.FoxProj.main_arg1) = m ((c.tc : Thread Cert.FoxProj.nD Cert.FoxProj.τ).loc Cert.FoxProj.main_arg1)
      ∧ r.2.mem ((c.tc : Thread Cert.FoxProj.nD Cert.FoxProj.τ).loc Cert.FoxProj.main_arg2) = m ((c.tc : Thread Cert.FoxProj.nD Cert.FoxProj.τ).loc Cert.FoxProj.main_arg2))
      ∧ r.2.sem = fun _ => 0)

def quiescent_FoxProjIdeal [hFoxProjIdeal : Cert.FoxProjIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg), Pre_FoxProjIdeal m →
    θ_run (Cert.FoxProjIdeal.defs (F := Ideal)) (onTc (τ := Cert.FoxProjIdeal.τ) (Cert.FoxProjIdeal.main (F := Ideal))) ⟨m, fun _ => 0, g⟩ (fun r => (∀ c : Dev Cert.FoxProjIdeal.nD,
      r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
      ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1)
      ∧ r.2.mem ((c.tc : Thread Cert.FoxProjIdeal.nD Cert.FoxProjIdeal.τ).loc Cert.FoxProjIdeal.main_arg2) = m ((c.tc : Thread Cert.FoxProjIdeal.nD Cert.FoxProjIdeal.τ).loc Cert.FoxProjIdeal.main_arg2))
      ∧ r.2.sem = fun _ => 0)

def quiescent_FoxProjRefIdeal [hFoxProjRefIdeal : Cert.FoxProjRefIdeal.Facts] : Prop :=
  ∀ (m : (ℓ : Loc Cert.FoxProjRefIdeal.nD Cert.FoxProjRefIdeal.τ Cert.FoxProjRefIdeal.sig) → Buf (Elt Ideal) ℓ) (g : Dev Cert.FoxProjRefIdeal.nD → PrngReg), Pre_FoxProjRefIdeal m →
    θ_run (Cert.FoxProjRefIdeal.defs (F := Ideal)) (onTc (τ := Cert.FoxProjRefIdeal.τ) (Cert.FoxProjRefIdeal.main (F := Ideal))) ⟨m, fun _ => 0, g⟩ (fun r => (∀ c : Dev Cert.FoxProjRefIdeal.nD,
      r.2.mem ((c.tc : Thread Cert.FoxProjRefIdeal.nD Cert.FoxProjRefIdeal.τ).loc Cert.FoxProjRefIdeal.main_arg0) = m ((c.tc : Thread Cert.FoxProjRefIdeal.nD Cert.FoxProjRefIdeal.τ).loc Cert.FoxProjRefIdeal.main_arg0)
      ∧ r.2.mem ((c.tc : Thread Cert.FoxProjRefIdeal.nD Cert.FoxProjRefIdeal.τ).loc Cert.FoxProjRefIdeal.main_arg1) = m ((c.tc : Thread Cert.FoxProjRefIdeal.nD Cert.FoxProjRefIdeal.τ).loc Cert.FoxProjRefIdeal.main_arg1)
      ∧ r.2.mem ((c.tc : Thread Cert.FoxProjRefIdeal.nD Cert.FoxProjRefIdeal.τ).loc Cert.FoxProjRefIdeal.main_arg2) = m ((c.tc : Thread Cert.FoxProjRefIdeal.nD Cert.FoxProjRefIdeal.τ).loc Cert.FoxProjRefIdeal.main_arg2))
      ∧ r.2.sem = fun _ => 0)

def quiescent_MProj [hMProj : Cert.MProj.Facts] : Prop :=
  ∀ (m : (ℓ : Loc Cert.MProj.nD Cert.MProj.τ Cert.MProj.sig) → Buf (Elt Bits) ℓ) (g : Dev Cert.MProj.nD → PrngReg), Pre_MProj m →
    θ_run (Cert.MProj.defs (F := Bits)) (onTc (τ := Cert.MProj.τ) (Cert.MProj.main (F := Bits))) ⟨m, fun _ => 0, g⟩ (fun r => (∀ c : Dev Cert.MProj.nD,
      r.2.mem ((c.tc : Thread Cert.MProj.nD Cert.MProj.τ).loc Cert.MProj.main_arg0) = m ((c.tc : Thread Cert.MProj.nD Cert.MProj.τ).loc Cert.MProj.main_arg0)
      ∧ r.2.mem ((c.tc : Thread Cert.MProj.nD Cert.MProj.τ).loc Cert.MProj.main_arg1) = m ((c.tc : Thread Cert.MProj.nD Cert.MProj.τ).loc Cert.MProj.main_arg1)
      ∧ r.2.mem ((c.tc : Thread Cert.MProj.nD Cert.MProj.τ).loc Cert.MProj.main_arg2) = m ((c.tc : Thread Cert.MProj.nD Cert.MProj.τ).loc Cert.MProj.main_arg2))
      ∧ r.2.sem = fun _ => 0)

def quiescent_MProjIdeal [hMProjIdeal : Cert.MProjIdeal.Facts] : Prop :=
  ∀ (m : (ℓ : Loc Cert.MProjIdeal.nD Cert.MProjIdeal.τ Cert.MProjIdeal.sig) → Buf (Elt Ideal) ℓ) (g : Dev Cert.MProjIdeal.nD → PrngReg), Pre_MProjIdeal m →
    θ_run (Cert.MProjIdeal.defs (F := Ideal)) (onTc (τ := Cert.MProjIdeal.τ) (Cert.MProjIdeal.main (F := Ideal))) ⟨m, fun _ => 0, g⟩ (fun r => (∀ c : Dev Cert.MProjIdeal.nD,
      r.2.mem ((c.tc : Thread Cert.MProjIdeal.nD Cert.MProjIdeal.τ).loc Cert.MProjIdeal.main_arg0) = m ((c.tc : Thread Cert.MProjIdeal.nD Cert.MProjIdeal.τ).loc Cert.MProjIdeal.main_arg0)
      ∧ r.2.mem ((c.tc : Thread Cert.MProjIdeal.nD Cert.MProjIdeal.τ).loc Cert.MProjIdeal.main_arg1) = m ((c.tc : Thread Cert.MProjIdeal.nD Cert.MProjIdeal.τ).loc Cert.MProjIdeal.main_arg1)
      ∧ r.2.mem ((c.tc : Thread Cert.MProjIdeal.nD Cert.MProjIdeal.τ).loc Cert.MProjIdeal.main_arg2) = m ((c.tc : Thread Cert.MProjIdeal.nD Cert.MProjIdeal.τ).loc Cert.MProjIdeal.main_arg2))
      ∧ r.2.sem = fun _ => 0)

def quiescent_MProjRefIdeal [hMProjRefIdeal : Cert.MProjRefIdeal.Facts] : Prop :=
  ∀ (m : (ℓ : Loc Cert.MProjRefIdeal.nD Cert.MProjRefIdeal.τ Cert.MProjRefIdeal.sig) → Buf (Elt Ideal) ℓ) (g : Dev Cert.MProjRefIdeal.nD → PrngReg), Pre_MProjRefIdeal m →
    θ_run (Cert.MProjRefIdeal.defs (F := Ideal)) (onTc (τ := Cert.MProjRefIdeal.τ) (Cert.MProjRefIdeal.main (F := Ideal))) ⟨m, fun _ => 0, g⟩ (fun r => (∀ c : Dev Cert.MProjRefIdeal.nD,
      r.2.mem ((c.tc : Thread Cert.MProjRefIdeal.nD Cert.MProjRefIdeal.τ).loc Cert.MProjRefIdeal.main_arg0) = m ((c.tc : Thread Cert.MProjRefIdeal.nD Cert.MProjRefIdeal.τ).loc Cert.MProjRefIdeal.main_arg0)
      ∧ r.2.mem ((c.tc : Thread Cert.MProjRefIdeal.nD Cert.MProjRefIdeal.τ).loc Cert.MProjRefIdeal.main_arg1) = m ((c.tc : Thread Cert.MProjRefIdeal.nD Cert.MProjRefIdeal.τ).loc Cert.MProjRefIdeal.main_arg1)
      ∧ r.2.mem ((c.tc : Thread Cert.MProjRefIdeal.nD Cert.MProjRefIdeal.τ).loc Cert.MProjRefIdeal.main_arg2) = m ((c.tc : Thread Cert.MProjRefIdeal.nD Cert.MProjRefIdeal.τ).loc Cert.MProjRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_Fgate [hFgate : Cert.Fgate.Facts] : Prop :=
  ∀ (m : (ℓ : Loc Cert.Fgate.nD Cert.Fgate.τ Cert.Fgate.sig) → Buf (Elt Bits) ℓ) (g : Dev Cert.Fgate.nD → PrngReg), Pre_Fgate m →
    θ_run (Cert.Fgate.defs (F := Bits)) (onTc (τ := Cert.Fgate.τ) (Cert.Fgate.main (F := Bits))) ⟨m, fun _ => 0, g⟩ (fun r => (∀ c : Dev Cert.Fgate.nD,
      r.2.mem ((c.tc : Thread Cert.Fgate.nD Cert.Fgate.τ).loc Cert.Fgate.main_arg0) = m ((c.tc : Thread Cert.Fgate.nD Cert.Fgate.τ).loc Cert.Fgate.main_arg0)
      ∧ r.2.mem ((c.tc : Thread Cert.Fgate.nD Cert.Fgate.τ).loc Cert.Fgate.main_arg1) = m ((c.tc : Thread Cert.Fgate.nD Cert.Fgate.τ).loc Cert.Fgate.main_arg1))
      ∧ r.2.sem = fun _ => 0)

def quiescent_FgateIdeal [hFgateIdeal : Cert.FgateIdeal.Facts] : Prop :=
  ∀ (m : (ℓ : Loc Cert.FgateIdeal.nD Cert.FgateIdeal.τ Cert.FgateIdeal.sig) → Buf (Elt Ideal) ℓ) (g : Dev Cert.FgateIdeal.nD → PrngReg), Pre_FgateIdeal m →
    θ_run (Cert.FgateIdeal.defs (F := Ideal)) (onTc (τ := Cert.FgateIdeal.τ) (Cert.FgateIdeal.main (F := Ideal))) ⟨m, fun _ => 0, g⟩ (fun r => (∀ c : Dev Cert.FgateIdeal.nD,
      r.2.mem ((c.tc : Thread Cert.FgateIdeal.nD Cert.FgateIdeal.τ).loc Cert.FgateIdeal.main_arg0) = m ((c.tc : Thread Cert.FgateIdeal.nD Cert.FgateIdeal.τ).loc Cert.FgateIdeal.main_arg0)
      ∧ r.2.mem ((c.tc : Thread Cert.FgateIdeal.nD Cert.FgateIdeal.τ).loc Cert.FgateIdeal.main_arg1) = m ((c.tc : Thread Cert.FgateIdeal.nD Cert.FgateIdeal.τ).loc Cert.FgateIdeal.main_arg1))
      ∧ r.2.sem = fun _ => 0)

def quiescent_FgateRefIdeal [hFgateRefIdeal : Cert.FgateRefIdeal.Facts] : Prop :=
  ∀ (m : (ℓ : Loc Cert.FgateRefIdeal.nD Cert.FgateRefIdeal.τ Cert.FgateRefIdeal.sig) → Buf (Elt Ideal) ℓ) (g : Dev Cert.FgateRefIdeal.nD → PrngReg), Pre_FgateRefIdeal m →
    θ_run (Cert.FgateRefIdeal.defs (F := Ideal)) (onTc (τ := Cert.FgateRefIdeal.τ) (Cert.FgateRefIdeal.main (F := Ideal))) ⟨m, fun _ => 0, g⟩ (fun r => (∀ c : Dev Cert.FgateRefIdeal.nD,
      r.2.mem ((c.tc : Thread Cert.FgateRefIdeal.nD Cert.FgateRefIdeal.τ).loc Cert.FgateRefIdeal.main_arg0) = m ((c.tc : Thread Cert.FgateRefIdeal.nD Cert.FgateRefIdeal.τ).loc Cert.FgateRefIdeal.main_arg0)
      ∧ r.2.mem ((c.tc : Thread Cert.FgateRefIdeal.nD Cert.FgateRefIdeal.τ).loc Cert.FgateRefIdeal.main_arg1) = m ((c.tc : Thread Cert.FgateRefIdeal.nD Cert.FgateRefIdeal.τ).loc Cert.FgateRefIdeal.main_arg1))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashIdeal_pre_own_lanes [hFlashIdeal : Cert.FlashIdeal.Facts] [hPre_own_lanes : Cert.Pre_own_lanes.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_own_lanes m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2))
      ∧ r.2.sem = fun _ => 0)

def quiescent_FlashRefIdeal_pre_own_lanes [hFlashRefIdeal : Cert.FlashRefIdeal.Facts] [hPre_own_lanes : Cert.Pre_own_lanes.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_own_lanes m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4))
      ∧ r.2.sem = fun _ => 0)

def quiescent_MlstmIdeal_pre_finite [hMlstmIdeal : Cert.MlstmIdeal.Facts] [hPre_finite : Cert.Pre_finite.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal_finite m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4))
      ∧ r.2.sem = fun _ => 0)

def quiescent_MlstmRefIdeal_pre_finite [hMlstmRefIdeal : Cert.MlstmRefIdeal.Facts] [hPre_finite : Cert.Pre_finite.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal_finite m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FoxProj_FoxProjIdeal : Prop :=
  True

def algebraic_FoxProjIdeal_FoxProjRefIdeal [hFoxProjIdeal : Cert.FoxProjIdeal.Facts] [hFoxProjRefIdeal : Cert.FoxProjRefIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg)
    (m' : (ℓ : Loc Cert.FoxProjRefIdeal.nD Cert.FoxProjRefIdeal.τ Cert.FoxProjRefIdeal.sig) → Buf (Elt Ideal) ℓ) (g' : Dev Cert.FoxProjRefIdeal.nD → PrngReg), Pre_FoxProjIdeal m →
    (∀ c : Dev Cert.FoxProjIdeal.nD,
      m' ((c.tc : Thread Cert.FoxProjRefIdeal.nD Cert.FoxProjRefIdeal.τ).loc Cert.FoxProjRefIdeal.main_arg0) = m ((c.tc : Thread Cert.FoxProjIdeal.nD Cert.FoxProjIdeal.τ).loc Cert.FoxProjIdeal.main_arg0)
      ∧ m' ((c.tc : Thread Cert.FoxProjRefIdeal.nD Cert.FoxProjRefIdeal.τ).loc Cert.FoxProjRefIdeal.main_arg1) = m ((c.tc : Thread Cert.FoxProjIdeal.nD Cert.FoxProjIdeal.τ).loc Cert.FoxProjIdeal.main_arg1)
      ∧ m' ((c.tc : Thread Cert.FoxProjRefIdeal.nD Cert.FoxProjRefIdeal.τ).loc Cert.FoxProjRefIdeal.main_arg2) = m ((c.tc : Thread Cert.FoxProjIdeal.nD Cert.FoxProjIdeal.τ).loc Cert.FoxProjIdeal.main_arg2)) →
    ∃ (v0 : (c : Dev Cert.FoxProjIdeal.nD) → Buf (Elt Ideal) ((c.tc : Thread Cert.FoxProjIdeal.nD Cert.FoxProjIdeal.τ).loc Cert.FoxProjIdeal.main_v14_0)) (v1 : (c : Dev Cert.FoxProjIdeal.nD) → Buf (Elt Ideal) ((c.tc : Thread Cert.FoxProjIdeal.nD Cert.FoxProjIdeal.τ).loc Cert.FoxProjIdeal.main_v14_1)) (v2 : (c : Dev Cert.FoxProjIdeal.nD) → Buf (Elt Ideal) ((c.tc : Thread Cert.FoxProjIdeal.nD Cert.FoxProjIdeal.τ).loc Cert.FoxProjIdeal.main_v14_2)) (v3 : (c : Dev Cert.FoxProjIdeal.nD) → Buf (Elt Ideal) ((c.tc : Thread Cert.FoxProjIdeal.nD Cert.FoxProjIdeal.τ).loc Cert.FoxProjIdeal.main_v14_3)),
      θ_run (Cert.FoxProjIdeal.defs (F := Ideal)) (onTc (τ := Cert.FoxProjIdeal.τ) (Cert.FoxProjIdeal.main (F := Ideal))) ⟨m, fun _ => 0, g⟩ (fun r => ∀ c : Dev Cert.FoxProjIdeal.nD,
          r.2.mem ((c.tc : Thread Cert.FoxProjIdeal.nD Cert.FoxProjIdeal.τ).loc Cert.FoxProjIdeal.main_v14_0) = v0 c
          ∧ r.2.mem ((c.tc : Thread Cert.FoxProjIdeal.nD Cert.FoxProjIdeal.τ).loc Cert.FoxProjIdeal.main_v14_1) = v1 c
          ∧ r.2.mem ((c.tc : Thread Cert.FoxProjIdeal.nD Cert.FoxProjIdeal.τ).loc Cert.FoxProjIdeal.main_v14_2) = v2 c
          ∧ r.2.mem ((c.tc : Thread Cert.FoxProjIdeal.nD Cert.FoxProjIdeal.τ).loc Cert.FoxProjIdeal.main_v14_3) = v3 c
          ∧ r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
          ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1)
          ∧ r.2.mem ((c.tc : Thread Cert.FoxProjIdeal.nD Cert.FoxProjIdeal.τ).loc Cert.FoxProjIdeal.main_arg2) = m ((c.tc : Thread Cert.FoxProjIdeal.nD Cert.FoxProjIdeal.τ).loc Cert.FoxProjIdeal.main_arg2))
      ∧ θ_run (Cert.FoxProjRefIdeal.defs (F := Ideal)) (onTc (τ := Cert.FoxProjRefIdeal.τ) (Cert.FoxProjRefIdeal.main (F := Ideal))) ⟨m', fun _ => 0, g'⟩ (fun r => ∀ c : Dev Cert.FoxProjRefIdeal.nD,
          r.2.mem ((c.tc : Thread Cert.FoxProjRefIdeal.nD Cert.FoxProjRefIdeal.τ).loc Cert.FoxProjRefIdeal.main_v24) = v0 c
          ∧ r.2.mem ((c.tc : Thread Cert.FoxProjRefIdeal.nD Cert.FoxProjRefIdeal.τ).loc Cert.FoxProjRefIdeal.main_v25) = v1 c
          ∧ r.2.mem ((c.tc : Thread Cert.FoxProjRefIdeal.nD Cert.FoxProjRefIdeal.τ).loc Cert.FoxProjRefIdeal.main_v26) = v2 c
          ∧ r.2.mem ((c.tc : Thread Cert.FoxProjRefIdeal.nD Cert.FoxProjRefIdeal.τ).loc Cert.FoxProjRefIdeal.main_v27) = v3 c
          ∧ r.2.mem ((c.tc : Thread Cert.FoxProjRefIdeal.nD Cert.FoxProjRefIdeal.τ).loc Cert.FoxProjRefIdeal.main_arg0) = m' ((c.tc : Thread Cert.FoxProjRefIdeal.nD Cert.FoxProjRefIdeal.τ).loc Cert.FoxProjRefIdeal.main_arg0)
          ∧ r.2.mem ((c.tc : Thread Cert.FoxProjRefIdeal.nD Cert.FoxProjRefIdeal.τ).loc Cert.FoxProjRefIdeal.main_arg1) = m' ((c.tc : Thread Cert.FoxProjRefIdeal.nD Cert.FoxProjRefIdeal.τ).loc Cert.FoxProjRefIdeal.main_arg1)
          ∧ r.2.mem ((c.tc : Thread Cert.FoxProjRefIdeal.nD Cert.FoxProjRefIdeal.τ).loc Cert.FoxProjRefIdeal.main_arg2) = m' ((c.tc : Thread Cert.FoxProjRefIdeal.nD Cert.FoxProjRefIdeal.τ).loc Cert.FoxProjRefIdeal.main_arg2))

def preserves_MProj_MProjIdeal : Prop :=
  True

def algebraic_MProjIdeal_MProjRefIdeal [hMProjIdeal : Cert.MProjIdeal.Facts] [hMProjRefIdeal : Cert.MProjRefIdeal.Facts] : Prop :=
  ∀ (m : (ℓ : Loc Cert.MProjIdeal.nD Cert.MProjIdeal.τ Cert.MProjIdeal.sig) → Buf (Elt Ideal) ℓ) (g : Dev Cert.MProjIdeal.nD → PrngReg)
    (m' : (ℓ : Loc Cert.MProjRefIdeal.nD Cert.MProjRefIdeal.τ Cert.MProjRefIdeal.sig) → Buf (Elt Ideal) ℓ) (g' : Dev Cert.MProjRefIdeal.nD → PrngReg), Pre_MProjIdeal m →
    (∀ c : Dev Cert.MProjIdeal.nD,
      m' ((c.tc : Thread Cert.MProjRefIdeal.nD Cert.MProjRefIdeal.τ).loc Cert.MProjRefIdeal.main_arg0) = m ((c.tc : Thread Cert.MProjIdeal.nD Cert.MProjIdeal.τ).loc Cert.MProjIdeal.main_arg0)
      ∧ m' ((c.tc : Thread Cert.MProjRefIdeal.nD Cert.MProjRefIdeal.τ).loc Cert.MProjRefIdeal.main_arg1) = m ((c.tc : Thread Cert.MProjIdeal.nD Cert.MProjIdeal.τ).loc Cert.MProjIdeal.main_arg1)
      ∧ m' ((c.tc : Thread Cert.MProjRefIdeal.nD Cert.MProjRefIdeal.τ).loc Cert.MProjRefIdeal.main_arg2) = m ((c.tc : Thread Cert.MProjIdeal.nD Cert.MProjIdeal.τ).loc Cert.MProjIdeal.main_arg2)) →
    ∃ (v0 : (c : Dev Cert.MProjIdeal.nD) → Buf (Elt Ideal) ((c.tc : Thread Cert.MProjIdeal.nD Cert.MProjIdeal.τ).loc Cert.MProjIdeal.main_v14_0)) (v1 : (c : Dev Cert.MProjIdeal.nD) → Buf (Elt Ideal) ((c.tc : Thread Cert.MProjIdeal.nD Cert.MProjIdeal.τ).loc Cert.MProjIdeal.main_v14_1)),
      θ_run (Cert.MProjIdeal.defs (F := Ideal)) (onTc (τ := Cert.MProjIdeal.τ) (Cert.MProjIdeal.main (F := Ideal))) ⟨m, fun _ => 0, g⟩ (fun r => ∀ c : Dev Cert.MProjIdeal.nD,
          r.2.mem ((c.tc : Thread Cert.MProjIdeal.nD Cert.MProjIdeal.τ).loc Cert.MProjIdeal.main_v14_0) = v0 c
          ∧ r.2.mem ((c.tc : Thread Cert.MProjIdeal.nD Cert.MProjIdeal.τ).loc Cert.MProjIdeal.main_v14_1) = v1 c
          ∧ r.2.mem ((c.tc : Thread Cert.MProjIdeal.nD Cert.MProjIdeal.τ).loc Cert.MProjIdeal.main_arg0) = m ((c.tc : Thread Cert.MProjIdeal.nD Cert.MProjIdeal.τ).loc Cert.MProjIdeal.main_arg0)
          ∧ r.2.mem ((c.tc : Thread Cert.MProjIdeal.nD Cert.MProjIdeal.τ).loc Cert.MProjIdeal.main_arg1) = m ((c.tc : Thread Cert.MProjIdeal.nD Cert.MProjIdeal.τ).loc Cert.MProjIdeal.main_arg1)
          ∧ r.2.mem ((c.tc : Thread Cert.MProjIdeal.nD Cert.MProjIdeal.τ).loc Cert.MProjIdeal.main_arg2) = m ((c.tc : Thread Cert.MProjIdeal.nD Cert.MProjIdeal.τ).loc Cert.MProjIdeal.main_arg2))
      ∧ θ_run (Cert.MProjRefIdeal.defs (F := Ideal)) (onTc (τ := Cert.MProjRefIdeal.τ) (Cert.MProjRefIdeal.main (F := Ideal))) ⟨m', fun _ => 0, g'⟩ (fun r => ∀ c : Dev Cert.MProjRefIdeal.nD,
          r.2.mem ((c.tc : Thread Cert.MProjRefIdeal.nD Cert.MProjRefIdeal.τ).loc Cert.MProjRefIdeal.main_v23) = v0 c
          ∧ r.2.mem ((c.tc : Thread Cert.MProjRefIdeal.nD Cert.MProjRefIdeal.τ).loc Cert.MProjRefIdeal.main_v24) = v1 c
          ∧ r.2.mem ((c.tc : Thread Cert.MProjRefIdeal.nD Cert.MProjRefIdeal.τ).loc Cert.MProjRefIdeal.main_arg0) = m' ((c.tc : Thread Cert.MProjRefIdeal.nD Cert.MProjRefIdeal.τ).loc Cert.MProjRefIdeal.main_arg0)
          ∧ r.2.mem ((c.tc : Thread Cert.MProjRefIdeal.nD Cert.MProjRefIdeal.τ).loc Cert.MProjRefIdeal.main_arg1) = m' ((c.tc : Thread Cert.MProjRefIdeal.nD Cert.MProjRefIdeal.τ).loc Cert.MProjRefIdeal.main_arg1)
          ∧ r.2.mem ((c.tc : Thread Cert.MProjRefIdeal.nD Cert.MProjRefIdeal.τ).loc Cert.MProjRefIdeal.main_arg2) = m' ((c.tc : Thread Cert.MProjRefIdeal.nD Cert.MProjRefIdeal.τ).loc Cert.MProjRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v7_0)) (v1 : (c : Dev Cert.OutIdeal.nD) → Buf (Elt Ideal) ((c.tc : Thread Cert.OutIdeal.nD Cert.OutIdeal.τ).loc Cert.OutIdeal.main_v7_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v7_0) = v0 c
          ∧ r.2.mem ((c.tc : Thread Cert.OutIdeal.nD Cert.OutIdeal.τ).loc Cert.OutIdeal.main_v7_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v29) = v0 c
          ∧ r.2.mem ((c.tc : Thread Cert.OutRefIdeal.nD Cert.OutRefIdeal.τ).loc Cert.OutRefIdeal.main_v43) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_Fgate_FgateIdeal : Prop :=
  True

def algebraic_FgateIdeal_FgateRefIdeal [hFgateIdeal : Cert.FgateIdeal.Facts] [hFgateRefIdeal : Cert.FgateRefIdeal.Facts] : Prop :=
  ∀ (m : (ℓ : Loc Cert.FgateIdeal.nD Cert.FgateIdeal.τ Cert.FgateIdeal.sig) → Buf (Elt Ideal) ℓ) (g : Dev Cert.FgateIdeal.nD → PrngReg)
    (m' : (ℓ : Loc Cert.FgateRefIdeal.nD Cert.FgateRefIdeal.τ Cert.FgateRefIdeal.sig) → Buf (Elt Ideal) ℓ) (g' : Dev Cert.FgateRefIdeal.nD → PrngReg), Pre_FgateIdeal m →
    (∀ c : Dev Cert.FgateIdeal.nD,
      m' ((c.tc : Thread Cert.FgateRefIdeal.nD Cert.FgateRefIdeal.τ).loc Cert.FgateRefIdeal.main_arg0) = m ((c.tc : Thread Cert.FgateIdeal.nD Cert.FgateIdeal.τ).loc Cert.FgateIdeal.main_arg0)
      ∧ m' ((c.tc : Thread Cert.FgateRefIdeal.nD Cert.FgateRefIdeal.τ).loc Cert.FgateRefIdeal.main_arg1) = m ((c.tc : Thread Cert.FgateIdeal.nD Cert.FgateIdeal.τ).loc Cert.FgateIdeal.main_arg1)) →
    ∃ (v0 : (c : Dev Cert.FgateIdeal.nD) → Buf (Elt Ideal) ((c.tc : Thread Cert.FgateIdeal.nD Cert.FgateIdeal.τ).loc Cert.FgateIdeal.main_v5_0)) (v1 : (c : Dev Cert.FgateIdeal.nD) → Buf (Elt Ideal) ((c.tc : Thread Cert.FgateIdeal.nD Cert.FgateIdeal.τ).loc Cert.FgateIdeal.main_v5_1)) (v2 : (c : Dev Cert.FgateIdeal.nD) → Buf (Elt Ideal) ((c.tc : Thread Cert.FgateIdeal.nD Cert.FgateIdeal.τ).loc Cert.FgateIdeal.main_v5_2)) (v3 : (c : Dev Cert.FgateIdeal.nD) → Buf (Elt Ideal) ((c.tc : Thread Cert.FgateIdeal.nD Cert.FgateIdeal.τ).loc Cert.FgateIdeal.main_v5_3)),
      θ_run (Cert.FgateIdeal.defs (F := Ideal)) (onTc (τ := Cert.FgateIdeal.τ) (Cert.FgateIdeal.main (F := Ideal))) ⟨m, fun _ => 0, g⟩ (fun r => ∀ c : Dev Cert.FgateIdeal.nD,
          r.2.mem ((c.tc : Thread Cert.FgateIdeal.nD Cert.FgateIdeal.τ).loc Cert.FgateIdeal.main_v5_0) = v0 c
          ∧ r.2.mem ((c.tc : Thread Cert.FgateIdeal.nD Cert.FgateIdeal.τ).loc Cert.FgateIdeal.main_v5_1) = v1 c
          ∧ r.2.mem ((c.tc : Thread Cert.FgateIdeal.nD Cert.FgateIdeal.τ).loc Cert.FgateIdeal.main_v5_2) = v2 c
          ∧ r.2.mem ((c.tc : Thread Cert.FgateIdeal.nD Cert.FgateIdeal.τ).loc Cert.FgateIdeal.main_v5_3) = v3 c
          ∧ r.2.mem ((c.tc : Thread Cert.FgateIdeal.nD Cert.FgateIdeal.τ).loc Cert.FgateIdeal.main_arg0) = m ((c.tc : Thread Cert.FgateIdeal.nD Cert.FgateIdeal.τ).loc Cert.FgateIdeal.main_arg0)
          ∧ r.2.mem ((c.tc : Thread Cert.FgateIdeal.nD Cert.FgateIdeal.τ).loc Cert.FgateIdeal.main_arg1) = m ((c.tc : Thread Cert.FgateIdeal.nD Cert.FgateIdeal.τ).loc Cert.FgateIdeal.main_arg1))
      ∧ θ_run (Cert.FgateRefIdeal.defs (F := Ideal)) (onTc (τ := Cert.FgateRefIdeal.τ) (Cert.FgateRefIdeal.main (F := Ideal))) ⟨m', fun _ => 0, g'⟩ (fun r => ∀ c : Dev Cert.FgateRefIdeal.nD,
          r.2.mem ((c.tc : Thread Cert.FgateRefIdeal.nD Cert.FgateRefIdeal.τ).loc Cert.FgateRefIdeal.main_v27) = v0 c
          ∧ r.2.mem ((c.tc : Thread Cert.FgateRefIdeal.nD Cert.FgateRefIdeal.τ).loc Cert.FgateRefIdeal.main_v28) = v1 c
          ∧ r.2.mem ((c.tc : Thread Cert.FgateRefIdeal.nD Cert.FgateRefIdeal.τ).loc Cert.FgateRefIdeal.main_v30) = v2 c
          ∧ r.2.mem ((c.tc : Thread Cert.FgateRefIdeal.nD Cert.FgateRefIdeal.τ).loc Cert.FgateRefIdeal.main_v32) = v3 c
          ∧ r.2.mem ((c.tc : Thread Cert.FgateRefIdeal.nD Cert.FgateRefIdeal.τ).loc Cert.FgateRefIdeal.main_arg0) = m' ((c.tc : Thread Cert.FgateRefIdeal.nD Cert.FgateRefIdeal.τ).loc Cert.FgateRefIdeal.main_arg0)
          ∧ r.2.mem ((c.tc : Thread Cert.FgateRefIdeal.nD Cert.FgateRefIdeal.τ).loc Cert.FgateRefIdeal.main_arg1) = m' ((c.tc : Thread Cert.FgateRefIdeal.nD Cert.FgateRefIdeal.τ).loc Cert.FgateRefIdeal.main_arg1))

def preserves_Flash_FlashIdeal : Prop :=
  True

def algebraic_FlashIdeal_FlashRefIdeal_pre_own_lanes [hFlashIdeal : Cert.FlashIdeal.Facts] [hFlashRefIdeal : Cert.FlashRefIdeal.Facts] [hPre_own_lanes : Cert.Pre_own_lanes.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_own_lanes m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)) →
    ∃ (v0 : (c : Dev Cert.FlashIdeal.nD) → Buf (Elt Ideal) ((c.tc : Thread Cert.FlashIdeal.nD Cert.FlashIdeal.τ).loc Cert.FlashIdeal.main_v0)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v0) = v0 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v54) = v0 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2))

def preserves_Mlstm_MlstmIdeal : Prop :=
  True

def algebraic_MlstmIdeal_MlstmRefIdeal_pre_finite [hMlstmIdeal : Cert.MlstmIdeal.Facts] [hMlstmRefIdeal : Cert.MlstmRefIdeal.Facts] [hPre_finite : Cert.Pre_finite.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal_finite m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)
      ∧ m' ((c.tc : Thread Cert.MlstmRefIdeal.nD Cert.MlstmRefIdeal.τ).loc Cert.MlstmRefIdeal.main_arg3) = m ((c.tc : Thread Cert.MlstmIdeal.nD Cert.MlstmIdeal.τ).loc Cert.MlstmIdeal.main_arg3)
      ∧ m' ((c.tc : Thread Cert.MlstmRefIdeal.nD Cert.MlstmRefIdeal.τ).loc Cert.MlstmRefIdeal.main_arg4) = m ((c.tc : Thread Cert.MlstmIdeal.nD Cert.MlstmIdeal.τ).loc Cert.MlstmIdeal.main_arg4)) →
    ∃ (v0 : (c : Dev Cert.MlstmIdeal.nD) → Buf (Elt Ideal) ((c.tc : Thread Cert.MlstmIdeal.nD Cert.MlstmIdeal.τ).loc Cert.MlstmIdeal.main_v15_0)) (v1 : (c : Dev Cert.MlstmIdeal.nD) → Buf (Elt Ideal) ((c.tc : Thread Cert.MlstmIdeal.nD Cert.MlstmIdeal.τ).loc Cert.MlstmIdeal.main_v15_1)) (v2 : (c : Dev Cert.MlstmIdeal.nD) → Buf (Elt Ideal) ((c.tc : Thread Cert.MlstmIdeal.nD Cert.MlstmIdeal.τ).loc Cert.MlstmIdeal.main_v15_2)) (v3 : (c : Dev Cert.MlstmIdeal.nD) → Buf (Elt Ideal) ((c.tc : Thread Cert.MlstmIdeal.nD Cert.MlstmIdeal.τ).loc Cert.MlstmIdeal.main_v15_3)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v15_0) = v0 c
          ∧ r.2.mem ((c.tc : Thread Cert.MlstmIdeal.nD Cert.MlstmIdeal.τ).loc Cert.MlstmIdeal.main_v15_1) = v1 c
          ∧ r.2.mem ((c.tc : Thread Cert.MlstmIdeal.nD Cert.MlstmIdeal.τ).loc Cert.MlstmIdeal.main_v15_2) = v2 c
          ∧ r.2.mem ((c.tc : Thread Cert.MlstmIdeal.nD Cert.MlstmIdeal.τ).loc Cert.MlstmIdeal.main_v15_3) = v3 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
          ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v104) = v0 c
          ∧ r.2.mem ((c.tc : Thread Cert.MlstmRefIdeal.nD Cert.MlstmRefIdeal.τ).loc Cert.MlstmRefIdeal.main_v39) = v1 c
          ∧ r.2.mem ((c.tc : Thread Cert.MlstmRefIdeal.nD Cert.MlstmRefIdeal.τ).loc Cert.MlstmRefIdeal.main_v40) = v2 c
          ∧ r.2.mem ((c.tc : Thread Cert.MlstmRefIdeal.nD Cert.MlstmRefIdeal.τ).loc Cert.MlstmRefIdeal.main_v105) = v3 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2)
          ∧ r.2.mem ((c.tc : Thread Cert.MlstmRefIdeal.nD Cert.MlstmRefIdeal.τ).loc Cert.MlstmRefIdeal.main_arg3) = m' ((c.tc : Thread Cert.MlstmRefIdeal.nD Cert.MlstmRefIdeal.τ).loc Cert.MlstmRefIdeal.main_arg3)
          ∧ r.2.mem ((c.tc : Thread Cert.MlstmRefIdeal.nD Cert.MlstmRefIdeal.τ).loc Cert.MlstmRefIdeal.main_arg4) = m' ((c.tc : Thread Cert.MlstmRefIdeal.nD Cert.MlstmRefIdeal.τ).loc Cert.MlstmRefIdeal.main_arg4))

def Claim : Prop :=
  ∃ (hKernel : Cert.Kernel.Facts) (hKernelIdeal : Cert.KernelIdeal.Facts) (hReferenceIdeal : Cert.ReferenceIdeal.Facts) (hFoxProj : Cert.FoxProj.Facts) (hFoxProjIdeal : Cert.FoxProjIdeal.Facts) (hFoxProjRefIdeal : Cert.FoxProjRefIdeal.Facts) (hMProj : Cert.MProj.Facts) (hMProjIdeal : Cert.MProjIdeal.Facts) (hMProjRefIdeal : Cert.MProjRefIdeal.Facts) (hOut : Cert.Out.Facts) (hOutIdeal : Cert.OutIdeal.Facts) (hOutRefIdeal : Cert.OutRefIdeal.Facts) (hFgate : Cert.Fgate.Facts) (hFgateIdeal : Cert.FgateIdeal.Facts) (hFgateRefIdeal : Cert.FgateRefIdeal.Facts) (hFlash : Cert.Flash.Facts) (hFlashIdeal : Cert.FlashIdeal.Facts) (hFlashRefIdeal : Cert.FlashRefIdeal.Facts) (hMlstm : Cert.Mlstm.Facts) (hMlstmIdeal : Cert.MlstmIdeal.Facts) (hMlstmRefIdeal : Cert.MlstmRefIdeal.Facts) (hPre_own_lanes : Cert.Pre_own_lanes.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_FoxProj (hFoxProj := hFoxProj)
    ∧ quiescent_FoxProjIdeal (hFoxProjIdeal := hFoxProjIdeal)
    ∧ quiescent_FoxProjRefIdeal (hFoxProjRefIdeal := hFoxProjRefIdeal)
    ∧ quiescent_MProj (hMProj := hMProj)
    ∧ quiescent_MProjIdeal (hMProjIdeal := hMProjIdeal)
    ∧ quiescent_MProjRefIdeal (hMProjRefIdeal := hMProjRefIdeal)
    ∧ quiescent_Out (hOut := hOut)
    ∧ quiescent_OutIdeal (hOutIdeal := hOutIdeal)
    ∧ quiescent_OutRefIdeal (hOutRefIdeal := hOutRefIdeal)
    ∧ quiescent_Fgate (hFgate := hFgate)
    ∧ quiescent_FgateIdeal (hFgateIdeal := hFgateIdeal)
    ∧ quiescent_FgateRefIdeal (hFgateRefIdeal := hFgateRefIdeal)
    ∧ quiescent_Flash (hFlash := hFlash)
    ∧ quiescent_FlashIdeal (hFlashIdeal := hFlashIdeal)
    ∧ quiescent_FlashIdeal_pre_own_lanes (hFlashIdeal := hFlashIdeal) (hPre_own_lanes := hPre_own_lanes)
    ∧ quiescent_FlashRefIdeal (hFlashRefIdeal := hFlashRefIdeal)
    ∧ quiescent_FlashRefIdeal_pre_own_lanes (hFlashRefIdeal := hFlashRefIdeal) (hPre_own_lanes := hPre_own_lanes)
    ∧ quiescent_Mlstm (hMlstm := hMlstm)
    ∧ quiescent_MlstmIdeal (hMlstmIdeal := hMlstmIdeal)
    ∧ quiescent_MlstmIdeal_pre_finite (hMlstmIdeal := hMlstmIdeal) (hPre_finite := hPre_finite)
    ∧ quiescent_MlstmRefIdeal (hMlstmRefIdeal := hMlstmRefIdeal)
    ∧ quiescent_MlstmRefIdeal_pre_finite (hMlstmRefIdeal := hMlstmRefIdeal) (hPre_finite := hPre_finite)
    ∧ preserves_Kernel_KernelIdeal
    ∧ algebraic_KernelIdeal_ReferenceIdeal (hKernelIdeal := hKernelIdeal) (hReferenceIdeal := hReferenceIdeal)
    ∧ preserves_FoxProj_FoxProjIdeal
    ∧ algebraic_FoxProjIdeal_FoxProjRefIdeal (hFoxProjIdeal := hFoxProjIdeal) (hFoxProjRefIdeal := hFoxProjRefIdeal)
    ∧ preserves_MProj_MProjIdeal
    ∧ algebraic_MProjIdeal_MProjRefIdeal (hMProjIdeal := hMProjIdeal) (hMProjRefIdeal := hMProjRefIdeal)
    ∧ preserves_Out_OutIdeal
    ∧ algebraic_OutIdeal_OutRefIdeal (hOutIdeal := hOutIdeal) (hOutRefIdeal := hOutRefIdeal)
    ∧ preserves_Fgate_FgateIdeal
    ∧ algebraic_FgateIdeal_FgateRefIdeal (hFgateIdeal := hFgateIdeal) (hFgateRefIdeal := hFgateRefIdeal)
    ∧ preserves_Flash_FlashIdeal
    ∧ algebraic_FlashIdeal_FlashRefIdeal_pre_own_lanes (hFlashIdeal := hFlashIdeal) (hFlashRefIdeal := hFlashRefIdeal) (hPre_own_lanes := hPre_own_lanes)
    ∧ preserves_Mlstm_MlstmIdeal
    ∧ algebraic_MlstmIdeal_MlstmRefIdeal_pre_finite (hMlstmIdeal := hMlstmIdeal) (hMlstmRefIdeal := hMlstmRefIdeal) (hPre_finite := hPre_finite)
-- ==== Pre_finite.lean ====
abbrev S16384x8192 : Shape := ⟨2, ![16384, 8192]⟩
abbrev S16384x256 : Shape := ⟨2, ![16384, 256]⟩
abbrev S8 : Shape := ⟨1, ![8]⟩
abbrev S2048 : Shape := ⟨1, ![2048]⟩
abbrev S_ : Shape := ⟨0, ![]⟩

class Facts : Prop where
  bitsLt_bf16_f32 : FTy.bits .bf16 < FTy.bits .f32
  bcast_S_S16384x8192 : S_.BroadcastsInDim S16384x8192 (![] : Fin 0 → Fin S16384x8192.rank)
  reducesTo_S16384x8192_S_d0_1 : S16384x8192.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v14 : IVec S_ 1) (main_v15 : FVec F S8 .f32) (main_v16 : FVec F S8 .f32) : IVec S_ 1 :=
  let main_v17 : IVec S8 1 := cmpf .olt main_v15 main_v16
  let main_c_5 : IVec S_ 1 := constantI S_ 1 1#1
  let main_v18 : IVec S_ 1 := (fun x v => Host.reduce IntOp.andi x v reducesTo_S8_S_d0 h_S_) main_v17 main_c_5
  let main_v19 : IVec S_ 1 := andi main_v14 main_v18
  main_v19

def fn {F : FTy → Type} [FloatOps F] (main_arg0 : FVec F S16384x8192 .bf16) (main_arg1 : FVec F S16384x256 .f32) (main_arg2 : FVec F S8 .f32) (main_arg3 : FVec F S8 .f32) (main_arg4 : FVec F S2048 .f32) : IVec S_ 1 :=
  let main_v0 : FVec F S16384x8192 .f32 := (extf .f32 · bitsLt_bf16_f32) main_arg0
  let main_v1 : FVec F S16384x8192 .f32 := Host.absf main_v0
  let main_cst : FVec F S_ .f32 := constant S_ .f32 0x7F800000#32
  let main_v2 : FVec F S16384x8192 .f32 := broadcastInDim S16384x8192 ![] bcast_S_S16384x8192 main_cst
  let main_v3 : IVec S16384x8192 1 := cmpf .olt main_v1 main_v2
  let main_c : IVec S_ 1 := constantI S_ 1 1#1
  let main_v4 : IVec S_ 1 := (fun x v => Host.reduce IntOp.andi x v reducesTo_S16384x8192_S_d0_1 h_S_) main_v3 main_c
  let main_v5 : FVec F S16384x256 .f32 := Host.absf main_arg1
  let main_cst_0 : FVec F S_ .f32 := constant S_ .f32 0x7F800000#32
  let main_v6 : FVec F S16384x256 .f32 := broadcastInDim S16384x256 ![] bcast_S_S16384x256 main_cst_0
  let main_v7 : IVec S16384x256 1 := cmpf .olt main_v5 main_v6
  let main_c_1 : IVec S_ 1 := constantI S_ 1 1#1
  let main_v8 : IVec S_ 1 := (fun x v => Host.reduce IntOp.andi x v reducesTo_S16384x256_S_d0_1 h_S_) main_v7 main_c_1
  let main_v9 : IVec S_ 1 := andi main_v4 main_v8
  let main_v10 : FVec F S8 .f32 := Host.absf main_arg2
  let main_cst_2 : FVec F S_ .f32 := constant S_ .f32 0x7F800000#32
  let main_v11 : FVec F S8 .f32 := broadcastInDim S8 ![] bcast_S_S8 main_cst_2
  let main_v12 : IVec S8 1 := cmpf .olt main_v10 main_v11
  let main_c_3 : IVec S_ 1 := constantI S_ 1 1#1
  let main_v13 : IVec S_ 1 := (fun x v => Host.reduce IntOp.andi x v reducesTo_S8_S_d0 h_S_) main_v12 main_c_3
  let main_v14 : IVec S_ 1 := andi main_v9 main_v13
  let main_v15 : FVec F S8 .f32 := Host.absf main_arg3
  let main_cst_4 : FVec F S_ .f32 := constant S_ .f32 0x7F800000#32
  let main_v16 : FVec F S8 .f32 := broadcastInDim S8 ![] bcast_S_S8 main_cst_4
  fn_part1 (F := F) main_v14 main_v15 main_v16
-- ==== Pre_own_lanes.lean ====
abbrev S16384x8192 : Shape := ⟨2, ![16384, 8192]⟩
abbrev S16384x128 : Shape := ⟨2, ![16384, 128]⟩
abbrev S128 : Shape := ⟨1, ![128]⟩
abbrev S_ : Shape := ⟨0, ![]⟩
abbrev S1x128 : Shape := ⟨2, ![1, 128]⟩

class Facts : Prop where
  bcast_S_S128 : S_.BroadcastsInDim S128 (![] : Fin 0 → Fin S128.rank)
  bcast_S128_S1x128_1 : S128.BroadcastsInDim S1x128 (![1] : Fin 1 → Fin S1x128.rank)
  bitsLt_bf16_f32 : FTy.bits .bf16 < FTy.bits .f32
  bcast_S_S16384x128 : S_.BroadcastsInDim S16384x128 (![] : Fin 0 → Fin S16384x128.rank)
  bcast_S1x128_S16384x128_0_1 : S1x128.BroadcastsInDim S16384x128 (![0, 1] : Fin 2 → Fin S16384x128.rank)
  reducesTo_S16384x128_S_d0_1 : S16384x128.ReducesTo [0, 1] S_
  h_S_ : 0 < S_.numel

variable [Facts]

def fn_part1 {F : FTy → Type} [FloatOps F] (main_v9 : IVec S_ 1) (main_v15 : IVec S1x128 1) (main_v16 : FVec F S16384x128 .f32) (main_v17 : FVec F S16384x128 .f32) : IVec S_ 1 :=
  let main_v18 : IVec S16384x128 1 := cmpf .oeq main_v16 main_v17
  let main_v19 : IVec S16384x128 1 := broadcastInDim S16384x128 ![0, 1] bcast_S1x128_S16384x128_0_1 main_v15
  let main_v20 : IVec S16384x128 1 := ori main_v19 main_v18
  let main_c_4 : IVec S_ 1 := constantI S_ 1 1#1
  let main_v21 : IVec S_ 1 := (fun x v => Host.reduce IntOp.andi x v reducesTo_S16384x128_S_d0_1 h_S_) main_v20 main_c_4
  let main_v22 : IVec S_ 1 := andi main_v9 main_v21
  main_v22

def fn {F : FTy → Type} [FloatOps F] (main_arg0 : FVec F S16384x8192 .bf16) (main_arg1 : FVec F S16384x128 .bf16) (main_arg2 : FVec F S16384x128 .bf16) : IVec S_ 1 :=
  let main_v0 : IVec S128 32 := iotaInDim S128 32 0
  let main_c : IVec S_ 32 := constantI S_ 32 48#32
  let main_v1 : IVec S128 32 := broadcastInDim S128 ![] bcast_S_S128 main_c
  let main_v2 : IVec S128 1 := cmpi .slt main_v0 main_v1
  let main_v3 : IVec S1x128 1 := broadcastInDim S1x128 ![1] bcast_S128_S1x128_1 main_v2
  let main_v4 : FVec F S16384x128 .f32 := (extf .f32 · bitsLt_bf16_f32) main_arg1
  let main_cst : FVec F S_ .f32 := constant S_ .f32 0x00000000#32
  let main_v5 : FVec F S16384x128 .f32 := broadcastInDim S16384x128 ![] bcast_S_S16384x128 main_cst
  let main_v6 : IVec S16384x128 1 := cmpf .oeq main_v4 main_v5
  let main_v7 : IVec S16384x128 1 := broadcastInDim S16384x128 ![0, 1] bcast_S1x128_S16384x128_0_1 main_v3
  let main_v8 : IVec S16384x128 1 := ori main_v7 main_v6
  let main_c_0 : IVec S_ 1 := constantI S_ 1 1#1
  let main_v9 : IVec S_ 1 := (fun x v => Host.reduce IntOp.andi x v reducesTo_S16384x128_S_d0_1 h_S_) main_v8 main_c_0
  let main_c_1 : IVec S_ 32 := constantI S_ 32 48#32
  let main_v10 : IVec S128 32 := broadcastInDim S128 ![] bcast_S_S128 main_c_1
  let main_v11 : IVec S128 1 := cmpi .sge main_v0 main_v10
  let main_c_2 : IVec S_ 32 := constantI S_ 32 96#32
  let main_v12 : IVec S128 32 := broadcastInDim S128 ![] bcast_S_S128 main_c_2
  let main_v13 : IVec S128 1 := cmpi .slt main_v0 main_v12
  let main_v14 : IVec S128 1 := andi main_v11 main_v13
  let main_v15 : IVec S1x128 1 := broadcastInDim S1x128 ![1] bcast_S128_S1x128_1 main_v14
  let main_v16 : FVec F S16384x128 .f32 := (extf .f32 · bitsLt_bf16_f32) main_arg2
  let main_cst_3 : FVec F S_ .f32 := constant S_ .f32 0x00000000#32
  let main_v17 : FVec F S16384x128 .f32 := broadcastInDim S16384x128 ![] bcast_S_S16384x128 main_cst_3
  fn_part1 (F := F) main_v9 main_v15 main_v16 main_v17
-- ==== Kernel.lean ====
abbrev S8x2048x1024 : Shape := ⟨3, ![8, 2048, 1024]⟩
abbrev S1024 : Shape := ⟨1, ![1024]⟩
abbrev S1024x8192 : Shape := ⟨2, ![1024, 8192]⟩
abbrev S3x2048 : Shape := ⟨2, ![3, 2048]⟩
abbrev S8x2x2048 : Shape := ⟨3, ![8, 2, 2048]⟩
abbrev S16384x1024 : Shape := ⟨2, ![16384, 1024]⟩
abbrev S1x1024 : Shape := ⟨2, ![1, 1024]⟩
abbrev S16384x2048 : Shape := ⟨2, ![16384, 2048]⟩
abbrev S16x2x2048 : Shape := ⟨3, ![16, 2, 2048]⟩
abbrev S1024x1024 : Shape := ⟨2, ![1024, 1024]⟩
abbrev S1x2x512 : Shape := ⟨3, ![1, 2, 512]⟩
abbrev S1024x512 : Shape := ⟨2, ![1024, 512]⟩
abbrev S4x2x512 : Shape := ⟨3, ![4, 2, 512]⟩
abbrev S1024x1 : Shape := ⟨2, ![1024, 1]⟩
abbrev S2x512 : Shape := ⟨2, ![2, 512]⟩
abbrev S3x512 : Shape := ⟨2, ![3, 512]⟩
abbrev S1x512 : Shape := ⟨2, ![1, 512]⟩

abbrev nBuf : Space → Nat
  | .hbm => 11
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x8192, .f32⟩
  | .hbm, ⟨3, _⟩ => ⟨S3x2048, .f32⟩
  | .hbm, ⟨4, _⟩ => ⟨S8x2x2048, .f32⟩
  | .hbm, ⟨5, _⟩ => ⟨S16384x1024, .f32⟩
  | .hbm, ⟨6, _⟩ => ⟨S1x1024, .f32⟩
  | .hbm, ⟨7, _⟩ => ⟨S1024x8192, .bf16⟩
  | .hbm, ⟨8, _⟩ => ⟨S16384x2048, .bf16⟩
  | .hbm, ⟨9, _⟩ => ⟨S16x2x2048, .f32⟩
  | .hbm, ⟨10, _⟩ => ⟨S8x2x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x8192, .bf16⟩
  | .local _ .vmem, ⟨4, _⟩ => ⟨S3x2048, .f32⟩
  | .local _ .vmem, ⟨5, _⟩ => ⟨S1x2x512, .f32⟩
  | .local _ .vmem, ⟨6, _⟩ => ⟨S1x2x512, .f32⟩
  | .local _ .vmem, ⟨7, _⟩ => ⟨S1024x512, .bf16⟩
  | .local _ .vmem, ⟨8, _⟩ => ⟨S1024x512, .bf16⟩
  | .local _ .vmem, ⟨9, _⟩ => ⟨S1x2x512, .f32⟩
  | .local _ .vmem, ⟨10, _⟩ => ⟨S1x2x512, .f32⟩
  | .local _ .vmem, ⟨11, _⟩ => ⟨S1024x1024, .bf16⟩
  | .local _ .vmem, ⟨12, _⟩ => ⟨S4x2x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let c0_i32_2 : BitVec 32 := 0#32
  let arg1 : BitVec 32 := BitVec.ofNat 32 (i 1).val
  let c512_i32 : BitVec 32 := 512#32
  let v4 : BitVec 32 := Scalar.muli arg1 c512_i32
  let v5 : BitVec 32 := Scalar.addi c0_i32_2 v4
  v5
def k0_off1 (i : grid0.Coords) (c0_i32_2 : BitVec 32) : Fin 2 → Nat :=
  let c0_3 : Index := 0#32
  let arg1 : BitVec 32 := BitVec.ofNat 32 (i 1).val
  let c512_i32 : BitVec 32 := 512#32
  let v4 : BitVec 32 := Scalar.muli arg1 c512_i32
  let v5 : BitVec 32 := Scalar.addi c0_i32_2 v4
  let v6 : BitVec 32 := v5
  let v7 : Index := Scalar.indexCast v6
  ![0, v7.toNat]
def k0_mult2 (i : grid0.Coords) : BitVec 32 :=
  let c2048_i32 : BitVec 32 := 2048#32
  let arg1 : BitVec 32 := BitVec.ofNat 32 (i 1).val
  let c512_i32_4 : BitVec 32 := 512#32
  let v11 : BitVec 32 := Scalar.muli arg1 c512_i32_4
  let v12 : BitVec 32 := Scalar.addi c2048_i32 v11
  v12
def k0_mult3 (i : grid0.Coords) : BitVec 32 :=
  let c4096_i32 : BitVec 32 := 4096#32
  let arg1 : BitVec 32 := BitVec.ofNat 32 (i 1).val
  let c512_i32_7 : BitVec 32 := 512#32
  let v18 : BitVec 32 := Scalar.muli arg1 c512_i32_7
  let v19 : BitVec 32 := Scalar.addi c4096_i32 v18
  v19
def k0_mult4 (i : grid0.Coords) : BitVec 32 :=
  let c6144_i32 : BitVec 32 := 6144#32
  let arg1 : BitVec 32 := BitVec.ofNat 32 (i 1).val
  let c512_i32_10 : BitVec 32 := 512#32
  let v25 : BitVec 32 := Scalar.muli arg1 c512_i32_10
  let v26 : BitVec 32 := Scalar.addi c6144_i32 v25
  v26
def k0_off2 (i : grid0.Coords) : Fin 3 → Nat :=
  let arg1 : BitVec 32 := BitVec.ofNat 32 (i 1).val
  let v45 : Index := Scalar.indexCast arg1
  let c0_21 : Index := 0#32
  let c0_22 : Index := 0#32
  ![v45.toNat, 0, 0]
def k0_mult5 (i : grid0.Coords) : BitVec 32 :=
  let arg1 : BitVec 32 := BitVec.ofNat 32 (i 1).val
  let c512_i32_23 : BitVec 32 := 512#32
  let v49 : BitVec 32 := Scalar.muli arg1 c512_i32_23
  v49
def k0_off3 (i : grid0.Coords) : Fin 2 → Nat :=
  let c0_24 : Index := 0#32
  let arg1 : BitVec 32 := BitVec.ofNat 32 (i 1).val
  let c512_i32_23 : BitVec 32 := 512#32
  let v49 : BitVec 32 := Scalar.muli arg1 c512_i32_23
  let v50 : BitVec 32 := v49
  let v51 : Index := Scalar.indexCast v50
  ![0, v51.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x2048x1024 : Shape := ⟨3, ![8, 2048, 1024]⟩
abbrev S1024 : Shape := ⟨1, ![1024]⟩
abbrev S1024x8192 : Shape := ⟨2, ![1024, 8192]⟩
abbrev S3x2048 : Shape := ⟨2, ![3, 2048]⟩
abbrev S8x2x2048 : Shape := ⟨3, ![8, 2, 2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x8192 : Shape := ⟨3, ![8, 2048, 8192]⟩
abbrev S8x2048x2048 : Shape := ⟨3, ![8, 2048, 2048]⟩
abbrev S8x2050x2048 : Shape := ⟨3, ![8, 2050, 2048]⟩
abbrev S1x2048 : Shape := ⟨2, ![1, 2048]⟩
abbrev S2048 : Shape := ⟨1, ![2048]⟩
abbrev S1x1x2048 : Shape := ⟨3, ![1, 1, 2048]⟩
abbrev S16384x2048 : Shape := ⟨2, ![16384, 2048]⟩

abbrev nBuf : Space → Nat
  | .hbm => 65
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x8192, .f32⟩
  | .hbm, ⟨3, _⟩ => ⟨S3x2048, .f32⟩
  | .hbm, ⟨4, _⟩ => ⟨S8x2x2048, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x2048x8192, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2050x2048, .f32⟩
  | .hbm, ⟨28, _⟩ => ⟨S1x2048, .f32⟩
  | .hbm, ⟨29, _⟩ => ⟨S2048, .f32⟩
  | .hbm, ⟨30, _⟩ => ⟨S8x2048x2048, .f32⟩
  | .hbm, ⟨31, _⟩ => ⟨S1x1x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048x2048, .f32⟩
  | .hbm, ⟨36, _⟩ => ⟨S8x2048x2048, .f32⟩
  | .hbm, ⟨37, _⟩ => ⟨S1x2048, .f32⟩
  | .hbm, ⟨38, _⟩ => ⟨S2048, .f32⟩
  | .hbm, ⟨39, _⟩ => ⟨S8x2048x2048, .f32⟩
  | .hbm, ⟨40, _⟩ => ⟨S1x1x2048, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S1x2048, .f32⟩
  | .hbm, ⟨45, _⟩ => ⟨S2048, .f32⟩
  | .hbm, ⟨46, _⟩ => ⟨S8x2048x2048, .f32⟩
  | .hbm, ⟨47, _⟩ => ⟨S1x1x2048, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S_, .f32⟩
  | .hbm, ⟨55, _⟩ => ⟨S8x2048x2048, .f32⟩
  | .hbm, ⟨56, _⟩ => ⟨S8x2048x2048, .f32⟩
  | .hbm, ⟨57, _⟩ => ⟨S_, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S16384x2048, .f32⟩
  | .hbm, ⟨63, _⟩ => ⟨S16384x2048, .bf16⟩
  | .hbm, ⟨64, _⟩ => ⟨S8x2x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== FoxProj.lean ====
abbrev S8x2048x1024 : Shape := ⟨3, ![8, 2048, 1024]⟩
abbrev S1024 : Shape := ⟨1, ![1024]⟩
abbrev S1024x8208 : Shape := ⟨2, ![1024, 8208]⟩
abbrev S1024x6144 : Shape := ⟨2, ![1024, 6144]⟩
abbrev S1024x2048 : Shape := ⟨2, ![1024, 2048]⟩
abbrev S1024x8192 : Shape := ⟨2, ![1024, 8192]⟩
abbrev S1024x16 : Shape := ⟨2, ![1024, 16]⟩
abbrev S_ : Shape := ⟨0, ![]⟩
abbrev S1024x128 : Shape := ⟨2, ![1024, 128]⟩
abbrev S8192 : Shape := ⟨1, ![8192]⟩
abbrev S1 : Shape := ⟨1, ![1]⟩
abbrev S2048 : Shape := ⟨1, ![2048]⟩
abbrev S16384x1024 : Shape := ⟨2, ![16384, 1024]⟩
abbrev S1x1024 : Shape := ⟨2, ![1, 1024]⟩
abbrev S4x1x2048 : Shape := ⟨3, ![4, 1, 2048]⟩
abbrev S16384x8192 : Shape := ⟨2, ![16384, 8192]⟩
abbrev S16384x128 : Shape := ⟨2, ![16384, 128]⟩
abbrev S16384x2048 : Shape := ⟨2, ![16384, 2048]⟩
abbrev S512x1024 : Shape := ⟨2, ![512, 1024]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S1x1x2048 : Shape := ⟨3, ![1, 1, 2048]⟩
abbrev S1x2048 : Shape := ⟨2, ![1, 2048]⟩

abbrev nBuf : Space → Nat
  | .hbm => 26
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x8208, .f32⟩
  | .hbm, ⟨3, _⟩ => ⟨S1024x6144, .f32⟩
  | .hbm, ⟨4, _⟩ => ⟨S1024x2048, .f32⟩
  | .hbm, ⟨5, _⟩ => ⟨S1024x8192, .f32⟩
  | .hbm, ⟨6, _⟩ => ⟨S1024x8192, .bf16⟩
  | .hbm, ⟨7, _⟩ => ⟨S1024x16, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S_, .f32⟩
  | .hbm, ⟨13, _⟩ => ⟨S8192, .f32⟩
  | .hbm, ⟨14, _⟩ => ⟨S_, .i32⟩
  | .hbm, ⟨15, _⟩ => ⟨S1, .i32⟩
  | .hbm, ⟨16, _⟩ => ⟨S_, .f32⟩
  | .hbm, ⟨17, _⟩ => ⟨S2048, .f32⟩
  | .hbm, ⟨18, _⟩ => ⟨S8192, .f32⟩
  | .hbm, ⟨19, _⟩ => ⟨S16384x1024, .f32⟩
  | .hbm, ⟨20, _⟩ => ⟨S1x1024, .f32⟩
  | .hbm, ⟨21, _⟩ => ⟨S4x1x2048, .f32⟩
  | .hbm, ⟨22, _⟩ => ⟨S16384x8192, .bf16⟩
  | .hbm, ⟨23, _⟩ => ⟨S16384x128, .f32⟩
  | .hbm, ⟨24, _⟩ => ⟨S16384x2048, .f32⟩
  | .hbm, ⟨25, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x8192, .bf16⟩
  | .local _ .vmem, ⟨4, _⟩ => ⟨S1024x128, .bf16⟩
  | .local _ .vmem, ⟨5, _⟩ => ⟨S4x1x2048, .f32⟩
  | .local _ .vmem, ⟨6, _⟩ => ⟨S512x2048, .bf16⟩
  | .local _ .vmem, ⟨7, _⟩ => ⟨S512x2048, .bf16⟩
  | .local _ .vmem, ⟨8, _⟩ => ⟨S512x128, .f32⟩
  | .local _ .vmem, ⟨9, _⟩ => ⟨S512x128, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c2048_i32 : BitVec 32 := 2048#32
  let v4 : BitVec 32 := Scalar.muli arg1 c2048_i32
  v4
def k0_off1 (i : grid0.Coords) : Fin 2 → Nat :=
  let c0_2 : Index := 0#32
  let arg1 : BitVec 32 := BitVec.ofNat 32 (i 1).val
  let c2048_i32 : BitVec 32 := 2048#32
  let v4 : BitVec 32 := Scalar.muli arg1 c2048_i32
  let v5 : BitVec 32 := v4
  let v6 : Index := Scalar.indexCast v5
  ![0, v6.toNat]
def k0_off2 (i : grid0.Coords) : Fin 3 → Nat :=
  let arg1 : BitVec 32 := BitVec.ofNat 32 (i 1).val
  let v10 : Index := Scalar.indexCast arg1
  let c0_3 : Index := 0#32
  let c0_4 : Index := 0#32
  ![v10.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v17 : BitVec 1 := Scalar.cmpi .sge arg1 c1_i32
  let c2_i32 : BitVec 32 := 2#32
  let v18 : BitVec 1 := Scalar.cmpi .slt arg1 c2_i32
  let v19 : BitVec 1 := Scalar.andi v17 v18
  let v20 : BitVec 32 := Scalar.extui v19
  let c0_i32_7 : BitVec 32 := 0#32
  let v21 : BitVec 1 := Scalar.cmpi .ne v20 c0_i32_7
  v21

def k0_cond3 (i : grid0.Coords) : BitVec 1 :=
  let arg1 : BitVec 32 := BitVec.ofNat 32 (i 1).val
  let c2_i32_8 : BitVec 32 := 2#32
  let v22 : BitVec 1 := Scalar.cmpi .sge arg1 c2_i32_8
  let c3_i32 : BitVec 32 := 3#32
  let v23 : BitVec 1 := Scalar.cmpi .slt arg1 c3_i32
  let v24 : BitVec 1 := Scalar.andi v22 v23
  let v25 : BitVec 32 := Scalar.extui v24
  let c0_i32_9 : BitVec 32 := 0#32
  let v26 : BitVec 1 := Scalar.cmpi .ne v25 c0_i32_9
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FoxProjRefIdeal.lean ====
abbrev S8x2048x1024 : Shape := ⟨3, ![8, 2048, 1024]⟩
abbrev S1024 : Shape := ⟨1, ![1024]⟩
abbrev S1024x8208 : Shape := ⟨2, ![1024, 8208]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x8208 : Shape := ⟨3, ![8, 2048, 8208]⟩
abbrev S8x2048x2048 : Shape := ⟨3, ![8, 2048, 2048]⟩
abbrev S8x2048x16 : Shape := ⟨3, ![8, 2048, 16]⟩
abbrev S8x2048x8192 : Shape := ⟨3, ![8, 2048, 8192]⟩
abbrev S8x2048x128 : Shape := ⟨3, ![8, 2048, 128]⟩
abbrev S16384x8192 : Shape := ⟨2, ![16384, 8192]⟩
abbrev S16384x128 : Shape := ⟨2, ![16384, 128]⟩
abbrev S16384x2048 : Shape := ⟨2, ![16384, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x8208, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x8208, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x16, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S8x2048x8192, .f32⟩
  | .hbm, ⟨29, _⟩ => ⟨S_, .i32⟩
  | .hbm, ⟨30, _⟩ => ⟨S_, .f32⟩
  | .hbm, ⟨31, _⟩ => ⟨S8x2048x128, .f32⟩
  | .hbm, ⟨32, _⟩ => ⟨S16384x8192, .f32⟩
  | .hbm, ⟨33, _⟩ => ⟨S16384x8192, .bf16⟩
  | .hbm, ⟨34, _⟩ => ⟨S16384x128, .f32⟩
  | .hbm, ⟨35, _⟩ => ⟨S16384x2048, .f32⟩
  | .hbm, ⟨36, _⟩ => ⟨S16384x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== MProj.lean ====
abbrev S8x2048x1024 : Shape := ⟨3, ![8, 2048, 1024]⟩
abbrev S1024 : Shape := ⟨1, ![1024]⟩
abbrev S1024x8208 : Shape := ⟨2, ![1024, 8208]⟩
abbrev S1024x4096 : Shape := ⟨2, ![1024, 4096]⟩
abbrev S1024x8192 : Shape := ⟨2, ![1024, 8192]⟩
abbrev S1024x8 : Shape := ⟨2, ![1024, 8]⟩
abbrev S_ : Shape := ⟨0, ![]⟩
abbrev S1024x128 : Shape := ⟨2, ![1024, 128]⟩
abbrev S1024x256 : Shape := ⟨2, ![1024, 256]⟩
abbrev S16384x1024 : Shape := ⟨2, ![16384, 1024]⟩
abbrev S1x1024 : Shape := ⟨2, ![1, 1024]⟩
abbrev S8192 : Shape := ⟨1, ![8192]⟩
abbrev S4x1x2048 : Shape := ⟨3, ![4, 1, 2048]⟩
abbrev S16384x8192 : Shape := ⟨2, ![16384, 8192]⟩
abbrev S16384x256 : Shape := ⟨2, ![16384, 256]⟩
abbrev S1024x1024 : Shape := ⟨2, ![1024, 1024]⟩
abbrev S1024x2048 : Shape := ⟨2, ![1024, 2048]⟩
abbrev S1024x1 : Shape := ⟨2, ![1024, 1]⟩

abbrev nBuf : Space → Nat
  | .hbm => 24
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x8208, .f32⟩
  | .hbm, ⟨3, _⟩ => ⟨S1024x4096, .f32⟩
  | .hbm, ⟨4, _⟩ => ⟨S1024x4096, .f32⟩
  | .hbm, ⟨5, _⟩ => ⟨S1024x8192, .f32⟩
  | .hbm, ⟨6, _⟩ => ⟨S1024x8192, .bf16⟩
  | .hbm, ⟨7, _⟩ => ⟨S1024x8, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x8, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x256, .f32⟩
  | .hbm, ⟨16, _⟩ => ⟨S1024x256, .bf16⟩
  | .hbm, ⟨17, _⟩ => ⟨S16384x1024, .f32⟩
  | .hbm, ⟨18, _⟩ => ⟨S1x1024, .f32⟩
  | .hbm, ⟨19, _⟩ => ⟨S_, .f32⟩
  | .hbm, ⟨20, _⟩ => ⟨S8192, .f32⟩
  | .hbm, ⟨21, _⟩ => ⟨S4x1x2048, .f32⟩
  | .hbm, ⟨22, _⟩ => ⟨S16384x8192, .bf16⟩
  | .hbm, ⟨23, _⟩ => ⟨S16384x256, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x8192, .bf16⟩
  | .local _ .vmem, ⟨4, _⟩ => ⟨S1024x256, .bf16⟩
  | .local _ .vmem, ⟨5, _⟩ => ⟨S4x1x2048, .f32⟩
  | .local _ .vmem, ⟨6, _⟩ => ⟨S1024x2048, .bf16⟩
  | .local _ .vmem, ⟨7, _⟩ => ⟨S1024x2048, .bf16⟩
  | .local _ .vmem, ⟨8, _⟩ => ⟨S1024x256, .f32⟩
  | .local _ .vmem, ⟨9, _⟩ => ⟨S1024x256, .f32⟩
  | .local _ .vmem, ⟨10, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v4 : BitVec 32 := Scalar.muli arg1 c2048_i32
  v4
def k0_off1 (i : grid0.Coords) : Fin 2 → Nat :=
  let c0_2 : Index := 0#32
  let arg1 : BitVec 32 := BitVec.ofNat 32 (i 1).val
  let c2048_i32 : BitVec 32 := 2048#32
  let v4 : BitVec 32 := Scalar.muli arg1 c2048_i32
  let v5 : BitVec 32 := v4
  let v6 : Index := Scalar.indexCast v5
  ![0, v6.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MProjRefIdeal.lean ====
abbrev S8x2048x1024 : Shape := ⟨3, ![8, 2048, 1024]⟩
abbrev S1024 : Shape := ⟨1, ![1024]⟩
abbrev S1024x8208 : Shape := ⟨2, ![1024, 8208]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x8208 : Shape := ⟨3, ![8, 2048, 8208]⟩
abbrev S8x2048x4096 : Shape := ⟨3, ![8, 2048, 4096]⟩
abbrev S8x2048x8 : Shape := ⟨3, ![8, 2048, 8]⟩
abbrev S8x2048x8192 : Shape := ⟨3, ![8, 2048, 8192]⟩
abbrev S8x2048x128 : Shape := ⟨3, ![8, 2048, 128]⟩
abbrev S8x2048x256 : Shape := ⟨3, ![8, 2048, 256]⟩
abbrev S16384x8192 : Shape := ⟨2, ![16384, 8192]⟩
abbrev S16384x256 : Shape := ⟨2, ![16384, 256]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x8208, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x8208, .f32⟩
  | .hbm, ⟨20, _⟩ => ⟨S8x2048x4096, .f32⟩
  | .hbm, ⟨21, _⟩ => ⟨S8x2048x8, .f32⟩
  | .hbm, ⟨22, _⟩ => ⟨S8x2048x8, .f32⟩
  | .hbm, ⟨23, _⟩ => ⟨S8x2048x4096, .f32⟩
  | .hbm, ⟨24, _⟩ => ⟨S8x2048x8192, .f32⟩
  | .hbm, ⟨25, _⟩ => ⟨S_, .i32⟩
  | .hbm, ⟨26, _⟩ => ⟨S_, .f32⟩
  | .hbm, ⟨27, _⟩ => ⟨S8x2048x128, .f32⟩
  | .hbm, ⟨28, _⟩ => ⟨S_, .i32⟩
  | .hbm, ⟨29, _⟩ => ⟨S_, .f32⟩
  | .hbm, ⟨30, _⟩ => ⟨S8x2048x128, .f32⟩
  | .hbm, ⟨31, _⟩ => ⟨S8x2048x256, .f32⟩
  | .hbm, ⟨32, _⟩ => ⟨S16384x8192, .f32⟩
  | .hbm, ⟨33, _⟩ => ⟨S16384x8192, .bf16⟩
  | .hbm, ⟨34, _⟩ => ⟨S16384x256, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_c_2 : Ref sig .tc := ⟨.hbm, 28, rfl⟩
abbrev main_call1_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Out.lean ====
abbrev S16384x2048 : Shape := ⟨2, ![16384, 2048]⟩
abbrev S8x2048x1024 : Shape := ⟨3, ![8, 2048, 1024]⟩
abbrev S4x8x2048x256 : Shape := ⟨4, ![4, 8, 2048, 256]⟩
abbrev S2048x1024 : Shape := ⟨2, ![2048, 1024]⟩
abbrev S256x1024 : Shape := ⟨2, ![256, 1024]⟩
abbrev S1024x1024 : Shape := ⟨2, ![1024, 1024]⟩
abbrev S1024 : Shape := ⟨1, ![1024]⟩
abbrev S16384x1024 : Shape := ⟨2, ![16384, 1024]⟩
abbrev S4x16384x256 : Shape := ⟨3, ![4, 16384, 256]⟩
abbrev S1x1024 : Shape := ⟨2, ![1, 1024]⟩
abbrev S1024x2048 : Shape := ⟨2, ![1024, 2048]⟩
abbrev S1x1024x256 : Shape := ⟨3, ![1, 1024, 256]⟩
abbrev S1024x1 : Shape := ⟨2, ![1024, 1]⟩
abbrev S1024x256 : Shape := ⟨2, ![1024, 256]⟩

abbrev nBuf : Space → Nat
  | .hbm => 17
  | .vmem => 15
  | .smem => 0
  | _ => 0

abbrev bufTy : (tb : Table) → Fin (tcTables nBuf tb) → BufTy
  | .hbm, ⟨0, _⟩ => ⟨S16384x2048, .bf16⟩
  | .hbm, ⟨1, _⟩ => ⟨S8x2048x1024, .f32⟩
  | .hbm, ⟨2, _⟩ => ⟨S4x8x2048x256, .f32⟩
  | .hbm, ⟨3, _⟩ => ⟨S2048x1024, .f32⟩
  | .hbm, ⟨4, _⟩ => ⟨S256x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S16384x1024, .f32⟩
  | .hbm, ⟨9, _⟩ => ⟨S4x16384x256, .f32⟩
  | .hbm, ⟨10, _⟩ => ⟨S2048x1024, .bf16⟩
  | .hbm, ⟨11, _⟩ => ⟨S256x1024, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S16384x1024, .f32⟩
  | .hbm, ⟨16, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S1x1024x256, .f32⟩
  | .local _ .vmem, ⟨5, _⟩ => ⟨S1x1024x256, .f32⟩
  | .local _ .vmem, ⟨6, _⟩ => ⟨S2048x1024, .bf16⟩
  | .local _ .vmem, ⟨7, _⟩ => ⟨S256x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutRefIdeal.lean ====
abbrev S16384x2048 : Shape := ⟨2, ![16384, 2048]⟩
abbrev S8x2048x1024 : Shape := ⟨3, ![8, 2048, 1024]⟩
abbrev S4x8x2048x256 : Shape := ⟨4, ![4, 8, 2048, 256]⟩
abbrev S2048x1024 : Shape := ⟨2, ![2048, 1024]⟩
abbrev S256x1024 : Shape := ⟨2, ![256, 1024]⟩
abbrev S1024x1024 : Shape := ⟨2, ![1024, 1024]⟩
abbrev S1024 : Shape := ⟨1, ![1024]⟩
abbrev S8x2048x2048 : Shape := ⟨3, ![8, 2048, 2048]⟩
abbrev S1x8x2048x256 : Shape := ⟨4, ![1, 8, 2048, 256]⟩
abbrev S8x2048x256 : Shape := ⟨3, ![8, 2048, 256]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S8x2048x1024, .f32⟩
  | .hbm, ⟨2, _⟩ => ⟨S4x8x2048x256, .f32⟩
  | .hbm, ⟨3, _⟩ => ⟨S2048x1024, .f32⟩
  | .hbm, ⟨4, _⟩ => ⟨S256x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S16384x2048, .f32⟩
  | .hbm, ⟨9, _⟩ => ⟨S8x2048x2048, .f32⟩
  | .hbm, ⟨10, _⟩ => ⟨S8x2048x1024, .f32⟩
  | .hbm, ⟨11, _⟩ => ⟨S8x2048x1024, .f32⟩
  | .hbm, ⟨12, _⟩ => ⟨S1x8x2048x256, .f32⟩
  | .hbm, ⟨13, _⟩ => ⟨S8x2048x256, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S1x1x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S16384x1024, .f32⟩
  | .hbm, ⟨43, _⟩ => ⟨S8x2048x1024, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S8x2048x1, .f32⟩
  | .hbm, ⟨54, _⟩ => ⟨S8x2048x1024, .f32⟩
  | .hbm, ⟨55, _⟩ => ⟨S8x2048x1024, .f32⟩
  | .hbm, ⟨56, _⟩ => ⟨S1x1x1024, .f32⟩
  | .hbm, ⟨57, _⟩ => ⟨S8x2048x1024, .f32⟩
  | .hbm, ⟨58, _⟩ => ⟨S8x2048x1024, .f32⟩
  | .hbm, ⟨59, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Fgate.lean ====
abbrev S16384x128 : Shape := ⟨2, ![16384, 128]⟩
abbrev S16 : Shape := ⟨1, ![16]⟩
abbrev S_ : Shape := ⟨0, ![]⟩
abbrev S1x128 : Shape := ⟨2, ![1, 128]⟩
abbrev S1 : Shape := ⟨1, ![1]⟩
abbrev S2 : Shape := ⟨1, ![2]⟩
abbrev S128x128 : Shape := ⟨2, ![128, 128]⟩

abbrev nBuf : Space → Nat
  | .hbm => 14
  | .vmem => 12
  | .smem => 0
  | _ => 0

abbrev bufTy : (tb : Table) → Fin (tcTables nBuf tb) → BufTy
  | .hbm, ⟨0, _⟩ => ⟨S16384x128, .f32⟩
  | .hbm, ⟨1, _⟩ => ⟨S16, .f32⟩
  | .hbm, ⟨2, _⟩ => ⟨S_, .f32⟩
  | .hbm, ⟨3, _⟩ => ⟨S1x128, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S1x128, .f32⟩
  | .hbm, ⟨10, _⟩ => ⟨S16384x128, .f32⟩
  | .hbm, ⟨11, _⟩ => ⟨S16384x128, .f32⟩
  | .hbm, ⟨12, _⟩ => ⟨S16384x128, .bf16⟩
  | .hbm, ⟨13, _⟩ => ⟨S16384x128, .bf16⟩
  | .local _ .vmem, ⟨0, _⟩ => ⟨S128x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S1x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FgateRefIdeal.lean ====
abbrev S16384x128 : Shape := ⟨2, ![16384, 128]⟩
abbrev S16 : Shape := ⟨1, ![16]⟩
abbrev S8x2048x128 : Shape := ⟨3, ![8, 2048, 128]⟩
abbrev S_ : Shape := ⟨0, ![]⟩
abbrev S128 : Shape := ⟨1, ![128]⟩
abbrev S1x1x128 : Shape := ⟨3, ![1, 1, 128]⟩
abbrev S8x2048x16 : Shape := ⟨3, ![8, 2048, 16]⟩
abbrev S8x2048x16x1 : Shape := ⟨4, ![8, 2048, 16, 1]⟩
abbrev S8x2048x16x3 : Shape := ⟨4, ![8, 2048, 16, 3]⟩
abbrev S8x2048x48 : Shape := ⟨3, ![8, 2048, 48]⟩

abbrev nBuf : Space → Nat
  | .hbm => 59
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16, .f32⟩
  | .hbm, ⟨2, _⟩ => ⟨S8x2048x128, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x1x128, .f32⟩
  | .hbm, ⟨7, _⟩ => ⟨S8x2048x128, .f32⟩
  | .hbm, ⟨8, _⟩ => ⟨S8x2048x128, .f32⟩
  | .hbm, ⟨9, _⟩ => ⟨S8x2048x128, .f32⟩
  | .hbm, ⟨10, _⟩ => ⟨S_, .f32⟩
  | .hbm, ⟨11, _⟩ => ⟨S8x2048x128, .f32⟩
  | .hbm, ⟨12, _⟩ => ⟨S8x2048x128, .f32⟩
  | .hbm, ⟨13, _⟩ => ⟨S8x2048x128, .f32⟩
  | .hbm, ⟨14, _⟩ => ⟨S8x2048x128, .f32⟩
  | .hbm, ⟨15, _⟩ => ⟨S8x2048x128, .i1⟩
  | .hbm, ⟨16, _⟩ => ⟨S8x2048x128, .f32⟩
  | .hbm, ⟨17, _⟩ => ⟨S8x2048x128, .f32⟩
  | .hbm, ⟨18, _⟩ => ⟨S8x2048x128, .f32⟩
  | .hbm, ⟨19, _⟩ => ⟨S8x2048x128, .f32⟩
  | .hbm, ⟨20, _⟩ => ⟨S8x2048x128, .f32⟩
  | .hbm, ⟨21, _⟩ => ⟨S8x2048x128, .f32⟩
  | .hbm, ⟨22, _⟩ => ⟨S8x2048x128, .f32⟩
  | .hbm, ⟨23, _⟩ => ⟨S8x2048x128, .f32⟩
  | .hbm, ⟨24, _⟩ => ⟨S8x2048x128, .f32⟩
  | .hbm, ⟨25, _⟩ => ⟨S_, .f32⟩
  | .hbm, ⟨26, _⟩ => ⟨S_, .f32⟩
  | .hbm, ⟨27, _⟩ => ⟨S8x2048x128, .f32⟩
  | .hbm, ⟨28, _⟩ => ⟨S8x2048x16, .f32⟩
  | .hbm, ⟨29, _⟩ => ⟨S_, .f32⟩
  | .hbm, ⟨30, _⟩ => ⟨S8x2048x16, .f32⟩
  | .hbm, ⟨31, _⟩ => ⟨S8x2048x16, .f32⟩
  | .hbm, ⟨32, _⟩ => ⟨S8x2048x16, .bf16⟩
  | .hbm, ⟨33, _⟩ => ⟨S8x2048x16, .f32⟩
  | .hbm, ⟨34, _⟩ => ⟨S8x2048x16, .f32⟩
  | .hbm, ⟨35, _⟩ => ⟨S8x2048x16, .bf16⟩
  | .hbm, ⟨36, _⟩ => ⟨S8x2048x16, .f32⟩
  | .hbm, ⟨37, _⟩ => ⟨S8x2048x16, .f32⟩
  | .hbm, ⟨38, _⟩ => ⟨S8x2048x16, .f32⟩
  | .hbm, ⟨39, _⟩ => ⟨S8x2048x16, .bf16⟩
  | .hbm, ⟨40, _⟩ => ⟨S8x2048x16, .f32⟩
  | .hbm, ⟨41, _⟩ => ⟨S8x2048x16x1, .f32⟩
  | .hbm, ⟨42, _⟩ => ⟨S8x2048x16x1, .f32⟩
  | .hbm, ⟨43, _⟩ => ⟨S8x2048x16x1, .f32⟩
  | .hbm, ⟨44, _⟩ => ⟨S8x2048x16x3, .f32⟩
  | .hbm, ⟨45, _⟩ => ⟨S8x2048x48, .f32⟩
  | .hbm, ⟨46, _⟩ => ⟨S_, .i32⟩
  | .hbm, ⟨47, _⟩ => ⟨S_, .f32⟩
  | .hbm, ⟨48, _⟩ => ⟨S8x2048x128, .f32⟩
  | .hbm, ⟨49, _⟩ => ⟨S8x2048x48, .f32⟩
  | .hbm, ⟨50, _⟩ => ⟨S_, .i32⟩
  | .hbm, ⟨51, _⟩ => ⟨S_, .f32⟩
  | .hbm, ⟨52, _⟩ => ⟨S8x2048x128, .f32⟩
  | .hbm, ⟨53, _⟩ => ⟨S16384x128, .f32⟩
  | .hbm, ⟨54, _⟩ => ⟨S16384x128, .f32⟩
  | .hbm, ⟨55, _⟩ => ⟨S16384x128, .f32⟩
  | .hbm, ⟨56, _⟩ => ⟨S16384x128, .bf16⟩
  | .hbm, ⟨57, _⟩ => ⟨S16384x128, .f32⟩
  | .hbm, ⟨58, _⟩ => ⟨S16384x128, .bf16⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call1_v0 : Ref sig .tc := ⟨.hbm, 9, rfl⟩
abbrev main_call1_call0_cst : Ref sig .tc := ⟨.hbm, 10, rfl⟩
abbrev main_call1_call0_v0 : Ref sig .tc := ⟨.hbm, 11, rfl⟩
abbrev main_call1_call0_v1 : Ref sig .tc := ⟨.hbm, 12, rfl⟩
abbrev main_call1_call0_v2 : Ref sig .tc := ⟨.hbm, 13, rfl⟩
abbrev main_call1_call0_v3 : Ref sig .tc := ⟨.hbm, 14, rfl⟩
abbrev main_call1_call0_v4 : Ref sig .tc := ⟨.hbm, 15, rfl⟩
abbrev main_call1_call0_v5 : Ref sig .tc := ⟨.hbm, 16, rfl⟩
abbrev main_call1_call0_v6 : Ref sig .tc := ⟨.hbm, 17, rfl⟩
abbrev main_call1_call0_v7 : Ref sig .tc := ⟨.hbm, 18, rfl⟩
abbrev main_call1_call0_v8 : Ref sig .tc := ⟨.hbm, 19, rfl⟩
abbrev main_call1_call0_v9 : Ref sig .tc := ⟨.hbm, 20, rfl⟩
abbrev main_call1_call0_v10 : Ref sig .tc := ⟨.hbm, 21, rfl⟩
abbrev main_call1_call0_v11 : Ref sig .tc := ⟨.hbm, 22, rfl⟩
abbrev main_call1_v1 : Ref sig .tc := ⟨.hbm, 23, rfl⟩
abbrev main_v5 : Ref sig .tc := ⟨.hbm, 24, rfl⟩
abbrev main_call2_call0_cst : Ref sig .tc := ⟨.hbm, 25, rfl⟩
abbrev main_call2_call0_v0 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_0 : Ref sig .tc := ⟨.hbm, 46, rfl⟩
abbrev main_call3_v0 : Ref sig .tc := ⟨.hbm, 47, rfl⟩
abbrev main_v24 : Ref sig .tc := ⟨.hbm, 48, rfl⟩
abbrev main_v25 : Ref sig .tc := ⟨.hbm, 49, rfl⟩
abbrev main_c_1 : Ref sig .tc := ⟨.hbm, 50, rfl⟩
abbrev main_call4_v0 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩

abbrev nD : Nat := 1
abbrev τ : Topo := Topo.v7x

variable {F : FTy → Type} [FloatOps F]
-- ==== Flash.lean ====
abbrev S16384x8192 : Shape := ⟨2, ![16384, 8192]⟩
abbrev S16384x128 : Shape := ⟨2, ![16384, 128]⟩
abbrev S16384x2048 : Shape := ⟨2, ![16384, 2048]⟩
abbrev S2048x128 : Shape := ⟨2, ![2048, 128]⟩
abbrev S256x256 : Shape := ⟨2, ![256, 256]⟩
abbrev S1x128 : Shape := ⟨2, ![1, 128]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 14
  | .smem => 0
  | _ => 0

abbrev bufTy : (tb : Table) → Fin (tcTables nBuf tb) → BufTy
  | .hbm, ⟨0, _⟩ => ⟨S16384x8192, .bf16⟩
  | .hbm, ⟨1, _⟩ => ⟨S16384x128, .bf16⟩
  | .hbm, ⟨2, _⟩ => ⟨S16384x128, .bf16⟩
  | .hbm, ⟨3, _⟩ => ⟨S16384x2048, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FlashRefIdeal.lean ====
abbrev S16384x8192 : Shape := ⟨2, ![16384, 8192]⟩
abbrev S16384x128 : Shape := ⟨2, ![16384, 128]⟩
abbrev S8x2048x8192 : Shape := ⟨3, ![8, 2048, 8192]⟩
abbrev S8x2048x2048 : Shape := ⟨3, ![8, 2048, 2048]⟩
abbrev S8x2048x16x128 : Shape := ⟨4, ![8, 2048, 16, 128]⟩
abbrev S8x2048x128 : Shape := ⟨3, ![8, 2048, 128]⟩
abbrev S8x2048x48 : Shape := ⟨3, ![8, 2048, 48]⟩
abbrev S8x2048x16x3 : Shape := ⟨4, ![8, 2048, 16, 3]⟩
abbrev S_ : Shape := ⟨0, ![]⟩
abbrev S8x2048x16 : Shape := ⟨3, ![8, 2048, 16]⟩
abbrev S8x16x2048x2048 : Shape := ⟨4, ![8, 16, 2048, 2048]⟩
abbrev S8x16x2048 : Shape := ⟨3, ![8, 16, 2048]⟩
abbrev S8x16x2048x1 : Shape := ⟨4, ![8, 16, 2048, 1]⟩
abbrev S8x16x1x2048 : Shape := ⟨4, ![8, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x2048x16x1 : Shape := ⟨4, ![8, 2048, 16, 1]⟩
abbrev S8x16x128x2048 : Shape := ⟨4, ![8, 16, 128, 2048]⟩
abbrev S16384x2048 : Shape := ⟨2, ![16384, 2048]⟩

abbrev nBuf : Space → Nat
  | .hbm => 76
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S16384x128, .bf16⟩
  | .hbm, ⟨2, _⟩ => ⟨S16384x128, .bf16⟩
  | .hbm, ⟨3, _⟩ => ⟨S16384x8192, .f32⟩
  | .hbm, ⟨4, _⟩ => ⟨S8x2048x8192, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S8x2048x16x128, .f32⟩
  | .hbm, ⟨10, _⟩ => ⟨S8x2048x16x128, .f32⟩
  | .hbm, ⟨11, _⟩ => ⟨S8x2048x16x128, .f32⟩
  | .hbm, ⟨12, _⟩ => ⟨S16384x128, .f32⟩
  | .hbm, ⟨13, _⟩ => ⟨S8x2048x128, .f32⟩
  | .hbm, ⟨14, _⟩ => ⟨S16384x128, .f32⟩
  | .hbm, ⟨15, _⟩ => ⟨S8x2048x128, .f32⟩
  | .hbm, ⟨16, _⟩ => ⟨S8x2048x48, .f32⟩
  | .hbm, ⟨17, _⟩ => ⟨S8x2048x16x3, .f32⟩
  | .hbm, ⟨18, _⟩ => ⟨S_, .f32⟩
  | .hbm, ⟨19, _⟩ => ⟨S8x2048x16, .f32⟩
  | .hbm, ⟨20, _⟩ => ⟨S8x2048x48, .f32⟩
  | .hbm, ⟨21, _⟩ => ⟨S8x2048x16x3, .f32⟩
  | .hbm, ⟨22, _⟩ => ⟨S_, .f32⟩
  | .hbm, ⟨23, _⟩ => ⟨S8x2048x16, .f32⟩
  | .hbm, ⟨24, _⟩ => ⟨S8x16x2048x2048, .f32⟩
  | .hbm, ⟨25, _⟩ => ⟨S8x16x2048, .f32⟩
  | .hbm, ⟨26, _⟩ => ⟨S8x16x2048x1, .f32⟩
  | .hbm, ⟨27, _⟩ => ⟨S8x16x2048x2048, .f32⟩
  | .hbm, ⟨28, _⟩ => ⟨S8x16x2048x2048, .f32⟩
  | .hbm, ⟨29, _⟩ => ⟨S8x16x2048, .f32⟩
  | .hbm, ⟨30, _⟩ => ⟨S8x16x1x2048, .f32⟩
  | .hbm, ⟨31, _⟩ => ⟨S8x16x2048x2048, .f32⟩
  | .hbm, ⟨32, _⟩ => ⟨S8x16x2048x2048, .f32⟩
  | .hbm, ⟨33, _⟩ => ⟨S2048, .i32⟩
  | .hbm, ⟨34, _⟩ => ⟨S2048x1, .i32⟩
  | .hbm, ⟨35, _⟩ => ⟨S1x2048, .i32⟩
  | .hbm, ⟨36, _⟩ => ⟨S2048x2048, .i32⟩
  | .hbm, ⟨37, _⟩ => ⟨S2048x2048, .i32⟩
  | .hbm, ⟨38, _⟩ => ⟨S2048x2048, .i1⟩
  | .hbm, ⟨39, _⟩ => ⟨S_, .f32⟩
  | .hbm, ⟨40, _⟩ => ⟨S_, .f32⟩
  | .hbm, ⟨41, _⟩ => ⟨S8x16x2048x2048, .i1⟩
  | .hbm, ⟨42, _⟩ => ⟨S8x16x2048x2048, .f32⟩
  | .hbm, ⟨43, _⟩ => ⟨S8x16x2048x2048, .f32⟩
  | .hbm, ⟨44, _⟩ => ⟨S_, .f32⟩
  | .hbm, ⟨45, _⟩ => ⟨S8x16x2048, .f32⟩
  | .hbm, ⟨46, _⟩ => ⟨S8x16x2048x1, .f32⟩
  | .hbm, ⟨47, _⟩ => ⟨S8x16x2048x2048, .f32⟩
  | .hbm, ⟨48, _⟩ => ⟨S8x16x2048x2048, .f32⟩
  | .hbm, ⟨49, _⟩ => ⟨S_, .f32⟩
  | .hbm, ⟨50, _⟩ => ⟨S8x16x2048x2048, .f32⟩
  | .hbm, ⟨51, _⟩ => ⟨S8x16x2048x2048, .f32⟩
  | .hbm, ⟨52, _⟩ => ⟨S_, .f32⟩
  | .hbm, ⟨53, _⟩ => ⟨S8x16x2048, .f32⟩
  | .hbm, ⟨54, _⟩ => ⟨S8x2048x16, .f32⟩
  | .hbm, ⟨55, _⟩ => ⟨S8x2048x16x1, .f32⟩
  | .hbm, ⟨56, _⟩ => ⟨S8x16x128x2048, .f32⟩
  | .hbm, ⟨57, _⟩ => ⟨S8x2048x16x128, .f32⟩
  | .hbm, ⟨58, _⟩ => ⟨S_, .f32⟩
  | .hbm, ⟨59, _⟩ => ⟨S8x2048x16x1, .f32⟩
  | .hbm, ⟨60, _⟩ => ⟨S8x2048x16x1, .f32⟩
  | .hbm, ⟨61, _⟩ => ⟨S8x2048x16x128, .f32⟩
  | .hbm, ⟨62, _⟩ => ⟨S8x2048x16x128, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S_, .f32⟩
  | .hbm, ⟨67, _⟩ => ⟨S8x2048x2048, .f32⟩
  | .hbm, ⟨68, _⟩ => ⟨S8x2048x2048, .f32⟩
  | .hbm, ⟨69, _⟩ => ⟨S_, .f32⟩
  | .hbm, ⟨70, _⟩ => ⟨S8x2048x2048, .f32⟩
  | .hbm, ⟨71, _⟩ => ⟨S8x2048x2048, .f32⟩
  | .hbm, ⟨72, _⟩ => ⟨S8x2048x2048, .f32⟩
  | .hbm, ⟨73, _⟩ => ⟨S8x2048x2048, .f32⟩
  | .hbm, ⟨74, _⟩ => ⟨S16384x2048, .f32⟩
  | .hbm, ⟨75, _⟩ => ⟨S16384x2048, .bf16⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Mlstm.lean ====
abbrev S16384x8192 : Shape := ⟨2, ![16384, 8192]⟩
abbrev S16384x256 : Shape := ⟨2, ![16384, 256]⟩
abbrev S8 : Shape := ⟨1, ![8]⟩
abbrev S2048 : Shape := ⟨1, ![2048]⟩
abbrev S_ : Shape := ⟨0, ![]⟩
abbrev S1x128 : Shape := ⟨2, ![1, 128]⟩
abbrev S1 : Shape := ⟨1, ![1]⟩
abbrev S2 : Shape := ⟨1, ![2]⟩
abbrev S1x256 : Shape := ⟨2, ![1, 256]⟩
abbrev S1x2048 : Shape := ⟨2, ![1, 2048]⟩
abbrev S1x8x8x256x128 : Shape := ⟨5, ![1, 8, 8, 256, 128]⟩
abbrev S1x8x8x128 : Shape := ⟨4, ![1, 8, 8, 128]⟩
abbrev S8x1x128 : Shape := ⟨3, ![8, 1, 128]⟩
abbrev S16384x2048 : Shape := ⟨2, ![16384, 2048]⟩
abbrev S8x8x256x128 : Shape := ⟨4, ![8, 8, 256, 128]⟩
abbrev S8x8x128 : Shape := ⟨3, ![8, 8, 128]⟩
abbrev S128x1024 : Shape := ⟨2, ![128, 1024]⟩
abbrev S128x2048 : Shape := ⟨2, ![128, 2048]⟩
abbrev S128x256 : Shape := ⟨2, ![128, 256]⟩
abbrev S1x1x8x256x128 : Shape := ⟨5, ![1, 1, 8, 256, 128]⟩
abbrev S1x1x8x128 : Shape := ⟨4, ![1, 1, 8, 128]⟩
abbrev S1x1x128 : Shape := ⟨3, ![1, 1, 128]⟩
abbrev S1x8x256x128 : Shape := ⟨4, ![1, 8, 256, 128]⟩
abbrev S1x8x128 : Shape := ⟨3, ![1, 8, 128]⟩
abbrev S8x128x256 : Shape := ⟨3, ![8, 128, 256]⟩
abbrev S8x128 : Shape := ⟨2, ![8, 128]⟩
abbrev S1x1x1x256x128 : Shape := ⟨5, ![1, 1, 1, 256, 128]⟩
abbrev S256x128 : Shape := ⟨2, ![256, 128]⟩
abbrev S1x128x256 : Shape := ⟨3, ![1, 128, 256]⟩
abbrev S128x128 : Shape := ⟨2, ![128, 128]⟩
abbrev S128 : Shape := ⟨1, ![128]⟩
abbrev S1x1 : Shape := ⟨2, ![1, 1]⟩
abbrev S128x1 : Shape := ⟨2, ![128, 1]⟩
abbrev S1x1x256x128 : Shape := ⟨4, ![1, 1, 256, 128]⟩

abbrev nBuf : Space → Nat
  | .hbm => 33
  | .vmem => 31
  | .smem => 0
  | _ => 0

abbrev bufTy : (tb : Table) → Fin (tcTables nBuf tb) → BufTy
  | .hbm, ⟨0, _⟩ => ⟨S16384x8192, .bf16⟩
  | .hbm, ⟨1, _⟩ => ⟨S16384x256, .f32⟩
  | .hbm, ⟨2, _⟩ => ⟨S8, .f32⟩
  | .hbm, ⟨3, _⟩ => ⟨S8, .f32⟩
  | .hbm, ⟨4, _⟩ => ⟨S2048, .f32⟩
  | .hbm, ⟨5, _⟩ => ⟨S_, .f32⟩
  | .hbm, ⟨6, _⟩ => ⟨S1x128, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S1x128, .f32⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S1x256, .f32⟩
  | .hbm, ⟨22, _⟩ => ⟨S1x2048, .f32⟩
  | .hbm, ⟨23, _⟩ => ⟨S_, .f32⟩
  | .hbm, ⟨24, _⟩ => ⟨S1x8x8x256x128, .f32⟩
  | .hbm, ⟨25, _⟩ => ⟨S_, .f32⟩
  | .hbm, ⟨26, _⟩ => ⟨S1x8x8x128, .f32⟩
  | .hbm, ⟨27, _⟩ => ⟨S_, .f32⟩
  | .hbm, ⟨28, _⟩ => ⟨S8x1x128, .f32⟩
  | .hbm, ⟨29, _⟩ => ⟨S16384x2048, .bf16⟩
  | .hbm, ⟨30, _⟩ => ⟨S8x8x256x128, .f32⟩
  | .hbm, ⟨31, _⟩ => ⟨S8x8x128, .f32⟩
  | .hbm, ⟨32, _⟩ => ⟨S8x1x128, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S128x256, .f32⟩
  | .local _ .vmem, ⟨11, _⟩ => ⟨S128x256, .f32⟩
  | .local _ .vmem, ⟨12, _⟩ => ⟨S1x256, .f32⟩
  | .local _ .vmem, ⟨13, _⟩ => ⟨S1x2048, .f32⟩
  | .local _ .vmem, ⟨14, _⟩ => ⟨S1x1x8x256x128, .f32⟩
  | .local _ .vmem, ⟨15, _⟩ => ⟨S1x1x8x256x128, .f32⟩
  | .local _ .vmem, ⟨16, _⟩ => ⟨S1x1x8x128, .f32⟩
  | .local _ .vmem, ⟨17, _⟩ => ⟨S1x1x8x128, .f32⟩
  | .local _ .vmem, ⟨18, _⟩ => ⟨S1x1x128, .f32⟩
  | .local _ .vmem, ⟨19, _⟩ => ⟨S1x1x128, .f32⟩
  | .local _ .vmem, ⟨20, _⟩ => ⟨S128x2048, .bf16⟩
  | .local _ .vmem, ⟨21, _⟩ => ⟨S128x2048, .bf16⟩
  | .local _ .vmem, ⟨22, _⟩ => ⟨S1x8x256x128, .f32⟩
  | .local _ .vmem, ⟨23, _⟩ => ⟨S1x8x256x128, .f32⟩
  | .local _ .vmem, ⟨24, _⟩ => ⟨S1x8x128, .f32⟩
  | .local _ .vmem, ⟨25, _⟩ => ⟨S1x8x128, .f32⟩
  | .local _ .vmem, ⟨26, _⟩ => ⟨S1x1x128, .f32⟩
  | .local _ .vmem, ⟨27, _⟩ => ⟨S1x1x128, .f32⟩
  | .local _ .vmem, ⟨28, _⟩ => ⟨S8x128x256, .f32⟩
  | .local _ .vmem, ⟨29, _⟩ => ⟨S8x128, .f32⟩
  | .local _ .vmem, ⟨30, _⟩ => ⟨S1x128, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_cst_5 : Ref sig .tc := ⟨.hbm, 25, rfl⟩
abbrev main_v13 : Ref sig .tc := ⟨.hbm, 26, rfl⟩
abbrev main_cst_6 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_v15_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v1059 : BitVec 1 := Scalar.cmpi .eq arg1 c15_i32
  let v1060 : BitVec 32 := Scalar.extui v1059
  let c0_i32_318 : BitVec 32 := 0#32
  let v1061 : BitVec 1 := Scalar.cmpi .ne v1060 c0_i32_318
  v1061

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x8x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== MlstmRefIdeal.lean ====
abbrev S16384x8192 : Shape := ⟨2, ![16384, 8192]⟩
abbrev S16384x256 : Shape := ⟨2, ![16384, 256]⟩
abbrev S8 : Shape := ⟨1, ![8]⟩
abbrev S2048 : Shape := ⟨1, ![2048]⟩
abbrev S8x2048x8192 : Shape := ⟨3, ![8, 2048, 8192]⟩
abbrev S8x2048x1024 : Shape := ⟨3, ![8, 2048, 1024]⟩
abbrev S8x2048x2048 : Shape := ⟨3, ![8, 2048, 2048]⟩
abbrev S8x2048x8x128 : Shape := ⟨4, ![8, 2048, 8, 128]⟩
abbrev S8x2048x8x256 : Shape := ⟨4, ![8, 2048, 8, 256]⟩
abbrev S8x2048x256 : Shape := ⟨3, ![8, 2048, 256]⟩
abbrev S8x2048x128 : Shape := ⟨3, ![8, 2048, 128]⟩
abbrev S_ : Shape := ⟨0, ![]⟩
abbrev S128 : Shape := ⟨1, ![128]⟩
abbrev S1x1x128 : Shape := ⟨3, ![1, 1, 128]⟩
abbrev S8x1x128 : Shape := ⟨3, ![8, 1, 128]⟩
abbrev S8x128 : Shape := ⟨2, ![8, 128]⟩
abbrev S8x2048x8 : Shape := ⟨3, ![8, 2048, 8]⟩
abbrev S8x2048x8x1 : Shape := ⟨4, ![8, 2048, 8, 1]⟩
abbrev S8x8x256x128 : Shape := ⟨4, ![8, 8, 256, 128]⟩
abbrev S8x8x128 : Shape := ⟨3, ![8, 8, 128]⟩
abbrev S8x2048x1x8 : Shape := ⟨4, ![8, 2048, 1, 8]⟩
abbrev S8x1x2048x8 : Shape := ⟨4, ![8, 1, 2048, 8]⟩
abbrev S8x2048x2048x8 : Shape := ⟨4, ![8, 2048, 2048, 8]⟩
abbrev S2048x1 : Shape := ⟨2, ![2048, 1]⟩
abbrev S1x2048 : Shape := ⟨2, ![1, 2048]⟩
abbrev S2048x2048 : Shape := ⟨2, ![2048, 2048]⟩
abbrev S1x2048x2048x1 : Shape := ⟨4, ![1, 2048, 2048, 1]⟩
abbrev S8x8x2048x2048 : Shape := ⟨4, ![8, 8, 2048, 2048]⟩
abbrev S8x8x256x2048 : Shape := ⟨4, ![8, 8, 256, 2048]⟩
abbrev S1x1x2048 : Shape := ⟨3, ![1, 1, 2048]⟩
abbrev S16384x2048 : Shape := ⟨2, ![16384, 2048]⟩

abbrev nBuf : Space → Nat
  | .hbm => 153
  | .vmem => 0
  | .smem => 0
  | _ => 0

abbrev hbmTy0_0 (i : Nat) : BufTy := match i % 128 with
  | 0 => ⟨S16384x8192, .bf16⟩
  | 1 => ⟨S16384x256, .f32⟩
  | 2 => ⟨S8, .f32⟩
  | 3 => ⟨S8, .f32⟩
  | 4 => ⟨S2048, .f32⟩
  | 5 => ⟨S16384x8192, .f32⟩
  | 6 => ⟨S8x2048x8192, .f32⟩
  | 7 => ⟨S8x2048x1024, .f32⟩
  | 8 => ⟨S8x2048x1024, .f32⟩
  | 9 => ⟨S8x2048x2048, .f32⟩
  | 10 => ⟨S8x2048x2048, .f32⟩
  | 11 => ⟨S8x2048x2048, .f32⟩
  | 12 => ⟨S8x2048x8x128, .f32⟩
  | 13 => ⟨S8x2048x8x128, .f32⟩
  | 14 => ⟨S8x2048x8x256, .f32⟩
  | 15 => ⟨S8x2048x256, .f32⟩
  | 16 => ⟨S8x2048x128, .f32⟩
  | 17 => ⟨S8x2048x128, .f32⟩
  | 18 => ⟨S_, .i32⟩
  | 19 => ⟨S_, .f32⟩
  | 20 => ⟨S128, .f32⟩
  | 21 => ⟨S1x1x128, .f32⟩
  | 22 => ⟨S8x2048x128, .f32⟩
  | 23 => ⟨S8x2048x128, .f32⟩
  | 24 => ⟨S_, .i32⟩
  | 25 => ⟨S_, .f32⟩
  | 26 => ⟨S128, .f32⟩
  | 27 => ⟨S1x1x128, .f32⟩
  | 28 => ⟨S8x2048x128, .f32⟩
  | 29 => ⟨S8x2048x128, .f32⟩
  | 30 => ⟨S8x2048x128, .f32⟩
  | 31 => ⟨S_, .f32⟩
  | 32 => ⟨S8x2048x128, .f32⟩
  | 33 => ⟨S8x2048x128, .f32⟩
  | 34 => ⟨S8x2048x128, .f32⟩
  | 35 => ⟨S8x2048x128, .f32⟩
  | 36 => ⟨S8x2048x128, .i1⟩
  | 37 => ⟨S8x2048x128, .f32⟩
  | 38 => ⟨S8x2048x128, .f32⟩
  | 39 => ⟨S8x2048x128, .f32⟩
  | 40 => ⟨S8x2048x128, .f32⟩
  | 41 => ⟨S8x2048x128, .f32⟩
  | 42 => ⟨S8x2048x128, .f32⟩
  | 43 => ⟨S8x2048x128, .f32⟩
  | 44 => ⟨S8x2048x128, .f32⟩
  | 45 => ⟨S8x2048x128, .f32⟩
  | 46 => ⟨S_, .f32⟩
  | 47 => ⟨S_, .f32⟩
  | 48 => ⟨S8x2048x128, .f32⟩
  | 49 => ⟨S8x1x128, .f32⟩
  | 50 => ⟨S8x128, .f32⟩
  | 51 => ⟨S8x1x128, .f32⟩
  | 52 => ⟨S8x2048x128, .f32⟩
  | 53 => ⟨S8x2048x128, .f32⟩
  | 54 => ⟨S8x2048x128, .f32⟩
  | 55 => ⟨S_, .f32⟩
  | 56 => ⟨S8x128, .f32⟩
  | 57 => ⟨S8x128, .f32⟩
  | 58 => ⟨S8x1x128, .f32⟩
  | 59 => ⟨S8x2048x128, .f32⟩
  | 60 => ⟨S8x2048x128, .f32⟩
  | 61 => ⟨S8x2048x128, .f32⟩
  | 62 => ⟨S8x2048x8, .f32⟩
  | 63 => ⟨S8x2048x8x1, .f32⟩
  | 64 => ⟨S8x2048x8x256, .f32⟩
  | 65 => ⟨S8x2048x8x256, .f32⟩
  | 66 => ⟨S8x8x256x128, .f32⟩
  | 67 => ⟨S8x8x128, .f32⟩
  | 68 => ⟨S8x2048x8, .f32⟩
  | 69 => ⟨S8x2048x8, .f32⟩
  | 70 => ⟨S2048, .i32⟩
  | 71 => ⟨S8x2048x1x8, .f32⟩
  | 72 => ⟨S8x1x2048x8, .f32⟩
  | 73 => ⟨S8x2048x2048x8, .f32⟩
  | 74 => ⟨S8x2048x2048x8, .f32⟩
  | 75 => ⟨S8x2048x2048x8, .f32⟩
  | 76 => ⟨S8x1x2048x8, .f32⟩
  | 77 => ⟨S8x2048x2048x8, .f32⟩
  | 78 => ⟨S8x2048x2048x8, .f32⟩
  | 79 => ⟨S2048x1, .i32⟩
  | 80 => ⟨S1x2048, .i32⟩
  | 81 => ⟨S2048x2048, .i32⟩
  | 82 => ⟨S2048x2048, .i32⟩
  | 83 => ⟨S2048x2048, .i1⟩
  | 84 => ⟨S1x2048x2048x1, .i1⟩
  | 85 => ⟨S_, .f32⟩
  | 86 => ⟨S_, .f32⟩
  | 87 => ⟨S8x2048x2048x8, .i1⟩
  | 88 => ⟨S8x2048x2048x8, .f32⟩
  | 89 => ⟨S8x2048x2048x8, .f32⟩
  | 90 => ⟨S_, .f32⟩
  | 91 => ⟨S8x2048x8, .f32⟩
  | 92 => ⟨S8x2048x8, .f32⟩
  | 93 => ⟨S_, .f32⟩
  | 94 => ⟨S8x2048x8x128, .f32⟩
  | 95 => ⟨S8x2048x8x128, .f32⟩
  | 96 => ⟨S8x8x2048x2048, .f32⟩
  | 97 => ⟨S8x2048x2048x8, .f32⟩
  | 98 => ⟨S8x2048x1x8, .f32⟩
  | 99 => ⟨S8x2048x2048x8, .f32⟩
  | 100 => ⟨S8x2048x2048x8, .f32⟩
  | 101 => ⟨S8x2048x2048x8, .f32⟩
  | 102 => ⟨S8x2048x2048x8, .f32⟩
  | 103 => ⟨S8x8x256x2048, .f32⟩
  | 104 => ⟨S8x2048x8x256, .f32⟩
  | 105 => ⟨S_, .f32⟩
  | 106 => ⟨S8x2048x8, .f32⟩
  | 107 => ⟨S8x2048x8, .f32⟩
  | 108 => ⟨S8x2048x8, .f32⟩
  | 109 => ⟨S8x2048x8, .f32⟩
  | 110 => ⟨S8x2048x8, .f32⟩
  | 111 => ⟨S8x2048x8x1, .f32⟩
  | 112 => ⟨S8x2048x8x256, .f32⟩
  | 113 => ⟨S8x2048x8x256, .f32⟩
  | 114 => ⟨S8x2048x8x256, .f32⟩
  | 115 => ⟨S_, .f32⟩
  | 116 => ⟨S8x2048x8, .f32⟩
  | 117 => ⟨S8x2048x8x1, .f32⟩
  | 118 => ⟨S_, .f32⟩
  | 119 => ⟨S8x2048x8x1, .f32⟩
  | 120 => ⟨S8x2048x8x1, .f32⟩
  | 121 => ⟨S_, .f32⟩
  | 122 => ⟨S8x2048x8x1, .f32⟩
  | 123 => ⟨S8x2048x8x1, .f32⟩
  | 124 => ⟨S8x2048x8x1, .f32⟩
  | 125 => ⟨S8x2048x8x256, .f32⟩
  | 126 => ⟨S8x2048x8x256, .f32⟩
  | 127 => ⟨S8x2048x2048, .f32⟩
  | _ => ⟨S16384x8192, .bf16⟩

abbrev hbmTy0_1 (i : Nat) : BufTy := match i % 128 with
  | 0 => ⟨S1x1x2048, .f32⟩
  | 1 => ⟨S8x2048x2048, .f32⟩
  | 2 => ⟨S8x2048x2048, .f32⟩
  | 3 => ⟨S8x2048x2048, .f32⟩
  | 4 => ⟨S8x2048x2048, .f32⟩
  | 5 => ⟨S_, .f32⟩
  | 6 => ⟨S8x2048x2048, .f32⟩
  | 7 => ⟨S8x2048x2048, .f32⟩
  | 8 => ⟨S_, .f32⟩
  | 9 => ⟨S8x2048x2048, .f32⟩
  | 10 => ⟨S8x2048x2048, .f32⟩
  | 11 => ⟨S8x2048x2048, .f32⟩
  | 12 => ⟨S8x2048x2048, .f32⟩
  | 13 => ⟨S8x2048x2048, .f32⟩
  | 14 => ⟨S_, .f32⟩
  | 15 => ⟨S8x2048x2048, .f32⟩
  | 16 => ⟨S8x2048x2048, .f32⟩
  | 17 => ⟨S_, .f32⟩
  | 18 => ⟨S8x2048x2048, .f32⟩
  | 19 => ⟨S8x2048x2048, .f32⟩
  | 20 => ⟨S8x2048x2048, .f32⟩
  | 21 => ⟨S8x2048x2048, .f32⟩
  | 22 => ⟨S16384x2048, .f32⟩
  | 23 => ⟨S16384x2048, .bf16⟩
  | 24 => ⟨S8x1x128, .f32⟩
  | _ => ⟨S16384x8192, .bf16⟩

abbrev hbmTy (i : Nat) : BufTy := match i / 128 with
  | 0 => hbmTy0_0 i
  | 1 => hbmTy0_1 i
  | _ => ⟨S16384x8192, .bf16⟩

abbrev bufTy : (tb : Table) → Fin (tcTables nBuf tb) → BufTy
  | .hbm, ⟨i, _⟩ => hbmTy i
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_call1_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call2_v0 : Ref sig .tc := ⟨.hbm, 30, rfl⟩
abbrev main_call2_call0_cst : Ref sig .tc := ⟨.hbm, 31, rfl⟩
abbrev main_call2_call0_v0 : Ref sig .tc := ⟨.hbm, 32, rfl⟩
abbrev main_call2_call0_v1 : Ref sig .tc := ⟨.hbm, 33, rfl⟩
abbrev main_call2_call0_v2 : Ref sig .tc := ⟨.hbm, 34, rfl⟩
abbrev main_call2_call0_v3 : Ref sig .tc := ⟨.hbm, 35, rfl⟩
abbrev main_call2_call0_v4 : Ref sig .tc := ⟨.hbm, 36, rfl⟩
abbrev main_call2_call0_v5 : Ref sig .tc := ⟨.hbm, 37, rfl⟩
abbrev main_call2_call0_v6 : Ref sig .tc := ⟨.hbm, 38, rfl⟩
abbrev main_call2_call0_v7 : Ref sig .tc := ⟨.hbm, 39, rfl⟩
abbrev main_call2_call0_v8 : Ref sig .tc := ⟨.hbm, 40, rfl⟩
abbrev main_call2_call0_v9 : Ref sig .tc := ⟨.hbm, 41, rfl⟩
abbrev main_call2_call0_v10 : Ref sig .tc := ⟨.hbm, 42, rfl⟩
abbrev main_call2_call0_v11 : Ref sig .tc := ⟨.hbm, 43, rfl⟩
abbrev main_call2_v1 : Ref sig .tc := ⟨.hbm, 44, rfl⟩
abbrev main_v21 : Ref sig .tc := ⟨.hbm, 45, rfl⟩
abbrev main_call3_call0_cst : Ref sig .tc := ⟨.hbm, 46, rfl⟩
abbrev main_call3_call0_v0 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_1 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v58 : Ref sig .tc := ⟨.hbm, 89, rfl⟩
abbrev main_cst_2 : Ref sig .tc := ⟨.hbm, 90, rfl⟩
abbrev main_v59 : Ref sig .tc := ⟨.hbm, 91, rfl⟩
abbrev main_v60 : Ref sig .tc := ⟨.hbm, 92, rfl⟩
abbrev main_cst_3 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_4 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_5 : Ref sig .tc := ⟨.hbm, 115, rfl⟩
abbrev main_v81 : Ref sig .tc := ⟨.hbm, 116, rfl⟩
abbrev main_v82 : Ref sig .tc := ⟨.hbm, 117, rfl⟩
abbrev main_cst_6 : Ref sig .tc := ⟨.hbm, 118, rfl⟩
abbrev main_v83 : Ref sig .tc := ⟨.hbm, 119, rfl⟩
abbrev main_v84 : Ref sig .tc := ⟨.hbm, 120, rfl⟩
abbrev main_cst_7 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_8 : Ref sig .tc := ⟨.hbm, 133, rfl⟩
abbrev main_v96 : Ref sig .tc := ⟨.hbm, 134, rfl⟩
abbrev main_v97 : Ref sig .tc := ⟨.hbm, 135, rfl⟩
abbrev main_cst_9 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_call5_v0 : Ref sig .tc := ⟨.hbm, 140, rfl⟩
abbrev main_call5_v1 : Ref sig .tc := ⟨.hbm, 141, rfl⟩
abbrev main_call5_cst : Ref sig .tc := ⟨.hbm, 142, rfl⟩
abbrev main_call5_v2 : Ref sig .tc := ⟨.hbm, 143, rfl⟩
abbrev main_call5_v3 : Ref sig .tc := ⟨.hbm, 144, rfl⟩
abbrev main_call5_cst_0 : Ref sig .tc := ⟨.hbm, 145, rfl⟩
abbrev main_call5_v4 : Ref sig .tc := ⟨.hbm, 146, rfl⟩
abbrev main_call5_v5 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩

abbrev nD : Nat := 1
abbrev τ : Topo := Topo.v7x

variable {F : FTy → Type} [FloatOps F]
-- ==== Proof.ConvRun.lean ====
/- The gated-convolution kernel's body, run once: what its stores leave in the output buffers and in the
   carried scratch, from what the input buffers and the scratch hold. -/
module

public import proofs.«01_k».proof.Proof.Gen.KernelIdeal.Frame
public import proofs.«01_k».proof.Proof.Gen.KernelIdeal.Skeleton
public import Idealize.ShloMosaic.Lib.VecWindow
public import Idealize.ShloMosaic.Lib.Pipeline.Value

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The body's condition: the point is the first of its row tile. -/
abbrev first (i : grid0.Coords) : Prop :=
  (Scalar.cmpi .ne (Scalar.extui (Scalar.cmpi .eq (BitVec.ofNat 32 (i 1).val) 0#32)) 0#32) = 1#1

/-- The columns of the projection weights the body reads at word offset `k`: one of the four branches, at
    the point's column tile. -/
def colsB (i : grid0.Coords) (a : Fin 4) (x2 : Vec F S1024x8192 .bf16) : Vec F S1024x512 .bf16 :=
  View.ld x2 (Rect.unit (s := S1024x8192) (k0_off1 i (BitVec.ofNat 32 (2048 * a.val))) S1024x512.size (k0_off1_inb i a))

/-- The carried rows of the point's column tile. -/
def prevB (i : grid0.Coords) (xs1 : Vec F S4x2x512 .f32) : Vec F S1x2x512 .f32 :=
  View.ld xs1 (Rect.unit (s := S4x2x512) (k0_off2 i) S1x2x512.size (k0_off2_inb i))

/-- The gated input `u` of the tile, from its normalised rows. -/
def uB (i : grid0.Coords) (h : Vec F S1024x1024 .bf16) (x2 : Vec F S1024x8192 .bf16) : FVec F S1024x512 .f32 :=
  k0_pay11 (k0_pay7 h (colsB i 1 x2)) (k0_pay8 h (colsB i 2 x2))

/-- The tile of activations the body stores, from the rows `p` that precede it. -/
def actP (i : grid0.Coords) (h : Vec F S1024x1024 .bf16) (x2 : Vec F S1024x8192 .bf16) (x3 : Vec F S3x2048 .f32)
    (x4 : Vec F S1x2x512 .f32) (p : Vec F S1x2x512 .f32) : FVec F S1024x512 .bf16 :=
  have w3 := View.ld x3 (Rect.unit (s := S3x2048) (k0_off3 i) S3x512.size (k0_off3_inb i))
  have b1 := k0_pay7 h (colsB i 1 x2)
  have b2 := k0_pay8 h (colsB i 2 x2)
  k0_pay2 (k0_pay6 h (colsB i 0 x2)) (k0_pay9 h (colsB i 3 x2)) w3 (uB i h x2)
    (k0_pay13 (BitVec.ofNat 32 (i 0).val) b1 b2 2#32 x4 p)
    (k0_pay14 (BitVec.ofNat 32 (i 0).val) b1 b2 2#32 x4 p w3) (k0_pay15 w3)

/-- The tile of activations the body stores, from the carried rows. -/
def actB (i : grid0.Coords) (h : Vec F S1024x1024 .bf16) (x2 : Vec F S1024x8192 .bf16) (x3 : Vec F S3x2048 .f32)
    (x4 : Vec F S1x2x512 .f32) (xs1 : Vec F S4x2x512 .f32) : FVec F S1024x512 .bf16 :=
  actP i h x2 x3 x4 (prevB i xs1)

/-- The carried rows after the point: the last two rows of its `u` put at its column tile. -/
def carryB (i : grid0.Coords) (h : Vec F S1024x1024 .bf16) (x2 : Vec F S1024x8192 .bf16) (xs1 : Vec F S4x2x512 .f32) :
    Vec F S4x2x512 .f32 :=
  VecWindow.put xs1 (k0_off2 i) S1x2x512.size (k0_pay3 (uB i h x2))

set_option maxHeartbeats 4000000 in
/-- The body at a point that opens a row tile: it normalises the tile's rows into the scratch first. -/
theorem run_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S3x2048 .f32) (harg5 : arg5.IsWhole) (arg6 : Memref sig .tc .vmem S1x2x512 .f32) (harg6 : arg6.IsWhole) (arg7 : Memref sig .tc .vmem S1024x512 .bf16) (harg7 : arg7.IsWhole) (arg8 : Memref sig .tc .vmem S1x2x512 .f32) (harg8 : arg8.IsWhole) (arg9 : Memref sig .tc .vmem S1024x1024 .bf16) (harg9 : arg9.IsWhole) (arg10 : Memref sig .tc .vmem S4x2x512 .f32) (harg10 : arg10.IsWhole) (hc0 : first i)
    (x0 : Vec F S1024x1024 .f32) (x1 : Vec F S1x1024 .f32) (x2 : Vec F S1024x8192 .bf16) (x3 : Vec F S3x2048 .f32) (x4 : Vec F S1x2x512 .f32) (xs1 : Vec F S4x2x512 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (actB i (k0_pay5 x0 x1) x2 x3 x4 xs1) ∗ owns (c : Thread nD τ) arg8 fullShare (k0_pay4 (uB i (k0_pay5 x0 x1) x2)) ∗ owns (c : Thread nD τ) arg9 fullShare (k0_pay5 x0 x1) ∗ owns (c : Thread nD τ) arg10 fullShare (carryB i (k0_pay5 x0 x1) x2 xs1)) -∗ K ⟨⟩))
          ⊢ wp frame (wpE (defs₀ (F := F)) Variants.none c none) E (cc0_norm_proj_conv i arg2 harg2 arg3 harg3 arg4 harg4 arg5 harg5 arg6 harg6 arg7 harg7 arg8 harg8 arg9 harg9 arg10 harg10) K := by
    simp only [cc0_norm_proj_conv_eq_skeleton]; unfold cc0_norm_proj_conv_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs1
    sl_exec (disch := first | sl_exact hc0)
    sl_step
    have e0 : View.ld x0 (Rect.unit (s := S1024x1024) ![0, 0] ![1024, 1024] inb_S1024x1024_S1024x1024_0_0) = x0 :=
      View.ld_unit_zero (S := S1024x1024) (funext fun a => by fin_cases a <;> rfl) _ x0
    have e1 : View.ld x1 (Rect.unit (s := S1x1024) ![0, 0] ![1, 1024] inb_S1x1024_S1x1024_0_0) = x1 :=
      View.ld_unit_zero (S := S1x1024) (funext fun a => by fin_cases a <;> rfl) _ x1
    have eR : ∀ w : Vec F S1024x1024 .bf16, arg9.view.readCov [⟨Rect.unit (s := S1024x1024) ![0, 0] ![1024, 1024] inb_S1024x1024_S1024x1024_0_0, w⟩]
        (Rect.unit (s := S1024x1024) ![0, 0] ![1024, 1024] inb_S1024x1024_S1024x1024_0_0).toLoadRect = w :=
      fun w => View.readCov_unit_zero (S := S1024x1024) _ (funext fun a => by fin_cases a <;> rfl) _ w
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (View.read_writes_full _ _ _ _ _).trans ?_
      sl_unfold_run_names
      unfold actB actP uB colsB prevB
      simp only [View.readAt_full, View.readAt_eq_ld, View.readCov_full, harg2.read_unread, harg3.read_unread, harg4.read_unread, harg5.read_unread, harg6.read_unread, harg9.read_unread, harg10.read_unread]
      have e4 : View.ld x4 (Rect.unit (s := S1x2x512) ![0, 0, 0] ![1, 2, 512] inb_S1x2x512_S1x2x512_0_0_0) = x4 :=
        View.ld_unit_zero (S := S1x2x512) (funext fun a => by fin_cases a <;> rfl) _ x4
      simp only [e4]
      exact congrArg (fun y => k0_pay2 (k0_pay6 y _) (k0_pay9 y _) _ (k0_pay11 (k0_pay7 y _) (k0_pay8 y _)) (k0_pay13 _ (k0_pay7 y _) (k0_pay8 y _) _ _ _) (k0_pay14 _ (k0_pay7 y _) (k0_pay8 y _) _ _ _ _) _) ((eR _).trans (congrArg₂ k0_pay5 e0 e1))
    isplitl [H6]
    · iexists _; isplitr; swap; · iexact H6
      ipureintro
      refine (View.read_writes_full _ _ _ _ _).trans ?_
      sl_unfold_run_names
      unfold uB colsB
      simp only [View.readAt_full, View.readAt_eq_ld, View.readCov_full, harg2.read_unread, harg3.read_unread, harg4.read_unread, harg5.read_unread, harg6.read_unread, harg9.read_unread, harg10.read_unread]
      exact congrArg (fun y => k0_pay4 (k0_pay11 (k0_pay7 y _) (k0_pay8 y _))) ((eR _).trans (congrArg₂ k0_pay5 e0 e1))
    isplitl [HS0]
    · iexists _; isplitr; swap; · iexact HS0
      ipureintro; sl_unfold_run_names; refine (View.read_writes_full _ _ _ _ _).trans ?_
      simp only [View.readAt_full, View.readAt_eq_ld, View.readCov_full, harg2.read_unread, harg3.read_unread, harg4.read_unread, harg5.read_unread, harg6.read_unread, harg9.read_unread, harg10.read_unread]
      exact congrArg₂ k0_pay5 e0 e1
    iexists _; isplitr; swap; · iexact HS1
    ipureintro
    refine (View.read_writes_cons_put _ _ _ _ _ rfl).trans ?_
    sl_unfold_run_names
    unfold carryB uB colsB
    simp only [View.writes_nil, View.readAt_full, View.readAt_eq_ld, View.readCov_full, harg2.read_unread, harg3.read_unread, harg4.read_unread, harg5.read_unread, harg6.read_unread, harg9.read_unread, harg10.read_unread]
    exact congrArg (fun y => VecWindow.put xs1 (k0_off2 i) S1x2x512.size (k0_pay3 (k0_pay11 (k0_pay7 y _) (k0_pay8 y _)))) ((eR _).trans (congrArg₂ k0_pay5 e0 e1))

set_option maxHeartbeats 4000000 in
/-- The body at a point inside a row tile: the scratch holds the tile's normalised rows. -/
theorem run_later (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S3x2048 .f32) (harg5 : arg5.IsWhole) (arg6 : Memref sig .tc .vmem S1x2x512 .f32) (harg6 : arg6.IsWhole) (arg7 : Memref sig .tc .vmem S1024x512 .bf16) (harg7 : arg7.IsWhole) (arg8 : Memref sig .tc .vmem S1x2x512 .f32) (harg8 : arg8.IsWhole) (arg9 : Memref sig .tc .vmem S1024x1024 .bf16) (harg9 : arg9.IsWhole) (arg10 : Memref sig .tc .vmem S4x2x512 .f32) (harg10 : arg10.IsWhole) (hc0 : ¬first i)
    (x0 : Vec F S1024x1024 .f32) (x1 : Vec F S1x1024 .f32) (x2 : Vec F S1024x8192 .bf16) (x3 : Vec F S3x2048 .f32) (x4 : Vec F S1x2x512 .f32) (xs0 : Vec F S1024x1024 .bf16) (xs1 : Vec F S4x2x512 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (actB i xs0 x2 x3 x4 xs1) ∗ owns (c : Thread nD τ) arg8 fullShare (k0_pay4 (uB i xs0 x2)) ∗ owns (c : Thread nD τ) arg9 fullShare xs0 ∗ owns (c : Thread nD τ) arg10 fullShare (carryB i xs0 x2 xs1)) -∗ K ⟨⟩))
          ⊢ wp frame (wpE (defs₀ (F := F)) Variants.none c none) E (cc0_norm_proj_conv i arg2 harg2 arg3 harg3 arg4 harg4 arg5 harg5 arg6 harg6 arg7 harg7 arg8 harg8 arg9 harg9 arg10 harg10) K := by
    simp only [cc0_norm_proj_conv_eq_skeleton]; unfold cc0_norm_proj_conv_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (View.read_writes_full _ _ _ _ _).trans ?_
      sl_unfold_run_names
      unfold actB actP uB colsB prevB
      simp only [View.readAt_full, View.readAt_eq_ld, View.readCov_full, harg2.read_unread, harg3.read_unread, harg4.read_unread, harg5.read_unread, harg6.read_unread, harg9.read_unread, harg10.read_unread]
      have e4 : View.ld x4 (Rect.unit (s := S1x2x512) ![0, 0, 0] ![1, 2, 512] inb_S1x2x512_S1x2x512_0_0_0) = x4 :=
        View.ld_unit_zero (S := S1x2x512) (funext fun a => by fin_cases a <;> rfl) _ x4
      have e9 : View.ld xs0 (Rect.unit (s := S1024x1024) ![0, 0] ![1024, 1024] inb_S1024x1024_S1024x1024_0_0) = xs0 :=
        View.ld_unit_zero (S := S1024x1024) (funext fun a => by fin_cases a <;> rfl) _ xs0
      simp only [e4, e9]
      rfl
    isplitl [H6]
    · iexists _; isplitr; swap; · iexact H6
      ipureintro
      refine (View.read_writes_full _ _ _ _ _).trans ?_
      sl_unfold_run_names
      unfold uB colsB
      simp only [View.readAt_full, View.readAt_eq_ld, View.readCov_full, harg2.read_unread, harg3.read_unread, harg4.read_unread, harg5.read_unread, harg6.read_unread, harg9.read_unread, harg10.read_unread]
      exact congrArg (fun y => k0_pay4 (k0_pay11 (k0_pay7 y _) (k0_pay8 y _))) (View.ld_unit_zero (S := S1024x1024) (off := ![0, 0]) (funext fun a => by fin_cases a <;> rfl) _ xs0)
    isplitl [HS0]
    · iexists _; isplitr; · ipureintro; exact harg9.read_unread _
      iexact HS0
    iexists _; isplitr; swap; · iexact HS1
    ipureintro
    refine (View.read_writes_cons_put _ _ _ _ _ rfl).trans ?_
    sl_unfold_run_names
    unfold carryB uB colsB
    simp only [View.writes_nil, View.readAt_full, View.readAt_eq_ld, View.readCov_full, harg2.read_unread, harg3.read_unread, harg4.read_unread, harg5.read_unread, harg6.read_unread, harg9.read_unread, harg10.read_unread]
    exact congrArg (fun y => VecWindow.put xs1 (k0_off2 i) S1x2x512.size (k0_pay3 (k0_pay11 (k0_pay7 y _) (k0_pay8 y _)))) (View.ld_unit_zero (S := S1024x1024) (off := ![0, 0]) (funext fun a => by fin_cases a <;> rfl) _ xs0)

end Cert.KernelIdeal.Conv

end
-- ==== Proof.ConvFrame.lean ====
/- The gated-convolution kernel's frame: the invariant of its two scratch buffers, the body's obligation and the
   run, with what every output block holds written out. -/
module

public import proofs.«01_k».proof.Proof.ConvRun
public import Idealize.ShloMosaic.Lib.Claim

@[expose] public section

set_option maxRecDepth 16384

noncomputable section
namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Points and coordinates -/

theorem row_of : ∀ t : Fin grid0.N, (grid0.coords t 0).val = t.val / 4 % 16 := fun t => Pipeline.Grid.coords_val t 0 (by decide) rfl
theorem col_of : ∀ t : Fin grid0.N, (grid0.coords t 1).val = t.val / 1 % 4 := fun t => Pipeline.Grid.coords_val t 1 (by decide) rfl

/-- The point opens a row tile exactly when its number is a multiple of four. -/
theorem first_iff : ∀ t : Fin cfg0.N, first (grid0.coords t) ↔ t.val % 4 = 0 :=
  (fun t => by
    have ht : t.val < 64 := Nat.lt_of_lt_of_eq t.isLt N_0
    have e1 := col_of t
    simp only [first, e1]
    word_cmp
   : ∀ t : Fin grid0.N, first (grid0.coords t) ↔ t.val % 4 = 0)

abbrev sM0 (t : Fin cfg0.N) : Memref sig .tc .vmem S1024x1024 .f32 := win0_0.stage (cfg0.slots t 0)
abbrev sM1 (t : Fin cfg0.N) : Memref sig .tc .vmem S1x1024 .f32 := win0_1.stage (cfg0.slots t 1)
abbrev sM2 (t : Fin cfg0.N) : Memref sig .tc .vmem S1024x8192 .bf16 := win0_2.stage (cfg0.slots t 2)
abbrev sM3 (t : Fin cfg0.N) : Memref sig .tc .vmem S3x2048 .f32 := win0_3.stage (cfg0.slots t 3)
abbrev sM4 (t : Fin cfg0.N) : Memref sig .tc .vmem S1x2x512 .f32 := win0_4.stage (cfg0.slots t 4)
abbrev sM5 (t : Fin cfg0.N) : Memref sig .tc .vmem S1024x512 .bf16 := win0_5.stage (cfg0.slots t 5)
abbrev sM6 (t : Fin cfg0.N) : Memref sig .tc .vmem S1x2x512 .f32 := win0_6.stage (cfg0.slots t 6)
/-- The scratch of normalised rows, -/
abbrev hM : Memref sig .tc .vmem S1024x1024 .bf16 := Memref.whole cc0_scratch0
/-- and the scratch of carried rows. -/
abbrev cM : Memref sig .tc .vmem S4x2x512 .f32 := Memref.whole cc0_scratch1

/-- What the region's entry hands over: both scratch buffers at anything, and the generator register. -/
theorem entry_eq (c : Dev nD) : Pipeline.ΦA spec0 c
    = (iprop(iprop((∃ d, owns (c : Thread nD τ) hM fullShare d) ∗ (∃ d, owns (c : Thread nD τ) cM fullShare d)) ∗ (∃ r, prngReg c r)) : sProp 𝕄) := by
  unfold Pipeline.ΦA
  rw [scopedRest0_eq]
  simp only [hM, cM, owns_whole]
  try rfl

/-! ## What each point computes -/

/-- The normalised rows of the point's row tile. -/
def hT (c : Dev nD) (t : Fin cfg0.N) : Vec F S1024x1024 .bf16 := k0_pay5 (iblk m c 0 t) (iblk m c 1 t)
/-- The gated input of the point's tile. -/
def uT (c : Dev nD) (t : Fin cfg0.N) : FVec F S1024x512 .f32 := uB (grid0.coords t) (hT m c t) (iblk m c 2 t)
/-- The rows carried to the point: the last two of the tile four points before. -/
def prevT (c : Dev nD) (t : Fin cfg0.N) : Vec F S1x2x512 .f32 :=
  k0_pay3 (uT m c ⟨t.val - 4, Nat.lt_of_le_of_lt (Nat.sub_le _ _) t.isLt⟩)
/-- The activations of the point's tile. -/
def actT (c : Dev nD) (t : Fin cfg0.N) : FVec F S1024x512 .bf16 :=
  actP (grid0.coords t) (hT m c t) (iblk m c 2 t) (iblk m c 3 t) (iblk m c 4 t) (prevT m c t)

theorem iblk0_congr (c : Dev nD) (t t' : Fin cfg0.N) (h : win0_0.index t = win0_0.index t') : iblk m c 0 t = iblk m c 0 t' := by
  funext y
  show V m c main_v0 _ = V m c main_v0 _
  refine congrArg (V m c main_v0) (funext fun a => Fin.ext ?_)
  show win0_0.index t a * _ + 1 * (y a).val = win0_0.index t' a * _ + 1 * (y a).val
  rw [h]
theorem iblk1_congr (c : Dev nD) (t t' : Fin cfg0.N) : iblk m c 1 t = iblk m c 1 t' := rfl

theorem hT_step (c : Dev nD) (t : Fin cfg0.N) (h : t.val % 4 ≠ 0) :
    hT m c ⟨t.val - 1, Nat.lt_of_le_of_lt (Nat.sub_le _ _) t.isLt⟩ = hT m c t := by
  unfold hT
  have e : iblk m c 0 ⟨t.val - 1, Nat.lt_of_le_of_lt (Nat.sub_le _ _) t.isLt⟩ = iblk m c 0 t := by
    refine iblk0_congr m c _ _ ?_
    obtain ⟨ht, hix⟩ := win0_0.index_eq_of_fetch rfl t (by
      rw [← Bool.not_eq_true]; exact fun hf => h ((fetch0_0 t).mp hf))
    first | exact hix.symm | exact hix
  exact congrArg₂ k0_pay5 e rfl

/-! ## The carried rows -/

/-- Before point `n` the carried scratch holds, at each column tile, the last two rows of the latest tile there. -/
def Car (c : Dev nD) (n : ℕ) (d : Vec F S4x2x512 .f32) : Prop :=
  ∀ t' : Fin cfg0.N, t'.val < n → n ≤ t'.val + 4 → prevB (grid0.coords t') d = k0_pay3 (uT m c t')

theorem car_zero (c : Dev nD) (d : Vec F S4x2x512 .f32) : Car m c 0 d := fun t' h _ => absurd h (Nat.not_lt_zero _)

theorem off2_eq (t : Fin cfg0.N) : k0_off2 (grid0.coords t) = ![t.val % 4, 0, 0] := by
  unfold k0_off2
  have e1 : (grid0.coords t 1).val = t.val / 1 % 4 := col_of t
  rw [e1, Nat.div_one]
  funext a
  fin_cases a
  · show ((BitVec.ofNat 32 (t.val % 4)) : BitVec 32).toNat = t.val % 4
    rw [BitVec.toNat_ofNat, Nat.mod_eq_of_lt]
    omega
  · rfl
  · rfl

theorem ld_off_congr {off off' : Fin S4x2x512.rank → ℕ} (h : off = off') (inb : ∀ a, off a + S1x2x512.size a ≤ S4x2x512.size a)
    (inb' : ∀ a, off' a + S1x2x512.size a ≤ S4x2x512.size a) (d : Vec F S4x2x512 .f32) :
    View.ld d (Rect.unit (s := S4x2x512) off S1x2x512.size inb) = View.ld d (Rect.unit (s := S4x2x512) off' S1x2x512.size inb') := by
  subst h; rfl

theorem car_succ (c : Dev nD) (t : Fin cfg0.N) (d : Vec F S4x2x512 .f32) (h : Car m c t.val d) :
    Car m c (t.val + 1) (carryB (grid0.coords t) (hT m c t) (iblk m c 2 t) d) := by
  intro t' h1 h2
  by_cases ht : t' = t
  · subst ht
    exact VecWindow.window_put_same d (k0_off2 (grid0.coords t')) S1x2x512.size (k0_off2_inb _) _
  · have hne : t'.val ≠ t.val := fun h => ht (Fin.ext h)
    refine Eq.trans ?_ (h t' (by omega) (by omega))
    refine VecWindow.window_put_of_disjoint d (k0_off2 (grid0.coords t)) S1x2x512.size (k0_off2 (grid0.coords t')) S1x2x512.size (k0_off2_inb _) _ 0 ?_
    rw [off2_eq, off2_eq]
    show t'.val % 4 + 1 ≤ t.val % 4 ∨ t.val % 4 + 1 ≤ t'.val % 4
    omega

/-- At an even row tile the rows that precede the tile are the given state's. -/
theorem pay10_even (n : ℕ) (hn : n < 16) (he : n % 2 = 0) (s p p' : Vec F S1x2x512 .f32) :
    k0_pay10 (BitVec.ofNat 32 n) 2#32 s p = k0_pay10 (BitVec.ofNat 32 n) 2#32 s p' := by
  obtain ⟨k, hk⟩ : ∃ k : Fin 8, n = 2 * k.val := ⟨⟨n / 2, by omega⟩, by show n = 2 * (n / 2); omega⟩
  subst hk
  fin_cases k <;> rfl

theorem actP_even (i : grid0.Coords) (he : (i 0).val % 2 = 0) (h : Vec F S1024x1024 .bf16) (x2 : Vec F S1024x8192 .bf16) (x3 : Vec F S3x2048 .f32)
    (x4 : Vec F S1x2x512 .f32) (p p' : Vec F S1x2x512 .f32) : actP i h x2 x3 x4 p = actP i h x2 x3 x4 p' := by
  unfold actP k0_pay13 k0_pay14 k0_pay12
  rw [pay10_even (i 0).val (i 0).isLt he x4 p p']

theorem act_eq (c : Dev nD) (t : Fin cfg0.N) (d : Vec F S4x2x512 .f32) (h : Car m c t.val d) :
    actB (grid0.coords t) (hT m c t) (iblk m c 2 t) (iblk m c 3 t) (iblk m c 4 t) d = actT m c t := by
  unfold actB actT
  by_cases he : (grid0.coords t 0).val % 2 = 0
  · exact actP_even _ he _ _ _ _ _ _
  · have e0 : (grid0.coords t 0).val = t.val / 4 % 16 := row_of t
    have ht : t.val < 64 := Nat.lt_of_lt_of_eq t.isLt N_0
    have h4 : 4 ≤ t.val := by omega
    refine congrArg (actP _ _ _ _ _) ?_
    refine Eq.trans ?_ (h ⟨t.val - 4, by omega⟩ (by show t.val - 4 < t.val; omega) (by show t.val ≤ t.val - 4 + 4; omega))
    unfold prevB
    refine ld_off_congr ?_ _ _ d
    rw [off2_eq, off2_eq]
    show ![t.val % 4, 0, 0] = ![(t.val - 4) % 4, 0, 0]
    rw [show (t.val - 4) % 4 = t.val % 4 by omega]

/-! ## The invariant and the proof data -/

/-- Before the first point the entry's; afterwards the normalised rows of the last point's row tile, and the
    carried rows as `Car` says. -/
def Inv (c : Dev nD) : (n : ℕ) → n ≤ cfg0.N → sProp 𝕄
  | 0, _ => Pipeline.ΦA spec0 c
  | n + 1, hn => iprop(iprop(owns (c : Thread nD τ) hM fullShare (hT m c ⟨n, hn⟩) ∗ (∃ d, ⌜Car m c (n + 1) d⌝ ∗ owns (c : Thread nD τ) cM fullShare d)) ∗ (∃ r, prngReg c r))

theorem inv_pos (c : Dev nD) (n : ℕ) (h : n ≤ cfg0.N) (hz : n ≠ 0) :
    Inv m c n h = iprop(iprop(owns (c : Thread nD τ) hM fullShare (hT m c ⟨n - 1, by omega⟩) ∗ (∃ d, ⌜Car m c n d⌝ ∗ owns (c : Thread nD τ) cM fullShare d)) ∗ (∃ r, prngReg c r)) := by
  cases n with
  | zero => exact absurd rfl hz
  | succ n => rfl

/-- At every point: the rows' scratch at something, the carried rows as `Car` says. -/
theorem inv_any (c : Dev nD) (n : ℕ) (h : n ≤ cfg0.N) :
    Inv m c n h ⊢ iprop(iprop((∃ d, owns (c : Thread nD τ) hM fullShare d) ∗ (∃ d, ⌜Car m c n d⌝ ∗ owns (c : Thread nD τ) cM fullShare d)) ∗ (∃ r, prngReg c r)) := by
  cases n with
  | zero =>
    show Pipeline.ΦA spec0 c ⊢ _
    rw [entry_eq]
    iintro ⟨⟨HS0, %d, HS1⟩, Hg⟩
    isplitl [HS0 HS1]
    · isplitl [HS0]; · iexact HS0
      iexists d; isplitr; · ipureintro; exact car_zero m c d
      iexact HS1
    iexact Hg
  | succ n =>
    show iprop(iprop(owns (c : Thread nD τ) hM fullShare (hT m c ⟨n, h⟩) ∗ (∃ d, ⌜Car m c (n + 1) d⌝ ∗ owns (c : Thread nD τ) cM fullShare d)) ∗ (∃ r, prngReg c r)) ⊢ _
    iintro ⟨⟨HS0, HS1⟩, Hg⟩
    isplitl [HS0 HS1]
    · isplitl [HS0]; · iexists _; iexact HS0
      iexact HS1
    iexact Hg

/-- The arrays as the region finds them; after each point the inputs at their blocks, the first output at the
    point's activations and the second at the last two rows of its gated input. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => actT m c t
    | ⟨6, _⟩ => k0_pay4 (uT m c t)
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_at (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = actT m c t := by dsimp only [dats]
theorem after_6 (c : Dev nD) (t : Fin cfg0.N) : (dats m 0 c).after 6 t = k0_pay4 (uT m c t) := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (sM0 t) fullShare ((dats m 0 c).before 0 t d))
    ∗ (∃ d, owns (c : Thread nD τ) (sM1 t) fullShare ((dats m 0 c).before 1 t d))
    ∗ (∃ d, owns (c : Thread nD τ) (sM2 t) fullShare ((dats m 0 c).before 2 t d))
    ∗ (∃ d, owns (c : Thread nD τ) (sM3 t) fullShare ((dats m 0 c).before 3 t d))
    ∗ (∃ d, owns (c : Thread nD τ) (sM4 t) fullShare ((dats m 0 c).before 4 t d))
    ∗ (∃ d, owns (c : Thread nD τ) (sM5 t) fullShare ((dats m 0 c).before 5 t d))
    ∗ (∃ d, owns (c : Thread nD τ) (sM6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (sM0 t) fullShare ((dats m 0 c).after 0 t)
    ∗ owns (c : Thread nD τ) (sM1 t) fullShare ((dats m 0 c).after 1 t)
    ∗ owns (c : Thread nD τ) (sM2 t) fullShare ((dats m 0 c).after 2 t)
    ∗ owns (c : Thread nD τ) (sM3 t) fullShare ((dats m 0 c).after 3 t)
    ∗ owns (c : Thread nD τ) (sM4 t) fullShare ((dats m 0 c).after 4 t)
    ∗ owns (c : Thread nD τ) (sM5 t) fullShare ((dats m 0 c).after 5 t)
    ∗ owns (c : Thread nD τ) (sM6 t) fullShare ((dats m 0 c).after 6 t))

set_option maxHeartbeats 6400000 in
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5, after_6, inv_at]
  rw [show (dats m 0 c).Φ t.succ = iprop(iprop(owns (c : Thread nD τ) hM fullShare (hT m c t) ∗ (∃ d, ⌜Car m c (t.val + 1) d⌝ ∗ owns (c : Thread nD τ) cM fullShare d)) ∗ (∃ r, prngReg c r)) from rfl]
  by_cases h0 : t.val % 4 = 0
  · refine (sep_mono (inv_any m c t.val (Nat.le_of_lt t.isLt)) .rfl).trans ?_
    iintro ⟨⟨⟨HS0, %d, %hd, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ _ _ ((first_iff t).mpr h0) (iblk m c 0 t) (iblk m c 1 t) (iblk m c 2 t) (iblk m c 3 t) (iblk m c 4 t) d Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    rw [show (k0_pay5 (iblk m c 0 t) (iblk m c 1 t) : Vec F S1024x1024 .bf16) = hT m c t from rfl, act_eq m c t d hd]
    iintro ⟨H0, H1, H2, H3, H4, H5, H6, HS0, HS1⟩
    isplitl [HS0 HS1 Hg]
    · isplitl [HS0 HS1]
      · isplitl [HS0]; · iexact HS0
        iexists _; isplitr; · ipureintro; exact car_succ m c t d hd
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [inv_pos m c t.val (Nat.le_of_lt t.isLt) (by omega), hT_step m c t h0]
    iintro ⟨⟨⟨HS0, %d, %hd, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ _ _ _ _ (fun h => h0 ((first_iff t).mp h)) (iblk m c 0 t) (iblk m c 1 t) (iblk m c 2 t) (iblk m c 3 t) (iblk m c 4 t) (hT m c t) d Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    rw [act_eq m c t d hd]
    iintro ⟨H0, H1, H2, H3, H4, H5, H6, HS0, HS1⟩
    isplitl [HS0 HS1 Hg]
    · isplitl [HS0 HS1]
      · isplitl [HS0]; · iexact HS0
        iexists _; isplitr; · ipureintro; exact car_succ m c t d hd
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (body_sound m c t) rfl .rfl fun _ => .rfl

theorem enter (c : Dev nD) : Pipeline.ΦA spec0 c ⊢ (dats m 0 c).Φ 0 := by
  rw [show (dats m 0 c).Φ 0 = Pipeline.ΦA spec0 c from rfl]
  try exact Idealize.SL.BI.Entails.refl _

theorem leave (c : Dev nD) : (dats m 0 c).Φ (Fin.last cfg0.N) ⊢ Pipeline.ΦA spec0 c := by
  rw [show (dats m 0 c).Φ (Fin.last cfg0.N) = Inv m c cfg0.N (le_refl _) from rfl, entry_eq]
  refine (inv_any m c _ _).trans ?_
  iintro ⟨⟨HS0, %d, %hd, HS1⟩, Hg⟩
  isplitl [HS0 HS1]
  · isplitl [HS0]; · iexact HS0
    iexists d; iexact HS1
  iexact Hg

set_option backward.isDefEq.respectTransparency.types false in
set_option maxHeartbeats 800000 in
/-- The run: every array of the region ends at what the proof data says, every semaphore at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

/-- The frame: the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Conv

end
-- ==== Proof.ConvValue.lean ====
/- The gated-convolution kernel's values over the extended reals: every tile a grid point writes is the reference's
   expression at the tile's place, so the result arrays are the reference's. -/
module

public import proofs.«01_k».proof.Proof.ConvFrame
public import proofs.«01_k».proof.Proof.Gen.ReferenceIdeal.Read
public import Idealize.ShloMosaic.Lib.Pointwise
public import Idealize.ShloMosaic.Lib.Pipeline.ValueKit

@[expose] public section

set_option maxRecDepth 16384

noncomputable section
namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen
open Cert.ReferenceIdeal.Read

variable (m : (ℓ : Loc nD τ sig) → Buf (Elt Ideal) ℓ) (ρ : Dev nD → PrngReg)

/-! ## The argument arrays and the blocks of them -/

/-- The layer's input, -/
abbrev aX (c : Dev nD) : Vec Ideal Cert.ReferenceIdeal.S8x2048x1024 .f32 := m ((c : Thread nD τ).loc main_arg0)
/-- the norm's gain, -/
abbrev aG (c : Dev nD) : Vec Ideal Cert.ReferenceIdeal.S1024 .f32 := m ((c : Thread nD τ).loc main_arg1)
/-- the projection's weights, -/
abbrev aW (c : Dev nD) : Vec Ideal Cert.ReferenceIdeal.S1024x8192 .f32 := m ((c : Thread nD τ).loc main_arg2)
/-- the convolution's taps, -/
abbrev aT (c : Dev nD) : Vec Ideal Cert.ReferenceIdeal.S3x2048 .f32 := m ((c : Thread nD τ).loc main_arg3)
/-- and the rows that precede each sequence. -/
abbrev aS (c : Dev nD) : Vec Ideal Cert.ReferenceIdeal.S8x2x2048 .f32 := m ((c : Thread nD τ).loc main_arg4)

theorem idx0 : ∀ t : Fin grid0.N, win0_0.index t = ![t.val / 4 % 16, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![t.val / 8, 0, t.val % 4] := by decide +kernel
theorem idx5 : ∀ t : Fin grid0.N, win0_5.index t = ![t.val / 4, t.val % 4] := by decide +kernel
theorem idx6 : ∀ t : Fin grid0.N, win0_6.index t = ![t.val / 4, 0, t.val % 4] := by decide +kernel
theorem off1_eq : ∀ (t : Fin grid0.N) (a : Fin 4),
    k0_off1 (grid0.coords t) (BitVec.ofNat 32 (2048 * a.val)) = ![0, 2048 * a.val + 512 * (t.val % 4)] := by decide +kernel
theorem off3_eq : ∀ t : Fin grid0.N, k0_off3 (grid0.coords t) = ![0, 512 * (t.val % 4)] := by decide +kernel

theorem V_v0 (c : Dev nD) : V m c main_v0 = shapeCast S16384x1024 (m ((c : Thread nD τ).loc main_arg0)) shapeCasts_S8x2048x1024_S16384x1024 := rfl
theorem V_v1 (c : Dev nD) : V m c main_v1 = shapeCast S1x1024 (m ((c : Thread nD τ).loc main_arg1)) shapeCasts_S1024_S1x1024 := rfl

/-- The rows of all sequences under one another. -/
theorem rows_apply (x : Vec Ideal S8x2048x1024 .f32) (R : Fin 16384) (k : Fin 1024) :
    shapeCast S16384x1024 x shapeCasts_S8x2048x1024_S16384x1024 (ix2 R k) = x (ix3 ⟨R.val / 2048, by omega⟩ ⟨R.val % 2048, by omega⟩ k) := by
  pointwise

theorem v0_apply (c : Dev nD) (R : Fin 16384) (k : Fin 1024) :
    V m c main_v0 (ix2 R k) = aX m c (ix3 ⟨R.val / 2048, by omega⟩ ⟨R.val % 2048, by omega⟩ k) :=
  (congrFun (V_v0 m c) _).trans (rows_apply _ R k)

theorem blk0 (c : Dev nD) (t : Fin cfg0.N) (r k : Fin 1024) (b : Fin 8) (s : Fin 2048)
    (hb : 2048 * b.val + s.val = 1024 * (t.val / 4) + r.val) : iblk m c 0 t (ix2 r k) = aX m c (ix3 b s k) := by
  have ht : t.val < 64 := Nat.lt_of_lt_of_eq t.isLt N_0
  have e : ((cfg0.win 0).blk t).view.emb (ix2 r k) = (ix2 ⟨1024 * (t.val / 4) + r.val, by omega⟩ k : S16384x1024.Idx) := by
    blk_ext [idx0 t]
  show V m c main_v0 (((cfg0.win 0).blk t).view.emb (ix2 r k)) = _
  rw [e]
  refine (v0_apply m c _ k).trans ?_
  exact congrArg (aX m c) (congrArg₂ (fun a b => ix3 a b k) (Fin.ext (by show (1024 * (t.val / 4) + r.val) / 2048 = b.val; omega))
    (Fin.ext (by show (1024 * (t.val / 4) + r.val) % 2048 = s.val; omega)))
theorem blk1 (c : Dev nD) (t : Fin cfg0.N) (k : Fin 1024) : iblk m c 1 t (ix2 0 k) = aG m c (ix1 k) := by
  blk_simp [iblk]
  rw [V_v1]
  pointwise
  blk_ext [idx1 t]
theorem blk2 (c : Dev nD) (t : Fin cfg0.N) (k : Fin 1024) (n : Fin 8192) : iblk m c 2 t (ix2 k n) = aW m c (ix2 k n) := by
  blk_ext! [iblk, V, idx2 t]
theorem blk3 (c : Dev nD) (t : Fin cfg0.N) (k : Fin 3) (n : Fin 2048) : iblk m c 3 t (ix2 k n) = aT m c (ix2 k n) := by
  blk_ext! [iblk, V, idx3 t]
theorem blk4 (c : Dev nD) (t : Fin cfg0.N) (k : Fin 2) (n : Fin 512) (b : Fin 8) (j : Fin 2048) (hb : b.val = t.val / 8)
    (hj : j.val = 512 * (t.val % 4) + n.val) : iblk m c 4 t (ix3 0 k n) = aS m c (ix3 b k j) := by
  blk_ext! [iblk, V, idx4 t]

/-! ## The reference, read down to its named parts -/

/-- The reference's normalised row. -/
theorem v12_apply (x0 x1) (b : Fin 8) (s : Fin 2048) (k : Fin 1024) : val_main_v12 (F := Ideal) x0 x1 (ix3 b s k)
    = x0 (ix3 b s k) * Ideal.rsqrt (Ideal.div (∑ x : Fin 1024, x0 (ix3 b s x) * x0 (ix3 b s x)) (Ideal.ofBits FTy.f32 1149239296#32)
        + Ideal.ofBits FTy.f32 897988541#32) * x1 (ix1 k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

theorem v13_apply (x0 x1 x2) (b : Fin 8) (s : Fin 2048) (n : Fin 8192) : val_main_v13 (F := Ideal) x0 x1 x2 (ix3 b s n)
    = ∑ k : Fin 1024, val_main_v12 (F := Ideal) x0 x1 (ix3 b s k) * x2 (ix2 k n) := by
  pointwise [val_main_v13]

theorem v18_apply (x0 x1 x2) (b : Fin 8) (s : Fin 2048) (j : Fin 2048) : val_main_v18 (F := Ideal) x0 x1 x2 (ix3 b s j)
    = val_main_v13 (F := Ideal) x0 x1 x2 (ix3 b s ⟨2048 + j.val, by omega⟩) * val_main_v13 (F := Ideal) x0 x1 x2 (ix3 b s ⟨4096 + j.val, by omega⟩) := by
  pointwise [val_main_v18, val_main_v16, val_main_v15]

/-- The sequence with its preceding rows in front: the first two rows are the given ones, -/
theorem v19_state (x0 x1 x2 x4) (b : Fin 8) (n : Fin 2050) (j : Fin 2048) (k : Fin 2) (h : n.val = k.val) :
    val_main_v19 (F := Ideal) x0 x1 x2 x4 (ix3 b n j) = x4 (ix3 b k j) := by
  pointwise [val_main_v19]
  have hk : n.val < 2 := by omega
  rw [dif_pos hk]
  exact congrArg (fun z => x4 (ix3 b z j)) (Fin.ext h)
/-- and the others the gated inputs. -/
theorem v19_seq (x0 x1 x2 x4) (b : Fin 8) (n : Fin 2050) (j : Fin 2048) (s : Fin 2048) (h : n.val = s.val + 2) :
    val_main_v19 (F := Ideal) x0 x1 x2 x4 (ix3 b n j) = val_main_v18 (F := Ideal) x0 x1 x2 (ix3 b s j) := by
  pointwise [val_main_v19]
  have hk : ¬ n.val < 2 := by omega
  rw [dif_neg hk]
  exact congrArg (fun z => val_main_v18 (F := Ideal) x0 x1 x2 (ix3 b z j)) (Fin.ext (by show n.val - 2 = s.val; omega))

/-- The reference's activations, from the projections and the extended sequence. -/
theorem v46_apply (x0 x1 x2 x3 x4) (R : Fin 16384) (j : Fin 2048) (hb : R.val / 2048 < 8) (hs : R.val % 2048 < 2048) :
    val_main_v46 (F := Ideal) x0 x1 x2 x3 x4 (ix2 R j)
    = val_main_v13 (F := Ideal) x0 x1 x2 (ix3 ⟨R.val / 2048, hb⟩ ⟨R.val % 2048, hs⟩ ⟨j.val, by omega⟩)
      * (((x3 (ix2 0 j) * val_main_v19 (F := Ideal) x0 x1 x2 x4 (ix3 ⟨R.val / 2048, hb⟩ ⟨R.val % 2048, by omega⟩ j))
          + x3 (ix2 1 j) * val_main_v19 (F := Ideal) x0 x1 x2 x4 (ix3 ⟨R.val / 2048, hb⟩ ⟨1 + R.val % 2048, by omega⟩ j))
        + x3 (ix2 2 j) * val_main_v19 (F := Ideal) x0 x1 x2 x4 (ix3 ⟨R.val / 2048, hb⟩ ⟨2 + R.val % 2048, by omega⟩ j))
      * (val_main_v13 (F := Ideal) x0 x1 x2 (ix3 ⟨R.val / 2048, hb⟩ ⟨R.val % 2048, hs⟩ ⟨6144 + j.val, by omega⟩)
        * Ideal.div 1 (1 + Ideal.exp (-val_main_v13 (F := Ideal) x0 x1 x2 (ix3 ⟨R.val / 2048, hb⟩ ⟨R.val % 2048, hs⟩ ⟨6144 + j.val, by omega⟩)))) := by
  pointwise [val_main_v46, val_main_v45, val_main_v44, val_main_v43, val_main_call0_v0, val_main_call0_v1, val_main_call0_v2,
    val_main_call0_v3, val_main_call0_v4, val_main_call0_v5, val_main_call0_cst, val_main_call0_cst_0, val_main_v42,
    val_main_v41, val_main_v40, val_main_v39, val_main_v38, val_main_v37, val_main_v36, val_main_v35, val_main_v34,
    val_main_v33, val_main_v32, val_main_v31, val_main_v30, val_main_v29, val_main_v28, val_main_v27, val_main_v26,
    val_main_v25, val_main_v24, val_main_v23, val_main_v22, val_main_v21, val_main_v20, val_main_cst_2, val_main_v17, val_main_v14]

/-! ## What a point computes -/

/-- A point's normalised rows are the reference's. -/
theorem hT_apply (c : Dev nD) (t : Fin cfg0.N) (r k : Fin 1024) (b : Fin 8) (s : Fin 2048)
    (hb : 2048 * b.val + s.val = 1024 * (t.val / 4) + r.val) :
    hT m c t (ix2 r k) = val_main_v12 (F := Ideal) (aX m c) (aG m c) (ix3 b s k) := by
  rw [v12_apply]
  unfold hT
  pointwise [k0_pay5]
  simp only [blk0 m c t r _ b s hb, blk1 m c t]

/-- The columns of the weights that the point reads for the `a`-th projection. -/
theorem cols_apply (c : Dev nD) (t : Fin cfg0.N) (a : Fin 4) (k : Fin 1024) (l : Fin 512) (n : Fin 8192)
    (hn : n.val = 2048 * a.val + 512 * (t.val % 4) + l.val) :
    colsB (grid0.coords t) a (iblk m c 2 t) (ix2 k l) = aW m c (ix2 k n) := by
  unfold colsB
  pointwise
  rw [← blk2 m c t k n]
  refine congrArg (iblk m c 2 t) ?_
  have e := off1_eq t a
  refine congrArg₂ ix2 (Fin.ext ?_) (Fin.ext ?_)
  · show k0_off1 _ _ 0 + k.val = k.val
    rw [congrFun e 0]; exact Nat.zero_add _
  · show k0_off1 _ _ 1 + l.val = n.val
    rw [congrFun e 1, hn]; rfl

/-- A projection of a point's rows is the reference's projection at the tile's place. -/
theorem proj_apply (c : Dev nD) (t : Fin cfg0.N) (a : Fin 4) (r : Fin 1024) (l : Fin 512) (b : Fin 8) (s : Fin 2048)
    (hb : 2048 * b.val + s.val = 1024 * (t.val / 4) + r.val) (n : Fin 8192) (hn : n.val = 2048 * a.val + 512 * (t.val % 4) + l.val) :
    (∑ x : Fin 1024, hT m c t (ix2 r x) * colsB (grid0.coords t) a (iblk m c 2 t) (ix2 x l))
      = val_main_v13 (F := Ideal) (aX m c) (aG m c) (aW m c) (ix3 b s n) := by
  rw [v13_apply]
  refine Finset.sum_congr rfl fun x _ => ?_
  rw [hT_apply m c t r x b s hb, cols_apply m c t a x l n hn]

/-- A point's gated inputs are the reference's sequence, two rows on. -/
theorem uT_apply (c : Dev nD) (t : Fin cfg0.N) (r : Fin 1024) (l : Fin 512) (b : Fin 8) (n : Fin 2050) (j : Fin 2048)
    (hb : 2048 * b.val + n.val = 1024 * (t.val / 4) + r.val + 2) (hn : 2 ≤ n.val) (hj : j.val = 512 * (t.val % 4) + l.val) :
    uT m c t (ix2 r l) = val_main_v19 (F := Ideal) (aX m c) (aG m c) (aW m c) (aS m c) (ix3 b n j) := by
  have hs : n.val - 2 < 2048 := by omega
  rw [v19_seq _ _ _ _ b n j ⟨n.val - 2, hs⟩ (by show n.val = n.val - 2 + 2; omega), v18_apply]
  unfold uT uB
  pointwise [k0_pay11, k0_pay7, k0_pay8]
  rw [proj_apply m c t 1 r l b ⟨n.val - 2, hs⟩ (by show 2048 * b.val + (n.val - 2) = _; omega) ⟨2048 + j.val, by omega⟩
      (by show 2048 + j.val = 2048 * 1 + 512 * (t.val % 4) + l.val; omega),
    proj_apply m c t 2 r l b ⟨n.val - 2, hs⟩ (by show 2048 * b.val + (n.val - 2) = _; omega) ⟨4096 + j.val, by omega⟩
      (by show 4096 + j.val = 2048 * 2 + 512 * (t.val % 4) + l.val; omega)]

/-- At an even row tile the preceding rows are the given ones, -/
theorem pay10_state (n : ℕ) (hn : n < 16) (he : n % 2 = 0) (s p : Vec Ideal S1x2x512 .f32) (k : Fin 2) (l : Fin 512) :
    k0_pay10 (BitVec.ofNat 32 n) 2#32 s p (ix2 k l) = s (ix3 0 k l) := by
  have e : k0_pay10 (BitVec.ofNat 32 n) 2#32 s p = shapeCast S2x512 s shapeCasts_S1x2x512_S2x512 := by
    obtain ⟨i, hi⟩ : ∃ i : Fin 8, n = 2 * i.val := ⟨⟨n / 2, by omega⟩, by show n = 2 * (n / 2); omega⟩
    subst hi
    fin_cases i <;> rfl
  rw [e]
  pointwise
/-- at an odd one the carried ones. -/
theorem pay10_carry (n : ℕ) (hn : n < 16) (he : n % 2 = 1) (s p : Vec Ideal S1x2x512 .f32) (k : Fin 2) (l : Fin 512) :
    k0_pay10 (BitVec.ofNat 32 n) 2#32 s p (ix2 k l) = p (ix3 0 k l) := by
  have e : k0_pay10 (BitVec.ofNat 32 n) 2#32 s p = shapeCast S2x512 p shapeCasts_S1x2x512_S2x512 := by
    obtain ⟨i, hi⟩ : ∃ i : Fin 8, n = 2 * i.val + 1 := ⟨⟨n / 2, by omega⟩, by show n = 2 * (n / 2) + 1; omega⟩
    subst hi
    fin_cases i <;> rfl
  rw [e]
  pointwise

/-- The two rows that precede a point's tile are the reference's. -/
theorem pre_apply (c : Dev nD) (t : Fin cfg0.N) (k : Fin 2) (l : Fin 512) (b : Fin 8) (n : Fin 2050) (j : Fin 2048)
    (hb : b.val = t.val / 8) (hn : n.val = 1024 * (t.val / 4 % 2) + k.val) (hj : j.val = 512 * (t.val % 4) + l.val) :
    k0_pay10 (BitVec.ofNat 32 (grid0.coords t 0).val) 2#32 (iblk m c 4 t) (prevT m c t) (ix2 k l)
      = val_main_v19 (F := Ideal) (aX m c) (aG m c) (aW m c) (aS m c) (ix3 b n j) := by
  have ht : t.val < 64 := Nat.lt_of_lt_of_eq t.isLt N_0
  have e0 : (grid0.coords t 0).val = t.val / 4 % 16 := row_of t
  by_cases he : t.val / 4 % 2 = 0
  · rw [pay10_state _ (by omega) (by omega) _ _ k l, v19_state _ _ _ _ b n j k (by omega)]
    exact blk4 m c t k l b j hb hj
  · rw [pay10_carry _ (by omega) (by omega) _ _ k l]
    unfold prevT
    pointwise [k0_pay3, k0_pay1]
    exact uT_apply m c _ _ l b n j (by show _ = 1024 * ((t.val - 4) / 4) + (1022 + k.val) + 2; omega) (by omega)
      (by show _ = 512 * ((t.val - 4) % 4) + l.val; omega)

/-- A choice by an equality of two small words is a choice by the equality of the numbers. -/
theorem select_word {α : Type} (n k : ℕ) (hn : n < 4294967296) (hk : k < 4294967296) (x y : α) :
    Scalar.select (IntOp.cmpi .eq (BitVec.ofNat 32 n) (BitVec.ofNat 32 k)) x y = if n = k then x else y := by
  by_cases h : n = k
  · subst h
    simp [Scalar.select, IntOp.cmpi]
  · have hne : (BitVec.ofNat 32 n) ≠ (BitVec.ofNat 32 k) := fun e => h (by
      have := congrArg BitVec.toNat e
      rwa [BitVec.toNat_ofNat, BitVec.toNat_ofNat, Nat.mod_eq_of_lt hn, Nat.mod_eq_of_lt hk] at this)
    have hc : IntOp.cmpi .eq (BitVec.ofNat 32 n) (BitVec.ofNat 32 k) = 0#1 := by
      show BitVec.ofBool (BitVec.ofNat 32 n == BitVec.ofNat 32 k) = 0#1
      rw [beq_eq_false_iff_ne.mpr hne]; rfl
    rw [if_neg h, hc]
    rfl

/-- The taps of the point's columns. -/
theorem taps_apply (c : Dev nD) (t : Fin cfg0.N) (k : Fin 3) (l : Fin 512) (j : Fin 2048) (hj : j.val = 512 * (t.val % 4) + l.val)
    (a : Fin 3) (b : Fin 2048) (ha : a.val = k0_off3 (grid0.coords t) 0 + k.val) (hb : b.val = k0_off3 (grid0.coords t) 1 + l.val) :
    iblk m c 3 t (ix2 a b) = aT m c (ix2 k j) := by
  have e := off3_eq t
  have e0 : k0_off3 (grid0.coords t) 0 = 0 := congrFun e 0
  have e1 : k0_off3 (grid0.coords t) 1 = 512 * (t.val % 4) := congrFun e 1
  obtain rfl : a = k := Fin.ext (by omega)
  obtain rfl : b = j := Fin.ext (by omega)
  exact blk3 m c t a b

/-- A point's activations are the reference's at the tile's place. -/
theorem actT_apply (c : Dev nD) (t : Fin cfg0.N) (r : Fin 1024) (l : Fin 512) (R : Fin 16384) (j : Fin 2048)
    (hR : R.val = 1024 * (t.val / 4) + r.val) (hj : j.val = 512 * (t.val % 4) + l.val) :
    actT m c t (ix2 r l) = val_main_v46 (F := Ideal) (aX m c) (aG m c) (aW m c) (aT m c) (aS m c) (ix2 R j) := by
  have ht : t.val < 64 := Nat.lt_of_lt_of_eq t.isLt N_0
  have hb : R.val / 2048 < 8 := by omega
  have hs : R.val % 2048 < 2048 := by omega
  rw [v46_apply _ _ _ _ _ R j hb hs]
  have hrow : 2048 * (R.val / 2048) + R.val % 2048 = 1024 * (t.val / 4) + r.val := by omega
  have eu : uB (grid0.coords t) (hT m c t) (iblk m c 2 t) = uT m c t := rfl
  unfold actT actP
  rw [eu]
  have eu' : k0_pay11 (k0_pay7 (hT m c t) (colsB (grid0.coords t) 1 (iblk m c 2 t))) (k0_pay8 (hT m c t) (colsB (grid0.coords t) 2 (iblk m c 2 t))) = uT m c t := rfl
  pointwise [k0_pay2, k0_pay13, k0_pay14, k0_pay15, k0_pay6, k0_pay9, k0_pay12]
  simp only [eu']
  rw [select_word r.val 0 (by omega) (by omega), select_word r.val 1 (by omega) (by omega), select_word r.val 0 (by omega) (by omega),
    proj_apply m c t 0 r l ⟨R.val / 2048, hb⟩ ⟨R.val % 2048, hs⟩ hrow ⟨j.val, by omega⟩ (by show j.val = 2048 * 0 + 512 * (t.val % 4) + l.val; omega),
    proj_apply m c t 3 r l ⟨R.val / 2048, hb⟩ ⟨R.val % 2048, hs⟩ hrow ⟨6144 + j.val, by omega⟩ (by show 6144 + j.val = 2048 * 3 + 512 * (t.val % 4) + l.val; omega),
    taps_apply m c t 0 l j hj _ _ rfl rfl, taps_apply m c t 1 l j hj _ _ rfl rfl, taps_apply m c t 2 l j hj _ _ rfl rfl,
    uT_apply m c t r l ⟨R.val / 2048, hb⟩ ⟨2 + R.val % 2048, by omega⟩ j (by show 2048 * (R.val / 2048) + (2 + R.val % 2048) = _; omega)
      (by show 2 ≤ 2 + R.val % 2048; omega) hj]
  have s1 : (if r.val = 0 then k0_pay10 (BitVec.ofNat 32 (grid0.coords t 0).val) 2#32 (iblk m c 4 t) (prevT m c t) (ix2 1 l)
      else uT m c t (ix2 ⟨(r.val + 1024 - 1) % 1024, by omega⟩ l))
      = val_main_v19 (F := Ideal) (aX m c) (aG m c) (aW m c) (aS m c) (ix3 ⟨R.val / 2048, hb⟩ ⟨1 + R.val % 2048, by omega⟩ j) := by
    split
    · exact pre_apply m c t 1 l _ _ j (by show R.val / 2048 = _; omega) (by show 1 + R.val % 2048 = 1024 * (t.val / 4 % 2) + 1; omega) hj
    · exact uT_apply m c t _ l _ _ j (by show 2048 * (R.val / 2048) + (1 + R.val % 2048) = 1024 * (t.val / 4) + (r.val + 1024 - 1) % 1024 + 2; omega)
        (by show 2 ≤ 1 + R.val % 2048; omega) hj
  have s0 : (if r.val = 0 then k0_pay10 (BitVec.ofNat 32 (grid0.coords t 0).val) 2#32 (iblk m c 4 t) (prevT m c t) (ix2 0 l)
      else if r.val = 1 then k0_pay10 (BitVec.ofNat 32 (grid0.coords t 0).val) 2#32 (iblk m c 4 t) (prevT m c t) (ix2 1 l)
      else uT m c t (ix2 ⟨(r.val + 1024 - 2) % 1024, by omega⟩ l))
      = val_main_v19 (F := Ideal) (aX m c) (aG m c) (aW m c) (aS m c) (ix3 ⟨R.val / 2048, hb⟩ ⟨R.val % 2048, by omega⟩ j) := by
    split
    · exact pre_apply m c t 0 l _ _ j (by show R.val / 2048 = _; omega) (by show R.val % 2048 = 1024 * (t.val / 4 % 2) + 0; omega) hj
    · split
      · exact pre_apply m c t 1 l _ _ j (by show R.val / 2048 = _; omega) (by show R.val % 2048 = 1024 * (t.val / 4 % 2) + 1; omega) hj
      · exact uT_apply m c t _ l _ _ j (by show 2048 * (R.val / 2048) + R.val % 2048 = 1024 * (t.val / 4) + (r.val + 1024 - 2) % 1024 + 2; omega)
          (by show 2 ≤ R.val % 2048; omega) hj
  rw [s0, s1]
  rfl

/-! ## The result arrays -/

/-- The last two rows of every row tile, as the reference's extended sequence has them. -/
def carried (c : Dev nD) : Vec Ideal S16x2x2048 .f32 := fun i =>
  val_main_v19 (F := Ideal) (aX m c) (aG m c) (aW m c) (aS m c)
    (ix3 ⟨(i 0).val / 2, by have : (i 0).val < 16 := (i 0).isLt; omega⟩
      ⟨1024 * ((i 0).val % 2) + 1024 + (i 1).val, by have : (i 1).val < 2 := (i 1).isLt; omega⟩ (i 2))

/-- The activations' array ends at the reference's, -/
theorem final5 (c : Dev nD) : (dats m 0 c).arrAt 5 cfg0.N = val_main_v46 (F := Ideal) (aX m c) (aG m c) (aW m c) (aT m c) (aS m c) := by
  refine (dats m 0 c).arrAt_eq_of_covers 5 _ (by decide +kernel) fun t hf y => ?_
  have ht : t.val < 64 := Nat.lt_of_lt_of_eq t.isLt N_0
  blk_simp
  rw [after_5]
  revert y
  show ∀ y : S1024x512.Idx, _
  intro y
  idx_vars y
  have e : ((win0_5.blk t).view.emb (ix2 y0 y1)) = (ix2 ⟨1024 * (t.val / 4) + y0.val, by omega⟩ ⟨512 * (t.val % 4) + y1.val, by omega⟩ : S16384x2048.Idx) := by
    blk_ext [idx5 t]
  rw [e]
  exact actT_apply m c t y0 y1 _ _ rfl rfl
/-- and the carried rows' array at the sequence's. -/
theorem final6 (c : Dev nD) : (dats m 0 c).arrAt 6 cfg0.N = carried m c := by
  refine (dats m 0 c).arrAt_eq_of_covers 6 _ (by decide +kernel) fun t hf y => ?_
  have ht : t.val < 64 := Nat.lt_of_lt_of_eq t.isLt N_0
  blk_simp
  rw [after_6]
  revert y
  show ∀ y : S1x2x512.Idx, _
  intro y
  idx_vars y
  have hy : y0.val < 1 := y0.isLt
  have e : ((win0_6.blk t).view.emb (ix3 y0 y1 y2)) = (ix3 ⟨t.val / 4, by omega⟩ y1 ⟨512 * (t.val % 4) + y2.val, by omega⟩ : S16x2x2048.Idx) := by
    blk_ext [idx6 t]
  rw [e]
  unfold carried
  pointwise [k0_pay4, k0_pay1]
  exact uT_apply m c t _ y2 _ _ _ (by show 2048 * (t.val / 4 / 2) + (1024 * (t.val / 4 % 2) + 1024 + y1.val) = 1024 * (t.val / 4) + (1022 + y1.val) + 2; omega)
    (by show 2 ≤ 1024 * (t.val / 4 % 2) + 1024 + y1.val; omega) rfl

/-- What the host's strided slice keeps of the carried rows: those that end each sequence. -/
theorem tail_eq (c : Dev nD) : Host.slice S8x2x2048 ![1, 0, 0] ![2, 1, 1] (carried m c) slicesBy_S16x2x2048_S8x2x2048_1s2_0s1_0s1
    = val_main_v47 (F := Ideal) (aX m c) (aG m c) (aW m c) (aS m c) := by
  funext i
  idx_vars i
  pointwise [val_main_v47, carried]
  exact congrArg₂ (fun a b => val_main_v19 (F := Ideal) (aX m c) (aG m c) (aW m c) (aS m c) (ix3 a b i2))
    (Fin.ext (by show (1 + 2 * i0.val) / 2 = i0.val; omega))
    (Fin.ext (by show 1024 * ((1 + 2 * i0.val) % 2) + 1024 + i1.val = 2048 + i1.val; omega))

/-- The host's result: the rows that end each sequence. -/
theorem main_v4_eq (c : Dev nD) : Pipeline.afterTail₀ cfgs (dats m) 0 (V0 m) [hostOps1] c main_v4
    = val_main_v47 (F := Ideal) (aX m c) (aG m c) (aW m c) (aS m c) := by
  rw [← tail_eq, ← final6]
  exact congrArg (fun z => Host.slice S8x2x2048 ![1, 0, 0] ![2, 1, 1] z slicesBy_S16x2x2048_S8x2x2048_1s2_0s1_0s1)
    (Pipeline.withArrays_arr spec0 (by decide) c (V0 m c) (fun w => (dats m 0 c).arrAt w cfg0.N) 6)

/-- The run, read: the two results at the reference's, the arguments unchanged. -/
theorem run : θ_run defs (onTc (τ := τ) (main (F := Ideal))) ⟨m, fun _ => 0, ρ⟩ (fun r => ∀ c : Dev nD,
      r.2.mem ((c.tc : Thread nD τ).loc main_v3_0) = val_main_v46 (F := Ideal) (aX m c) (aG m c) (aW m c) (aT m c) (aS m c)
      ∧ r.2.mem ((c.tc : Thread nD τ).loc main_v4) = val_main_v47 (F := Ideal) (aX m c) (aG m c) (aW m c) (aS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.2 c).1 5).trans (final5 m c),
      ((h.2 c).2 main_v4 (Pipeline.mem_restRefs_of main_v4 (by decide) (by decide))).trans (main_v4_eq m c), h.1 c⟩)
    (θ_run_and (frame_of m ρ (dats m) (A_eq m) ((θ_run defs _ _).mono (fun _ h => h.1) (run_main m ρ)))
      ((θ_run defs _ _).mono (fun _ h => h.1) (run_main m ρ)))

end Cert.KernelIdeal.Conv

end
-- ==== Proof.ConvClaim.lean ====
/- The claims about the gated-convolution kernel and its reference: frames, idealization and value. -/
module

public import proofs.«01_k».proof.Defs
public import proofs.«01_k».proof.Proof.ConvValue
public import proofs.«01_k».proof.Proof.Gen.Kernel
public import Idealize.ShloMosaic.Init

@[expose] public section

noncomputable section

namespace Cert.Proof.Conv

open Idealize.ShloMosaic Idealize.ShloMosaic.TcCoe Idealize.SL.Sem
open Cert.KernelIdeal.Conv

/-- The kernel and its idealization are one text: the body tables agree, -/
theorem bodies_eq : @Cert.Kernel.defs₀ Bits _ _ = @Cert.KernelIdeal.defs₀ Bits _ _ := by
  unfold Cert.Kernel.defs₀ Cert.KernelIdeal.defs₀
  refine congrArg Defs.onTc ?_
  funext l x
  match l, x with
  | 0, (t, s) => rfl

/-- hence the whole tables. -/
theorem defs_eq : @Cert.Kernel.defs Bits _ _ = @Cert.KernelIdeal.defs Bits _ _ :=
  congrArg (Pipeline.defs Cert.KernelIdeal.pcfgs) bodies_eq

/-- So one run serves both: read bit by bit -/
theorem frame_kernel : Cert.quiescent_Kernel := fun m ρ _ => by
  rw [defs_eq]
  exact Cert.KernelIdeal.Conv.frame (F := Bits) m ρ

/-- and over the extended reals. -/
theorem frame_ideal : Cert.quiescent_KernelIdeal := fun m ρ _ => Cert.KernelIdeal.Conv.frame (F := Ideal) m ρ

/-- The reference's frame: its run read at the arguments; it has no semaphore. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem preserves : Cert.preserves_Kernel_KernelIdeal := trivial

/-- Over the extended reals the kernel's two results are the reference's. -/
theorem algebraic : Cert.algebraic_KernelIdeal_ReferenceIdeal := by
  intro m ρ m' ρ' _ hag
  refine ⟨fun c => Cert.ReferenceIdeal.Read.val_main_v46 (F := Ideal) (aX m c) (aG m c) (aW m c) (aT m c) (aS m c),
    fun c => Cert.ReferenceIdeal.Read.val_main_v47 (F := Ideal) (aX m c) (aG m c) (aW m c) (aS m c), run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v46_eq, (hag c).1, (hag c).2.1, (hag c).2.2.1, (hag c).2.2.2.1, (hag c).2.2.2.2]
  · rw [Cert.ReferenceIdeal.Read.val_main_v47_eq, (hag c).1, (hag c).2.1, (hag c).2.2.1, (hag c).2.2.2.2]

end Cert.Proof.Conv

end
-- ==== Proof.FoxProjRun.lean ====
/- The run of the forgetting-attention layer's projection kernel: what its body leaves in the output buffers and in the scratch of normalised rows
   at each point, the invariant of that scratch, the body's obligation and the frame. -/
module

public import proofs.«01_k».proof.Proof.Gen.FoxProjIdeal.Frame
public import proofs.«01_k».proof.Proof.Gen.FoxProjIdeal.Skeleton
public import Idealize.ShloMosaic.Lib.VecWindow
public import Idealize.ShloMosaic.Lib.Pipeline.Value
public import Idealize.ShloMosaic.Lib.Claim

@[expose] public section

set_option maxRecDepth 16384

noncomputable section

namespace Cert.FoxProjIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxProjIdeal.Gen

variable {F : FTy → Type} [FloatOps F]

local notation "𝕄" => MT nD τ sig Unit (Elt F) ℕ (UR sig nD τ) ℕ

/-! ## The body, run once -/

/-- The columns of the projection weights that the point reads. -/
def colsB (i : grid0.Coords) (x2 : Vec F S1024x8192 .bf16) : Vec F S1024x2048 .bf16 :=
  View.ld x2 (Rect.unit (s := S1024x8192) (k0_off1 i) S1024x2048.size (k0_off1_inb i))
/-- The factors of those columns. -/
def facB (i : grid0.Coords) (x4 : Vec F S4x1x2048 .f32) : Vec F S1x1x2048 .f32 :=
  View.ld x4 (Rect.unit (s := S4x1x2048) (k0_off2 i) S1x1x2048.size (k0_off2_inb i))
/-- The tile of projections in f32, from the normalised rows, -/
def wideB (i : grid0.Coords) (h : Vec F S512x1024 .bf16) (x2 : Vec F S1024x8192 .bf16) (x4 : Vec F S4x1x2048 .f32) : FVec F S512x2048 .f32 :=
  k0_pay4 h (colsB i x2) (facB i x4)
/-- and rounded. -/
def mainB (i : grid0.Coords) (h : Vec F S512x1024 .bf16) (x2 : Vec F S1024x8192 .bf16) (x4 : Vec F S4x1x2048 .f32) : FVec F S512x2048 .bf16 :=
  k0_pay5 h (colsB i x2) (facB i x4)

set_option maxHeartbeats 4000000 in
/-- The body at a point that opens a row tile: it normalises the tile's rows into the scratch first, and projects them to the gates. -/
theorem run_0 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S1024x128 .bf16) (harg5 : arg5.IsWhole) (arg6 : Memref sig .tc .vmem S4x1x2048 .f32) (harg6 : arg6.IsWhole) (arg7 : Memref sig .tc .vmem S512x2048 .bf16) (harg7 : arg7.IsWhole) (arg8 : Memref sig .tc .vmem S512x128 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x1024 .bf16) (harg11 : arg11.IsWhole) (hc1 : k0_cond1 i = 1#1) (hc2 : ¬ k0_cond2 i = 1#1) (hc3 : ¬ k0_cond3 i = 1#1)
    (x0 : Vec F S512x1024 .f32) (x1 : Vec F S1x1024 .f32) (x2 : Vec F S1024x8192 .bf16) (x3 : Vec F S1024x128 .bf16) (x4 : Vec F S4x1x2048 .f32) (x7 : Vec F S512x2048 .f32) (x8 : Vec F S512x2048 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare x7 ∗ owns (c : Thread nD τ) arg10 fullShare x8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (mainB i (k0_pay2 x0 x1) x2 x4) ∗ owns (c : Thread nD τ) arg8 fullShare (k0_pay3 x0 x1 x3) ∗ owns (c : Thread nD τ) arg9 fullShare x7 ∗ owns (c : Thread nD τ) arg10 fullShare x8 ∗ owns (c : Thread nD τ) arg11 fullShare (k0_pay2 x0 x1)) -∗ K ⟨⟩))
          ⊢ wp frame (wpE (defs₀ (F := F)) Variants.none c none) E (cc0_norm_proj i arg2 harg2 arg3 harg3 arg4 harg4 arg5 harg5 arg6 harg6 arg7 harg7 arg8 harg8 arg9 harg9 arg10 harg10 arg11 harg11) K := by
    simp only [cc0_norm_proj_eq_skeleton]; unfold cc0_norm_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hf8
    sl_exec (disch := first | sl_exact hc1 | sl_exact hc2 | sl_exact hc3)
    sl_step
    have e0 : View.ld x0 (Rect.unit (s := S512x1024) ![0, 0] ![512, 1024] inb_S512x1024_S512x1024_0_0) = x0 :=
      View.ld_unit_zero (S := S512x1024) (funext fun a => by fin_cases a <;> rfl) _ x0
    have e1 : View.ld x1 (Rect.unit (s := S1x1024) ![0, 0] ![1, 1024] inb_S1x1024_S1x1024_0_0) = x1 :=
      View.ld_unit_zero (S := S1x1024) (funext fun a => by fin_cases a <;> rfl) _ x1
    have e3 : View.ld x3 (Rect.unit (s := S1024x128) ![0, 0] ![1024, 128] inb_S1024x128_S1024x128_0_0) = x3 :=
      View.ld_unit_zero (S := S1024x128) (funext fun a => by fin_cases a <;> rfl) _ x3
    have eR : ∀ w : Vec F S512x1024 .bf16, arg11.view.readCov [⟨Rect.unit (s := S512x1024) ![0, 0] ![512, 1024] inb_S512x1024_S512x1024_0_0, w⟩]
        (Rect.unit (s := S512x1024) ![0, 0] ![512, 1024] inb_S512x1024_S512x1024_0_0).toLoadRect = w :=
      fun w => View.readCov_unit_zero (S := S512x1024) _ (funext fun a => by fin_cases a <;> rfl) _ w
    have eh := (eR _).trans (congrArg₂ k0_pay2 e0 e1)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (View.read_writes_full _ _ _ _ _).trans ?_
      sl_unfold_run_names
      unfold mainB colsB facB
      simp only [View.writes_nil, View.readAt_full, View.readAt_eq_ld, View.readCov_full, harg2.read_unread, harg3.read_unread, harg4.read_unread, harg5.read_unread, harg6.read_unread, harg7.read_unread, harg8.read_unread, harg9.read_unread, harg10.read_unread, harg11.read_unread]
      exact congrArg (fun y => k0_pay5 y _ _) eh
    isplitl [H6]
    · iexists _; isplitr; swap; · iexact H6
      ipureintro
      refine (View.read_writes_full _ _ _ _ _).trans ?_
      sl_unfold_run_names
      simp only [View.writes_nil, View.readAt_full, View.readAt_eq_ld, View.readCov_full, harg2.read_unread, harg3.read_unread, harg4.read_unread, harg5.read_unread, harg6.read_unread, harg7.read_unread, harg8.read_unread, harg9.read_unread, harg10.read_unread, harg11.read_unread]
      exact (congrArg₂ (fun y z => k0_pay3 y z _) e0 e1).trans (congrArg (fun y => k0_pay3 _ _ y) e3)
    isplitl [H7]
    · iexists _; isplitr; · ipureintro; exact harg9.read_unread _
      iexact H7
    isplitl [H8]
    · iexists _; isplitr; · ipureintro; exact harg10.read_unread _
      iexact H8
    iexists _; isplitr; swap; · iexact HS
    ipureintro; sl_unfold_run_names; refine (View.read_writes_full _ _ _ _ _).trans ?_
    simp only [View.writes_nil, View.readAt_full, View.readAt_eq_ld, View.readCov_full, harg2.read_unread, harg3.read_unread, harg4.read_unread, harg5.read_unread, harg6.read_unread, harg7.read_unread, harg8.read_unread, harg9.read_unread, harg10.read_unread, harg11.read_unread]
    exact congrArg₂ k0_pay2 e0 e1

set_option maxHeartbeats 4000000 in
/-- The body at a point that is the second of its row tile. -/
theorem run_1 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S1024x128 .bf16) (harg5 : arg5.IsWhole) (arg6 : Memref sig .tc .vmem S4x1x2048 .f32) (harg6 : arg6.IsWhole) (arg7 : Memref sig .tc .vmem S512x2048 .bf16) (harg7 : arg7.IsWhole) (arg8 : Memref sig .tc .vmem S512x128 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x1024 .bf16) (harg11 : arg11.IsWhole) (hc1 : ¬ k0_cond1 i = 1#1) (hc2 : k0_cond2 i = 1#1) (hc3 : ¬ k0_cond3 i = 1#1)
    (x0 : Vec F S512x1024 .f32) (x1 : Vec F S1x1024 .f32) (x2 : Vec F S1024x8192 .bf16) (x3 : Vec F S1024x128 .bf16) (x4 : Vec F S4x1x2048 .f32) (x6 : Vec F S512x128 .f32) (x8 : Vec F S512x2048 .f32) (xs : Vec F S512x1024 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ (∃ d, owns (c : Thread nD τ) arg9 fullShare d) ∗ owns (c : Thread nD τ) arg10 fullShare x8 ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (mainB i xs x2 x4) ∗ owns (c : Thread nD τ) arg8 fullShare x6 ∗ owns (c : Thread nD τ) arg9 fullShare (wideB i xs x2 x4) ∗ owns (c : Thread nD τ) arg10 fullShare x8 ∗ owns (c : Thread nD τ) arg11 fullShare xs) -∗ K ⟨⟩))
          ⊢ wp frame (wpE (defs₀ (F := F)) Variants.none c none) E (cc0_norm_proj i arg2 harg2 arg3 harg3 arg4 harg4 arg5 harg5 arg6 harg6 arg7 harg7 arg8 harg8 arg9 harg9 arg10 harg10 arg11 harg11) K := by
    simp only [cc0_norm_proj_eq_skeleton]; unfold cc0_norm_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%f8, %hf8, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg10.eq_unread hf8; obtain rfl := harg11.eq_unread hfs
    sl_exec (disch := first | sl_exact hc1 | sl_exact hc2 | sl_exact hc3)
    sl_step
    have eh : View.ld xs (Rect.unit (s := S512x1024) ![0, 0] ![512, 1024] inb_S512x1024_S512x1024_0_0) = xs :=
      View.ld_unit_zero (S := S512x1024) (funext fun a => by fin_cases a <;> rfl) _ xs
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (View.read_writes_full _ _ _ _ _).trans ?_
      sl_unfold_run_names
      unfold mainB colsB facB
      simp only [View.writes_nil, View.readAt_full, View.readAt_eq_ld, View.readCov_full, harg2.read_unread, harg3.read_unread, harg4.read_unread, harg5.read_unread, harg6.read_unread, harg7.read_unread, harg8.read_unread, harg9.read_unread, harg10.read_unread, harg11.read_unread]
      exact congrArg (fun y => k0_pay5 y _ _) eh
    isplitl [H6]
    · iexists _; isplitr; · ipureintro; exact harg8.read_unread _
      iexact H6
    isplitl [H7]
    · iexists _; isplitr; swap; · iexact H7
      ipureintro
      refine (View.read_writes_full _ _ _ _ _).trans ?_
      sl_unfold_run_names
      unfold wideB colsB facB
      simp only [View.writes_nil, View.readAt_full, View.readAt_eq_ld, View.readCov_full, harg2.read_unread, harg3.read_unread, harg4.read_unread, harg5.read_unread, harg6.read_unread, harg7.read_unread, harg8.read_unread, harg9.read_unread, harg10.read_unread, harg11.read_unread]
      exact congrArg (fun y => k0_pay4 y _ _) eh
    isplitl [H8]
    · iexists _; isplitr; · ipureintro; exact harg10.read_unread _
      iexact H8
    iexists _; isplitr; · ipureintro; exact harg11.read_unread _
    iexact HS

set_option maxHeartbeats 4000000 in
/-- The body at a point that is the third of its row tile. -/
theorem run_2 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S1024x128 .bf16) (harg5 : arg5.IsWhole) (arg6 : Memref sig .tc .vmem S4x1x2048 .f32) (harg6 : arg6.IsWhole) (arg7 : Memref sig .tc .vmem S512x2048 .bf16) (harg7 : arg7.IsWhole) (arg8 : Memref sig .tc .vmem S512x128 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x1024 .bf16) (harg11 : arg11.IsWhole) (hc1 : ¬ k0_cond1 i = 1#1) (hc2 : ¬ k0_cond2 i = 1#1) (hc3 : k0_cond3 i = 1#1)
    (x0 : Vec F S512x1024 .f32) (x1 : Vec F S1x1024 .f32) (x2 : Vec F S1024x8192 .bf16) (x3 : Vec F S1024x128 .bf16) (x4 : Vec F S4x1x2048 .f32) (x6 : Vec F S512x128 .f32) (x7 : Vec F S512x2048 .f32) (xs : Vec F S512x1024 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (mainB i xs x2 x4) ∗ owns (c : Thread nD τ) arg8 fullShare x6 ∗ owns (c : Thread nD τ) arg9 fullShare x7 ∗ owns (c : Thread nD τ) arg10 fullShare (wideB i xs x2 x4) ∗ owns (c : Thread nD τ) arg11 fullShare xs) -∗ K ⟨⟩))
          ⊢ wp frame (wpE (defs₀ (F := F)) Variants.none c none) E (cc0_norm_proj i arg2 harg2 arg3 harg3 arg4 harg4 arg5 harg5 arg6 harg6 arg7 harg7 arg8 harg8 arg9 harg9 arg10 harg10 arg11 harg11) K := by
    simp only [cc0_norm_proj_eq_skeleton]; unfold cc0_norm_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg11.eq_unread hfs
    sl_exec (disch := first | sl_exact hc1 | sl_exact hc2 | sl_exact hc3)
    sl_step
    have eh : View.ld xs (Rect.unit (s := S512x1024) ![0, 0] ![512, 1024] inb_S512x1024_S512x1024_0_0) = xs :=
      View.ld_unit_zero (S := S512x1024) (funext fun a => by fin_cases a <;> rfl) _ xs
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (View.read_writes_full _ _ _ _ _).trans ?_
      sl_unfold_run_names
      unfold mainB colsB facB
      simp only [View.writes_nil, View.readAt_full, View.readAt_eq_ld, View.readCov_full, harg2.read_unread, harg3.read_unread, harg4.read_unread, harg5.read_unread, harg6.read_unread, harg7.read_unread, harg8.read_unread, harg9.read_unread, harg10.read_unread, harg11.read_unread]
      exact congrArg (fun y => k0_pay5 y _ _) eh
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      refine (View.read_writes_full _ _ _ _ _).trans ?_
      sl_unfold_run_names
      unfold wideB colsB facB
      simp only [View.writes_nil, View.readAt_full, View.readAt_eq_ld, View.readCov_full, harg2.read_unread, harg3.read_unread, harg4.read_unread, harg5.read_unread, harg6.read_unread, harg7.read_unread, harg8.read_unread, harg9.read_unread, harg10.read_unread, harg11.read_unread]
      exact congrArg (fun y => k0_pay4 y _ _) eh
    iexists _; isplitr; · ipureintro; exact harg11.read_unread _
    iexact HS

set_option maxHeartbeats 4000000 in
/-- The body at a point that is the last of its row tile. -/
theorem run_3 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S1024x128 .bf16) (harg5 : arg5.IsWhole) (arg6 : Memref sig .tc .vmem S4x1x2048 .f32) (harg6 : arg6.IsWhole) (arg7 : Memref sig .tc .vmem S512x2048 .bf16) (harg7 : arg7.IsWhole) (arg8 : Memref sig .tc .vmem S512x128 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S512x1024 .bf16) (harg11 : arg11.IsWhole) (hc1 : ¬ k0_cond1 i = 1#1) (hc2 : ¬ k0_cond2 i = 1#1) (hc3 : ¬ k0_cond3 i = 1#1)
    (x0 : Vec F S512x1024 .f32) (x1 : Vec F S1x1024 .f32) (x2 : Vec F S1024x8192 .bf16) (x3 : Vec F S1024x128 .bf16) (x4 : Vec F S4x1x2048 .f32) (x6 : Vec F S512x128 .f32) (x7 : Vec F S512x2048 .f32) (x8 : Vec F S512x2048 .f32) (xs : Vec F S512x1024 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare x7 ∗ owns (c : Thread nD τ) arg10 fullShare x8 ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (mainB i xs x2 x4) ∗ owns (c : Thread nD τ) arg8 fullShare x6 ∗ owns (c : Thread nD τ) arg9 fullShare x7 ∗ owns (c : Thread nD τ) arg10 fullShare x8 ∗ owns (c : Thread nD τ) arg11 fullShare xs) -∗ K ⟨⟩))
          ⊢ wp frame (wpE (defs₀ (F := F)) Variants.none c none) E (cc0_norm_proj i arg2 harg2 arg3 harg3 arg4 harg4 arg5 harg5 arg6 harg6 arg7 harg7 arg8 harg8 arg9 harg9 arg10 harg10 arg11 harg11) K := by
    simp only [cc0_norm_proj_eq_skeleton]; unfold cc0_norm_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hf8; obtain rfl := harg11.eq_unread hfs
    sl_exec (disch := first | sl_exact hc1 | sl_exact hc2 | sl_exact hc3)
    sl_step
    have eh : View.ld xs (Rect.unit (s := S512x1024) ![0, 0] ![512, 1024] inb_S512x1024_S512x1024_0_0) = xs :=
      View.ld_unit_zero (S := S512x1024) (funext fun a => by fin_cases a <;> rfl) _ xs
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (View.read_writes_full _ _ _ _ _).trans ?_
      sl_unfold_run_names
      unfold mainB colsB facB
      simp only [View.writes_nil, View.readAt_full, View.readAt_eq_ld, View.readCov_full, harg2.read_unread, harg3.read_unread, harg4.read_unread, harg5.read_unread, harg6.read_unread, harg7.read_unread, harg8.read_unread, harg9.read_unread, harg10.read_unread, harg11.read_unread]
      exact congrArg (fun y => k0_pay5 y _ _) eh
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact HS

variable (m : (ℓ : Loc nD τ sig) → Buf (Elt F) ℓ) (ρ : Dev nD → PrngReg)

/-! ## Points and coordinates -/

theorem row_of : ∀ t : Fin grid0.N, (grid0.coords t 0).val = t.val / 4 % 32 := fun t => Pipeline.Grid.coords_val t 0 (by decide) rfl
theorem col_of : ∀ t : Fin grid0.N, (grid0.coords t 1).val = t.val / 1 % 4 := fun t => Pipeline.Grid.coords_val t 1 (by decide) rfl

theorem cond1_iff : ∀ t : Fin grid0.N, k0_cond1 (grid0.coords t) = 1#1 ↔ t.val % 4 = 0 := by decide +kernel
theorem cond2_iff : ∀ t : Fin grid0.N, k0_cond2 (grid0.coords t) = 1#1 ↔ t.val % 4 = 1 := by decide +kernel
theorem cond3_iff : ∀ t : Fin grid0.N, k0_cond3 (grid0.coords t) = 1#1 ↔ t.val % 4 = 2 := by decide +kernel

abbrev sM0 (t : Fin cfg0.N) : Memref sig .tc .vmem S512x1024 .f32 := win0_0.stage (cfg0.slots t 0)
abbrev sM1 (t : Fin cfg0.N) : Memref sig .tc .vmem S1x1024 .f32 := win0_1.stage (cfg0.slots t 1)
abbrev sM2 (t : Fin cfg0.N) : Memref sig .tc .vmem S1024x8192 .bf16 := win0_2.stage (cfg0.slots t 2)
abbrev sM3 (t : Fin cfg0.N) : Memref sig .tc .vmem S1024x128 .bf16 := win0_3.stage (cfg0.slots t 3)
abbrev sM4 (t : Fin cfg0.N) : Memref sig .tc .vmem S4x1x2048 .f32 := win0_4.stage (cfg0.slots t 4)
abbrev sM5 (t : Fin cfg0.N) : Memref sig .tc .vmem S512x2048 .bf16 := win0_5.stage (cfg0.slots t 5)
abbrev sM6 (t : Fin cfg0.N) : Memref sig .tc .vmem S512x128 .f32 := win0_6.stage (cfg0.slots t 6)
abbrev sM7 (t : Fin cfg0.N) : Memref sig .tc .vmem S512x2048 .f32 := win0_7.stage (cfg0.slots t 7)
abbrev sM8 (t : Fin cfg0.N) : Memref sig .tc .vmem S512x2048 .f32 := win0_8.stage (cfg0.slots t 8)
/-- The scratch of normalised rows. -/
abbrev hM : Memref sig .tc .vmem S512x1024 .bf16 := Memref.whole cc0_scratch0

/-- What the region's entry hands over: the scratch at anything, and the generator register. -/
theorem entry_eq (c : Dev nD) : Pipeline.ΦA spec0 c
    = (iprop((∃ d, owns (c : Thread nD τ) hM fullShare d) ∗ (∃ r, prngReg c r)) : sProp 𝕄) := by
  unfold Pipeline.ΦA
  rw [scopedRest0_eq]
  simp only [hM, owns_whole]
  try rfl

/-! ## What each point computes -/

/-- The normalised rows of the point's row tile. -/
def hT (c : Dev nD) (t : Fin cfg0.N) : Vec F S512x1024 .bf16 := k0_pay2 (iblk m c 0 t) (iblk m c 1 t)
/-- The gates of its rows. -/
def gT (c : Dev nD) (t : Fin cfg0.N) : FVec F S512x128 .f32 := k0_pay3 (iblk m c 0 t) (iblk m c 1 t) (iblk m c 3 t)
/-- The point's tile of projections. -/
def mainT (c : Dev nD) (t : Fin cfg0.N) : FVec F S512x2048 .bf16 := mainB (grid0.coords t) (hT m c t) (iblk m c 2 t) (iblk m c 4 t)
/-- The point before. -/
abbrev prv (t : Fin cfg0.N) : Fin cfg0.N := ⟨t.val - 1, Nat.lt_of_le_of_lt (Nat.sub_le _ _) t.isLt⟩
/-- The `j`-th point of the row tile of `t`. -/
def ptOf (t : Fin cfg0.N) (j : Fin 4) : Fin cfg0.N :=
  ⟨t.val / 4 * 4 + j.val, Nat.lt_of_lt_of_eq (by have h := Nat.lt_of_lt_of_eq t.isLt N_0; omega : t.val / 4 * 4 + j.val < 128) N_0.symm⟩
/-- The tile of projections in f32 of the `j`-th point of the row tile of `t`. -/
def wideT (c : Dev nD) (j : Fin 4) (t : Fin cfg0.N) : FVec F S512x2048 .f32 :=
  wideB (grid0.coords (ptOf t j)) (hT m c (ptOf t j)) (iblk m c 2 (ptOf t j)) (iblk m c 4 (ptOf t j))

theorem ptOf_prv (t : Fin cfg0.N) (j : Fin 4) (h : t.val % 4 ≠ 0) : ptOf (prv t) j = ptOf t j :=
  Fin.ext (by show (t.val - 1) / 4 * 4 + j.val = t.val / 4 * 4 + j.val; omega)
theorem wideT_step (c : Dev nD) (j : Fin 4) (t : Fin cfg0.N) (h : t.val % 4 ≠ 0) : wideT m c j (prv t) = wideT m c j t := by
  unfold wideT; rw [ptOf_prv t j h]
theorem ptOf_self (t : Fin cfg0.N) (j : Fin 4) (h : t.val % 4 = j.val) : ptOf t j = t :=
  Fin.ext (by show t.val / 4 * 4 + j.val = t.val; omega)
theorem wideT_self (c : Dev nD) (j : Fin 4) (t : Fin cfg0.N) (h : t.val % 4 = j.val) :
    wideT m c j t = wideB (grid0.coords t) (hT m c t) (iblk m c 2 t) (iblk m c 4 t) := by
  unfold wideT; rw [ptOf_self t j h]

theorem iblk0_congr (c : Dev nD) (t t' : Fin cfg0.N) (h : win0_0.index t = win0_0.index t') : iblk m c 0 t = iblk m c 0 t' := by
  funext y
  refine congrArg (V m c (Pipeline.arrRef spec0 0)) (funext fun a => Fin.ext ?_)
  show win0_0.index t a * _ + 1 * (y a).val = win0_0.index t' a * _ + 1 * (y a).val
  rw [h]

theorem iblk0_step (c : Dev nD) (t : Fin cfg0.N) (h : t.val % 4 ≠ 0) : iblk m c 0 (prv t) = iblk m c 0 t := by
  refine iblk0_congr m c _ _ ?_
  obtain ⟨ht, hix⟩ := win0_0.index_eq_of_fetch rfl t (by
    rw [← Bool.not_eq_true]; exact fun hf => h ((fetch0_0 t).mp hf))
  first | exact hix.symm | exact hix

theorem hT_step (c : Dev nD) (t : Fin cfg0.N) (h : t.val % 4 ≠ 0) : hT m c (prv t) = hT m c t := by
  unfold hT
  exact congrArg₂ k0_pay2 (iblk0_step m c t h) rfl
theorem gT_step (c : Dev nD) (t : Fin cfg0.N) (h : t.val % 4 ≠ 0) : gT m c (prv t) = gT m c t := by
  unfold gT
  exact congrArg (fun z => k0_pay3 z _ _) (iblk0_step m c t h)

/-! ## The invariant and the proof data -/

/-- Before the first point the entry's; afterwards the normalised rows of the last point's row tile. -/
def Inv (c : Dev nD) : (n : ℕ) → n ≤ cfg0.N → sProp 𝕄
  | 0, _ => Pipeline.ΦA spec0 c
  | n + 1, hn => iprop(owns (c : Thread nD τ) hM fullShare (hT m c ⟨n, hn⟩) ∗ (∃ r, prngReg c r))

theorem inv_pos (c : Dev nD) (n : ℕ) (h : n ≤ cfg0.N) (hz : n ≠ 0) :
    Inv m c n h = iprop(owns (c : Thread nD τ) hM fullShare (hT m c ⟨n - 1, by omega⟩) ∗ (∃ r, prngReg c r)) := by
  cases n with
  | zero => exact absurd rfl hz
  | succ n => rfl

/-- At every point: the rows' scratch at something. -/
theorem inv_any (c : Dev nD) (n : ℕ) (h : n ≤ cfg0.N) :
    Inv m c n h ⊢ iprop((∃ d, owns (c : Thread nD τ) hM fullShare d) ∗ (∃ r, prngReg c r)) := by
  cases n with
  | zero =>
    show Pipeline.ΦA spec0 c ⊢ _
    rw [entry_eq]
  | succ n =>
    show iprop(owns (c : Thread nD τ) hM fullShare (hT m c ⟨n, h⟩) ∗ (∃ r, prngReg c r)) ⊢ _
    iintro ⟨HS, Hg⟩
    isplitl [HS]; · iexists _; iexact HS
    iexact Hg

/-- The arrays as the region finds them; after each point the inputs at their blocks, and the outputs at the point's
    projections and the row tile's gates and f32 projections. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => mainT m c t
    | ⟨6, _⟩ => gT m c t
    | ⟨7, _⟩ => wideT m c 1 t
    | ⟨8, _⟩ => wideT m c 2 t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_at (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = mainT m c t := by dsimp only [dats]
theorem after_6 (c : Dev nD) (t : Fin cfg0.N) : (dats m 0 c).after 6 t = gT m c t := by dsimp only [dats]
theorem after_7 (c : Dev nD) (t : Fin cfg0.N) : (dats m 0 c).after 7 t = wideT m c 1 t := by dsimp only [dats]
theorem after_8 (c : Dev nD) (t : Fin cfg0.N) : (dats m 0 c).after 8 t = wideT m c 2 t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-! ## Outputs stored at one point of each row tile -/

/-- A window stored at the `r`-th point of each row tile and written back at its last holds, past the `r`-th, what was
    stored. -/
theorem before_out (c : Dev nD) (w : Fin cfg0.W) (r : ℕ) (hfetch : ∀ t, (cfg0.win w).fetch t = false)
    (hflush : ∀ t : Fin cfg0.N, (cfg0.win w).flush t = true ↔ t.val % 4 = 3)
    (hidle : ∀ t : Fin cfg0.N, cfg0.idle w (cfg0.grid.coords t) = true ↔ t.val % 4 ≠ r)
    (hkept : ∀ (t : Fin cfg0.N) (d), (dats m 0 c).kept w t d = (dats m 0 c).after w t)
    (hafter : ∀ t : Fin cfg0.N, t.val % 4 ≠ 0 → (dats m 0 c).after w (prv t) = (dats m 0 c).after w t) :
    ∀ (n : ℕ) (t : Fin cfg0.N) (d), t.val = n → r < t.val % 4 → (dats m 0 c).before w t d = (dats m 0 c).after w t := by
  intro n
  induction n with
  | zero => intro t d ht hr; omega
  | succ n ih =>
    intro t d ht hr
    rw [(dats m 0 c).before_of_pos w t (by omega) (hfetch t)]
    have hp : (prv t).val = t.val - 1 := rfl
    rw [if_neg (fun hf => by have := (hflush (prv t)).mp hf; omega)]
    unfold Dat.left
    by_cases he : (prv t).val % 4 = r
    · have hi : cfg0.idle w (cfg0.grid.coords (prv t)) = false := by
        rw [← Bool.not_eq_true]; exact fun h => ((hidle _).mp h) he
      show (match cfg0.idle w (cfg0.grid.coords (prv t)) with | true => _ | false => _) = _
      rw [hi]
      exact (hkept _ _).trans (hafter t (by omega))
    · have hi : cfg0.idle w (cfg0.grid.coords (prv t)) = true := (hidle _).mpr he
      show (match cfg0.idle w (cfg0.grid.coords (prv t)) with | true => _ | false => _) = _
      rw [hi]
      exact (ih (prv t) d (by omega) (by omega)).trans (hafter t (by omega))

theorem idle_6 (t : Fin cfg0.N) : cfg0.idle 6 (cfg0.grid.coords t) = true ↔ t.val % 4 ≠ 0 := by
  have h := cond1_iff t
  show (!(k0_cond1 (grid0.coords t) == 1#1)) = true ↔ _
  rw [Bool.not_eq_true', beq_eq_false_iff_ne, ne_eq, h]
theorem before_6 (c : Dev nD) (t : Fin cfg0.N) (d) (h : 0 < t.val % 4) : (dats m 0 c).before 6 t d = gT m c t :=
  (before_out m c 6 0 (fun _ => rfl) flush0_6 idle_6 (fun t d => rfl)
    (fun t h => by rw [after_6, after_6]; exact gT_step m c t h) t.val t d rfl h).trans (after_6 m c t)
theorem leaves_6_store (c : Dev nD) (t : Fin cfg0.N) (h : t.val % 4 = 0) :
    (dats m 0 c).leavesExact 6 t = owns (c : Thread nD τ) (sM6 t) fullShare (gT m c t) := by
  have hi : cfg0.idle 6 (cfg0.grid.coords t) = false := by
    rw [← Bool.not_eq_true]; exact fun h' => ((idle_6 t).mp h') h
  unfold Dat.leavesExact; rw [hi]
  exact congrArg (owns (c : Thread nD τ) (sM6 t) fullShare) (after_6 m c t)
theorem leaves_6_pass (c : Dev nD) (t : Fin cfg0.N) (h : t.val % 4 ≠ 0) (h3 : t.val % 4 ≠ 3) :
    (dats m 0 c).leavesExact 6 t = iprop(∃ d, owns (c : Thread nD τ) (sM6 t) fullShare ((dats m 0 c).before 6 t d)) :=
  (dats m 0 c).leavesExact_idle 6 t ((idle_6 t).mpr h) (by rw [← Bool.not_eq_true]; exact fun h' => h3 ((flush0_6 t).mp h'))
theorem leaves_6_flush (c : Dev nD) (t : Fin cfg0.N) (h3 : t.val % 4 = 3) :
    (dats m 0 c).leavesExact 6 t = owns (c : Thread nD τ) (sM6 t) fullShare (gT m c t) := by
  have hi : cfg0.idle 6 (cfg0.grid.coords t) = true := (idle_6 t).mpr (by omega)
  have hf : (cfg0.win 6).flush t = true := (flush0_6 t).mpr h3
  unfold Dat.leavesExact; rw [hi, hf]
  exact congrArg (owns (c : Thread nD τ) (sM6 t) fullShare) (after_6 m c t)
theorem idle_7 (t : Fin cfg0.N) : cfg0.idle 7 (cfg0.grid.coords t) = true ↔ t.val % 4 ≠ 1 := by
  have h := cond2_iff t
  show (!(k0_cond2 (grid0.coords t) == 1#1)) = true ↔ _
  rw [Bool.not_eq_true', beq_eq_false_iff_ne, ne_eq, h]
theorem before_7 (c : Dev nD) (t : Fin cfg0.N) (d) (h : 1 < t.val % 4) : (dats m 0 c).before 7 t d = wideT m c 1 t :=
  (before_out m c 7 1 (fun _ => rfl) flush0_7 idle_7 (fun t d => rfl)
    (fun t h => by rw [after_7, after_7]; exact wideT_step m c 1 t h) t.val t d rfl h).trans (after_7 m c t)
theorem leaves_7_store (c : Dev nD) (t : Fin cfg0.N) (h : t.val % 4 = 1) :
    (dats m 0 c).leavesExact 7 t = owns (c : Thread nD τ) (sM7 t) fullShare (wideT m c 1 t) := by
  have hi : cfg0.idle 7 (cfg0.grid.coords t) = false := by
    rw [← Bool.not_eq_true]; exact fun h' => ((idle_7 t).mp h') h
  unfold Dat.leavesExact; rw [hi]
  exact congrArg (owns (c : Thread nD τ) (sM7 t) fullShare) (after_7 m c t)
theorem leaves_7_pass (c : Dev nD) (t : Fin cfg0.N) (h : t.val % 4 ≠ 1) (h3 : t.val % 4 ≠ 3) :
    (dats m 0 c).leavesExact 7 t = iprop(∃ d, owns (c : Thread nD τ) (sM7 t) fullShare ((dats m 0 c).before 7 t d)) :=
  (dats m 0 c).leavesExact_idle 7 t ((idle_7 t).mpr h) (by rw [← Bool.not_eq_true]; exact fun h' => h3 ((flush0_7 t).mp h'))
theorem leaves_7_flush (c : Dev nD) (t : Fin cfg0.N) (h3 : t.val % 4 = 3) :
    (dats m 0 c).leavesExact 7 t = owns (c : Thread nD τ) (sM7 t) fullShare (wideT m c 1 t) := by
  have hi : cfg0.idle 7 (cfg0.grid.coords t) = true := (idle_7 t).mpr (by omega)
  have hf : (cfg0.win 7).flush t = true := (flush0_7 t).mpr h3
  unfold Dat.leavesExact; rw [hi, hf]
  exact congrArg (owns (c : Thread nD τ) (sM7 t) fullShare) (after_7 m c t)
theorem idle_8 (t : Fin cfg0.N) : cfg0.idle 8 (cfg0.grid.coords t) = true ↔ t.val % 4 ≠ 2 := by
  have h := cond3_iff t
  show (!(k0_cond3 (grid0.coords t) == 1#1)) = true ↔ _
  rw [Bool.not_eq_true', beq_eq_false_iff_ne, ne_eq, h]
theorem before_8 (c : Dev nD) (t : Fin cfg0.N) (d) (h : 2 < t.val % 4) : (dats m 0 c).before 8 t d = wideT m c 2 t :=
  (before_out m c 8 2 (fun _ => rfl) flush0_8 idle_8 (fun t d => rfl)
    (fun t h => by rw [after_8, after_8]; exact wideT_step m c 2 t h) t.val t d rfl h).trans (after_8 m c t)
theorem leaves_8_store (c : Dev nD) (t : Fin cfg0.N) (h : t.val % 4 = 2) :
    (dats m 0 c).leavesExact 8 t = owns (c : Thread nD τ) (sM8 t) fullShare (wideT m c 2 t) := by
  have hi : cfg0.idle 8 (cfg0.grid.coords t) = false := by
    rw [← Bool.not_eq_true]; exact fun h' => ((idle_8 t).mp h') h
  unfold Dat.leavesExact; rw [hi]
  exact congrArg (owns (c : Thread nD τ) (sM8 t) fullShare) (after_8 m c t)
theorem leaves_8_pass (c : Dev nD) (t : Fin cfg0.N) (h : t.val % 4 ≠ 2) (h3 : t.val % 4 ≠ 3) :
    (dats m 0 c).leavesExact 8 t = iprop(∃ d, owns (c : Thread nD τ) (sM8 t) fullShare ((dats m 0 c).before 8 t d)) :=
  (dats m 0 c).leavesExact_idle 8 t ((idle_8 t).mpr h) (by rw [← Bool.not_eq_true]; exact fun h' => h3 ((flush0_8 t).mp h'))
theorem leaves_8_flush (c : Dev nD) (t : Fin cfg0.N) (h3 : t.val % 4 = 3) :
    (dats m 0 c).leavesExact 8 t = owns (c : Thread nD τ) (sM8 t) fullShare (wideT m c 2 t) := by
  have hi : cfg0.idle 8 (cfg0.grid.coords t) = true := (idle_8 t).mpr (by omega)
  have hf : (cfg0.win 8).flush t = true := (flush0_8 t).mpr h3
  unfold Dat.leavesExact; rw [hi, hf]
  exact congrArg (owns (c : Thread nD τ) (sM8 t) fullShare) (after_8 m c t)

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (sM0 t) fullShare ((dats m 0 c).before 0 t d))
    ∗ (∃ d, owns (c : Thread nD τ) (sM1 t) fullShare ((dats m 0 c).before 1 t d))
    ∗ (∃ d, owns (c : Thread nD τ) (sM2 t) fullShare ((dats m 0 c).before 2 t d))
    ∗ (∃ d, owns (c : Thread nD τ) (sM3 t) fullShare ((dats m 0 c).before 3 t d))
    ∗ (∃ d, owns (c : Thread nD τ) (sM4 t) fullShare ((dats m 0 c).before 4 t d))
    ∗ (∃ d, owns (c : Thread nD τ) (sM5 t) fullShare ((dats m 0 c).before 5 t d))
    ∗ (∃ d, owns (c : Thread nD τ) (sM6 t) fullShare ((dats m 0 c).before 6 t d))
    ∗ (∃ d, owns (c : Thread nD τ) (sM7 t) fullShare ((dats m 0 c).before 7 t d))
    ∗ (∃ d, owns (c : Thread nD τ) (sM8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (sM0 t) fullShare ((dats m 0 c).after 0 t)
    ∗ owns (c : Thread nD τ) (sM1 t) fullShare ((dats m 0 c).after 1 t)
    ∗ owns (c : Thread nD τ) (sM2 t) fullShare ((dats m 0 c).after 2 t)
    ∗ owns (c : Thread nD τ) (sM3 t) fullShare ((dats m 0 c).after 3 t)
    ∗ owns (c : Thread nD τ) (sM4 t) fullShare ((dats m 0 c).after 4 t)
    ∗ owns (c : Thread nD τ) (sM5 t) fullShare ((dats m 0 c).after 5 t)
    ∗ (dats m 0 c).leavesExact 6 t
    ∗ (dats m 0 c).leavesExact 7 t
    ∗ (dats m 0 c).leavesExact 8 t)

/-- The parts of the body's obligation that every point shares. -/
theorem post_eq (c : Dev nD) (t : Fin cfg0.N) : bodyPost m c t = iprop(iprop(owns (c : Thread nD τ) hM fullShare (hT m c t) ∗ (∃ r, prngReg c r)) ∗ (dats m 0 c).owesAt () t.castSucc
    ∗ owns (c : Thread nD τ) (sM0 t) fullShare (iblk m c 0 t)
    ∗ owns (c : Thread nD τ) (sM1 t) fullShare (iblk m c 1 t)
    ∗ owns (c : Thread nD τ) (sM2 t) fullShare (iblk m c 2 t)
    ∗ owns (c : Thread nD τ) (sM3 t) fullShare (iblk m c 3 t)
    ∗ owns (c : Thread nD τ) (sM4 t) fullShare (iblk m c 4 t)
    ∗ owns (c : Thread nD τ) (sM5 t) fullShare (mainT m c t)
    ∗ (dats m 0 c).leavesExact 6 t
    ∗ (dats m 0 c).leavesExact 7 t
    ∗ (dats m 0 c).leavesExact 8 t) := by
  unfold bodyPost
  rw [show (dats m 0 c).owesAt () t.succ = (dats m 0 c).owesAt () t.castSucc from rfl,
    after_0, after_1, after_2, after_3, after_4, after_5]
  rfl

set_option maxHeartbeats 3200000 in
theorem body_0 (c : Dev nD) (t : Fin cfg0.N) (h : t.val % 4 = 0) :
    bodyPre m c t ⊢ wp frame (wpE (defs₀ (F := F)) Variants.none c none) Set.univ (bodyAt0 t) (fun _ => bodyPost m c t) := by
  rw [post_eq, leaves_6_store m c t h, leaves_7_pass m c t (by omega) (by omega), leaves_8_pass m c t (by omega) (by omega)]
  unfold bodyPre bodyAt0
  simp only [before_0, before_1, before_2, before_3, before_4]
  rw [inv_at]
  refine (sep_mono (inv_any m c t.val (Nat.le_of_lt t.isLt)) .rfl).trans ?_
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_0 c (grid0.coords t) _ _ _ _ _ _ _ _ _ _ _ _ _ _ _ _ _ _ _ _ ((cond1_iff t).mpr h) (fun h' => absurd ((cond2_iff t).mp h') (by omega)) (fun h' => absurd ((cond3_iff t).mp h') (by omega)) (iblk m c 0 t) (iblk m c 1 t) (iblk m c 2 t) (iblk m c 3 t) (iblk m c 4 t) _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [HS]; · iexact HS
  iintro ⟨H0, H1, H2, H3, H4, H5, H6, H7, H8, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

set_option maxHeartbeats 3200000 in
theorem body_1 (c : Dev nD) (t : Fin cfg0.N) (h : t.val % 4 = 1) :
    bodyPre m c t ⊢ wp frame (wpE (defs₀ (F := F)) Variants.none c none) Set.univ (bodyAt0 t) (fun _ => bodyPost m c t) := by
  rw [post_eq, leaves_6_pass m c t (by omega) (by omega), leaves_7_store m c t h, leaves_8_pass m c t (by omega) (by omega)]
  unfold bodyPre bodyAt0
  simp only [before_0, before_1, before_2, before_3, before_4]
  rw [inv_at]
  rw [inv_pos m c t.val (Nat.le_of_lt t.isLt) (by omega), hT_step m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_1 c (grid0.coords t) _ _ _ _ _ _ _ _ _ _ _ _ _ _ _ _ _ _ _ _ (fun h' => absurd ((cond1_iff t).mp h') (by omega)) ((cond2_iff t).mpr h) (fun h' => absurd ((cond3_iff t).mp h') (by omega)) (iblk m c 0 t) (iblk m c 1 t) (iblk m c 2 t) (iblk m c 3 t) (iblk m c 4 t) _ _ (hT m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexact H8
  isplitl [HS]; · iexact HS
  iintro ⟨H0, H1, H2, H3, H4, H5, H6, H7, H8, HS⟩
  rw [wideT_self m c 1 t h]
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iexists _; iexact H8

set_option maxHeartbeats 3200000 in
theorem body_2 (c : Dev nD) (t : Fin cfg0.N) (h : t.val % 4 = 2) :
    bodyPre m c t ⊢ wp frame (wpE (defs₀ (F := F)) Variants.none c none) Set.univ (bodyAt0 t) (fun _ => bodyPost m c t) := by
  rw [post_eq, leaves_6_pass m c t (by omega) (by omega), leaves_7_pass m c t (by omega) (by omega), leaves_8_store m c t h]
  unfold bodyPre bodyAt0
  simp only [before_0, before_1, before_2, before_3, before_4]
  rw [inv_at]
  rw [inv_pos m c t.val (Nat.le_of_lt t.isLt) (by omega), hT_step m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_2 c (grid0.coords t) _ _ _ _ _ _ _ _ _ _ _ _ _ _ _ _ _ _ _ _ (fun h' => absurd ((cond1_iff t).mp h') (by omega)) (fun h' => absurd ((cond2_iff t).mp h') (by omega)) ((cond3_iff t).mpr h) (iblk m c 0 t) (iblk m c 1 t) (iblk m c 2 t) (iblk m c 3 t) (iblk m c 4 t) _ _ (hT m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexists _; iexact H8
  isplitl [HS]; · iexact HS
  iintro ⟨H0, H1, H2, H3, H4, H5, H6, H7, H8, HS⟩
  rw [wideT_self m c 2 t h]
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexact H8

set_option maxHeartbeats 3200000 in
theorem body_3 (c : Dev nD) (t : Fin cfg0.N) (h : t.val % 4 = 3) :
    bodyPre m c t ⊢ wp frame (wpE (defs₀ (F := F)) Variants.none c none) Set.univ (bodyAt0 t) (fun _ => bodyPost m c t) := by
  rw [post_eq, leaves_6_flush m c t h, leaves_7_flush m c t h, leaves_8_flush m c t h]
  unfold bodyPre bodyAt0
  simp only [before_0, before_1, before_2, before_3, before_4]
  rw [inv_at]
  simp only [fun d => before_6 m c t d (show 0 < t.val % 4 by omega)]
  simp only [fun d => before_7 m c t d (show 1 < t.val % 4 by omega)]
  simp only [fun d => before_8 m c t d (show 2 < t.val % 4 by omega)]
  rw [inv_pos m c t.val (Nat.le_of_lt t.isLt) (by omega), hT_step m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_3 c (grid0.coords t) _ _ _ _ _ _ _ _ _ _ _ _ _ _ _ _ _ _ _ _ (fun h' => absurd ((cond1_iff t).mp h') (by omega)) (fun h' => absurd ((cond2_iff t).mp h') (by omega)) (fun h' => absurd ((cond3_iff t).mp h') (by omega)) (iblk m c 0 t) (iblk m c 1 t) (iblk m c 2 t) (iblk m c 3 t) (iblk m c 4 t) (gT m c t) (wideT m c 1 t) (wideT m c 2 t) (hT m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_sound (c : Dev nD) (t : Fin cfg0.N) :
    bodyPre m c t ⊢ wp frame (wpE (defs₀ (F := F)) Variants.none c none) Set.univ (bodyAt0 t) (fun _ => bodyPost m c t) := by
  obtain h | h | h | h : t.val % 4 = 0 ∨ t.val % 4 = 1 ∨ t.val % 4 = 2 ∨ t.val % 4 = 3 := by omega
  · exact body_0 m c t h
  · exact body_1 m c t h
  · exact body_2 m c t h
  · exact body_3 m c t h

theorem defs_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (body_sound m c t) rfl .rfl fun _ => .rfl

theorem enter (c : Dev nD) : Pipeline.ΦA spec0 c ⊢ (dats m 0 c).Φ 0 := by
  rw [show (dats m 0 c).Φ 0 = Pipeline.ΦA spec0 c from rfl]
  try exact Idealize.SL.BI.Entails.refl _

theorem leave (c : Dev nD) : (dats m 0 c).Φ (Fin.last cfg0.N) ⊢ Pipeline.ΦA spec0 c := by
  rw [show (dats m 0 c).Φ (Fin.last cfg0.N) = Inv m c cfg0.N (le_refl _) from rfl, entry_eq]
  exact inv_any m c _ _

set_option backward.isDefEq.respectTransparency.types false in
set_option maxHeartbeats 800000 in
/-- The run: every array of the region ends at what the proof data says, every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The frame: the arguments unchanged, every semaphore at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.FoxProjIdeal.Proj

end
-- ==== Proof.FoxProjValue.lean ====
/- The attention layer's projection kernel's values over the extended reals: every tile a grid point writes is the reference's
   expression at the tile's place, so the result arrays are the reference's. -/
module

public import proofs.«01_k».proof.Proof.FoxProjRun
public import proofs.«01_k».proof.Proof.Gen.FoxProjRefIdeal.Read
public import Idealize.ShloMosaic.Lib.Pointwise
public import Idealize.ShloMosaic.Lib.Routing.OpsOne
public import Idealize.ShloMosaic.Lib.Pipeline.ValueKit

@[expose] public section

set_option maxRecDepth 16384

noncomputable section
namespace Cert.FoxProjIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.FoxProjIdeal.Gen
open Cert.FoxProjRefIdeal.Read

variable (m : (ℓ : Loc nD τ sig) → Buf (Elt Ideal) ℓ) (ρ : Dev nD → PrngReg)

/-! ## The argument arrays and the blocks of them -/

/-- The layer's input, -/
abbrev aX (c : Dev nD) : Vec Ideal Cert.FoxProjRefIdeal.S8x2048x1024 .f32 := m ((c : Thread nD τ).loc main_arg0)
/-- the norm's gain -/
abbrev aG (c : Dev nD) : Vec Ideal Cert.FoxProjRefIdeal.S1024 .f32 := m ((c : Thread nD τ).loc main_arg1)
/-- and the projection's weights. -/
abbrev aW (c : Dev nD) : Vec Ideal Cert.FoxProjRefIdeal.S1024x8208 .f32 := m ((c : Thread nD τ).loc main_arg2)

/-- The weights without the gates' columns, -/
def mainW (w : FVec Ideal S1024x8208 .f32) : FVec Ideal S1024x8192 .bf16 :=
  truncf (F := Ideal) .bf16 (concatenate S1024x8192 1 [⟨S1024x6144, (extractStridedSlice S1024x6144 ![0, 0] w slices_S1024x8208_S1024x6144_0_0 : FVec Ideal S1024x6144 .f32)⟩,
    ⟨S1024x2048, (extractStridedSlice S1024x2048 ![0, 6160] w slices_S1024x8208_S1024x2048_0_6160 : FVec Ideal S1024x2048 .f32)⟩]
    concatenates_S1024x6144_S1024x2048_S1024x8192_d1) bitsLt_bf16_f32
/-- the zero the padding is filled with, -/
def zeroP : FVec Ideal S_ .f32 := sitofp (F := Ideal) .f32 (constantI S_ 32 0#32)
/-- the gates' columns, padded to a lane, -/
def gateW (w : FVec Ideal S1024x8208 .f32) : FVec Ideal S1024x128 .bf16 :=
  truncf (F := Ideal) .bf16 (pad S1024x128 ![0, 0] ![0, 112] ![0, 0] (extractStridedSlice S1024x16 ![0, 6144] w slices_S1024x8208_S1024x16_0_6144) zeroP
    pads_S1024x16_S1024x128_000_01120 h_S_ : FVec Ideal S1024x128 .f32) bitsLt_bf16_f32
/-- and the columns' factors: ones, the queries' scale written over the first 2048. -/
def factors : FVec Ideal S8192 .f32 :=
  Host.scatter scatter_S8192_S1_S2048_0_n_0_0 (fun _ b => b)
    (broadcastInDim S8192 ![] bcast_S_S8192 (constant (F := Ideal) S_ .f32 0x3F800000#32))
    (broadcastInDim S1 ![] bcast_S_S1 (constantI S_ 32 0#32))
    (broadcastInDim S2048 ![] bcast_S_S2048 (constant (F := Ideal) S_ .f32 0x3E0293EE#32))

theorem V_v3 (c : Dev nD) : V m c main_v3 = mainW (m ((c : Thread nD τ).loc main_arg2)) := rfl
theorem V_v6 (c : Dev nD) : V m c main_v6 = gateW (m ((c : Thread nD τ).loc main_arg2)) := rfl
theorem V_v11 (c : Dev nD) : V m c main_v11 = shapeCast S16384x1024 (m ((c : Thread nD τ).loc main_arg0)) shapeCasts_S8x2048x1024_S16384x1024 := rfl
theorem V_v12 (c : Dev nD) : V m c main_v12 = shapeCast S1x1024 (m ((c : Thread nD τ).loc main_arg1)) shapeCasts_S1024_S1x1024 := rfl
attribute [local irreducible] Host.scatter in
theorem V_v10 (c : Dev nD) : V m c main_v10 = factors := by
  unfold factors
  rfl
attribute [local irreducible] Host.scatter in
theorem V_v13 (c : Dev nD) : V m c main_v13 = shapeCast S4x1x2048 factors shapeCasts_S8192_S4x1x2048 := by
  rw [← V_v10 m c]
  rfl

/-- An update of the factors lands at its own position. -/
theorem lands (k : Fin 2048) (e : Fin 8192) :
    scatter_S8192_S1_S2048_0_n_0_0.resultIdx? (ix1 k) (broadcastInDim S1 ![] bcast_S_S1 (constantI S_ 32 0#32)) = some (ix1 e) ↔ e.val = k.val := by
  have hstart : scatter_S8192_S1_S2048_0_n_0_0.start (ix1 k) (broadcastInDim S1 ![] bcast_S_S1 (constantI S_ 32 0#32)) 0 = 0 := by
    unfold ScatterDims.start
    split <;> rfl
  have hwin : scatter_S8192_S1_S2048_0_n_0_0.window (ix1 k) 0 = k.val := by
    unfold ScatterDims.window
    rw [dif_pos (by decide)]
    have q : ∀ X : Fin 1, (ix1 k X).val = k.val := fun X => by
      obtain rfl : X = 0 := Subsingleton.elim _ _
      rfl
    exact q _
  refine (Routing.resultIdx?_ix1 (N := 8192) _ _ _ e).trans ?_
  rw [hstart, hwin]
  omega

/-- The factors: the scale on the queries' columns, one elsewhere. -/
theorem factors_apply (n : Fin 8192) : factors (ix1 n) = if n.val < 2048 then Ideal.ofBits .f32 0x3E0293EE#32 else 1 := by
  unfold factors
  split
  · rename_i h
    exact Routing.scatter_set_hit _ _ _ _ _ _ (fun _ _ => rfl) (ix1 ⟨n.val, h⟩) ((lands ⟨n.val, h⟩ n).2 rfl)
  · rename_i h
    refine (Routing.scatter_set_miss _ _ _ _ _ fun k hk => h ?_).trans Ideal.ofBits_one_f32
    have := (lands (k 0) n).1 ((congrArg (fun z => scatter_S8192_S1_S2048_0_n_0_0.resultIdx? z _) (eq_ix1 k).symm).trans hk)
    have h0 : (k 0).val < 2048 := (k 0).isLt
    omega

theorem fac4_apply (j : Fin 4) (l : Fin 2048) : shapeCast S4x1x2048 factors shapeCasts_S8192_S4x1x2048 (ix3 j 0 l)
    = if j.val = 0 then Ideal.ofBits .f32 0x3E0293EE#32 else 1 := by
  have e : shapeCast S4x1x2048 factors shapeCasts_S8192_S4x1x2048 (ix3 j 0 l) = factors (ix1 ⟨2048 * j.val + l.val, by omega⟩) := by
    generalize factors = f
    pointwise
    exact congrArg (fun z => f (ix1 z)) (Fin.ext (by dsimp only; omega))
  rw [e, factors_apply]
  exact if_congr (by show 2048 * j.val + l.val < 2048 ↔ j.val = 0; omega) rfl rfl

/-- The zero that fills the padding is the real zero. -/
theorem zero_eq : (FloatOps.sitofp FTy.f32 0#32 : Ideal .f32) = 0 := by
  show (((0#32 : BitVec 32).toInt : ℝ) : EReal) = 0
  simp

/-- A column of the projections is a column of the weights: the gates' sixteen columns are skipped. -/
theorem mainW_apply (w : FVec Ideal S1024x8208 .f32) (k : Fin 1024) (n : Fin 8192) (n' : Fin 8208)
    (h : n'.val = if n.val < 6144 then n.val else n.val + 16) : mainW w (ix2 k n) = w (ix2 k n') := by
  pointwise [mainW]
  by_cases hn : n.val < 6144
  · rw [dif_pos hn]
    rw [if_pos hn] at h
    exact congrArg (fun z => w (ix2 k z)) (Fin.ext (by show n.val = n'.val; omega))
  · rw [dif_neg hn]
    rw [if_neg hn] at h
    exact congrArg (fun z => w (ix2 k z)) (Fin.ext (by show 6160 + (n.val - 6144) = n'.val; omega))

/-- A column of the gates is a gate's column of the weights in the lane's first sixteen, zero elsewhere. -/
theorem gateW_apply (w : FVec Ideal S1024x8208 .f32) (k : Fin 1024) (g : Fin 128) : gateW w (ix2 k g)
    = if h : g.val < 16 then w (ix2 k ⟨6144 + g.val, by omega⟩) else 0 := by
  pointwise [gateW, zeroP]
  rw [zero_eq]

/-! ## The reference, read down to its projections -/

/-- The reference's normalised row. -/
theorem v12_apply (x0 x1) (b : Fin 8) (s : Fin 2048) (k : Fin 1024) : val_main_v12 (F := Ideal) x0 x1 (ix3 b s k)
    = x0 (ix3 b s k) * Ideal.rsqrt (Ideal.div (∑ x : Fin 1024, x0 (ix3 b s x) * x0 (ix3 b s x)) (Ideal.ofBits FTy.f32 1149239296#32)
        + Ideal.ofBits FTy.f32 897988541#32) * x1 (ix1 k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

theorem v13_apply (x0 x1 x2) (b : Fin 8) (s : Fin 2048) (n : Fin 8208) : val_main_v13 (F := Ideal) x0 x1 x2 (ix3 b s n)
    = ∑ k : Fin 1024, val_main_v12 (F := Ideal) x0 x1 (ix3 b s k) * x2 (ix2 k n) := by
  pointwise [val_main_v13]

/-- Four arrays beside one another, read at an index. -/
theorem beside_apply (a0 a1 a2 a3 : Vec Ideal Cert.FoxProjRefIdeal.S8x2048x2048 .f32) (b : Fin 8) (s : Fin 2048) (n : Fin 8192) :
    concatenate Cert.FoxProjRefIdeal.S8x2048x8192 2 [⟨Cert.FoxProjRefIdeal.S8x2048x2048, a0⟩, ⟨Cert.FoxProjRefIdeal.S8x2048x2048, a1⟩,
        ⟨Cert.FoxProjRefIdeal.S8x2048x2048, a2⟩, ⟨Cert.FoxProjRefIdeal.S8x2048x2048, a3⟩]
      Cert.FoxProjRefIdeal.Gen.concatenates_S8x2048x2048_S8x2048x2048_S8x2048x2048_S8x2048x2048_S8x2048x8192_d2 (ix3 b s n)
    = if h : n.val < 2048 then a0 (ix3 b s ⟨n.val, h⟩) else if h : n.val - 2048 < 2048 then a1 (ix3 b s ⟨n.val - 2048, h⟩)
      else if h : n.val - 2048 - 2048 < 2048 then a2 (ix3 b s ⟨n.val - 2048 - 2048, h⟩)
      else a3 (ix3 b s ⟨n.val - 2048 - 2048 - 2048, by omega⟩) := by
  pointwise

theorem v21_apply (x0 x1 x2) (b : Fin 8) (s : Fin 2048) (n : Fin 8192) : val_main_v21 (F := Ideal) x0 x1 x2 (ix3 b s n)
    = if h : n.val < 2048 then val_main_v13 (F := Ideal) x0 x1 x2 (ix3 b s ⟨n.val, by omega⟩) * Ideal.ofBits .f32 0x3E0293EE#32
      else if h : n.val - 2048 < 2048 then val_main_v13 (F := Ideal) x0 x1 x2 (ix3 b s ⟨2048 + (n.val - 2048), by omega⟩)
      else if h : n.val - 2048 - 2048 < 2048 then val_main_v13 (F := Ideal) x0 x1 x2 (ix3 b s ⟨4096 + (n.val - 2048 - 2048), by omega⟩)
      else val_main_v13 (F := Ideal) x0 x1 x2 (ix3 b s ⟨6160 + (n.val - 2048 - 2048 - 2048), by omega⟩) := by
  unfold val_main_v21
  rw [beside_apply]
  pointwise [val_main_v20, val_main_v19, val_main_cst_2, val_main_v18, val_main_v16, val_main_v15, val_main_v14]

/-- The reference's projections, rows under one another: its product's columns but for the gates', the queries' scaled. -/
theorem v24_apply (x0 x1 x2) (R : Fin 16384) (n : Fin 8192) (n' : Fin 8208) (hb : R.val / 2048 < 8) (hs : R.val % 2048 < 2048)
    (h : n'.val = if n.val < 6144 then n.val else n.val + 16) :
    val_main_v24 (F := Ideal) x0 x1 x2 (ix2 R n) = val_main_v13 (F := Ideal) x0 x1 x2 (ix3 ⟨R.val / 2048, hb⟩ ⟨R.val % 2048, hs⟩ n')
      * (if n.val < 2048 then Ideal.ofBits .f32 0x3E0293EE#32 else 1) := by
  have key : ∀ (z z' : Fin 8208), z.val = z'.val → val_main_v13 (F := Ideal) x0 x1 x2 (ix3 ⟨R.val / 2048, hb⟩ ⟨R.val % 2048, hs⟩ z)
      = val_main_v13 (F := Ideal) x0 x1 x2 (ix3 ⟨R.val / 2048, hb⟩ ⟨R.val % 2048, hs⟩ z') := fun z z' e => by rw [Fin.ext e]
  have e := v21_apply x0 x1 x2 ⟨R.val / 2048, hb⟩ ⟨R.val % 2048, hs⟩ n
  pointwise [val_main_v24, val_main_v23]
  rw [e]
  have hn8 : n.val < 8192 := n.isLt
  by_cases hn : n.val < 2048
  · rw [dif_pos hn, if_pos hn]
    refine congrArg (· * _) (key _ _ ?_)
    rw [h, if_pos (by omega)]
  · rw [dif_neg hn, if_neg hn, mul_one]
    split at h <;> split <;> (try split) <;> first
      | (exfalso; omega)
      | exact key _ _ (by dsimp only; omega)

/-- The reference's gates, padded and rows under one another: its product's columns in the lane's first sixteen, -/
theorem v25_gate (x0 x1 x2) (R : Fin 16384) (g : Fin 128) (hb : R.val / 2048 < 8) (hs : R.val % 2048 < 2048) (h : g.val < 16) :
    val_main_v25 (F := Ideal) x0 x1 x2 (ix2 R g)
      = val_main_v13 (F := Ideal) x0 x1 x2 (ix3 ⟨R.val / 2048, hb⟩ ⟨R.val % 2048, hs⟩ ⟨6144 + g.val, by omega⟩) := by
  pointwise [val_main_v25, val_main_v22, val_main_call0_v0, val_main_c, val_main_v17]
  rw [dif_pos ⟨hb, hs, h⟩]
/-- zero elsewhere. -/
theorem v25_pad (x0 x1 x2) (R : Fin 16384) (g : Fin 128) (h : ¬ g.val < 16) : val_main_v25 (F := Ideal) x0 x1 x2 (ix2 R g) = (0 : EReal) := by
  pointwise [val_main_v25, val_main_v22, val_main_call0_v0, val_main_c, val_main_v17]
  rw [dif_neg (fun q => h q.2.2)]
  exact zero_eq

/-- The reference's keys -/
theorem v26_apply (x0 x1 x2) (R : Fin 16384) (l : Fin 2048) (hb : R.val / 2048 < 8) (hs : R.val % 2048 < 2048) :
    val_main_v26 (F := Ideal) x0 x1 x2 (ix2 R l) = val_main_v13 (F := Ideal) x0 x1 x2 (ix3 ⟨R.val / 2048, hb⟩ ⟨R.val % 2048, hs⟩ ⟨2048 + l.val, by omega⟩) := by
  pointwise [val_main_v26, val_main_v15]
/-- and values. -/
theorem v27_apply (x0 x1 x2) (R : Fin 16384) (l : Fin 2048) (hb : R.val / 2048 < 8) (hs : R.val % 2048 < 2048) :
    val_main_v27 (F := Ideal) x0 x1 x2 (ix2 R l) = val_main_v13 (F := Ideal) x0 x1 x2 (ix3 ⟨R.val / 2048, hb⟩ ⟨R.val % 2048, hs⟩ ⟨4096 + l.val, by omega⟩) := by
  pointwise [val_main_v27, val_main_v16]

/-! ## The blocks -/

theorem idx0 : ∀ t : Fin grid0.N, win0_0.index t = ![t.val / 4, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx5 : ∀ t : Fin grid0.N, win0_5.index t = ![t.val / 4, t.val % 4] := by decide +kernel
theorem idx4 : ∀ t : Fin grid0.N, win0_4.index t = ![0, 0, 0] := by decide +kernel
theorem idx7 : ∀ t : Fin grid0.N, win0_7.index t = ![t.val / 4, 0] := by decide +kernel
theorem idx8 : ∀ t : Fin grid0.N, win0_8.index t = ![t.val / 4, 0] := by decide +kernel
theorem off2_eq : ∀ t : Fin grid0.N, k0_off2 (grid0.coords t) = ![t.val % 4, 0, 0] := by decide +kernel
theorem idx6 : ∀ t : Fin grid0.N, win0_6.index t = ![t.val / 4, 0] := by decide +kernel
theorem off1_eq : ∀ t : Fin grid0.N, k0_off1 (grid0.coords t) = ![0, 2048 * (t.val % 4)] := by decide +kernel

/-- The rows of all sequences under one another. -/
theorem rows_apply (x : Vec Ideal S8x2048x1024 .f32) (R : Fin 16384) (k : Fin 1024) :
    shapeCast S16384x1024 x shapeCasts_S8x2048x1024_S16384x1024 (ix2 R k) = x (ix3 ⟨R.val / 2048, by omega⟩ ⟨R.val % 2048, by omega⟩ k) := by
  pointwise

theorem blk0 (c : Dev nD) (t : Fin cfg0.N) (r : Fin 512) (k : Fin 1024) (b : Fin 8) (s : Fin 2048)
    (hb : 2048 * b.val + s.val = 512 * (t.val / 4) + r.val) : iblk m c 0 t (ix2 r k) = aX m c (ix3 b s k) := by
  have ht : t.val < 128 := Nat.lt_of_lt_of_eq t.isLt N_0
  have e : ((cfg0.win 0).blk t).view.emb (ix2 r k) = (ix2 ⟨512 * (t.val / 4) + r.val, by omega⟩ k : S16384x1024.Idx) := by
    blk_ext [idx0 t]
  show V m c main_v11 (((cfg0.win 0).blk t).view.emb (ix2 r k)) = _
  rw [e]
  refine ((congrFun (V_v11 m c) _).trans (rows_apply _ _ k)).trans ?_
  exact congrArg (aX m c) (congrArg₂ (fun a b => ix3 a b k) (Fin.ext (by show (512 * (t.val / 4) + r.val) / 2048 = b.val; omega))
    (Fin.ext (by show (512 * (t.val / 4) + r.val) % 2048 = s.val; omega)))
theorem blk1 (c : Dev nD) (t : Fin cfg0.N) (k : Fin 1024) : iblk m c 1 t (ix2 0 k) = aG m c (ix1 k) := by
  blk_simp [iblk]
  rw [V_v12]
  pointwise
  blk_ext [idx1 t]
theorem blk2 (c : Dev nD) (t : Fin cfg0.N) (k : Fin 1024) (n : Fin 8192) : iblk m c 2 t (ix2 k n) = mainW (aW m c) (ix2 k n) := by
  have e : ((cfg0.win 2).blk t).view.emb (ix2 k n) = (ix2 k n : S1024x8192.Idx) := by
    blk_ext [idx2 t]
  show V m c main_v3 (((cfg0.win 2).blk t).view.emb (ix2 k n)) = _
  rw [e]
  exact congrFun (V_v3 m c) _
theorem blk3 (c : Dev nD) (t : Fin cfg0.N) (k : Fin 1024) (n : Fin 128) : iblk m c 3 t (ix2 k n) = gateW (aW m c) (ix2 k n) := by
  have e : ((cfg0.win 3).blk t).view.emb (ix2 k n) = (ix2 k n : S1024x128.Idx) := by
    blk_ext [idx3 t]
  show V m c main_v6 (((cfg0.win 3).blk t).view.emb (ix2 k n)) = _
  rw [e]
  exact congrFun (V_v6 m c) _

theorem blk4 (c : Dev nD) (t : Fin cfg0.N) (j : Fin 4) (l : Fin 2048) : iblk m c 4 t (ix3 j 0 l)
    = if j.val = 0 then Ideal.ofBits .f32 0x3E0293EE#32 else 1 := by
  have e : ((cfg0.win 4).blk t).view.emb (ix3 j 0 l) = (ix3 j 0 l : S4x1x2048.Idx) := by
    blk_ext [idx4 t]
  show V m c main_v13 (((cfg0.win 4).blk t).view.emb (ix3 j 0 l)) = _
  rw [e]
  exact (congrFun (V_v13 m c) _).trans (fac4_apply j l)

/-! ## What a point computes -/

/-- A point's normalised rows are the reference's. -/
theorem hT_apply (c : Dev nD) (t : Fin cfg0.N) (r : Fin 512) (k : Fin 1024) (b : Fin 8) (s : Fin 2048)
    (hb : 2048 * b.val + s.val = 512 * (t.val / 4) + r.val) :
    hT m c t (ix2 r k) = val_main_v12 (F := Ideal) (aX m c) (aG m c) (ix3 b s k) := by
  rw [v12_apply]
  unfold hT
  pointwise [k0_pay2, k0_pay1]
  simp only [blk0 m c t r _ b s hb, blk1 m c t]

/-- The columns of the weights that the point reads. -/
theorem cols_apply (c : Dev nD) (t : Fin cfg0.N) (k : Fin 1024) (l : Fin 2048) (n : Fin 8192)
    (hn : n.val = 2048 * (t.val % 4) + l.val) :
    colsB (grid0.coords t) (iblk m c 2 t) (ix2 k l) = mainW (aW m c) (ix2 k n) := by
  unfold colsB
  pointwise
  rw [← blk2 m c t k n]
  refine congrArg (iblk m c 2 t) ?_
  have e := off1_eq t
  refine congrArg₂ ix2 (Fin.ext ?_) (Fin.ext ?_)
  · show k0_off1 _ 0 + k.val = k.val
    rw [congrFun e 0]; exact Nat.zero_add _
  · show k0_off1 _ 1 + l.val = n.val
    rw [congrFun e 1, hn]; rfl

/-- A projection of a point's rows is the reference's at the tile's place. -/
theorem proj_apply (c : Dev nD) (t : Fin cfg0.N) (r : Fin 512) (l : Fin 2048) (b : Fin 8) (s : Fin 2048)
    (hb : 2048 * b.val + s.val = 512 * (t.val / 4) + r.val) (n : Fin 8192) (hn : n.val = 2048 * (t.val % 4) + l.val)
    (n' : Fin 8208) (h : n'.val = if n.val < 6144 then n.val else n.val + 16) :
    (∑ x : Fin 1024, hT m c t (ix2 r x) * colsB (grid0.coords t) (iblk m c 2 t) (ix2 x l))
      = val_main_v13 (F := Ideal) (aX m c) (aG m c) (aW m c) (ix3 b s n') := by
  rw [v13_apply]
  refine Finset.sum_congr rfl fun x _ => ?_
  rw [hT_apply m c t r x b s hb, cols_apply m c t x l n hn, mainW_apply _ x n n' h]

/-- The column of the weights that the projections' column stands for. -/
abbrev col (n : Fin 8192) : Fin 8208 := ⟨if n.val < 6144 then n.val else n.val + 16, by split <;> omega⟩

/-- The factors that the point reads. -/
theorem fac_apply (c : Dev nD) (t : Fin cfg0.N) (l : Fin 2048) : facB (grid0.coords t) (iblk m c 4 t) (ix3 0 0 l)
    = if t.val % 4 = 0 then Ideal.ofBits .f32 0x3E0293EE#32 else 1 := by
  unfold facB
  pointwise
  rw [← blk4 m c t ⟨t.val % 4, by omega⟩ l]
  refine congrArg (iblk m c 4 t) ?_
  have e := off2_eq t
  funext a
  refine Fin.ext ?_
  match a with
  | ⟨0, _⟩ => exact congrFun e 0
  | ⟨1, _⟩ => exact congrFun e 1
  | ⟨2, _⟩ =>
    show k0_off2 _ 2 + l.val = l.val
    rw [congrFun e 2]; exact Nat.zero_add _

theorem wide_apply (c : Dev nD) (t : Fin cfg0.N) (r : Fin 512) (l : Fin 2048) (b : Fin 8) (s : Fin 2048)
    (hb : 2048 * b.val + s.val = 512 * (t.val / 4) + r.val) (n : Fin 8192) (hn : n.val = 2048 * (t.val % 4) + l.val)
    (n' : Fin 8208) (h : n'.val = if n.val < 6144 then n.val else n.val + 16) :
    wideB (grid0.coords t) (hT m c t) (iblk m c 2 t) (iblk m c 4 t) (ix2 r l)
      = val_main_v13 (F := Ideal) (aX m c) (aG m c) (aW m c) (ix3 b s n') * (if t.val % 4 = 0 then Ideal.ofBits .f32 0x3E0293EE#32 else 1) := by
  unfold wideB
  pointwise [k0_pay4]
  rw [proj_apply m c t r l b s hb n hn n' h, fac_apply m c t l]

theorem mainT_apply (c : Dev nD) (t : Fin cfg0.N) (r : Fin 512) (l : Fin 2048) (R : Fin 16384) (n : Fin 8192)
    (hR : R.val = 512 * (t.val / 4) + r.val) (hn : n.val = 2048 * (t.val % 4) + l.val) :
    mainT m c t (ix2 r l) = val_main_v24 (F := Ideal) (aX m c) (aG m c) (aW m c) (ix2 R n) := by
  rw [v24_apply _ _ _ R n (col n) (by omega) (by omega) rfl]
  refine (wide_apply m c t r l ⟨R.val / 2048, by omega⟩ ⟨R.val % 2048, by omega⟩ (by show 2048 * (R.val / 2048) + R.val % 2048 = _; omega) n hn (col n) rfl).trans ?_
  exact congrArg (_ * ·) (if_congr (by omega) rfl rfl)

/-- A row tile's keys or values in full: the projections at its second or third point, whose factor is one. -/
theorem wideT_apply (c : Dev nD) (j : Fin 4) (hj : j.val = 1 ∨ j.val = 2) (t : Fin cfg0.N) (r : Fin 512) (l : Fin 2048) (b : Fin 8) (s : Fin 2048)
    (hb : 2048 * b.val + s.val = 512 * (t.val / 4) + r.val) (n' : Fin 8208) (h : n'.val = 2048 * j.val + l.val) :
    wideT m c j t (ix2 r l) = val_main_v13 (F := Ideal) (aX m c) (aG m c) (aW m c) (ix3 b s n') := by
  have hp : (ptOf t j).val = t.val / 4 * 4 + j.val := rfl
  have hl : l.val < 2048 := l.isLt
  unfold wideT
  refine (wide_apply m c (ptOf t j) r l b s (by omega) ⟨n'.val, by omega⟩ (by show n'.val = _; omega) n' ?_).trans ?_
  · show n'.val = if n'.val < 6144 then n'.val else n'.val + 16
    rw [if_pos (by omega)]
  · rw [if_neg (by omega), mul_one]

theorem gT_apply (c : Dev nD) (t : Fin cfg0.N) (r : Fin 512) (g : Fin 128) (R : Fin 16384)
    (hR : R.val = 512 * (t.val / 4) + r.val) :
    gT m c t (ix2 r g) = val_main_v25 (F := Ideal) (aX m c) (aG m c) (aW m c) (ix2 R g) := by
  have eh : ∀ k : Fin 1024, k0_pay1 (iblk m c 0 t) (iblk m c 1 t) (ix2 r k)
      = val_main_v12 (F := Ideal) (aX m c) (aG m c) (ix3 ⟨R.val / 2048, by omega⟩ ⟨R.val % 2048, by omega⟩ k) := fun k =>
    Eq.trans (by unfold hT; pointwise [k0_pay2]) (hT_apply m c t r k ⟨R.val / 2048, by omega⟩ ⟨R.val % 2048, by omega⟩
      (by show 2048 * (R.val / 2048) + R.val % 2048 = _; omega))
  unfold gT
  pointwise [k0_pay3]
  simp only [eh, blk3 m c t]
  by_cases h : g.val < 16
  · rw [v25_gate _ _ _ R g (by omega) (by omega) h, v13_apply]
    refine Finset.sum_congr rfl fun x _ => ?_
    rw [gateW_apply, dif_pos h]
  · refine Eq.trans ?_ (v25_pad _ _ _ R g h).symm
    refine (Finset.sum_congr rfl fun x _ => ?_).trans Finset.sum_const_zero
    rw [gateW_apply, dif_neg h]
    exact mul_zero _

/-! ## The result arrays -/

theorem final5 (c : Dev nD) : (dats m 0 c).arrAt 5 cfg0.N = val_main_v24 (F := Ideal) (aX m c) (aG m c) (aW m c) := by
  refine (dats m 0 c).arrAt_eq_of_covers 5 _ (by decide +kernel) fun t hf y => ?_
  have ht : t.val < 128 := Nat.lt_of_lt_of_eq t.isLt N_0
  blk_simp
  rw [after_5]
  revert y
  show ∀ y : S512x2048.Idx, _
  intro y
  idx_vars y
  have e : ((win0_5.blk t).view.emb (ix2 y0 y1)) = (ix2 ⟨512 * (t.val / 4) + y0.val, by omega⟩ ⟨2048 * (t.val % 4) + y1.val, by omega⟩ : S16384x8192.Idx) := by
    blk_ext [idx5 t]
  rw [e]
  exact mainT_apply m c t y0 y1 _ _ rfl rfl

theorem final6 (c : Dev nD) : (dats m 0 c).arrAt 6 cfg0.N = val_main_v25 (F := Ideal) (aX m c) (aG m c) (aW m c) := by
  refine (dats m 0 c).arrAt_eq_of_covers 6 _ (by decide +kernel) fun t hf y => ?_
  have ht : t.val < 128 := Nat.lt_of_lt_of_eq t.isLt N_0
  blk_simp
  rw [after_6]
  revert y
  show ∀ y : S512x128.Idx, _
  intro y
  idx_vars y
  have e : ((win0_6.blk t).view.emb (ix2 y0 y1)) = (ix2 ⟨512 * (t.val / 4) + y0.val, by omega⟩ y1 : S16384x128.Idx) := by
    blk_ext [idx6 t]
  rw [e]
  exact gT_apply m c t y0 y1 _ rfl

theorem final7 (c : Dev nD) : (dats m 0 c).arrAt 7 cfg0.N = val_main_v26 (F := Ideal) (aX m c) (aG m c) (aW m c) := by
  refine (dats m 0 c).arrAt_eq_of_covers 7 _ (by decide +kernel) fun t hf y => ?_
  have ht : t.val < 128 := Nat.lt_of_lt_of_eq t.isLt N_0
  blk_simp
  rw [after_7]
  revert y
  show ∀ y : S512x2048.Idx, _
  intro y
  idx_vars y
  have e : ((win0_7.blk t).view.emb (ix2 y0 y1)) = (ix2 ⟨512 * (t.val / 4) + y0.val, by omega⟩ y1 : S16384x2048.Idx) := by
    blk_ext [idx7 t]
  rw [e]
  rw [v26_apply _ _ _ _ _ (by show (512 * (t.val / 4) + y0.val) / 2048 < 8; omega) (by show (512 * (t.val / 4) + y0.val) % 2048 < 2048; omega)]
  exact wideT_apply m c 1 (Or.inl rfl) t y0 y1 _ _ (by show 2048 * ((512 * (t.val / 4) + y0.val) / 2048) + (512 * (t.val / 4) + y0.val) % 2048 = _; omega) _ rfl

theorem final8 (c : Dev nD) : (dats m 0 c).arrAt 8 cfg0.N = val_main_v27 (F := Ideal) (aX m c) (aG m c) (aW m c) := by
  refine (dats m 0 c).arrAt_eq_of_covers 8 _ (by decide +kernel) fun t hf y => ?_
  have ht : t.val < 128 := Nat.lt_of_lt_of_eq t.isLt N_0
  blk_simp
  rw [after_8]
  revert y
  show ∀ y : S512x2048.Idx, _
  intro y
  idx_vars y
  have e : ((win0_8.blk t).view.emb (ix2 y0 y1)) = (ix2 ⟨512 * (t.val / 4) + y0.val, by omega⟩ y1 : S16384x2048.Idx) := by
    blk_ext [idx8 t]
  rw [e]
  rw [v27_apply _ _ _ _ _ (by show (512 * (t.val / 4) + y0.val) / 2048 < 8; omega) (by show (512 * (t.val / 4) + y0.val) % 2048 < 2048; omega)]
  exact wideT_apply m c 2 (Or.inr rfl) t y0 y1 _ _ (by show 2048 * ((512 * (t.val / 4) + y0.val) / 2048) + (512 * (t.val / 4) + y0.val) % 2048 = _; omega) _ rfl

/-- The run, read: the four results at the reference's, the arguments unchanged. -/
theorem run : θ_run defs (onTc (τ := τ) (main (F := Ideal))) ⟨m, fun _ => 0, ρ⟩ (fun r => ∀ c : Dev nD,
      r.2.mem ((c.tc : Thread nD τ).loc main_v14_0) = val_main_v24 (F := Ideal) (aX m c) (aG m c) (aW m c)
      ∧ r.2.mem ((c.tc : Thread nD τ).loc main_v14_1) = val_main_v25 (F := Ideal) (aX m c) (aG m c) (aW m c)
      ∧ r.2.mem ((c.tc : Thread nD τ).loc main_v14_2) = val_main_v26 (F := Ideal) (aX m c) (aG m c) (aW m c)
      ∧ r.2.mem ((c.tc : Thread nD τ).loc main_v14_3) = val_main_v27 (F := Ideal) (aX m c) (aG m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.2 c).1 5).trans (final5 m c), ((h.2 c).1 6).trans (final6 m c),
      ((h.2 c).1 7).trans (final7 m c), ((h.2 c).1 8).trans (final8 m c), h.1 c⟩)
    (θ_run_and (frame_of m ρ (dats m) (A_eq m) ((θ_run defs _ _).mono (fun _ h => h.1) (run_main m ρ)))
      ((θ_run defs _ _).mono (fun _ h => h.1) (run_main m ρ)))

end Cert.FoxProjIdeal.Proj

end
-- ==== Proof.FoxProjClaim.lean ====
/- The claims about the attention layer's projection kernel and its reference: frames, idealization and value. -/
module

public import proofs.«01_k».proof.Defs
public import proofs.«01_k».proof.Proof.FoxProjValue
public import proofs.«01_k».proof.Proof.Gen.FoxProj
public import Idealize.ShloMosaic.Init

@[expose] public section

noncomputable section

namespace Cert.Proof.FoxProj

open Idealize.ShloMosaic Idealize.ShloMosaic.TcCoe Idealize.SL.Sem
open Cert.FoxProjIdeal.Proj

/-- The kernel and its idealization are one text: the body tables agree, -/
theorem bodies_eq : @Cert.FoxProj.defs₀ Bits _ _ = @Cert.FoxProjIdeal.defs₀ Bits _ _ := by
  unfold Cert.FoxProj.defs₀ Cert.FoxProjIdeal.defs₀
  refine congrArg Defs.onTc ?_
  funext l x
  match l, x with
  | 0, (t, s) => rfl

/-- hence the whole tables. -/
theorem defs_eq : @Cert.FoxProj.defs Bits _ _ = @Cert.FoxProjIdeal.defs Bits _ _ :=
  congrArg (Pipeline.defs Cert.FoxProjIdeal.pcfgs) bodies_eq

/-- So one run serves both: read bit by bit -/
theorem frame_kernel : Cert.quiescent_FoxProj := fun m ρ _ => by
  rw [defs_eq]
  exact Cert.FoxProjIdeal.Proj.frame (F := Bits) m ρ

/-- and over the extended reals. -/
theorem frame_ideal : Cert.quiescent_FoxProjIdeal := fun m ρ _ => Cert.FoxProjIdeal.Proj.frame (F := Ideal) m ρ

/-- The reference's frame: its run read at the arguments; it has no semaphore. -/
theorem frame_reference : Cert.quiescent_FoxProjRefIdeal := fun m ρ _ =>
  (θ_run Cert.FoxProjRefIdeal.defs _ _).mono (fun r h => ⟨fun c => (h c).2.2.2.2,
      Idealize.ShloMosaic.sem_eq_zero_of_no_sems (by decide) r.2⟩)
    (Cert.FoxProjRefIdeal.Value.run (F := Ideal) m ρ)

theorem preserves : Cert.preserves_FoxProj_FoxProjIdeal := trivial

/-- Over the extended reals the kernel's results are the reference's. -/
theorem algebraic : Cert.algebraic_FoxProjIdeal_FoxProjRefIdeal := by
  intro m ρ m' ρ' _ hag
  refine ⟨fun c => Cert.FoxProjRefIdeal.Read.val_main_v24 (F := Ideal) (aX m c) (aG m c) (aW m c),
    fun c => Cert.FoxProjRefIdeal.Read.val_main_v25 (F := Ideal) (aX m c) (aG m c) (aW m c),
    fun c => Cert.FoxProjRefIdeal.Read.val_main_v26 (F := Ideal) (aX m c) (aG m c) (aW m c),
    fun c => Cert.FoxProjRefIdeal.Read.val_main_v27 (F := Ideal) (aX m c) (aG m c) (aW m c), run m ρ, ?_⟩
  refine (θ_run Cert.FoxProjRefIdeal.defs _ _).mono (fun _ h c => ⟨(h c).1.trans ?_, (h c).2.1.trans ?_, (h c).2.2.1.trans ?_, (h c).2.2.2.1.trans ?_, (h c).2.2.2.2⟩)
    (Cert.FoxProjRefIdeal.Value.run (F := Ideal) m' ρ')
  · rw [Cert.FoxProjRefIdeal.Read.val_main_v24_eq, (hag c).1, (hag c).2.1, (hag c).2.2]
  · rw [Cert.FoxProjRefIdeal.Read.val_main_v25_eq, (hag c).1, (hag c).2.1, (hag c).2.2]
  · rw [Cert.FoxProjRefIdeal.Read.val_main_v26_eq, (hag c).1, (hag c).2.1, (hag c).2.2]
  · rw [Cert.FoxProjRefIdeal.Read.val_main_v27_eq, (hag c).1, (hag c).2.1, (hag c).2.2]

end Cert.Proof.FoxProj

end
-- ==== Proof.MProjRun.lean ====
/- The run of the mLSTM layer's projection kernel: what its body leaves in the output buffers and in the scratch of normalised rows
   at each point, the invariant of that scratch, the body's obligation and the frame. -/
module

public import proofs.«01_k».proof.Proof.Gen.MProjIdeal.Frame
public import proofs.«01_k».proof.Proof.Gen.MProjIdeal.Skeleton
public import Idealize.ShloMosaic.Lib.VecWindow
public import Idealize.ShloMosaic.Lib.Pipeline.Value
public import Idealize.ShloMosaic.Lib.Claim

@[expose] public section

set_option maxRecDepth 16384

noncomputable section

namespace Cert.MProjIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MProjIdeal.Gen

variable {F : FTy → Type} [FloatOps F]

local notation "𝕄" => MT nD τ sig Unit (Elt F) ℕ (UR sig nD τ) ℕ

/-! ## The body, run once -/

/-- The columns of the projection weights that the point reads. -/
def colsB (i : grid0.Coords) (x2 : Vec F S1024x8192 .bf16) : Vec F S1024x2048 .bf16 :=
  View.ld x2 (Rect.unit (s := S1024x8192) (k0_off1 i) S1024x2048.size (k0_off1_inb i))
/-- The tile of projections, from the normalised rows. -/
def mainB (i : grid0.Coords) (h : Vec F S1024x1024 .bf16) (x2 : Vec F S1024x8192 .bf16) : FVec F S1024x2048 .bf16 :=
  k0_pay4 h (colsB i x2)

set_option maxHeartbeats 4000000 in
/-- The body at a point that opens a row tile: it normalises the tile's rows into the scratch first, and projects them to the gates. -/
theorem run_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S1024x256 .bf16) (harg5 : arg5.IsWhole) (arg6 : Memref sig .tc .vmem S4x1x2048 .f32) (harg6 : arg6.IsWhole) (arg7 : Memref sig .tc .vmem S1024x2048 .bf16) (harg7 : arg7.IsWhole) (arg8 : Memref sig .tc .vmem S1024x256 .f32) (harg8 : arg8.IsWhole) (arg9 : Memref sig .tc .vmem S1024x1024 .bf16) (harg9 : arg9.IsWhole) (hc1 : k0_cond1 i = 1#1)
    (x0 : Vec F S1024x1024 .f32) (x1 : Vec F S1x1024 .f32) (x2 : Vec F S1024x8192 .bf16) (x3 : Vec F S1024x256 .bf16) (x4 : Vec F S4x1x2048 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (mainB i (k0_pay2 x0 x1) x2) ∗ owns (c : Thread nD τ) arg8 fullShare (k0_pay3 x0 x1 x3) ∗ owns (c : Thread nD τ) arg9 fullShare (k0_pay2 x0 x1)) -∗ K ⟨⟩))
          ⊢ wp frame (wpE (defs₀ (F := F)) Variants.none c none) E (cc0_norm_proj i arg2 harg2 arg3 harg3 arg4 harg4 arg5 harg5 arg6 harg6 arg7 harg7 arg8 harg8 arg9 harg9) K := by
    simp only [cc0_norm_proj_eq_skeleton]; unfold cc0_norm_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc1)
    sl_step
    have e0 : View.ld x0 (Rect.unit (s := S1024x1024) ![0, 0] ![1024, 1024] inb_S1024x1024_S1024x1024_0_0) = x0 :=
      View.ld_unit_zero (S := S1024x1024) (funext fun a => by fin_cases a <;> rfl) _ x0
    have e1 : View.ld x1 (Rect.unit (s := S1x1024) ![0, 0] ![1, 1024] inb_S1x1024_S1x1024_0_0) = x1 :=
      View.ld_unit_zero (S := S1x1024) (funext fun a => by fin_cases a <;> rfl) _ x1
    have e3 : View.ld x3 (Rect.unit (s := S1024x256) ![0, 0] ![1024, 256] inb_S1024x256_S1024x256_0_0) = x3 :=
      View.ld_unit_zero (S := S1024x256) (funext fun a => by fin_cases a <;> rfl) _ x3
    have eR : ∀ w : Vec F S1024x1024 .bf16, arg9.view.readCov [⟨Rect.unit (s := S1024x1024) ![0, 0] ![1024, 1024] inb_S1024x1024_S1024x1024_0_0, w⟩]
        (Rect.unit (s := S1024x1024) ![0, 0] ![1024, 1024] inb_S1024x1024_S1024x1024_0_0).toLoadRect = w :=
      fun w => View.readCov_unit_zero (S := S1024x1024) _ (funext fun a => by fin_cases a <;> rfl) _ w
    have eh := (eR _).trans (congrArg₂ k0_pay2 e0 e1)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (View.read_writes_full _ _ _ _ _).trans ?_
      sl_unfold_run_names
      unfold mainB colsB
      simp only [View.writes_nil, View.readAt_full, View.readAt_eq_ld, View.readCov_full, harg2.read_unread, harg3.read_unread, harg4.read_unread, harg5.read_unread, harg6.read_unread, harg7.read_unread, harg8.read_unread, harg9.read_unread]
      exact congrArg (fun y => k0_pay4 y _) eh
    isplitl [H6]
    · iexists _; isplitr; swap; · iexact H6
      ipureintro
      refine (View.read_writes_full _ _ _ _ _).trans ?_
      sl_unfold_run_names
      simp only [View.writes_nil, View.readAt_full, View.readAt_eq_ld, View.readCov_full, harg2.read_unread, harg3.read_unread, harg4.read_unread, harg5.read_unread, harg6.read_unread, harg7.read_unread, harg8.read_unread, harg9.read_unread]
      exact (congrArg₂ (fun y z => k0_pay3 y z _) e0 e1).trans (congrArg (fun y => k0_pay3 _ _ y) e3)
    iexists _; isplitr; swap; · iexact HS
    ipureintro; sl_unfold_run_names; refine (View.read_writes_full _ _ _ _ _).trans ?_
    simp only [View.writes_nil, View.readAt_full, View.readAt_eq_ld, View.readCov_full, harg2.read_unread, harg3.read_unread, harg4.read_unread, harg5.read_unread, harg6.read_unread, harg7.read_unread, harg8.read_unread, harg9.read_unread]
    exact congrArg₂ k0_pay2 e0 e1

set_option maxHeartbeats 4000000 in
/-- The body at a point that does not open a row tile. -/
theorem run_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S1024x256 .bf16) (harg5 : arg5.IsWhole) (arg6 : Memref sig .tc .vmem S4x1x2048 .f32) (harg6 : arg6.IsWhole) (arg7 : Memref sig .tc .vmem S1024x2048 .bf16) (harg7 : arg7.IsWhole) (arg8 : Memref sig .tc .vmem S1024x256 .f32) (harg8 : arg8.IsWhole) (arg9 : Memref sig .tc .vmem S1024x1024 .bf16) (harg9 : arg9.IsWhole) (hc1 : ¬ k0_cond1 i = 1#1)
    (x0 : Vec F S1024x1024 .f32) (x1 : Vec F S1x1024 .f32) (x2 : Vec F S1024x8192 .bf16) (x3 : Vec F S1024x256 .bf16) (x4 : Vec F S4x1x2048 .f32) (x6 : Vec F S1024x256 .f32) (xs : Vec F S1024x1024 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (mainB i xs x2) ∗ owns (c : Thread nD τ) arg8 fullShare x6 ∗ owns (c : Thread nD τ) arg9 fullShare xs) -∗ K ⟨⟩))
          ⊢ wp frame (wpE (defs₀ (F := F)) Variants.none c none) E (cc0_norm_proj i arg2 harg2 arg3 harg3 arg4 harg4 arg5 harg5 arg6 harg6 arg7 harg7 arg8 harg8 arg9 harg9) K := by
    simp only [cc0_norm_proj_eq_skeleton]; unfold cc0_norm_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs
    sl_exec (disch := first | sl_exact hc1)
    sl_step
    have eh : View.ld xs (Rect.unit (s := S1024x1024) ![0, 0] ![1024, 1024] inb_S1024x1024_S1024x1024_0_0) = xs :=
      View.ld_unit_zero (S := S1024x1024) (funext fun a => by fin_cases a <;> rfl) _ xs
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (View.read_writes_full _ _ _ _ _).trans ?_
      sl_unfold_run_names
      unfold mainB colsB
      simp only [View.writes_nil, View.readAt_full, View.readAt_eq_ld, View.readCov_full, harg2.read_unread, harg3.read_unread, harg4.read_unread, harg5.read_unread, harg6.read_unread, harg7.read_unread, harg8.read_unread, harg9.read_unread]
      exact congrArg (fun y => k0_pay4 y _) eh
    isplitl [H6]
    · iexists _; isplitr; · ipureintro; exact harg8.read_unread _
      iexact H6
    iexists _; isplitr; · ipureintro; exact harg9.read_unread _
    iexact HS

variable (m : (ℓ : Loc nD τ sig) → Buf (Elt F) ℓ) (ρ : Dev nD → PrngReg)

/-! ## Points and coordinates -/

theorem row_of : ∀ t : Fin grid0.N, (grid0.coords t 0).val = t.val / 4 % 16 := fun t => Pipeline.Grid.coords_val t 0 (by decide) rfl
theorem col_of : ∀ t : Fin grid0.N, (grid0.coords t 1).val = t.val / 1 % 4 := fun t => Pipeline.Grid.coords_val t 1 (by decide) rfl

theorem cond1_iff : ∀ t : Fin grid0.N, k0_cond1 (grid0.coords t) = 1#1 ↔ t.val % 4 = 0 := by decide +kernel

abbrev sM0 (t : Fin cfg0.N) : Memref sig .tc .vmem S1024x1024 .f32 := win0_0.stage (cfg0.slots t 0)
abbrev sM1 (t : Fin cfg0.N) : Memref sig .tc .vmem S1x1024 .f32 := win0_1.stage (cfg0.slots t 1)
abbrev sM2 (t : Fin cfg0.N) : Memref sig .tc .vmem S1024x8192 .bf16 := win0_2.stage (cfg0.slots t 2)
abbrev sM3 (t : Fin cfg0.N) : Memref sig .tc .vmem S1024x256 .bf16 := win0_3.stage (cfg0.slots t 3)
abbrev sM4 (t : Fin cfg0.N) : Memref sig .tc .vmem S4x1x2048 .f32 := win0_4.stage (cfg0.slots t 4)
abbrev sM5 (t : Fin cfg0.N) : Memref sig .tc .vmem S1024x2048 .bf16 := win0_5.stage (cfg0.slots t 5)
abbrev sM6 (t : Fin cfg0.N) : Memref sig .tc .vmem S1024x256 .f32 := win0_6.stage (cfg0.slots t 6)
/-- The scratch of normalised rows. -/
abbrev hM : Memref sig .tc .vmem S1024x1024 .bf16 := Memref.whole cc0_scratch0

/-- What the region's entry hands over: the scratch at anything, and the generator register. -/
theorem entry_eq (c : Dev nD) : Pipeline.ΦA spec0 c
    = (iprop((∃ d, owns (c : Thread nD τ) hM fullShare d) ∗ (∃ r, prngReg c r)) : sProp 𝕄) := by
  unfold Pipeline.ΦA
  rw [scopedRest0_eq]
  simp only [hM, owns_whole]
  try rfl

/-! ## What each point computes -/

/-- The normalised rows of the point's row tile. -/
def hT (c : Dev nD) (t : Fin cfg0.N) : Vec F S1024x1024 .bf16 := k0_pay2 (iblk m c 0 t) (iblk m c 1 t)
/-- The gates of its rows. -/
def gT (c : Dev nD) (t : Fin cfg0.N) : FVec F S1024x256 .f32 := k0_pay3 (iblk m c 0 t) (iblk m c 1 t) (iblk m c 3 t)
/-- The point's tile of projections. -/
def mainT (c : Dev nD) (t : Fin cfg0.N) : FVec F S1024x2048 .bf16 := mainB (grid0.coords t) (hT m c t) (iblk m c 2 t)
/-- The point before. -/
abbrev prv (t : Fin cfg0.N) : Fin cfg0.N := ⟨t.val - 1, Nat.lt_of_le_of_lt (Nat.sub_le _ _) t.isLt⟩

theorem iblk0_congr (c : Dev nD) (t t' : Fin cfg0.N) (h : win0_0.index t = win0_0.index t') : iblk m c 0 t = iblk m c 0 t' := by
  funext y
  refine congrArg (V m c (Pipeline.arrRef spec0 0)) (funext fun a => Fin.ext ?_)
  show win0_0.index t a * _ + 1 * (y a).val = win0_0.index t' a * _ + 1 * (y a).val
  rw [h]

theorem iblk0_step (c : Dev nD) (t : Fin cfg0.N) (h : t.val % 4 ≠ 0) : iblk m c 0 (prv t) = iblk m c 0 t := by
  refine iblk0_congr m c _ _ ?_
  obtain ⟨ht, hix⟩ := win0_0.index_eq_of_fetch rfl t (by
    rw [← Bool.not_eq_true]; exact fun hf => h ((fetch0_0 t).mp hf))
  first | exact hix.symm | exact hix

theorem hT_step (c : Dev nD) (t : Fin cfg0.N) (h : t.val % 4 ≠ 0) : hT m c (prv t) = hT m c t := by
  unfold hT
  exact congrArg₂ k0_pay2 (iblk0_step m c t h) rfl
theorem gT_step (c : Dev nD) (t : Fin cfg0.N) (h : t.val % 4 ≠ 0) : gT m c (prv t) = gT m c t := by
  unfold gT
  exact congrArg (fun z => k0_pay3 z _ _) (iblk0_step m c t h)

/-! ## The invariant and the proof data -/

/-- Before the first point the entry's; afterwards the normalised rows of the last point's row tile. -/
def Inv (c : Dev nD) : (n : ℕ) → n ≤ cfg0.N → sProp 𝕄
  | 0, _ => Pipeline.ΦA spec0 c
  | n + 1, hn => iprop(owns (c : Thread nD τ) hM fullShare (hT m c ⟨n, hn⟩) ∗ (∃ r, prngReg c r))

theorem inv_pos (c : Dev nD) (n : ℕ) (h : n ≤ cfg0.N) (hz : n ≠ 0) :
    Inv m c n h = iprop(owns (c : Thread nD τ) hM fullShare (hT m c ⟨n - 1, by omega⟩) ∗ (∃ r, prngReg c r)) := by
  cases n with
  | zero => exact absurd rfl hz
  | succ n => rfl

/-- At every point: the rows' scratch at something. -/
theorem inv_any (c : Dev nD) (n : ℕ) (h : n ≤ cfg0.N) :
    Inv m c n h ⊢ iprop((∃ d, owns (c : Thread nD τ) hM fullShare d) ∗ (∃ r, prngReg c r)) := by
  cases n with
  | zero =>
    show Pipeline.ΦA spec0 c ⊢ _
    rw [entry_eq]
  | succ n =>
    show iprop(owns (c : Thread nD τ) hM fullShare (hT m c ⟨n, h⟩) ∗ (∃ r, prngReg c r)) ⊢ _
    iintro ⟨HS, Hg⟩
    isplitl [HS]; · iexists _; iexact HS
    iexact Hg

/-- The arrays as the region finds them; after each point the inputs at their blocks, and the outputs at the point's
    projections and the row tile's gates. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => mainT m c t
    | ⟨6, _⟩ => gT m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_at (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = mainT m c t := by dsimp only [dats]
theorem after_6 (c : Dev nD) (t : Fin cfg0.N) : (dats m 0 c).after 6 t = gT m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-! ## Outputs stored at one point of each row tile -/

/-- A window stored at the `r`-th point of each row tile and written back at its last holds, past the `r`-th, what was
    stored. -/
theorem before_out (c : Dev nD) (w : Fin cfg0.W) (r : ℕ) (hfetch : ∀ t, (cfg0.win w).fetch t = false)
    (hflush : ∀ t : Fin cfg0.N, (cfg0.win w).flush t = true ↔ t.val % 4 = 3)
    (hidle : ∀ t : Fin cfg0.N, cfg0.idle w (cfg0.grid.coords t) = true ↔ t.val % 4 ≠ r)
    (hkept : ∀ (t : Fin cfg0.N) (d), (dats m 0 c).kept w t d = (dats m 0 c).after w t)
    (hafter : ∀ t : Fin cfg0.N, t.val % 4 ≠ 0 → (dats m 0 c).after w (prv t) = (dats m 0 c).after w t) :
    ∀ (n : ℕ) (t : Fin cfg0.N) (d), t.val = n → r < t.val % 4 → (dats m 0 c).before w t d = (dats m 0 c).after w t := by
  intro n
  induction n with
  | zero => intro t d ht hr; omega
  | succ n ih =>
    intro t d ht hr
    rw [(dats m 0 c).before_of_pos w t (by omega) (hfetch t)]
    have hp : (prv t).val = t.val - 1 := rfl
    rw [if_neg (fun hf => by have := (hflush (prv t)).mp hf; omega)]
    unfold Dat.left
    by_cases he : (prv t).val % 4 = r
    · have hi : cfg0.idle w (cfg0.grid.coords (prv t)) = false := by
        rw [← Bool.not_eq_true]; exact fun h => ((hidle _).mp h) he
      show (match cfg0.idle w (cfg0.grid.coords (prv t)) with | true => _ | false => _) = _
      rw [hi]
      exact (hkept _ _).trans (hafter t (by omega))
    · have hi : cfg0.idle w (cfg0.grid.coords (prv t)) = true := (hidle _).mpr he
      show (match cfg0.idle w (cfg0.grid.coords (prv t)) with | true => _ | false => _) = _
      rw [hi]
      exact (ih (prv t) d (by omega) (by omega)).trans (hafter t (by omega))

theorem idle_6 (t : Fin cfg0.N) : cfg0.idle 6 (cfg0.grid.coords t) = true ↔ t.val % 4 ≠ 0 := by
  have h := cond1_iff t
  show (!(k0_cond1 (grid0.coords t) == 1#1)) = true ↔ _
  rw [Bool.not_eq_true', beq_eq_false_iff_ne, ne_eq, h]
theorem before_6 (c : Dev nD) (t : Fin cfg0.N) (d) (h : 0 < t.val % 4) : (dats m 0 c).before 6 t d = gT m c t :=
  (before_out m c 6 0 (fun _ => rfl) flush0_6 idle_6 (fun t d => rfl)
    (fun t h => by rw [after_6, after_6]; exact gT_step m c t h) t.val t d rfl h).trans (after_6 m c t)
theorem leaves_6_store (c : Dev nD) (t : Fin cfg0.N) (h : t.val % 4 = 0) :
    (dats m 0 c).leavesExact 6 t = owns (c : Thread nD τ) (sM6 t) fullShare (gT m c t) := by
  have hi : cfg0.idle 6 (cfg0.grid.coords t) = false := by
    rw [← Bool.not_eq_true]; exact fun h' => ((idle_6 t).mp h') h
  unfold Dat.leavesExact; rw [hi]
  exact congrArg (owns (c : Thread nD τ) (sM6 t) fullShare) (after_6 m c t)
theorem leaves_6_pass (c : Dev nD) (t : Fin cfg0.N) (h : t.val % 4 ≠ 0) (h3 : t.val % 4 ≠ 3) :
    (dats m 0 c).leavesExact 6 t = iprop(∃ d, owns (c : Thread nD τ) (sM6 t) fullShare ((dats m 0 c).before 6 t d)) :=
  (dats m 0 c).leavesExact_idle 6 t ((idle_6 t).mpr h) (by rw [← Bool.not_eq_true]; exact fun h' => h3 ((flush0_6 t).mp h'))
theorem leaves_6_flush (c : Dev nD) (t : Fin cfg0.N) (h3 : t.val % 4 = 3) :
    (dats m 0 c).leavesExact 6 t = owns (c : Thread nD τ) (sM6 t) fullShare (gT m c t) := by
  have hi : cfg0.idle 6 (cfg0.grid.coords t) = true := (idle_6 t).mpr (by omega)
  have hf : (cfg0.win 6).flush t = true := (flush0_6 t).mpr h3
  unfold Dat.leavesExact; rw [hi, hf]
  exact congrArg (owns (c : Thread nD τ) (sM6 t) fullShare) (after_6 m c t)

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (sM0 t) fullShare ((dats m 0 c).before 0 t d))
    ∗ (∃ d, owns (c : Thread nD τ) (sM1 t) fullShare ((dats m 0 c).before 1 t d))
    ∗ (∃ d, owns (c : Thread nD τ) (sM2 t) fullShare ((dats m 0 c).before 2 t d))
    ∗ (∃ d, owns (c : Thread nD τ) (sM3 t) fullShare ((dats m 0 c).before 3 t d))
    ∗ (∃ d, owns (c : Thread nD τ) (sM4 t) fullShare ((dats m 0 c).before 4 t d))
    ∗ (∃ d, owns (c : Thread nD τ) (sM5 t) fullShare ((dats m 0 c).before 5 t d))
    ∗ (∃ d, owns (c : Thread nD τ) (sM6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (sM0 t) fullShare ((dats m 0 c).after 0 t)
    ∗ owns (c : Thread nD τ) (sM1 t) fullShare ((dats m 0 c).after 1 t)
    ∗ owns (c : Thread nD τ) (sM2 t) fullShare ((dats m 0 c).after 2 t)
    ∗ owns (c : Thread nD τ) (sM3 t) fullShare ((dats m 0 c).after 3 t)
    ∗ owns (c : Thread nD τ) (sM4 t) fullShare ((dats m 0 c).after 4 t)
    ∗ owns (c : Thread nD τ) (sM5 t) fullShare ((dats m 0 c).after 5 t)
    ∗ (dats m 0 c).leavesExact 6 t)

/-- The parts of the body's obligation that every point shares. -/
theorem post_eq (c : Dev nD) (t : Fin cfg0.N) : bodyPost m c t = iprop(iprop(owns (c : Thread nD τ) hM fullShare (hT m c t) ∗ (∃ r, prngReg c r)) ∗ (dats m 0 c).owesAt () t.castSucc
    ∗ owns (c : Thread nD τ) (sM0 t) fullShare (iblk m c 0 t)
    ∗ owns (c : Thread nD τ) (sM1 t) fullShare (iblk m c 1 t)
    ∗ owns (c : Thread nD τ) (sM2 t) fullShare (iblk m c 2 t)
    ∗ owns (c : Thread nD τ) (sM3 t) fullShare (iblk m c 3 t)
    ∗ owns (c : Thread nD τ) (sM4 t) fullShare (iblk m c 4 t)
    ∗ owns (c : Thread nD τ) (sM5 t) fullShare (mainT m c t)
    ∗ (dats m 0 c).leavesExact 6 t) := by
  unfold bodyPost
  rw [show (dats m 0 c).owesAt () t.succ = (dats m 0 c).owesAt () t.castSucc from rfl,
    after_0, after_1, after_2, after_3, after_4, after_5]
  rfl

set_option maxHeartbeats 3200000 in
theorem body_0 (c : Dev nD) (t : Fin cfg0.N) (h : t.val % 4 = 0) :
    bodyPre m c t ⊢ wp frame (wpE (defs₀ (F := F)) Variants.none c none) Set.univ (bodyAt0 t) (fun _ => bodyPost m c t) := by
  rw [post_eq, leaves_6_store m c t h]
  unfold bodyPre bodyAt0
  simp only [before_0, before_1, before_2, before_3, before_4]
  rw [inv_at]
  refine (sep_mono (inv_any m c t.val (Nat.le_of_lt t.isLt)) .rfl).trans ?_
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply (run_0 c (grid0.coords t) _ _ _ _ _ _ _ _ _ _ _ _ _ _ _ _ ((cond1_iff t).mpr h) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  iintro ⟨H0, H1, H2, H3, H4, H5, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 3200000 in
theorem body_1 (c : Dev nD) (t : Fin cfg0.N) (h : t.val % 4 ≠ 0) (h3 : t.val % 4 ≠ 3) :
    bodyPre m c t ⊢ wp frame (wpE (defs₀ (F := F)) Variants.none c none) Set.univ (bodyAt0 t) (fun _ => bodyPost m c t) := by
  rw [post_eq, leaves_6_pass m c t (by omega) (by omega)]
  unfold bodyPre bodyAt0
  simp only [before_0, before_1, before_2, before_3, before_4]
  rw [inv_at]
  rw [inv_pos m c t.val (Nat.le_of_lt t.isLt) (by omega), hT_step m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply (run_1 c (grid0.coords t) _ _ _ _ _ _ _ _ _ _ _ _ _ _ _ _ (fun h' => absurd ((cond1_iff t).mp h') (by omega)) (iblk m c 0 t) (iblk m c 1 t) (iblk m c 2 t) (iblk m c 3 t) (iblk m c 4 t) _ (hT m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, H5, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 3200000 in
theorem body_3 (c : Dev nD) (t : Fin cfg0.N) (h : t.val % 4 = 3) :
    bodyPre m c t ⊢ wp frame (wpE (defs₀ (F := F)) Variants.none c none) Set.univ (bodyAt0 t) (fun _ => bodyPost m c t) := by
  rw [post_eq, leaves_6_flush m c t h]
  unfold bodyPre bodyAt0
  simp only [before_0, before_1, before_2, before_3, before_4]
  rw [inv_at]
  simp only [fun d => before_6 m c t d (show 0 < t.val % 4 by omega)]
  rw [inv_pos m c t.val (Nat.le_of_lt t.isLt) (by omega), hT_step m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply (run_1 c (grid0.coords t) _ _ _ _ _ _ _ _ _ _ _ _ _ _ _ _ (fun h' => absurd ((cond1_iff t).mp h') (by omega)) (iblk m c 0 t) (iblk m c 1 t) (iblk m c 2 t) (iblk m c 3 t) (iblk m c 4 t) (gT m c t) (hT m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, H5, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_sound (c : Dev nD) (t : Fin cfg0.N) :
    bodyPre m c t ⊢ wp frame (wpE (defs₀ (F := F)) Variants.none c none) Set.univ (bodyAt0 t) (fun _ => bodyPost m c t) := by
  by_cases h : t.val % 4 = 0
  · exact body_0 m c t h
  · by_cases h3 : t.val % 4 = 3
    · exact body_3 m c t h3
    · exact body_1 m c t h h3

theorem defs_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (body_sound m c t) rfl .rfl fun _ => .rfl

theorem enter (c : Dev nD) : Pipeline.ΦA spec0 c ⊢ (dats m 0 c).Φ 0 := by
  rw [show (dats m 0 c).Φ 0 = Pipeline.ΦA spec0 c from rfl]
  try exact Idealize.SL.BI.Entails.refl _

theorem leave (c : Dev nD) : (dats m 0 c).Φ (Fin.last cfg0.N) ⊢ Pipeline.ΦA spec0 c := by
  rw [show (dats m 0 c).Φ (Fin.last cfg0.N) = Inv m c cfg0.N (le_refl _) from rfl, entry_eq]
  exact inv_any m c _ _

set_option backward.isDefEq.respectTransparency.types false in
set_option maxHeartbeats 800000 in
/-- The run: every array of the region ends at what the proof data says, every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The frame: the arguments unchanged, every semaphore at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.MProjIdeal.Proj

end
-- ==== Proof.MProjValue.lean ====
/- The memory layer's projection kernel's values over the extended reals: every tile a grid point writes is the reference's
   expression at the tile's place, so the result arrays are the reference's. -/
module

public import proofs.«01_k».proof.Proof.MProjRun
public import proofs.«01_k».proof.Proof.Gen.MProjRefIdeal.Read
public import Idealize.ShloMosaic.Lib.Pointwise
public import Idealize.ShloMosaic.Lib.Pipeline.ValueKit

@[expose] public section

set_option maxRecDepth 16384

noncomputable section
namespace Cert.MProjIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.MProjIdeal.Gen
open Cert.MProjRefIdeal.Read

variable (m : (ℓ : Loc nD τ sig) → Buf (Elt Ideal) ℓ) (ρ : Dev nD → PrngReg)

/-! ## The argument arrays and the blocks of them -/

/-- The layer's input, -/
abbrev aX (c : Dev nD) : Vec Ideal Cert.MProjRefIdeal.S8x2048x1024 .f32 := m ((c : Thread nD τ).loc main_arg0)
/-- the norm's gain -/
abbrev aG (c : Dev nD) : Vec Ideal Cert.MProjRefIdeal.S1024 .f32 := m ((c : Thread nD τ).loc main_arg1)
/-- and the projection's weights. -/
abbrev aW (c : Dev nD) : Vec Ideal Cert.MProjRefIdeal.S1024x8208 .f32 := m ((c : Thread nD τ).loc main_arg2)

/-- The weights without the gates' columns, -/
def mainW (w : FVec Ideal S1024x8208 .f32) : FVec Ideal S1024x8192 .bf16 :=
  truncf (F := Ideal) .bf16 (concatenate S1024x8192 1 [⟨S1024x4096, (extractStridedSlice S1024x4096 ![0, 0] w slices_S1024x8208_S1024x4096_0_0 : FVec Ideal S1024x4096 .f32)⟩,
    ⟨S1024x4096, (extractStridedSlice S1024x4096 ![0, 4112] w slices_S1024x8208_S1024x4096_0_4112 : FVec Ideal S1024x4096 .f32)⟩]
    concatenates_S1024x4096_S1024x4096_S1024x8192_d1) bitsLt_bf16_f32
/-- the zero the padding is filled with, -/
def zeroP : FVec Ideal S_ .f32 := sitofp (F := Ideal) .f32 (constantI S_ 32 0#32)
/-- and the gates' columns, each kind padded to a lane. -/
def gateW (w : FVec Ideal S1024x8208 .f32) : FVec Ideal S1024x256 .bf16 :=
  truncf (F := Ideal) .bf16 (concatenate S1024x256 1
    [⟨S1024x128, (pad S1024x128 ![0, 0] ![0, 120] ![0, 0] (extractStridedSlice S1024x8 ![0, 4096] w slices_S1024x8208_S1024x8_0_4096) zeroP
        pads_S1024x8_S1024x128_000_01200 h_S_ : FVec Ideal S1024x128 .f32)⟩,
     ⟨S1024x128, (pad S1024x128 ![0, 0] ![0, 120] ![0, 0] (extractStridedSlice S1024x8 ![0, 4104] w slices_S1024x8208_S1024x8_0_4104) zeroP
        pads_S1024x8_S1024x128_000_01200 h_S_ : FVec Ideal S1024x128 .f32)⟩]
    concatenates_S1024x128_S1024x128_S1024x256_d1) bitsLt_bf16_f32

theorem V_v3 (c : Dev nD) : V m c main_v3 = mainW (m ((c : Thread nD τ).loc main_arg2)) := rfl
theorem V_v9 (c : Dev nD) : V m c main_v9 = gateW (m ((c : Thread nD τ).loc main_arg2)) := rfl
theorem V_v10 (c : Dev nD) : V m c main_v10 = shapeCast S16384x1024 (m ((c : Thread nD τ).loc main_arg0)) shapeCasts_S8x2048x1024_S16384x1024 := rfl
theorem V_v11 (c : Dev nD) : V m c main_v11 = shapeCast S1x1024 (m ((c : Thread nD τ).loc main_arg1)) shapeCasts_S1024_S1x1024 := rfl

/-- The zero that fills the padding is the real zero. -/
theorem zero_eq : (FloatOps.sitofp FTy.f32 0#32 : Ideal .f32) = 0 := by
  show (((0#32 : BitVec 32).toInt : ℝ) : EReal) = 0
  simp

/-- A column of the projections is a column of the weights: the gates' sixteen columns are skipped. -/
theorem mainW_apply (w : FVec Ideal S1024x8208 .f32) (k : Fin 1024) (n : Fin 8192) (n' : Fin 8208)
    (h : n'.val = if n.val < 4096 then n.val else n.val + 16) : mainW w (ix2 k n) = w (ix2 k n') := by
  pointwise [mainW]
  by_cases hn : n.val < 4096
  · rw [dif_pos hn]
    rw [if_pos hn] at h
    exact congrArg (fun z => w (ix2 k z)) (Fin.ext (by show n.val = n'.val; omega))
  · rw [dif_neg hn]
    rw [if_neg hn] at h
    exact congrArg (fun z => w (ix2 k z)) (Fin.ext (by show 4112 + (n.val - 4096) = n'.val; omega))

/-- A column of the gates is a gate's column of the weights in each lane's first eight, zero elsewhere. -/
theorem gateW_apply (w : FVec Ideal S1024x8208 .f32) (k : Fin 1024) (g : Fin 256) : gateW w (ix2 k g)
    = if h : g.val % 128 < 8 then w (ix2 k ⟨4096 + 8 * (g.val / 128) + g.val % 128, by omega⟩) else 0 := by
  pointwise [gateW, zeroP]
  rw [zero_eq]
  have hg : g.val < 256 := g.isLt
  split <;> split <;> split <;> first
    | rfl
    | (exfalso; omega)
    | exact congrArg (fun z => w (ix2 k z)) (Fin.ext (by dsimp only; omega))

/-! ## The reference, read down to its projections -/

/-- The reference's normalised row. -/
theorem v12_apply (x0 x1) (b : Fin 8) (s : Fin 2048) (k : Fin 1024) : val_main_v12 (F := Ideal) x0 x1 (ix3 b s k)
    = x0 (ix3 b s k) * Ideal.rsqrt (Ideal.div (∑ x : Fin 1024, x0 (ix3 b s x) * x0 (ix3 b s x)) (Ideal.ofBits FTy.f32 1149239296#32)
        + Ideal.ofBits FTy.f32 897988541#32) * x1 (ix1 k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

theorem v13_apply (x0 x1 x2) (b : Fin 8) (s : Fin 2048) (n : Fin 8208) : val_main_v13 (F := Ideal) x0 x1 x2 (ix3 b s n)
    = ∑ k : Fin 1024, val_main_v12 (F := Ideal) x0 x1 (ix3 b s k) * x2 (ix2 k n) := by
  pointwise [val_main_v13]

/-- The reference's projections, rows under one another: its product's columns but for the gates'. -/
theorem v23_apply (x0 x1 x2) (R : Fin 16384) (n : Fin 8192) (n' : Fin 8208) (hb : R.val / 2048 < 8) (hs : R.val % 2048 < 2048)
    (h : n'.val = if n.val < 4096 then n.val else n.val + 16) :
    val_main_v23 (F := Ideal) x0 x1 x2 (ix2 R n) = val_main_v13 (F := Ideal) x0 x1 x2 (ix3 ⟨R.val / 2048, hb⟩ ⟨R.val % 2048, hs⟩ n') := by
  pointwise [val_main_v23, val_main_v22, val_main_v18, val_main_v17, val_main_v14]
  by_cases hn : n.val < 4096
  · rw [dif_pos hn]
    rw [if_pos hn] at h
    exact congrArg (fun z => val_main_v13 (F := Ideal) x0 x1 x2 (ix3 _ _ z)) (Fin.ext (by show n.val = n'.val; omega))
  · rw [dif_neg hn]
    rw [if_neg hn] at h
    exact congrArg (fun z => val_main_v13 (F := Ideal) x0 x1 x2 (ix3 _ _ z)) (Fin.ext (by show 4112 + (n.val - 4096) = n'.val; omega))

/-- The reference's gates, padded and rows under one another: its product's columns in each lane's first eight, -/
theorem v24_gate (x0 x1 x2) (R : Fin 16384) (g : Fin 256) (hb : R.val / 2048 < 8) (hs : R.val % 2048 < 2048) (h : g.val % 128 < 8) :
    val_main_v24 (F := Ideal) x0 x1 x2 (ix2 R g)
      = val_main_v13 (F := Ideal) x0 x1 x2 (ix3 ⟨R.val / 2048, hb⟩ ⟨R.val % 2048, hs⟩ ⟨4096 + 8 * (g.val / 128) + g.val % 128, by omega⟩) := by
  have key : ∀ (z z' : Fin 8208), z.val = z'.val → val_main_v13 (F := Ideal) x0 x1 x2 (ix3 ⟨R.val / 2048, hb⟩ ⟨R.val % 2048, hs⟩ z)
      = val_main_v13 (F := Ideal) x0 x1 x2 (ix3 ⟨R.val / 2048, hb⟩ ⟨R.val % 2048, hs⟩ z') := fun z z' e => by rw [Fin.ext e]
  have hg : g.val < 256 := g.isLt
  pointwise [val_main_v24, val_main_v21, val_main_v20, val_main_v19, val_main_call1_v0, val_main_call0_v0, val_main_c, val_main_c_2, val_main_v16, val_main_v15]
  by_cases h1 : g.val < 128
  · rw [dif_pos h1, dif_pos ⟨hb, hs, by omega⟩]
    exact key _ _ (by dsimp only; omega)
  · rw [dif_neg h1, dif_pos ⟨hb, hs, by omega⟩]
    exact key _ _ (by dsimp only; omega)
/-- zero elsewhere. -/
theorem v24_pad (x0 x1 x2) (R : Fin 16384) (g : Fin 256) (h : ¬ g.val % 128 < 8) : val_main_v24 (F := Ideal) x0 x1 x2 (ix2 R g) = (0 : EReal) := by
  have hg : g.val < 256 := g.isLt
  pointwise [val_main_v24, val_main_v21, val_main_v20, val_main_v19, val_main_call1_v0, val_main_call0_v0, val_main_c, val_main_c_2, val_main_v16, val_main_v15]
  by_cases h1 : g.val < 128
  · rw [dif_pos h1, dif_neg (fun q => by have := q.2.2; omega)]
    exact zero_eq
  · rw [dif_neg h1, dif_neg (fun q => by have := q.2.2; omega)]
    exact zero_eq

/-! ## The blocks -/

theorem idx0 : ∀ t : Fin grid0.N, win0_0.index t = ![t.val / 4, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx5 : ∀ t : Fin grid0.N, win0_5.index t = ![t.val / 4, t.val % 4] := by decide +kernel
theorem idx6 : ∀ t : Fin grid0.N, win0_6.index t = ![t.val / 4, 0] := by decide +kernel
theorem off1_eq : ∀ t : Fin grid0.N, k0_off1 (grid0.coords t) = ![0, 2048 * (t.val % 4)] := by decide +kernel

/-- The rows of all sequences under one another. -/
theorem rows_apply (x : Vec Ideal S8x2048x1024 .f32) (R : Fin 16384) (k : Fin 1024) :
    shapeCast S16384x1024 x shapeCasts_S8x2048x1024_S16384x1024 (ix2 R k) = x (ix3 ⟨R.val / 2048, by omega⟩ ⟨R.val % 2048, by omega⟩ k) := by
  pointwise

theorem blk0 (c : Dev nD) (t : Fin cfg0.N) (r : Fin 1024) (k : Fin 1024) (b : Fin 8) (s : Fin 2048)
    (hb : 2048 * b.val + s.val = 1024 * (t.val / 4) + r.val) : iblk m c 0 t (ix2 r k) = aX m c (ix3 b s k) := by
  have ht : t.val < 64 := Nat.lt_of_lt_of_eq t.isLt N_0
  have e : ((cfg0.win 0).blk t).view.emb (ix2 r k) = (ix2 ⟨1024 * (t.val / 4) + r.val, by omega⟩ k : S16384x1024.Idx) := by
    blk_ext [idx0 t]
  show V m c main_v10 (((cfg0.win 0).blk t).view.emb (ix2 r k)) = _
  rw [e]
  refine ((congrFun (V_v10 m c) _).trans (rows_apply _ _ k)).trans ?_
  exact congrArg (aX m c) (congrArg₂ (fun a b => ix3 a b k) (Fin.ext (by show (1024 * (t.val / 4) + r.val) / 2048 = b.val; omega))
    (Fin.ext (by show (1024 * (t.val / 4) + r.val) % 2048 = s.val; omega)))
theorem blk1 (c : Dev nD) (t : Fin cfg0.N) (k : Fin 1024) : iblk m c 1 t (ix2 0 k) = aG m c (ix1 k) := by
  blk_simp [iblk]
  rw [V_v11]
  pointwise
  blk_ext [idx1 t]
theorem blk2 (c : Dev nD) (t : Fin cfg0.N) (k : Fin 1024) (n : Fin 8192) : iblk m c 2 t (ix2 k n) = mainW (aW m c) (ix2 k n) := by
  have e : ((cfg0.win 2).blk t).view.emb (ix2 k n) = (ix2 k n : S1024x8192.Idx) := by
    blk_ext [idx2 t]
  show V m c main_v3 (((cfg0.win 2).blk t).view.emb (ix2 k n)) = _
  rw [e]
  exact congrFun (V_v3 m c) _
theorem blk3 (c : Dev nD) (t : Fin cfg0.N) (k : Fin 1024) (n : Fin 256) : iblk m c 3 t (ix2 k n) = gateW (aW m c) (ix2 k n) := by
  have e : ((cfg0.win 3).blk t).view.emb (ix2 k n) = (ix2 k n : S1024x256.Idx) := by
    blk_ext [idx3 t]
  show V m c main_v9 (((cfg0.win 3).blk t).view.emb (ix2 k n)) = _
  rw [e]
  exact congrFun (V_v9 m c) _

/-! ## What a point computes -/

/-- A point's normalised rows are the reference's. -/
theorem hT_apply (c : Dev nD) (t : Fin cfg0.N) (r : Fin 1024) (k : Fin 1024) (b : Fin 8) (s : Fin 2048)
    (hb : 2048 * b.val + s.val = 1024 * (t.val / 4) + r.val) :
    hT m c t (ix2 r k) = val_main_v12 (F := Ideal) (aX m c) (aG m c) (ix3 b s k) := by
  rw [v12_apply]
  unfold hT
  pointwise [k0_pay2, k0_pay1]
  simp only [blk0 m c t r _ b s hb, blk1 m c t]

/-- The columns of the weights that the point reads. -/
theorem cols_apply (c : Dev nD) (t : Fin cfg0.N) (k : Fin 1024) (l : Fin 2048) (n : Fin 8192)
    (hn : n.val = 2048 * (t.val % 4) + l.val) :
    colsB (grid0.coords t) (iblk m c 2 t) (ix2 k l) = mainW (aW m c) (ix2 k n) := by
  unfold colsB
  pointwise
  rw [← blk2 m c t k n]
  refine congrArg (iblk m c 2 t) ?_
  have e := off1_eq t
  refine congrArg₂ ix2 (Fin.ext ?_) (Fin.ext ?_)
  · show k0_off1 _ 0 + k.val = k.val
    rw [congrFun e 0]; exact Nat.zero_add _
  · show k0_off1 _ 1 + l.val = n.val
    rw [congrFun e 1, hn]; rfl

/-- A projection of a point's rows is the reference's at the tile's place. -/
theorem proj_apply (c : Dev nD) (t : Fin cfg0.N) (r : Fin 1024) (l : Fin 2048) (b : Fin 8) (s : Fin 2048)
    (hb : 2048 * b.val + s.val = 1024 * (t.val / 4) + r.val) (n : Fin 8192) (hn : n.val = 2048 * (t.val % 4) + l.val)
    (n' : Fin 8208) (h : n'.val = if n.val < 4096 then n.val else n.val + 16) :
    (∑ x : Fin 1024, hT m c t (ix2 r x) * colsB (grid0.coords t) (iblk m c 2 t) (ix2 x l))
      = val_main_v13 (F := Ideal) (aX m c) (aG m c) (aW m c) (ix3 b s n') := by
  rw [v13_apply]
  refine Finset.sum_congr rfl fun x _ => ?_
  rw [hT_apply m c t r x b s hb, cols_apply m c t x l n hn, mainW_apply _ x n n' h]

/-- The column of the weights that the projections' column stands for. -/
abbrev col (n : Fin 8192) : Fin 8208 := ⟨if n.val < 4096 then n.val else n.val + 16, by split <;> omega⟩

theorem mainT_apply (c : Dev nD) (t : Fin cfg0.N) (r : Fin 1024) (l : Fin 2048) (R : Fin 16384) (n : Fin 8192)
    (hR : R.val = 1024 * (t.val / 4) + r.val) (hn : n.val = 2048 * (t.val % 4) + l.val) :
    mainT m c t (ix2 r l) = val_main_v23 (F := Ideal) (aX m c) (aG m c) (aW m c) (ix2 R n) := by
  rw [v23_apply _ _ _ R n (col n) (by omega) (by omega) rfl]
  unfold mainT mainB
  pointwise [k0_pay4]
  exact proj_apply m c t r l _ _ (by show 2048 * (R.val / 2048) + R.val % 2048 = _; omega) n hn _ rfl

theorem gT_apply (c : Dev nD) (t : Fin cfg0.N) (r : Fin 1024) (g : Fin 256) (R : Fin 16384)
    (hR : R.val = 1024 * (t.val / 4) + r.val) :
    gT m c t (ix2 r g) = val_main_v24 (F := Ideal) (aX m c) (aG m c) (aW m c) (ix2 R g) := by
  have eh : ∀ k : Fin 1024, k0_pay1 (iblk m c 0 t) (iblk m c 1 t) (ix2 r k)
      = val_main_v12 (F := Ideal) (aX m c) (aG m c) (ix3 ⟨R.val / 2048, by omega⟩ ⟨R.val % 2048, by omega⟩ k) := fun k =>
    Eq.trans (by unfold hT; pointwise [k0_pay2]) (hT_apply m c t r k ⟨R.val / 2048, by omega⟩ ⟨R.val % 2048, by omega⟩
      (by show 2048 * (R.val / 2048) + R.val % 2048 = _; omega))
  unfold gT
  pointwise [k0_pay3]
  simp only [eh, blk3 m c t]
  by_cases h : g.val % 128 < 8
  · rw [v24_gate _ _ _ R g (by omega) (by omega) h, v13_apply]
    refine Finset.sum_congr rfl fun x _ => ?_
    rw [gateW_apply, dif_pos h]
  · refine Eq.trans ?_ (v24_pad _ _ _ R g h).symm
    refine (Finset.sum_congr rfl fun x _ => ?_).trans Finset.sum_const_zero
    rw [gateW_apply, dif_neg h]
    exact mul_zero _

/-! ## The result arrays -/

theorem final5 (c : Dev nD) : (dats m 0 c).arrAt 5 cfg0.N = val_main_v23 (F := Ideal) (aX m c) (aG m c) (aW m c) := by
  refine (dats m 0 c).arrAt_eq_of_covers 5 _ (by decide +kernel) fun t hf y => ?_
  have ht : t.val < 64 := Nat.lt_of_lt_of_eq t.isLt N_0
  blk_simp
  rw [after_5]
  revert y
  show ∀ y : S1024x2048.Idx, _
  intro y
  idx_vars y
  have e : ((win0_5.blk t).view.emb (ix2 y0 y1)) = (ix2 ⟨1024 * (t.val / 4) + y0.val, by omega⟩ ⟨2048 * (t.val % 4) + y1.val, by omega⟩ : S16384x8192.Idx) := by
    blk_ext [idx5 t]
  rw [e]
  exact mainT_apply m c t y0 y1 _ _ rfl rfl

theorem final6 (c : Dev nD) : (dats m 0 c).arrAt 6 cfg0.N = val_main_v24 (F := Ideal) (aX m c) (aG m c) (aW m c) := by
  refine (dats m 0 c).arrAt_eq_of_covers 6 _ (by decide +kernel) fun t hf y => ?_
  have ht : t.val < 64 := Nat.lt_of_lt_of_eq t.isLt N_0
  blk_simp
  rw [after_6]
  revert y
  show ∀ y : S1024x256.Idx, _
  intro y
  idx_vars y
  have e : ((win0_6.blk t).view.emb (ix2 y0 y1)) = (ix2 ⟨1024 * (t.val / 4) + y0.val, by omega⟩ y1 : S16384x256.Idx) := by
    blk_ext [idx6 t]
  rw [e]
  exact gT_apply m c t y0 y1 _ rfl

/-- The run, read: the two results at the reference's, the arguments unchanged. -/
theorem run : θ_run defs (onTc (τ := τ) (main (F := Ideal))) ⟨m, fun _ => 0, ρ⟩ (fun r => ∀ c : Dev nD,
      r.2.mem ((c.tc : Thread nD τ).loc main_v14_0) = val_main_v23 (F := Ideal) (aX m c) (aG m c) (aW m c)
      ∧ r.2.mem ((c.tc : Thread nD τ).loc main_v14_1) = val_main_v24 (F := Ideal) (aX m c) (aG m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.2 c).1 5).trans (final5 m c), ((h.2 c).1 6).trans (final6 m c), h.1 c⟩)
    (θ_run_and (frame_of m ρ (dats m) (A_eq m) ((θ_run defs _ _).mono (fun _ h => h.1) (run_main m ρ)))
      ((θ_run defs _ _).mono (fun _ h => h.1) (run_main m ρ)))

end Cert.MProjIdeal.Proj

end
-- ==== Proof.MProjClaim.lean ====
/- The claims about the memory layer's projection kernel and its reference: frames, idealization and value. -/
module

public import proofs.«01_k».proof.Defs
public import proofs.«01_k».proof.Proof.MProjValue
public import proofs.«01_k».proof.Proof.Gen.MProj
public import Idealize.ShloMosaic.Init

@[expose] public section

noncomputable section

namespace Cert.Proof.MProj

open Idealize.ShloMosaic Idealize.ShloMosaic.TcCoe Idealize.SL.Sem
open Cert.MProjIdeal.Proj

/-- The kernel and its idealization are one text: the body tables agree, -/
theorem bodies_eq : @Cert.MProj.defs₀ Bits _ _ = @Cert.MProjIdeal.defs₀ Bits _ _ := by
  unfold Cert.MProj.defs₀ Cert.MProjIdeal.defs₀
  refine congrArg Defs.onTc ?_
  funext l x
  match l, x with
  | 0, (t, s) => rfl

/-- hence the whole tables. -/
theorem defs_eq : @Cert.MProj.defs Bits _ _ = @Cert.MProjIdeal.defs Bits _ _ :=
  congrArg (Pipeline.defs Cert.MProjIdeal.pcfgs) bodies_eq

/-- So one run serves both: read bit by bit -/
theorem frame_kernel : Cert.quiescent_MProj := fun m ρ _ => by
  rw [defs_eq]
  exact Cert.MProjIdeal.Proj.frame (F := Bits) m ρ

/-- and over the extended reals. -/
theorem frame_ideal : Cert.quiescent_MProjIdeal := fun m ρ _ => Cert.MProjIdeal.Proj.frame (F := Ideal) m ρ

/-- The reference's frame: its run read at the arguments; it has no semaphore. -/
theorem frame_reference : Cert.quiescent_MProjRefIdeal := fun m ρ _ =>
  (θ_run Cert.MProjRefIdeal.defs _ _).mono (fun r h => ⟨fun c => (h c).2.2,
      Idealize.ShloMosaic.sem_eq_zero_of_no_sems (by decide) r.2⟩)
    (Cert.MProjRefIdeal.Value.run (F := Ideal) m ρ)

theorem preserves : Cert.preserves_MProj_MProjIdeal := trivial

/-- Over the extended reals the kernel's results are the reference's. -/
theorem algebraic : Cert.algebraic_MProjIdeal_MProjRefIdeal := by
  intro m ρ m' ρ' _ hag
  refine ⟨fun c => Cert.MProjRefIdeal.Read.val_main_v23 (F := Ideal) (aX m c) (aG m c) (aW m c),
    fun c => Cert.MProjRefIdeal.Read.val_main_v24 (F := Ideal) (aX m c) (aG m c) (aW m c), run m ρ, ?_⟩
  refine (θ_run Cert.MProjRefIdeal.defs _ _).mono (fun _ h c => ⟨(h c).1.trans ?_, (h c).2.1.trans ?_, (h c).2.2⟩)
    (Cert.MProjRefIdeal.Value.run (F := Ideal) m' ρ')
  · rw [Cert.MProjRefIdeal.Read.val_main_v23_eq, (hag c).1, (hag c).2.1, (hag c).2.2]
  · rw [Cert.MProjRefIdeal.Read.val_main_v24_eq, (hag c).1, (hag c).2.1, (hag c).2.2]

end Cert.Proof.MProj

end
-- ==== Proof.OutClaim.lean ====
/- The output kernel's values over the extended reals: every row tile a grid point writes is the reference's
   expression at the tile's place, so the two result arrays are the reference's. -/
module

public import proofs.«01_k».proof.Defs
public import proofs.«01_k».proof.Proof.Gen.Out.Frame
public import proofs.«01_k».proof.Proof.Gen.OutIdeal.Value
public import proofs.«01_k».proof.Proof.Gen.OutRefIdeal.Read
public import Idealize.ShloMosaic.Lib.Pointwise
public import Idealize.ShloMosaic.Lib.Pipeline.ValueKit

@[expose] public section

set_option maxRecDepth 16384

noncomputable section
namespace Cert.OutIdeal.Embed

open Idealize.ShloMosaic Idealize.ShloMosaic.TcCoe Idealize.ShloMosaic.Tactic
open Idealize.SL.Sem
open Idealize.ShloMosaic.Pipeline (Dat Cfg Window)

open Cert.OutIdeal.Gen
open Cert.OutRefIdeal.Read

variable (m : (ℓ : Loc nD τ sig) → Buf (Elt Ideal) ℓ) (ρ : Dev nD → PrngReg)

/-! ## The argument arrays -/

/-- The mixer's activations, -/
abbrev aA (c : Dev nD) : Vec Ideal Cert.OutRefIdeal.S16384x2048 .bf16 := m ((c : Thread nD τ).loc main_arg0)
/-- the residual stream, -/
abbrev aX (c : Dev nD) : Vec Ideal Cert.OutRefIdeal.S8x2048x1024 .f32 := m ((c : Thread nD τ).loc main_arg1)
/-- the per-layer inputs of all layers, -/
abbrev aP (c : Dev nD) : Vec Ideal Cert.OutRefIdeal.S4x8x2048x256 .f32 := m ((c : Thread nD τ).loc main_arg2)
/-- the output projection, -/
abbrev aO (c : Dev nD) : Vec Ideal Cert.OutRefIdeal.S2048x1024 .f32 := m ((c : Thread nD τ).loc main_arg3)
/-- the embedding's projection -/
abbrev aE (c : Dev nD) : Vec Ideal Cert.OutRefIdeal.S256x1024 .f32 := m ((c : Thread nD τ).loc main_arg4)
/-- and its gate's, -/
abbrev aT (c : Dev nD) : Vec Ideal Cert.OutRefIdeal.S1024x1024 .f32 := m ((c : Thread nD τ).loc main_arg5)
/-- the gate's norm -/
abbrev aG (c : Dev nD) : Vec Ideal Cert.OutRefIdeal.S1024 .f32 := m ((c : Thread nD τ).loc main_arg6)
/-- and the final norm. -/
abbrev aN (c : Dev nD) : Vec Ideal Cert.OutRefIdeal.S1024 .f32 := m ((c : Thread nD τ).loc main_arg7)

/-! ## The reference, read down to its named parts -/

/-- The residual sum. -/
theorem v3_apply (x0 x1 x3) (b : Fin 8) (s : Fin 2048) (j : Fin 1024) : val_main_v3 (F := Ideal) x0 x1 x3 (ix3 b s j)
    = x1 (ix3 b s j) + ∑ d : Fin 2048, x0 (ix2 ⟨b.val * 2048 + s.val, by omega⟩ d) * x3 (ix2 d j) := by
  pointwise [val_main_v3, val_main_v2, val_main_v1, val_main_v0]

/-- The normalised residual sum. -/
theorem v18_apply (x0 x1 x3 x6) (b : Fin 8) (s : Fin 2048) (k : Fin 1024) : val_main_v18 (F := Ideal) x0 x1 x3 x6 (ix3 b s k)
    = val_main_v3 (F := Ideal) x0 x1 x3 (ix3 b s k)
      * Ideal.rsqrt (Ideal.div (∑ x : Fin 1024, val_main_v3 (F := Ideal) x0 x1 x3 (ix3 b s x) * val_main_v3 (F := Ideal) x0 x1 x3 (ix3 b s x)) (Ideal.ofBits FTy.f32 1149239296#32)
        + Ideal.ofBits FTy.f32 897988541#32) * x6 (ix1 k) := by
  pointwise [val_main_v18, val_main_v17, val_main_v16, val_main_v15, val_main_v14, val_main_v13, val_main_v12, val_main_v11, val_main_v10,
    val_main_v9, val_main_v8, val_main_v7, val_main_v6, val_main_cst, val_main_cst_0, val_main_cst_1]

/-- The stream after the embedding is added. -/
theorem v28_apply (x0 x1 x2 x3 x4 x5 x6) (b : Fin 8) (s : Fin 2048) (j : Fin 1024) : val_main_v28 (F := Ideal) x0 x1 x2 x3 x4 x5 x6 (ix3 b s j)
    = val_main_v3 (F := Ideal) x0 x1 x3 (ix3 b s j) + (∑ e : Fin 256, x2 (ix4 3 b s e) * x4 (ix2 e j))
      * Ideal.div 1 (1 + Ideal.exp (-(∑ k : Fin 1024, val_main_v18 (F := Ideal) x0 x1 x3 x6 (ix3 b s k) * x5 (ix2 k j)))) := by
  pointwise [val_main_v28, val_main_v27, val_main_v26, val_main_v25, val_main_v24, val_main_v23, val_main_v22, val_main_v21,
    val_main_v20, val_main_v19, val_main_v5, val_main_v4, val_main_cst_2, val_main_cst_3]

theorem v29_apply (x0 x1 x2 x3 x4 x5 x6) (R : Fin 16384) (j : Fin 1024) : val_main_v29 (F := Ideal) x0 x1 x2 x3 x4 x5 x6 (ix2 R j)
    = val_main_v28 (F := Ideal) x0 x1 x2 x3 x4 x5 x6 (ix3 ⟨R.val / 2048, by omega⟩ ⟨R.val % 2048, by omega⟩ j) := by
  pointwise [val_main_v29]

theorem v43_apply (x0 x1 x2 x3 x4 x5 x6 x7) (R : Fin 16384) (j : Fin 1024) (hb : R.val / 2048 < 8) (hs : R.val % 2048 < 2048) :
    val_main_v43 (F := Ideal) x0 x1 x2 x3 x4 x5 x6 x7 (ix2 R j)
    = val_main_v28 (F := Ideal) x0 x1 x2 x3 x4 x5 x6 (ix3 ⟨R.val / 2048, hb⟩ ⟨R.val % 2048, hs⟩ j)
      * Ideal.rsqrt (Ideal.div (∑ x : Fin 1024, val_main_v28 (F := Ideal) x0 x1 x2 x3 x4 x5 x6 (ix3 ⟨R.val / 2048, hb⟩ ⟨R.val % 2048, hs⟩ x)
          * val_main_v28 (F := Ideal) x0 x1 x2 x3 x4 x5 x6 (ix3 ⟨R.val / 2048, hb⟩ ⟨R.val % 2048, hs⟩ x)) (Ideal.ofBits FTy.f32 1149239296#32)
        + Ideal.ofBits FTy.f32 897988541#32) * x7 (ix1 j) := by
  pointwise [val_main_v43, val_main_v42, val_main_v41, val_main_v40, val_main_v39, val_main_v38, val_main_v37, val_main_v36, val_main_v35,
    val_main_v34, val_main_v33, val_main_v32, val_main_v31, val_main_v30, val_main_cst_4, val_main_cst_5, val_main_cst_6]

/-! ## The blocks a point reads -/

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![3, t.val, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![t.val, 0] := by decide +kernel
theorem idx9 : ∀ t : Fin grid0.N, win0_9.index t = ![t.val, 0] := by decide +kernel

theorem V_v0 (c : Dev nD) : V m c main_v0 = shapeCast S16384x1024 (m ((c : Thread nD τ).loc main_arg1)) shapeCasts_S8x2048x1024_S16384x1024 := rfl
theorem V_v1 (c : Dev nD) : V m c main_v1 = shapeCast S4x16384x256 (m ((c : Thread nD τ).loc main_arg2)) shapeCasts_S4x8x2048x256_S4x16384x256 := rfl
theorem V_v5 (c : Dev nD) : V m c main_v5 = shapeCast S1x1024 (m ((c : Thread nD τ).loc main_arg6)) shapeCasts_S1024_S1x1024 := rfl
theorem V_v6 (c : Dev nD) : V m c main_v6 = shapeCast S1x1024 (m ((c : Thread nD τ).loc main_arg7)) shapeCasts_S1024_S1x1024 := rfl

theorem rows_apply (x : Vec Ideal S8x2048x1024 .f32) (R : Fin 16384) (k : Fin 1024) :
    shapeCast S16384x1024 x shapeCasts_S8x2048x1024_S16384x1024 (ix2 R k) = x (ix3 ⟨R.val / 2048, by omega⟩ ⟨R.val % 2048, by omega⟩ k) := by
  pointwise
theorem layers_apply (x : Vec Ideal S4x8x2048x256 .f32) (l : Fin 4) (R : Fin 16384) (k : Fin 256) :
    shapeCast S4x16384x256 x shapeCasts_S4x8x2048x256_S4x16384x256 (ix3 l R k) = x (ix4 l ⟨R.val / 2048, by omega⟩ ⟨R.val % 2048, by omega⟩ k) := by
  pointwise
theorem gain_apply (x : Vec Ideal S1024 .f32) (k : Fin 1024) :
    shapeCast S1x1024 x shapeCasts_S1024_S1x1024 (ix2 0 k) = x (ix1 k) := by
  pointwise

/-- The row of the whole batch that a point's row `r` is. -/
abbrev row (t : Fin cfg0.N) (r : Fin 1024) : Fin 16384 := ⟨1024 * t.val + r.val, by have := Nat.lt_of_lt_of_eq t.isLt N_0; omega⟩

theorem blk0 (c : Dev nD) (t : Fin cfg0.N) (r : Fin 1024) (k : Fin 2048) : iblk m c 0 t (ix2 r k) = aA m c (ix2 (row t r) k) := by
  blk_ext! [iblk, V, idx0 t]
theorem blk1 (c : Dev nD) (t : Fin cfg0.N) (r k : Fin 1024) :
    iblk m c 1 t (ix2 r k) = aX m c (ix3 ⟨(row t r).val / 2048, by omega⟩ ⟨(row t r).val % 2048, by omega⟩ k) := by
  have e : ((cfg0.win 1).blk t).view.emb (ix2 r k) = (ix2 (row t r) k : S16384x1024.Idx) := by
    blk_ext [idx1 t]
  show V m c main_v0 (((cfg0.win 1).blk t).view.emb (ix2 r k)) = _
  rw [e]
  exact (congrFun (V_v0 m c) _).trans (rows_apply _ _ k)
theorem blk2 (c : Dev nD) (t : Fin cfg0.N) (r : Fin 1024) (k : Fin 256) :
    iblk m c 2 t (ix3 0 r k) = aP m c (ix4 3 ⟨(row t r).val / 2048, by omega⟩ ⟨(row t r).val % 2048, by omega⟩ k) := by
  have e : ((cfg0.win 2).blk t).view.emb (ix3 0 r k) = (ix3 3 (row t r) k : S4x16384x256.Idx) := by
    blk_ext [idx2 t]
  show V m c main_v1 (((cfg0.win 2).blk t).view.emb (ix3 0 r k)) = _
  rw [e]
  exact (congrFun (V_v1 m c) _).trans (layers_apply _ 3 _ k)
theorem blk3 (c : Dev nD) (t : Fin cfg0.N) (k : Fin 2048) (n : Fin 1024) : iblk m c 3 t (ix2 k n) = aO m c (ix2 k n) := by
  blk_ext! [iblk, V, idx3 t]
theorem blk4 (c : Dev nD) (t : Fin cfg0.N) (k : Fin 256) (n : Fin 1024) : iblk m c 4 t (ix2 k n) = aE m c (ix2 k n) := by
  blk_ext! [iblk, V, idx4 t]
theorem blk5 (c : Dev nD) (t : Fin cfg0.N) (k n : Fin 1024) : iblk m c 5 t (ix2 k n) = aT m c (ix2 k n) := by
  blk_ext! [iblk, V, idx5 t]
theorem blk6 (c : Dev nD) (t : Fin cfg0.N) (k : Fin 1024) : iblk m c 6 t (ix2 0 k) = aG m c (ix1 k) := by
  have e : ((cfg0.win 6).blk t).view.emb (ix2 0 k) = (ix2 0 k : S1x1024.Idx) := by
    blk_ext [idx6 t]
  show V m c main_v5 (((cfg0.win 6).blk t).view.emb (ix2 0 k)) = _
  rw [e]
  exact (congrFun (V_v5 m c) _).trans (gain_apply _ k)
theorem blk7 (c : Dev nD) (t : Fin cfg0.N) (k : Fin 1024) : iblk m c 7 t (ix2 0 k) = aN m c (ix1 k) := by
  have e : ((cfg0.win 7).blk t).view.emb (ix2 0 k) = (ix2 0 k : S1x1024.Idx) := by
    blk_ext [idx7 t]
  show V m c main_v6 (((cfg0.win 7).blk t).view.emb (ix2 0 k)) = _
  rw [e]
  exact (congrFun (V_v6 m c) _).trans (gain_apply _ k)

/-! ## What a point computes -/

/-- The stream after the embedding, on the point's rows. -/
def xT (c : Dev nD) (t : Fin cfg0.N) : Vec Ideal S1024x1024 .f32 :=
  k0_pay2 (iblk m c 0 t) (iblk m c 3 t) (iblk m c 1 t) (iblk m c 6 t) (iblk m c 5 t) (iblk m c 2 t) (iblk m c 4 t)

/-- The stream after the embedding on one row, from blocks that hold the row's data. -/
theorem pay2_apply (A : Vec Ideal S1024x2048 .bf16) (O : Vec Ideal S2048x1024 .bf16) (X : Vec Ideal S1024x1024 .f32) (G : Vec Ideal S1x1024 .f32)
    (T : Vec Ideal S1024x1024 .bf16) (P : Vec Ideal S1x1024x256 .f32) (E : Vec Ideal S256x1024 .bf16) (x0 x1 x2 x3 x4 x5 x6)
    (b : Fin 8) (s : Fin 2048) (r j : Fin 1024) (hR : b.val * 2048 + s.val < 16384)
    (hA : ∀ d, A (ix2 r d) = x0 (ix2 ⟨b.val * 2048 + s.val, hR⟩ d)) (hO : ∀ d k, O (ix2 d k) = x3 (ix2 d k))
    (hX : ∀ k, X (ix2 r k) = x1 (ix3 b s k)) (hG : ∀ k, G (ix2 0 k) = x6 (ix1 k)) (hT : ∀ k n, T (ix2 k n) = x5 (ix2 k n))
    (hP : ∀ e, P (ix3 0 r e) = x2 (ix4 3 b s e)) (hE : ∀ e n, E (ix2 e n) = x4 (ix2 e n)) :
    k0_pay2 A O X G T P E (ix2 r j) = val_main_v28 (F := Ideal) x0 x1 x2 x3 x4 x5 x6 (ix3 b s j) := by
  rw [v28_apply]
  simp only [v18_apply, v3_apply]
  pointwise [k0_pay2]
  simp only [hA, hO, hX, hG, hT, hP, hE]
  rfl

theorem xT_apply (c : Dev nD) (t : Fin cfg0.N) (r j : Fin 1024) : xT m c t (ix2 r j)
    = val_main_v28 (F := Ideal) (aA m c) (aX m c) (aP m c) (aO m c) (aE m c) (aT m c) (aG m c)
        (ix3 ⟨(row t r).val / 2048, by omega⟩ ⟨(row t r).val % 2048, by omega⟩ j) :=
  pay2_apply _ _ _ _ _ _ _ _ _ _ _ _ _ _ _ _ r j (by show (row t r).val / 2048 * 2048 + (row t r).val % 2048 < 16384; omega)
    (fun d => (blk0 m c t r d).trans (congrArg (fun z => aA m c (ix2 z d)) (Fin.ext (by
      show (row t r).val = (row t r).val / 2048 * 2048 + (row t r).val % 2048; omega))))
    (blk3 m c t) (blk1 m c t r) (blk6 m c t) (blk5 m c t) (blk2 m c t r) (blk4 m c t)

/-- The final norm of the point's rows. -/
theorem yT_apply (c : Dev nD) (t : Fin cfg0.N) (r j : Fin 1024) : k0_pay1 (xT m c t) (iblk m c 7 t) (ix2 r j)
    = val_main_v43 (F := Ideal) (aA m c) (aX m c) (aP m c) (aO m c) (aE m c) (aT m c) (aG m c) (aN m c) (ix2 (row t r) j) := by
  rw [v43_apply _ _ _ _ _ _ _ _ (row t r) j (by omega) (by omega)]
  pointwise [k0_pay1]
  simp only [xT_apply m c t r, blk7 m c t]

/-! ## The result arrays -/

theorem z2 : (![0, 0] : Fin 2 → Nat) = fun _ => 0 := funext fun a => by fin_cases a <;> rfl
theorem z3 : (![0, 0, 0] : Fin 3 → Nat) = fun _ => 0 := funext fun a => by fin_cases a <;> rfl

theorem ld0 (x : Vec Ideal S1024x2048 .bf16) : View.ld x r0_0 = x := View.ld_unit_zero (S := S1024x2048) z2 _ x
theorem ld1 (x : Vec Ideal S2048x1024 .bf16) : View.ld x r0_1 = x := View.ld_unit_zero (S := S2048x1024) z2 _ x
theorem ld2 (e : EltTy) (x : Vec Ideal S1024x1024 e) : View.ld x r0_2 = x := View.ld_unit_zero (S := S1024x1024) z2 _ x
theorem ld3 (x : Vec Ideal S1x1024 .f32) : View.ld x r0_3 = x := View.ld_unit_zero (S := S1x1024) z2 _ x
theorem ld4 (x : Vec Ideal S1x1024x256 .f32) : View.ld x r0_4 = x := View.ld_unit_zero (S := S1x1024x256) z3 _ x
theorem ld5 (x : Vec Ideal S256x1024 .bf16) : View.ld x r0_5 = x := View.ld_unit_zero (S := S256x1024) z2 _ x

/-- What the body leaves in the first result's block is one store's payload, -/
theorem out8_eq (x0 x1 x2 x3 x4 x5 x6 x7) : out0_8 (F := Ideal) x0 x1 x2 x3 x4 x5 x6 x7 = k0_pay2 x0 x3 x1 x6 x5 x2 x4 := by
  unfold out0_8
  rw [ld0, ld1, ld2, ld2, ld3, ld4, ld5]
  exact View.canon_cons_unit_zero (S := S1024x1024) z2 _ _ _
/-- and so in the second's. -/
theorem out9_eq (x0 x1 x2 x3 x4 x5 x6 x7) : out0_9 (F := Ideal) x0 x1 x2 x3 x4 x5 x6 x7 = k0_pay1 (k0_pay2 x0 x3 x1 x6 x5 x2 x4) x7 := by
  unfold out0_9
  rw [ld0, ld1, ld2, ld2, ld3, ld3, ld4, ld5]
  exact View.canon_cons_unit_zero (S := S1024x1024) z2 _ _ _

theorem final8 (c : Dev nD) : (dats m 0 c).arrAt 8 cfg0.N
    = val_main_v29 (F := Ideal) (aA m c) (aX m c) (aP m c) (aO m c) (aE m c) (aT m c) (aG m c) := by
  refine (dats m 0 c).arrAt_eq_of_covers 8 _ (by decide +kernel) fun t hf y => ?_
  have ht : t.val < 16 := Nat.lt_of_lt_of_eq t.isLt N_0
  blk_simp
  rw [after0_8, out8_eq]
  revert y
  show ∀ y : S1024x1024.Idx, _
  intro y
  idx_vars y
  have e : ((win0_8.blk t).view.emb (ix2 y0 y1)) = (ix2 (row t y0) y1 : S16384x1024.Idx) := by
    blk_ext [idx8 t]
  rw [e, v29_apply]
  exact xT_apply m c t y0 y1

theorem final9 (c : Dev nD) : (dats m 0 c).arrAt 9 cfg0.N
    = val_main_v43 (F := Ideal) (aA m c) (aX m c) (aP m c) (aO m c) (aE m c) (aT m c) (aG m c) (aN m c) := by
  refine (dats m 0 c).arrAt_eq_of_covers 9 _ (by decide +kernel) fun t hf y => ?_
  have ht : t.val < 16 := Nat.lt_of_lt_of_eq t.isLt N_0
  blk_simp
  rw [after0_9, out9_eq]
  revert y
  show ∀ y : S1024x1024.Idx, _
  intro y
  idx_vars y
  have e : ((win0_9.blk t).view.emb (ix2 y0 y1)) = (ix2 (row t y0) y1 : S16384x1024.Idx) := by
    blk_ext [idx9 t]
  rw [e]
  exact yT_apply m c t y0 y1

end Cert.OutIdeal.Embed

namespace Cert.Proof.Out

open Idealize.ShloMosaic Idealize.ShloMosaic.TcCoe Idealize.SL.Sem
open Cert.OutIdeal.Embed Cert.OutRefIdeal.Read

theorem frame_kernel : Cert.quiescent_Out := fun m ρ _ => Cert.Out.Gen.frame m ρ
theorem frame_ideal : Cert.quiescent_OutIdeal := fun m ρ _ => Cert.OutIdeal.Gen.frame m ρ

/-- The reference's frame: its run read at the arguments; it has no semaphore. -/
theorem frame_reference : Cert.quiescent_OutRefIdeal := fun m ρ _ =>
  (θ_run Cert.OutRefIdeal.defs _ _).mono (fun r h => ⟨fun c => (h c).2.2,
      Idealize.ShloMosaic.sem_eq_zero_of_no_sems (by decide) r.2⟩)
    (Cert.OutRefIdeal.Value.run (F := Ideal) m ρ)

theorem preserves : Cert.preserves_Out_OutIdeal := trivial

/-- Both results agree over the extended reals. -/
theorem algebraic : Cert.algebraic_OutIdeal_OutRefIdeal := by
  intro m ρ m' ρ' _ hag
  refine ⟨fun c => val_main_v29 (F := Ideal) (aA m c) (aX m c) (aP m c) (aO m c) (aE m c) (aT m c) (aG m c),
    fun c => val_main_v43 (F := Ideal) (aA m c) (aX m c) (aP m c) (aO m c) (aE m c) (aT m c) (aG m c) (aN m c), ?_, ?_⟩
  · exact (θ_run Cert.OutIdeal.defs _ _).mono (fun _ h c => ⟨(h c).1.trans (final8 m c), (h c).2.1.trans (final9 m c), (h c).2.2⟩)
      (Cert.OutIdeal.Value.run_blocks m ρ)
  refine (θ_run Cert.OutRefIdeal.defs _ _).mono (fun _ h c => ⟨(h c).1.trans ?_, (h c).2.1.trans ?_, (h c).2.2⟩)
    (Cert.OutRefIdeal.Value.run (F := Ideal) m' ρ')
  · obtain ⟨h0, h1, h2, h3, h4, h5, h6, h7⟩ := hag c
    rw [val_main_v29_eq, h0, h1, h2, h3, h4, h5, h6]
  · obtain ⟨h0, h1, h2, h3, h4, h5, h6, h7⟩ := hag c
    rw [val_main_v43_eq, h0, h1, h2, h3, h4, h5, h6, h7]

end Cert.Proof.Out

end
-- ==== Proof.Prefix.lean ====
/- Prefix sums over the rows of a sequence, as the reference's windowed sum computes them. -/
module

public import Idealize.ShloMosaic.Lib.Pointwise
public import Idealize.ShloMosaic.Lib.IdealHost

@[expose] public section

set_option maxRecDepth 16384

noncomputable section
namespace Cert.Prefix

open Idealize.ShloMosaic

/-- A fold of additions is the start plus the sum. -/
theorem foldl_add {α : Type} (L : List α) (g : α → EReal) (a : EReal) : L.foldl (fun r n => r + g n) a = a + (L.map g).sum := by
  induction L generalizing a with
  | nil => simp
  | cons x L ih => rw [List.foldl_cons, ih, List.map_cons, List.sum_cons, add_assoc]

/-- The window's positions are the numbers below its height. -/
theorem win_symm (n : Fin (⟨3, ![1, 2048, 1]⟩ : Shape).numel) :
    ((⟨3, ![1, 2048, 1]⟩ : Shape).rowMajor.symm n 0).val = 0 ∧ ((⟨3, ![1, 2048, 1]⟩ : Shape).rowMajor.symm n 1).val = n.val
      ∧ ((⟨3, ![1, 2048, 1]⟩ : Shape).rowMajor.symm n 2).val = 0 := by
  have h := Shape.rowMajor_val_three ((⟨3, ![1, 2048, 1]⟩ : Shape).rowMajor.symm n)
  rw [Equiv.apply_symm_apply] at h
  have h0 : ((⟨3, ![1, 2048, 1]⟩ : Shape).rowMajor.symm n 0).val < 1 := ((⟨3, ![1, 2048, 1]⟩ : Shape).rowMajor.symm n 0).isLt
  have h2 : ((⟨3, ![1, 2048, 1]⟩ : Shape).rowMajor.symm n 2).val < 1 := ((⟨3, ![1, 2048, 1]⟩ : Shape).rowMajor.symm n 2).isLt
  have e : n.val = (((⟨3, ![1, 2048, 1]⟩ : Shape).rowMajor.symm n 0).val * 2048 + ((⟨3, ![1, 2048, 1]⟩ : Shape).rowMajor.symm n 1).val) * 1
    + ((⟨3, ![1, 2048, 1]⟩ : Shape).rowMajor.symm n 2).val := h
  omega

/-- A sum over a window padded below is the sum of the entries up to its last. -/
theorem sum_window (f : ℕ → EReal) (s : ℕ) (hs : s < 2048) :
    ∑ n ∈ Finset.range 2048, (if 2047 ≤ s + n then f (s + n - 2047) else 0) = ∑ n ∈ Finset.range (s + 1), f n := by
  have e : 2048 = (2047 - s) + (s + 1) := by omega
  rw [e, Finset.sum_range_add, Finset.sum_eq_zero, zero_add]
  · refine Finset.sum_congr rfl fun n hn => ?_
    rw [if_pos (by omega)]
    congr 1
    omega
  · intro n hn
    have := Finset.mem_range.1 hn
    rw [if_neg (by omega)]

/-- Prefix sums over the rows of a sequence: a window of all rows, padded before the first one. -/
theorem window_apply (X : FVec Ideal ⟨3, ![8, 2048, 128]⟩ .f32) (z : FVec Ideal ⟨0, ![]⟩ .f32) (hR hS) (hz : ∀ i, z i = 0) (b : Fin 8) (s : Fin 2048) (j : Fin 128) :
    Host.reduceWindowAdd (F := Ideal) (s := ⟨3, ![8, 2048, 128]⟩) (t := ⟨3, ![8, 2048, 128]⟩) ![1, 2048, 1] ![1, 1, 1] ![0, 2047, 0] ![0, 0, 0] X z hR hS (ix3 b s j)
      = ∑ n ∈ Finset.range (s.val + 1), if h : n < 2048 then X (ix3 b ⟨n, h⟩ j) else 0 := by
  rw [← sum_window (fun n => if h : n < 2048 then X (ix3 b ⟨n, h⟩ j) else 0) s.val s.isLt]
  unfold Host.reduceWindowAdd
  rw [Ideal.hostReduceWindowAdd_def]
  unfold Ideal.hostReduceWindowAdd Host.reduceWindow
  refine (foldl_add _ _ _).trans ?_
  rw [hz, zero_add]
  have hn : (⟨3, ![1, 2048, 1]⟩ : Shape).numel = 2048 := by decide +kernel
  refine (congrArg List.sum (List.map_congr_left (g := fun n : Fin (⟨3, ![1, 2048, 1]⟩ : Shape).numel => (fun k : ℕ => if 2047 ≤ s.val + k then
      (if h : s.val + k - 2047 < 2048 then X (ix3 b ⟨s.val + k - 2047, h⟩ j) else 0) else 0) n.val) fun n _ => ?_)).trans ?_
  swap
  · rw [← List.ofFn_eq_map, List.sum_ofFn]
    refine (Fin.sum_univ_eq_sum_range (fun k : ℕ => if 2047 ≤ s.val + k then (if h : s.val + k - 2047 < 2048 then
      X (ix3 b ⟨s.val + k - 2047, h⟩ j) else 0) else 0) _).trans ?_
    rw [hn]
  obtain ⟨w0, w1, w2⟩ := win_symm n
  have hlt : n.val < 2048 := lt_of_lt_of_eq n.isLt hn
  dsimp only
  split
  · next hin =>
    have h1 := hin 1
    change 2047 ≤ s.val * 1 + ((⟨3, ![1, 2048, 1]⟩ : Shape).rowMajor.symm n 1).val
      ∧ s.val * 1 + ((⟨3, ![1, 2048, 1]⟩ : Shape).rowMajor.symm n 1).val - 2047 < 2048 at h1
    rw [w1] at h1
    rw [if_pos (by omega), dif_pos (by omega)]
    refine congrArg X (funext fun a => Fin.ext ?_)
    match a with
    | ⟨0, _⟩ =>
      show b.val * 1 + ((⟨3, ![1, 2048, 1]⟩ : Shape).rowMajor.symm n 0).val - 0 = b.val
      omega
    | ⟨1, _⟩ =>
      show s.val * 1 + ((⟨3, ![1, 2048, 1]⟩ : Shape).rowMajor.symm n 1).val - 2047 = s.val + n.val - 2047
      omega
    | ⟨2, _⟩ =>
      show j.val * 1 + ((⟨3, ![1, 2048, 1]⟩ : Shape).rowMajor.symm n 2).val - 0 = j.val
      omega
  · next hin =>
    rw [if_neg fun hle => hin fun a => by
      have hb := b.isLt
      have hs := s.isLt
      have hj := j.isLt
      match a with
      | ⟨0, _⟩ =>
        show 0 ≤ b.val * 1 + ((⟨3, ![1, 2048, 1]⟩ : Shape).rowMajor.symm n 0).val ∧ b.val * 1 + ((⟨3, ![1, 2048, 1]⟩ : Shape).rowMajor.symm n 0).val - 0 < 8
        omega
      | ⟨1, _⟩ =>
        show 2047 ≤ s.val * 1 + ((⟨3, ![1, 2048, 1]⟩ : Shape).rowMajor.symm n 1).val ∧ s.val * 1 + ((⟨3, ![1, 2048, 1]⟩ : Shape).rowMajor.symm n 1).val - 2047 < 2048
        omega
      | ⟨2, _⟩ =>
        show 0 ≤ j.val * 1 + ((⟨3, ![1, 2048, 1]⟩ : Shape).rowMajor.symm n 2).val ∧ j.val * 1 + ((⟨3, ![1, 2048, 1]⟩ : Shape).rowMajor.symm n 2).val - 0 < 128
        omega]

end Cert.Prefix
-- ==== Proof.FgateValue.lean ====
/- The forget gate scan: the reference read at a row and a lane over the extended reals, and the two forms of the gate's
   logarithm joined. -/
module

public import proofs.«01_k».proof.Defs
public import proofs.«01_k».proof.Proof.Prefix
public import proofs.«01_k».proof.Proof.Gen.FgateIdeal.Value
public import proofs.«01_k».proof.Proof.Gen.FgateRefIdeal.Read
public import proofs.«01_k».proof.Proof.Gen.FgateRefIdeal.Run
public import Idealize.ShloMosaic.Lib.Pointwise
public import Idealize.ShloMosaic.Lib.Routing.OpsOne
public import Idealize.ShloMosaic.Lib.Routing.OpsSet
public import Idealize.ShloMosaic.Lib.Pipeline.ReadBack
public import Idealize.ShloMosaic.Lib.Pipeline.ValueKit

@[expose] public section

set_option maxRecDepth 16384

noncomputable section
namespace Cert.FgateIdeal.Scan

open Idealize.ShloMosaic Idealize.ShloMosaic.TcCoe Idealize.ShloMosaic.Tactic
open Idealize.SL.Sem
open Idealize.ShloMosaic.Pipeline (Dat Cfg Window)

open Cert.FgateIdeal.Gen
open Cert.FgateRefIdeal.Read

/-! ## The gate's logarithm -/

/-- The logarithm of the logistic function, from the side where nothing overflows. -/
def lsig (x : EReal) : EReal := min x 0 - Ideal.log1p (Ideal.exp (0 - FloatOps.absf (F := Ideal) (φ := .f32) x))

/-- The kernel's `log (1 + u)` is the logarithm itself over the extended reals. -/
theorem log1p_eq (u : EReal) (r : ℝ) (h0 : 0 ≤ r) (hu : u = (r : EReal)) :
    (if 1 + u = 1 then u else Ideal.log (1 + u) * Ideal.div u (1 + u - 1)) = Ideal.log1p u := by
  subst hu
  unfold Ideal.log1p
  rcases eq_or_lt_of_le h0 with h | h
  · subst h
    rw [EReal.coe_zero, add_zero, if_pos rfl]
    show (0 : EReal) = Ideal.log ((1 : ℝ) : EReal)
    rw [Ideal.log_coe, if_neg (by norm_num), Real.log_one]
    rfl
  · have e : (1 : EReal) + (r : EReal) = ((1 + r : ℝ) : EReal) := by rw [EReal.coe_add]; rfl
    have e1 : (1 : EReal) + (r : EReal) - 1 = ((r : ℝ) : EReal) := by
      rw [e]
      show ((1 + r : ℝ) : EReal) - ((1 : ℝ) : EReal) = _
      rw [← EReal.coe_sub]
      congr 1
      ring
    rw [if_neg, e1, Ideal.div_coe h.ne', ← EReal.coe_mul, mul_one_div_cancel h.ne', EReal.coe_one, mul_one]
    rw [e]
    intro hh
    have : (1 + r : ℝ) = 1 := by exact_mod_cast hh
    linarith

/-- The decay `exp (-|x|)` is a real number. -/
theorem exp_abs (x : EReal) : ∃ r : ℝ, 0 ≤ r ∧ Ideal.exp (0 - FloatOps.absf (F := Ideal) (φ := .f32) x) = (r : EReal) := by
  induction x using EReal.rec with
  | bot => exact ⟨0, le_rfl, rfl⟩
  | top => exact ⟨0, le_rfl, rfl⟩
  | coe r => exact ⟨Real.exp (0 - |r|), (Real.exp_pos _).le, rfl⟩

/-- The kernel's form. -/
theorem lsig_kernel (x : EReal) :
    (min x 0 - if 1 + Ideal.exp (0 - FloatOps.absf (F := Ideal) (φ := .f32) x) = 1 then Ideal.exp (0 - FloatOps.absf (F := Ideal) (φ := .f32) x)
      else Ideal.log (1 + Ideal.exp (0 - FloatOps.absf (F := Ideal) (φ := .f32) x)) * Ideal.div (Ideal.exp (0 - FloatOps.absf (F := Ideal) (φ := .f32) x))
        (1 + Ideal.exp (0 - FloatOps.absf (F := Ideal) (φ := .f32) x) - 1)) = lsig x := by
  obtain ⟨r, h0, hr⟩ := exp_abs x
  rw [log1p_eq _ r h0 hr]
  rfl

/-- The reference's form. -/
theorem lsig_reference (x : EReal) :
    -(if -x ≠ -x then -x else max (-x) 0 + Ideal.log1p (Ideal.exp (-FloatOps.absf (F := Ideal) (φ := .f32) (-x)))) = lsig x := by
  rw [if_neg (not_not.2 rfl)]
  have ha : FloatOps.absf (F := Ideal) (φ := .f32) (-x) = FloatOps.absf (F := Ideal) (φ := .f32) x := by
    induction x using EReal.rec with
    | bot => rfl
    | top => rfl
    | coe r => exact congrArg (fun z : ℝ => (z : EReal)) (abs_neg r)
  have hz : ∀ y : EReal, -y = 0 - y := fun y => (zero_sub y).symm
  obtain ⟨r, h0, hr⟩ := exp_abs x
  unfold lsig
  rw [ha, hz (FloatOps.absf (F := Ideal) (φ := .f32) x), hr]
  have hl : Ideal.log1p (r : EReal) = ((Real.log (1 + r) : ℝ) : EReal) := by
    unfold Ideal.log1p
    have e : (1 : EReal) + (r : EReal) = ((1 + r : ℝ) : EReal) := by rw [EReal.coe_add]; rfl
    rw [e, Ideal.log_coe, if_neg (by linarith)]
  rw [hl, EReal.neg_add (Or.inr (EReal.coe_ne_top _)) (Or.inr (EReal.coe_ne_bot _)), sub_eq_add_neg, sub_eq_add_neg]
  congr 1
  rcases le_total x 0 with h | h
  · rw [min_eq_left h, max_eq_left (by simpa using EReal.neg_le_neg_iff.2 h), neg_neg]
  · rw [min_eq_right h, max_eq_right (by simpa using EReal.neg_le_neg_iff.2 h), neg_zero]

/-- It is not positive. -/
theorem lsig_le (x : EReal) : lsig x ≤ 0 := by
  obtain ⟨r, h0, hr⟩ := exp_abs x
  unfold lsig
  rw [hr]
  have e : (1 : EReal) + (r : EReal) = ((1 + r : ℝ) : EReal) := by rw [EReal.coe_add]; rfl
  have hl : (0 : EReal) ≤ Ideal.log1p (r : EReal) := by
    unfold Ideal.log1p
    rw [e, Ideal.log_coe, if_neg (by linarith)]
    exact_mod_cast Real.log_nonneg (by linarith)
  exact EReal.sub_nonpos.2 ((min_le_right _ _).trans hl)

/-- A number that is not positive is the sum of its pieces. -/
theorem pieces (x : EReal) (h : x ≤ 0) : x + (x - x) + (x - x - (x - x)) = x := by
  induction x using EReal.rec with
  | bot => rfl
  | top => exact absurd h (by decide)
  | coe r =>
    rw [← EReal.coe_sub, ← EReal.coe_sub, ← EReal.coe_add, ← EReal.coe_add]
    congr 1
    ring

/-! ## The reference -/

/-- The bias of a lane. -/
def bias (x1 : Vec Ideal S16 .f32) (j : Fin 128) : EReal := if h : j.val < 16 then x1 (ix1 ⟨j.val, h⟩) else FloatOps.sitofp (F := Ideal) FTy.f32 (0#32 : BitVec 32)

/-- The forget gate's logarithm at a row and a lane. -/
def lf (x0 : Vec Ideal S16384x128 .f32) (x1 : Vec Ideal S16 .f32) (R : Fin 16384) (j : Fin 128) : EReal := lsig (x0 (ix2 R j) + bias x1 j)

theorem v5_apply (x0 x1) (b : Fin 8) (s : Fin 2048) (j : Fin 128) : val_main_v5 (F := Ideal) x0 x1 (ix3 b s j) = lf x0 x1 ⟨b.val * 2048 + s.val, by omega⟩ j := by
  refine Eq.trans ?_ (lsig_reference _)
  unfold bias
  pointwise [val_main_v5, val_main_call1_v1, val_main_call1_call0_v11, val_main_call1_call0_v10, val_main_call1_call0_v9,
    val_main_call1_call0_v8, val_main_call1_call0_v7, val_main_call1_call0_v6, val_main_call1_call0_v5, val_main_call1_call0_v4, val_main_call1_call0_v3,
    val_main_call1_call0_v2, val_main_call1_call0_v1, val_main_call1_call0_v0, val_main_call1_call0_cst, val_main_call1_v0, val_main_v4, val_main_v3, val_main_v2, val_main_v1, val_main_v0, val_main_call0_v0, val_main_c]

theorem v6_apply (x0 x1) (b : Fin 8) (s : Fin 2048) (j : Fin 128) : val_main_v6 (F := Ideal) x0 x1 (ix3 b s j)
    = ∑ n ∈ Finset.range (s.val + 1), if h : b.val * 2048 + n < 16384 then lf x0 x1 ⟨b.val * 2048 + n, h⟩ j else 0 := by
  unfold val_main_v6
  refine (Prefix.window_apply _ _ _ _ (fun i => ?_) b s j).trans (Finset.sum_congr rfl fun n hn => ?_)
  · obtain rfl : i = ix0 := funext fun a => a.elim0
    pointwise [val_main_call2_call0_v0, val_main_call2_call0_cst]
  · have := Finset.mem_range.1 hn
    rw [dif_pos (by omega), dif_pos (by omega), v5_apply]

/-- The base-two sum at a row and a head, and its three pieces. -/
def piece (x : EReal) (j : ℕ) : EReal := if _h : j < 1 then x else if _h : j - 1 < 1 then x - x else x - x - (x - x)

/-- The sum of the logarithms down to a row of the whole batch. -/
def cs (x0 : Vec Ideal S16384x128 .f32) (x1 : Vec Ideal S16 .f32) (R : Fin 16384) (j : Fin 128) : EReal :=
  ∑ n ∈ Finset.range (R.val % 2048 + 1), if h : R.val / 2048 * 2048 + n < 16384 then lf x0 x1 ⟨R.val / 2048 * 2048 + n, h⟩ j else 0

theorem v27_apply (x0 x1) (R : Fin 16384) (j : Fin 128) : val_main_v27 (F := Ideal) x0 x1 (ix2 R j) = lf x0 x1 R j := by
  have e : val_main_v27 (F := Ideal) x0 x1 (ix2 R j) = val_main_v5 (F := Ideal) x0 x1 (ix3 ⟨R.val / 2048, by omega⟩ ⟨R.val % 2048, by omega⟩ j) := by
    pointwise [val_main_v27]
  rw [e, v5_apply]
  exact congrArg (fun z => lf x0 x1 z j) (Fin.ext (by show R.val / 2048 * 2048 + R.val % 2048 = R.val; omega))

theorem v28_apply (x0 x1) (R : Fin 16384) (j : Fin 128) : val_main_v28 (F := Ideal) x0 x1 (ix2 R j) = cs x0 x1 R j := by
  have e : val_main_v28 (F := Ideal) x0 x1 (ix2 R j) = val_main_v6 (F := Ideal) x0 x1 (ix3 ⟨R.val / 2048, by omega⟩ ⟨R.val % 2048, by omega⟩ j) := by
    pointwise [val_main_v28]
  rw [e, v6_apply]
  rfl

theorem v23_apply (x0 x1) (b : Fin 8) (s : Fin 2048) (j : Fin 48) : val_main_v23 (F := Ideal) x0 x1 (ix3 b s j)
    = piece (val_main_v6 (F := Ideal) x0 x1 (ix3 b s ⟨j.val / 3, by omega⟩) * Ideal.ofBits FTy.f32 1069066811#32) (j.val % 3) := by
  unfold piece
  pointwise [val_main_v23, val_main_v22, val_main_v21, val_main_v20, val_main_v19, val_main_v18, val_main_v17, val_main_v16, val_main_v15, val_main_v14, val_main_v13, val_main_v12, val_main_v11, val_main_v10, val_main_v9, val_main_v8, val_main_cst, val_main_v7]

theorem sitofp_zero : FloatOps.sitofp (F := Ideal) FTy.f32 (0#32 : BitVec 32) = 0 := by
  show (((0#32 : BitVec 32).toInt : ℝ) : EReal) = 0
  simp

theorem v30_apply (x0 x1) (R : Fin 16384) (j : Fin 128) : val_main_v30 (F := Ideal) x0 x1 (ix2 R j)
    = if h : j.val < 48 then piece (cs x0 x1 R ⟨j.val / 3, by omega⟩ * Ideal.ofBits FTy.f32 1069066811#32) (j.val % 3) else 0 := by
  have e : val_main_v30 (F := Ideal) x0 x1 (ix2 R j) = if h : R.val / 2048 < 8 ∧ R.val % 2048 < 2048 ∧ j.val < 48
      then val_main_v23 (F := Ideal) x0 x1 (ix3 ⟨R.val / 2048, h.1⟩ ⟨R.val % 2048, h.2.1⟩ ⟨j.val, h.2.2⟩) else FloatOps.sitofp (F := Ideal) FTy.f32 (0#32 : BitVec 32) := by
    pointwise [val_main_v30, val_main_v29, val_main_v24, val_main_call3_v0, val_main_c_0]
  rw [e]
  by_cases h : j.val < 48
  · rw [dif_pos ⟨by omega, by omega, h⟩, dif_pos h, v23_apply, v6_apply]
    rfl
  · rw [dif_neg (fun hh => h hh.2.2), dif_neg h, sitofp_zero]

theorem v32_apply (x0 x1) (R : Fin 16384) (j : Fin 128) : val_main_v32 (F := Ideal) x0 x1 (ix2 R j)
    = if h : 48 ≤ j.val ∧ j.val - 48 < 48 then -piece (cs x0 x1 R ⟨(j.val - 48) / 3, by omega⟩ * Ideal.ofBits FTy.f32 1069066811#32) ((j.val - 48) % 3) else 0 := by
  have e : val_main_v32 (F := Ideal) x0 x1 (ix2 R j) = if h : R.val / 2048 < 8 ∧ R.val % 2048 < 2048 ∧ 48 ≤ j.val ∧ j.val - 48 < 48
      then -val_main_v23 (F := Ideal) x0 x1 (ix3 ⟨R.val / 2048, h.1⟩ ⟨R.val % 2048, h.2.1⟩ ⟨j.val - 48, h.2.2.2⟩) else FloatOps.sitofp (F := Ideal) FTy.f32 (0#32 : BitVec 32) := by
    pointwise [val_main_v32, val_main_v31, val_main_v26, val_main_call4_v0, val_main_c_1, val_main_v25]
  rw [e]
  by_cases h : 48 ≤ j.val ∧ j.val - 48 < 48
  · rw [dif_pos ⟨by omega, by omega, h⟩, dif_pos h, v23_apply, v6_apply]
    rfl
  · rw [dif_neg (fun hh => h hh.2.2), dif_neg h, sitofp_zero]

end Cert.FgateIdeal.Scan

end
-- ==== Proof.FgateKernel.lean ====
/- The forget gate scan: the blocks a point reads and the expressions it stores, read at a row and a lane. -/
module

public import proofs.«01_k».proof.Defs
public import proofs.«01_k».proof.Proof.FgateValue
public import proofs.«01_k».proof.Proof.Gen.FgateIdeal.Value
public import proofs.«01_k».proof.Proof.Gen.FgateRefIdeal.Read
public import proofs.«01_k».proof.Proof.Gen.FgateRefIdeal.Run
public import Idealize.ShloMosaic.Lib.Pointwise
public import Idealize.ShloMosaic.Lib.Routing.OpsOne
public import Idealize.ShloMosaic.Lib.Routing.OpsSet
public import Idealize.ShloMosaic.Lib.Pipeline.ReadBack
public import Idealize.ShloMosaic.Lib.Pipeline.ValueKit

@[expose] public section

set_option maxRecDepth 16384

noncomputable section
namespace Cert.FgateIdeal.Scan

open Idealize.ShloMosaic Idealize.ShloMosaic.TcCoe Idealize.ShloMosaic.Tactic
open Idealize.SL.Sem
open Idealize.ShloMosaic.Pipeline (Dat Cfg Window)

open Cert.FgateIdeal.Gen
open Cert.FgateRefIdeal.Read

variable (m : (ℓ : Loc nD τ sig) → Buf (Elt Ideal) ℓ) (ρ : Dev nD → PrngReg)

/-! ## The argument arrays and the blocks -/

/-- The gates' projection -/
abbrev a0 (c : Dev nD) : Vec Ideal Cert.FgateRefIdeal.S16384x128 .f32 := m ((c : Thread nD τ).loc main_arg0)
/-- and the bias. -/
abbrev a1 (c : Dev nD) : Vec Ideal Cert.FgateRefIdeal.S16 .f32 := m ((c : Thread nD τ).loc main_arg1)

theorem N_0 : grid0.N = 128 := by decide +kernel
theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel

/-- The bias laid into the first row's lanes. -/
def laneRow (w : FVec Ideal S16 .f32) : FVec Ideal S1x128 .f32 :=
  Host.scatter scatter_S1x128_S2_S16_0_0_01_0 (fun _ b => b)
    (broadcastInDim S1x128 ![] bcast_S_S1x128 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) w

attribute [local irreducible] Host.scatter in
theorem V_v4 (c : Dev nD) : V m c main_v4 = laneRow (m ((c : Thread nD τ).loc main_arg1)) := by
  unfold laneRow
  rfl

/-- An entry of the bias lands in the row at its own lane. -/
theorem lands (k : Fin 16) (e : Fin 128) :
    scatter_S1x128_S2_S16_0_0_01_0.resultIdx? (ix1 k) (concatenate S2 0 [⟨S1, broadcastInDim S1 ![] bcast_S_S1 (constantI S_ 32 0#32)⟩, ⟨S1, broadcastInDim S1 ![] bcast_S_S1 (constantI S_ 32 0#32)⟩] concatenates_S1_S1_S2_d0)
      = some (ix2 0 e) ↔ e.val = k.val := by
  generalize hI : (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) = I
  have hI0 : ∀ i : S2.Idx, I i = 0#32 := by
    intro i
    rw [← hI]
    revert i
    decide +kernel
  have hstart : ∀ a, scatter_S1x128_S2_S16_0_0_01_0.start (ix1 k) I a = 0 := by
    intro a
    unfold ScatterDims.start
    split
    · rw [hI0]; rfl
    · rfl
  have hwin0 : scatter_S1x128_S2_S16_0_0_01_0.window (ix1 k) 0 = 0 := by
    unfold ScatterDims.window
    rw [dif_neg (by decide)]
  have hwin : scatter_S1x128_S2_S16_0_0_01_0.window (ix1 k) 1 = k.val := by
    unfold ScatterDims.window
    rw [dif_pos (by decide)]
    have q : ∀ X : Fin 1, (ix1 k X).val = k.val := fun X => by
      obtain rfl : X = 0 := Subsingleton.elim _ _
      rfl
    exact q _
  refine (Routing.resultIdx?_ix2 (R := 1) (C := 128) _ _ _ 0 e).trans ?_
  rw [hstart, hstart, hwin0, hwin]
  constructor
  · intro h
    have := h.2
    omega
  · intro h
    exact ⟨rfl, by omega⟩

theorem laneRow_apply (w : FVec Ideal S16 .f32) (n : Fin 128) : laneRow w (ix2 0 n) = bias w n := by
  unfold laneRow bias
  split
  · rename_i h
    exact Routing.scatter_set_hit _ _ _ _ _ _ (fun k' hk' => by
      have := (lands (k' 0) n).1 ((congrArg (fun z => scatter_S1x128_S2_S16_0_0_01_0.resultIdx? z _) (eq_ix1 k').symm).trans hk')
      rw [eq_ix1 k']
      exact congrArg (fun e => w (ix1 e)) (Fin.ext this.symm)) (ix1 ⟨n.val, h⟩) ((lands ⟨n.val, h⟩ n).2 rfl)
  · rename_i h
    refine (Routing.scatter_set_miss _ _ _ _ _ fun k hk => h ?_).trans (Ideal.ofBits_zero_f32.trans sitofp_zero.symm)
    have := (lands (k 0) n).1 ((congrArg (fun z => scatter_S1x128_S2_S16_0_0_01_0.resultIdx? z _) (eq_ix1 k).symm).trans hk)
    have h0 : (k 0).val < 16 := (k 0).isLt
    omega

/-- The row of the whole batch that a point's row `r` is. -/
abbrev row (t : Fin cfg0.N) (r : Fin 128) : Fin 16384 := ⟨128 * t.val + r.val, by have := Nat.lt_of_lt_of_eq t.isLt N_0; omega⟩

theorem blk0 (c : Dev nD) (t : Fin cfg0.N) (r k : Fin 128) : iblk m c 0 t (ix2 r k) = a0 m c (ix2 (row t r) k) := by
  blk_ext! [iblk, V, idx0 t]
theorem blk1 (c : Dev nD) (t : Fin cfg0.N) (k : Fin 128) : iblk m c 1 t (ix2 0 k) = bias (a1 m c) k := by
  have e : ((cfg0.win 1).blk t).view.emb (ix2 0 k) = (ix2 0 k : S1x128.Idx) := by
    blk_ext [idx1 t]
  show V m c main_v4 (((cfg0.win 1).blk t).view.emb (ix2 0 k)) = _
  rw [e]
  exact (congrFun (V_v4 m c) _).trans (laneRow_apply _ k)

/-! ## A point's payloads -/

theorem p4_apply (x0 x1) (i j : Fin 128) : k0_pay4 (F := Ideal) x0 x1 (ix2 i j) = lsig (x0 (ix2 i j) + x1 (ix2 0 j)) := by
  refine Eq.trans ?_ (lsig_kernel _)
  pointwise [k0_pay4]

theorem le_word : ∀ x r : Fin 128, IntOp.cmpi .sle (BitVec.ofNat 32 x.val) (BitVec.ofNat 32 r.val) = if x.val ≤ r.val then 1#1 else 0#1 := by decide +kernel

theorem p5_apply (i j : Fin 128) : k0_pay5 (F := Ideal) (ix2 i j) = if j.val ≤ i.val then 1 else 0 := by
  pointwise [k0_pay5]
  rw [le_word]
  split <;> rfl

/-- The running sum of a block's rows: the three pieces of each row's logarithm together, and the carry. -/
theorem p10_apply (x0 x1 w) (i j : Fin 128) : k0_pay10 (F := Ideal) k0_pay5 (k0_pay6 x0 x1) (k0_pay8 x0 x1) (k0_pay9 x0 x1) (constant S128x128 .f32 0x00000000#32) w (ix2 i j)
    = (∑ x : Fin 128, if x.val ≤ i.val then lsig (x0 (ix2 x j) + x1 (ix2 0 j)) else 0) + w (ix2 0 j) := by
  pointwise [k0_pay10, k0_pay6, k0_pay8, k0_pay9, k0_pay7]
  simp only [p5_apply, p4_apply]
  rw [← Finset.sum_add_distrib, ← Finset.sum_add_distrib]
  congr 1
  refine Finset.sum_congr rfl fun x _ => ?_
  split
  · simp only [one_mul]
    exact pieces _ (lsig_le _)
  · simp only [zero_mul, add_zero]

theorem p3_apply (j : Fin 128) : k0_pay3 (F := Ideal) (ix2 0 j) = 0 := by
  pointwise [k0_pay3]
theorem p11_apply (x0 x1 x2 x3 x4 x5) (j : Fin 128) : k0_pay11 (F := Ideal) x0 x1 x2 x3 x4 x5 (ix2 0 j) = k0_pay10 (F := Ideal) x0 x1 x2 x3 x4 x5 (ix2 127 j) := by
  pointwise [k0_pay11]

theorem q0 : ∀ k l : Fin 128, IntOp.andi (IntOp.cmpi .slt (BitVec.ofNat 32 k.val) 16#32) (IntOp.cmpi .eq (BitVec.ofNat 32 l.val) (IntOp.addi (IntOp.muli 3#32 (BitVec.ofNat 32 k.val)) 0#32))
    = if k.val < 16 ∧ l.val = 0 + 3 * k.val + 0 then 1#1 else 0#1 := by decide +kernel
theorem q1 : ∀ k l : Fin 128, IntOp.andi (IntOp.cmpi .slt (BitVec.ofNat 32 k.val) 16#32) (IntOp.cmpi .eq (BitVec.ofNat 32 l.val) (IntOp.addi (IntOp.muli 3#32 (BitVec.ofNat 32 k.val)) 1#32))
    = if k.val < 16 ∧ l.val = 0 + 3 * k.val + 1 then 1#1 else 0#1 := by decide +kernel
theorem q2 : ∀ k l : Fin 128, IntOp.andi (IntOp.cmpi .slt (BitVec.ofNat 32 k.val) 16#32) (IntOp.cmpi .eq (BitVec.ofNat 32 l.val) (IntOp.addi (IntOp.muli 3#32 (BitVec.ofNat 32 k.val)) 2#32))
    = if k.val < 16 ∧ l.val = 0 + 3 * k.val + 2 then 1#1 else 0#1 := by decide +kernel
theorem k0 : ∀ k l : Fin 128, IntOp.andi (IntOp.cmpi .slt (BitVec.ofNat 32 k.val) 16#32) (IntOp.cmpi .eq (BitVec.ofNat 32 l.val) (IntOp.addi (IntOp.addi 48#32 (IntOp.muli 3#32 (BitVec.ofNat 32 k.val))) 0#32))
    = if k.val < 16 ∧ l.val = 48 + 3 * k.val + 0 then 1#1 else 0#1 := by decide +kernel
theorem k1 : ∀ k l : Fin 128, IntOp.andi (IntOp.cmpi .slt (BitVec.ofNat 32 k.val) 16#32) (IntOp.cmpi .eq (BitVec.ofNat 32 l.val) (IntOp.addi (IntOp.addi 48#32 (IntOp.muli 3#32 (BitVec.ofNat 32 k.val))) 1#32))
    = if k.val < 16 ∧ l.val = 48 + 3 * k.val + 1 then 1#1 else 0#1 := by decide +kernel
theorem k2 : ∀ k l : Fin 128, IntOp.andi (IntOp.cmpi .slt (BitVec.ofNat 32 k.val) 16#32) (IntOp.cmpi .eq (BitVec.ofNat 32 l.val) (IntOp.addi (IntOp.addi 48#32 (IntOp.muli 3#32 (BitVec.ofNat 32 k.val))) 2#32))
    = if k.val < 16 ∧ l.val = 48 + 3 * k.val + 2 then 1#1 else 0#1 := by decide +kernel

/-- A one-hot sum is the entry it selects. -/
theorem onehot (P : Fin 128 → EReal) (o j : ℕ) (hj : j < 3) (l : Fin 128) :
    (∑ k : Fin 128, Scalar.select (if k.val < 16 ∧ l.val = o + 3 * k.val + j then 1#1 else 0#1 : BitVec 1) (P k) 0)
      = if h : (o ≤ l.val ∧ l.val - o < 48) ∧ (l.val - o) % 3 = j then P ⟨(l.val - o) / 3, by omega⟩ else 0 := by
  split
  · rename_i h
    rw [Finset.sum_eq_single ⟨(l.val - o) / 3, by omega⟩]
    · rw [if_pos (by dsimp only; omega)]; rfl
    · intro b _ hb
      rw [if_neg]; · rfl
      rintro ⟨h1, h2⟩
      exact hb (Fin.ext (by dsimp only; omega))
    · intro h; exact absurd (Finset.mem_univ _) h
  · rename_i h
    refine Finset.sum_eq_zero fun k _ => ?_
    rw [if_neg]; · rfl
    rintro ⟨h1, h2⟩
    exact h (by omega)

theorem zero_sub_e (x : EReal) : 0 - x = -x := by rw [sub_eq_add_neg, zero_add]

/-- The queries' lanes: each head's pieces on its own three. -/
theorem qa_apply (C : FVec Ideal S128x128 .f32) (a b d) (ha : ∀ i j, a (ix2 i j) = C (ix2 i j) * Ideal.ofBits FTy.f32 1069066811#32)
    (hb : ∀ i j, b (ix2 i j) = C (ix2 i j) * Ideal.ofBits FTy.f32 1069066811#32 - C (ix2 i j) * Ideal.ofBits FTy.f32 1069066811#32)
    (hd : ∀ i j, d (ix2 i j) = C (ix2 i j) * Ideal.ofBits FTy.f32 1069066811#32 - C (ix2 i j) * Ideal.ofBits FTy.f32 1069066811#32 - (C (ix2 i j) * Ideal.ofBits FTy.f32 1069066811#32 - C (ix2 i j) * Ideal.ofBits FTy.f32 1069066811#32))
    (i l : Fin 128) :
    k0_pay1 (F := Ideal) (iota Kind.tc S128x128 32 [1] iota_S128x128_d1_w32) (k0_pay14 (iota Kind.tc S128x128 32 [0] iota_S128x128_d0_w32)) d
      (k0_pay22 (iota Kind.tc S128x128 32 [0] iota_S128x128_d0_w32) (iota Kind.tc S128x128 32 [1] iota_S128x128_d1_w32) k0_pay12
        (k0_pay14 (iota Kind.tc S128x128 32 [0] iota_S128x128_d0_w32)) a b
        (k0_pay20 (iota Kind.tc S128x128 32 [0] iota_S128x128_d0_w32) (iota Kind.tc S128x128 32 [1] iota_S128x128_d1_w32)))
      (k0_pay24 (iota Kind.tc S128x128 32 [0] iota_S128x128_d0_w32)) (ix2 i l)
    = if h : l.val < 48 then piece (C (ix2 i ⟨l.val / 3, by omega⟩) * Ideal.ofBits FTy.f32 1069066811#32) (l.val % 3) else 0 := by
  pointwise [k0_pay1, k0_pay14, k0_pay22, k0_pay12, k0_pay20, k0_pay24]
  simp only [q0, q1, q2]
  rw [onehot (fun x => a (ix2 i x)) 0 0 (by omega) l, onehot (fun x => b (ix2 i x)) 0 1 (by omega) l, onehot (fun x => d (ix2 i x)) 0 2 (by omega) l]
  by_cases h : l.val < 48
  · have h3 : l.val % 3 = 0 ∨ l.val % 3 = 1 ∨ l.val % 3 = 2 := by omega
    rcases h3 with h3 | h3 | h3 <;> simp [h, h3, piece, ha, hb, hd]
  · simp [h]

/-- The keys' lanes: their negatives, on three of their own. -/
theorem ka_apply (C : FVec Ideal S128x128 .f32) (a b d) (ha : ∀ i j, a (ix2 i j) = C (ix2 i j) * Ideal.ofBits FTy.f32 1069066811#32)
    (hb : ∀ i j, b (ix2 i j) = C (ix2 i j) * Ideal.ofBits FTy.f32 1069066811#32 - C (ix2 i j) * Ideal.ofBits FTy.f32 1069066811#32)
    (hd : ∀ i j, d (ix2 i j) = C (ix2 i j) * Ideal.ofBits FTy.f32 1069066811#32 - C (ix2 i j) * Ideal.ofBits FTy.f32 1069066811#32 - (C (ix2 i j) * Ideal.ofBits FTy.f32 1069066811#32 - C (ix2 i j) * Ideal.ofBits FTy.f32 1069066811#32))
    (i l : Fin 128) :
    k0_pay2 (F := Ideal) (iota Kind.tc S128x128 32 [0] iota_S128x128_d0_w32) (iota Kind.tc S128x128 32 [1] iota_S128x128_d1_w32)
      (k0_pay14 (iota Kind.tc S128x128 32 [0] iota_S128x128_d0_w32)) d
      (k0_pay23 (iota Kind.tc S128x128 32 [0] iota_S128x128_d0_w32) (iota Kind.tc S128x128 32 [1] iota_S128x128_d1_w32) k0_pay13
        (k0_pay14 (iota Kind.tc S128x128 32 [0] iota_S128x128_d0_w32)) a b
        (k0_pay21 (iota Kind.tc S128x128 32 [0] iota_S128x128_d0_w32))) (ix2 i l)
    = if h : 48 ≤ l.val ∧ l.val - 48 < 48 then -piece (C (ix2 i ⟨(l.val - 48) / 3, by omega⟩) * Ideal.ofBits FTy.f32 1069066811#32) ((l.val - 48) % 3) else 0 := by
  pointwise [k0_pay2, k0_pay14, k0_pay23, k0_pay13, k0_pay21]
  simp only [k0, k1, k2]
  rw [onehot (fun x => a (ix2 i x)) 48 0 (by omega) l, onehot (fun x => b (ix2 i x)) 48 1 (by omega) l, onehot (fun x => d (ix2 i x)) 48 2 (by omega) l]
  by_cases h : 48 ≤ l.val ∧ l.val - 48 < 48
  · have h3 : (l.val - 48) % 3 = 0 ∨ (l.val - 48) % 3 = 1 ∨ (l.val - 48) % 3 = 2 := by omega
    rcases h3 with h3 | h3 | h3 <;> simp [h, h3, piece, ha, hb, hd, zero_sub_e]
  · simp [h]

end Cert.FgateIdeal.Scan

end
-- ==== Proof.FgateClaim.lean ====
/- The forget gate scan: every block a point writes is the reference's expression at its place, so the four result
   arrays are the reference's. -/
module

public import proofs.«01_k».proof.Defs
public import proofs.«01_k».proof.Proof.FgateKernel
public import proofs.«01_k».proof.Proof.Gen.FgateIdeal.Value
public import proofs.«01_k».proof.Proof.Gen.Fgate.Frame
public import proofs.«01_k».proof.Proof.Gen.FgateRefIdeal.Read
public import proofs.«01_k».proof.Proof.Gen.FgateRefIdeal.Run
public import Idealize.ShloMosaic.Lib.Pointwise
public import Idealize.ShloMosaic.Lib.Routing.OpsOne
public import Idealize.ShloMosaic.Lib.Routing.OpsSet
public import Idealize.ShloMosaic.Lib.Pipeline.ReadBack
public import Idealize.ShloMosaic.Lib.Pipeline.ValueKit

@[expose] public section

set_option maxRecDepth 16384

noncomputable section
namespace Cert.FgateIdeal.Scan

open Idealize.ShloMosaic Idealize.ShloMosaic.TcCoe Idealize.ShloMosaic.Tactic
open Idealize.SL.Sem
open Idealize.ShloMosaic.Pipeline (Dat Cfg Window)

open Cert.FgateIdeal.Gen
open Cert.FgateRefIdeal.Read

variable (m : (ℓ : Loc nD τ sig) → Buf (Elt Ideal) ℓ) (ρ : Dev nD → PrngReg)

/-! ## The carried sum -/

/-- One row's logarithm by its number. -/
def G (c : Dev nD) (j : Fin 128) (n : ℕ) : EReal := if h : n < 16384 then lf (a0 m c) (a1 m c) ⟨n, h⟩ j else 0

/-- The prefix sums of a block of rows and those of the blocks before it. -/
theorem sum_split (g : ℕ → EReal) (q r : ℕ) (hr : r < 128) : (∑ n ∈ Finset.range (128 * q + r + 1), g n)
    = (∑ k ∈ Finset.range q, ∑ x : Fin 128, g (128 * k + x.val)) + ∑ x : Fin 128, if x.val ≤ r then g (128 * q + x.val) else 0 := by
  rw [add_assoc, Finset.sum_range_add]
  congr 1
  · induction q with
    | zero => rfl
    | succ q ih =>
      rw [Finset.sum_range_succ, ← ih, Nat.mul_succ, Finset.sum_range_add, Fin.sum_univ_eq_sum_range (fun x => g (128 * q + x)) 128]
  · rw [Fin.sum_univ_eq_sum_range (fun x => if x ≤ r then g (128 * q + x) else 0) 128, ← Finset.sum_filter]
    refine Finset.sum_congr ?_ fun _ _ => rfl
    ext x
    simp only [Finset.mem_range, Finset.mem_filter]
    omega

/-- A point's running sum over its own rows and a carry. -/
abbrev runSum (c : Dev nD) (t : Fin cfg0.N) (w : Vec Ideal S1x128 .f32) : FVec Ideal S128x128 .f32 :=
  k0_pay10 (F := Ideal) k0_pay5 (k0_pay6 (iblk m c 0 t) (iblk m c 1 t)) (k0_pay8 (iblk m c 0 t) (iblk m c 1 t))
    (k0_pay9 (iblk m c 0 t) (iblk m c 1 t)) (constant S128x128 .f32 0x00000000#32) w

theorem runSum_apply (c : Dev nD) (t : Fin cfg0.N) (w) (r j : Fin 128) :
    runSum m c t w (ix2 r j) = (∑ x : Fin 128, if x.val ≤ r.val then G m c j (128 * t.val + x.val) else 0) + w (ix2 0 j) := by
  have ht := Nat.lt_of_lt_of_eq t.isLt N_0
  refine (p10_apply _ _ _ _ _).trans ?_
  congr 1
  refine Finset.sum_congr rfl fun x _ => ?_
  split
  · rw [blk0, blk1, G, dif_pos (by omega)]
    rfl
  · rfl

/-- The carry before a point: the sum of its sequence's rows in the points before. -/
def before (c : Dev nD) (t : Fin cfg0.N) : Vec Ideal S1x128 .f32 :=
  if t.val % 16 = 0 then k0_pay3 (F := Ideal) else (outsAt0 m c (t.val - 1) (Nat.lt_of_le_of_lt (Nat.sub_le _ _) t.isLt)).2.2.2.2

theorem carry_eq (c : Dev nD) (t : Fin cfg0.N) : (outsAt0 m c t.val t.isLt).2.2.2.2
    = k0_pay11 (F := Ideal) k0_pay5 (k0_pay6 (iblk m c 0 t) (iblk m c 1 t)) (k0_pay8 (iblk m c 0 t) (iblk m c 1 t))
    (k0_pay9 (iblk m c 0 t) (iblk m c 1 t)) (constant S128x128 .f32 0x00000000#32) (before m c t) := by
  funext y
  unfold before
  by_cases h : t.val % 16 = 0
  · rw [if_pos h, outsAt0_A m c t h]; dsimp only; frame_out
  · rw [if_neg h, outsAt0_B m c t h]; dsimp only; frame_out
    simp only [read_unread_whole]

theorem carry_step (c : Dev nD) (t : Fin cfg0.N) (j : Fin 128) : (outsAt0 m c t.val t.isLt).2.2.2.2 (ix2 0 j)
    = (∑ x : Fin 128, G m c j (128 * t.val + x.val)) + before m c t (ix2 0 j) := by
  rw [carry_eq, p11_apply]
  refine (runSum_apply m c t _ 127 j).trans ?_
  congr 1

theorem carry_apply (c : Dev nD) (t : Fin cfg0.N) (j : Fin 128) : (outsAt0 m c t.val t.isLt).2.2.2.2 (ix2 0 j)
    = ∑ k ∈ Finset.range (t.val % 16 + 1), ∑ x : Fin 128, G m c j (128 * (16 * (t.val / 16) + k) + x.val) := by
  have := Pipeline.eq_sum_of_reset_step_apply (fun n hn (j : Fin 128) => (outsAt0 m c n hn).2.2.2.2 (ix2 0 j)) 16 (fun _ => (0 : EReal))
    (fun n j => ∑ x : Fin 128, G m c j (128 * n + x.val)) (fun t h i => by
      rw [carry_step, before, if_pos h, p3_apply, add_comm]) (fun t h i => by
      rw [carry_step, before, if_neg h, add_comm]) t j
  rw [this, zero_add]

theorem before_apply (c : Dev nD) (t : Fin cfg0.N) (j : Fin 128) : before m c t (ix2 0 j)
    = ∑ k ∈ Finset.range (t.val % 16), ∑ x : Fin 128, G m c j (128 * (16 * (t.val / 16) + k) + x.val) := by
  unfold before
  split
  · rename_i h
    rw [h, p3_apply]; rfl
  · rename_i h
    have e := carry_apply m c ⟨t.val - 1, Nat.lt_of_le_of_lt (Nat.sub_le _ _) t.isLt⟩ j
    refine e.trans ?_
    rw [show (t.val - 1) % 16 + 1 = t.val % 16 by omega, show (t.val - 1) / 16 = t.val / 16 by omega]

/-- A point's running sums are the reference's prefix sums. -/
theorem sum_apply (c : Dev nD) (t : Fin cfg0.N) (r j : Fin 128) : runSum m c t (before m c t) (ix2 r j)
    = cs (a0 m c) (a1 m c) (row t r) j := by
  have ht := Nat.lt_of_lt_of_eq t.isLt N_0
  rw [runSum_apply, before_apply]
  unfold cs
  have e : (row t r).val % 2048 + 1 = 128 * (t.val % 16) + r.val + 1 := by
    show (128 * t.val + r.val) % 2048 + 1 = _
    omega
  have e' : (row t r).val / 2048 * 2048 = 128 * (16 * (t.val / 16)) := by
    show (128 * t.val + r.val) / 2048 * 2048 = _
    omega
  rw [e]
  refine Eq.trans ?_ (sum_split (fun n => G m c j (128 * (16 * (t.val / 16)) + n)) (t.val % 16) r.val r.isLt).symm |>.trans ?_
  · rw [add_comm]
    congr 1
    · refine Finset.sum_congr rfl fun k _ => Finset.sum_congr rfl fun x _ => congrArg _ ?_
      omega
    · refine Finset.sum_congr rfl fun x _ => ?_
      rw [show 128 * (16 * (t.val / 16)) + (128 * (t.val % 16) + x.val) = 128 * t.val + x.val by omega]
  · refine Finset.sum_congr rfl fun n _ => ?_
    unfold G
    simp only [e']

/-! ## The result arrays -/

theorem out2 (c : Dev nD) (t : Fin cfg0.N) (y) : (outsAt0 m c t.val t.isLt).1 y = k0_pay4 (F := Ideal) (iblk m c 0 t) (iblk m c 1 t) y := by
  by_cases h : t.val % 16 = 0
  · rw [outsAt0_A m c t h]; dsimp only; frame_out
  · rw [outsAt0_B m c t h]; dsimp only; frame_out

theorem out3 (c : Dev nD) (t : Fin cfg0.N) (y) : (outsAt0 m c t.val t.isLt).2.1 y = runSum m c t (before m c t) y := by
  unfold before
  by_cases h : t.val % 16 = 0
  · rw [if_pos h, outsAt0_A m c t h]; dsimp only; frame_out
  · rw [if_neg h, outsAt0_B m c t h]; dsimp only; frame_out
    simp only [read_unread_whole]

theorem out4 (c : Dev nD) (t : Fin cfg0.N) (i l : Fin 128) : (outsAt0 m c t.val t.isLt).2.2.1 (ix2 i l)
    = if h : l.val < 48 then piece (runSum m c t (before m c t) (ix2 i ⟨l.val / 3, by omega⟩) * Ideal.ofBits FTy.f32 1069066811#32) (l.val % 3) else 0 := by
  unfold before
  by_cases h : t.val % 16 = 0
  · rw [if_pos h, outsAt0_A m c t h]; dsimp only; frame_out
    refine qa_apply _ _ _ _ ?_ ?_ ?_ i l
    all_goals intro i j; pointwise [k0_pay15, k0_pay16, k0_pay17, k0_pay18, k0_pay19, k0_pay7]
  · rw [if_neg h, outsAt0_B m c t h]; dsimp only; frame_out
    simp only [read_unread_whole]
    refine qa_apply _ _ _ _ ?_ ?_ ?_ i l
    all_goals intro i j; pointwise [k0_pay15, k0_pay16, k0_pay17, k0_pay18, k0_pay19, k0_pay7]

theorem out5 (c : Dev nD) (t : Fin cfg0.N) (i l : Fin 128) : (outsAt0 m c t.val t.isLt).2.2.2.1 (ix2 i l)
    = if h : 48 ≤ l.val ∧ l.val - 48 < 48 then -piece (runSum m c t (before m c t) (ix2 i ⟨(l.val - 48) / 3, by omega⟩) * Ideal.ofBits FTy.f32 1069066811#32) ((l.val - 48) % 3) else 0 := by
  unfold before
  by_cases h : t.val % 16 = 0
  · rw [if_pos h, outsAt0_A m c t h]; dsimp only; frame_out
    refine ka_apply _ _ _ _ ?_ ?_ ?_ i l
    all_goals intro i j; pointwise [k0_pay15, k0_pay16, k0_pay17, k0_pay18, k0_pay19, k0_pay7]
  · rw [if_neg h, outsAt0_B m c t h]; dsimp only; frame_out
    simp only [read_unread_whole]
    refine ka_apply _ _ _ _ ?_ ?_ ?_ i l
    all_goals intro i j; pointwise [k0_pay15, k0_pay16, k0_pay17, k0_pay18, k0_pay19, k0_pay7]

theorem final2 (c : Dev nD) : (dats m 0 c).arrAt 2 cfg0.N = val_main_v27 (F := Ideal) (a0 m c) (a1 m c) := by
  refine (dats m 0 c).arrAt_eq_of_covers 2 _ (by decide +kernel) fun t hf y => ?_
  have ht : t.val < 128 := Nat.lt_of_lt_of_eq t.isLt N_0
  blk_simp
  rw [after0_2]
  revert y
  show ∀ y : S128x128.Idx, _
  intro y
  idx_vars y
  have e : ((win0_2.blk t).view.emb (ix2 y0 y1)) = (ix2 (row t y0) y1 : S16384x128.Idx) := by
    blk_ext [idx2 t]
  rw [e, v27_apply]
  exact (out2 m c t _).trans ((p4_apply _ _ _ _).trans (by rw [blk0, blk1]; rfl))

theorem final3 (c : Dev nD) : (dats m 0 c).arrAt 3 cfg0.N = val_main_v28 (F := Ideal) (a0 m c) (a1 m c) := by
  refine (dats m 0 c).arrAt_eq_of_covers 3 _ (by decide +kernel) fun t hf y => ?_
  have ht : t.val < 128 := Nat.lt_of_lt_of_eq t.isLt N_0
  blk_simp
  rw [after0_3]
  revert y
  show ∀ y : S128x128.Idx, _
  intro y
  idx_vars y
  have e : ((win0_3.blk t).view.emb (ix2 y0 y1)) = (ix2 (row t y0) y1 : S16384x128.Idx) := by
    blk_ext [idx3 t]
  rw [e, v28_apply]
  exact (out3 m c t _).trans (sum_apply m c t y0 y1)

theorem final4 (c : Dev nD) : (dats m 0 c).arrAt 4 cfg0.N = val_main_v30 (F := Ideal) (a0 m c) (a1 m c) := by
  refine (dats m 0 c).arrAt_eq_of_covers 4 _ (by decide +kernel) fun t hf y => ?_
  have ht : t.val < 128 := Nat.lt_of_lt_of_eq t.isLt N_0
  blk_simp
  rw [after0_4]
  revert y
  show ∀ y : S128x128.Idx, _
  intro y
  idx_vars y
  have e : ((win0_4.blk t).view.emb (ix2 y0 y1)) = (ix2 (row t y0) y1 : S16384x128.Idx) := by
    blk_ext [idx4 t]
  rw [e, v30_apply]
  refine (out4 m c t _ _).trans ?_
  simp only [sum_apply]

theorem final5 (c : Dev nD) : (dats m 0 c).arrAt 5 cfg0.N = val_main_v32 (F := Ideal) (a0 m c) (a1 m c) := by
  refine (dats m 0 c).arrAt_eq_of_covers 5 _ (by decide +kernel) fun t hf y => ?_
  have ht : t.val < 128 := Nat.lt_of_lt_of_eq t.isLt N_0
  blk_simp
  rw [after0_5]
  revert y
  show ∀ y : S128x128.Idx, _
  intro y
  idx_vars y
  have e : ((win0_5.blk t).view.emb (ix2 y0 y1)) = (ix2 (row t y0) y1 : S16384x128.Idx) := by
    blk_ext [idx5 t]
  rw [e, v32_apply]
  refine (out5 m c t _ _).trans ?_
  simp only [sum_apply]

end Cert.FgateIdeal.Scan

namespace Cert.Proof.Fgate

open Idealize.ShloMosaic Idealize.ShloMosaic.TcCoe Idealize.SL.Sem
open Cert.FgateIdeal.Scan Cert.FgateRefIdeal.Read

theorem frame_kernel : Cert.quiescent_Fgate := fun m ρ _ => Cert.Fgate.Gen.frame m ρ
theorem frame_ideal : Cert.quiescent_FgateIdeal := fun m ρ _ => Cert.FgateIdeal.Gen.frame m ρ

/-- The reference's frame: its run read at the arguments; it has no semaphore. -/
theorem frame_reference : Cert.quiescent_FgateRefIdeal := fun m ρ _ =>
  (θ_run Cert.FgateRefIdeal.defs _ _).mono (fun r h => ⟨fun c => (h c).2.2.2.2,
      Idealize.ShloMosaic.sem_eq_zero_of_no_sems (by decide) r.2⟩)
    (Cert.FgateRefIdeal.Value.run (F := Ideal) m ρ)

theorem preserves : Cert.preserves_Fgate_FgateIdeal := trivial

/-- The four results agree over the extended reals. -/
theorem algebraic : Cert.algebraic_FgateIdeal_FgateRefIdeal := by
  intro m ρ m' ρ' _ hag
  refine ⟨fun c => val_main_v27 (F := Ideal) (a0 m c) (a1 m c), fun c => val_main_v28 (F := Ideal) (a0 m c) (a1 m c),
    fun c => val_main_v30 (F := Ideal) (a0 m c) (a1 m c), fun c => val_main_v32 (F := Ideal) (a0 m c) (a1 m c), ?_, ?_⟩
  · exact (θ_run Cert.FgateIdeal.defs _ _).mono (fun _ h c => ⟨(h c).1.trans (final2 m c), (h c).2.1.trans (final3 m c),
      (h c).2.2.1.trans (final4 m c), (h c).2.2.2.1.trans (final5 m c), (h c).2.2.2.2⟩)
      (Cert.FgateIdeal.Value.run_blocks m ρ)
  refine (θ_run Cert.FgateRefIdeal.defs _ _).mono (fun _ h c => ⟨(h c).1.trans ?_, (h c).2.1.trans ?_, (h c).2.2.1.trans ?_, (h c).2.2.2.1.trans ?_, (h c).2.2.2.2⟩)
    (Cert.FgateRefIdeal.Value.run (F := Ideal) m' ρ')
  · obtain ⟨h0, h1⟩ := hag c
    rw [val_main_v27_eq, h0, h1]
  · obtain ⟨h0, h1⟩ := hag c
    rw [val_main_v28_eq, h0, h1]
  · obtain ⟨h0, h1⟩ := hag c
    rw [val_main_v30_eq, h0, h1]
  · obtain ⟨h0, h1⟩ := hag c
    rw [val_main_v32_eq, h0, h1]

end Cert.Proof.Fgate

end
-- ==== Proof.FlashTiles.lean ====
/- The attention's tiles: what the body leaves in each of its eight row tiles, written as one step repeated over the
   key tiles. -/
module

public import proofs.«01_k».proof.Defs
public import proofs.«01_k».proof.Proof.Gen.FlashIdeal.Value
public import Idealize.ShloMosaic.Lib.Pointwise
public import Idealize.ShloMosaic.Lib.Routing.OpsOne
public import Idealize.ShloMosaic.Lib.Routing.OpsSet
public import Idealize.ShloMosaic.Lib.Pipeline.ReadBack
public import Idealize.ShloMosaic.Lib.Pipeline.ValueKit

@[expose] public section

set_option maxRecDepth 16384

noncomputable section
namespace Cert.FlashIdeal.Att

open Idealize.ShloMosaic Idealize.ShloMosaic.TcCoe Idealize.ShloMosaic.Tactic
open Idealize.SL.Sem
open Idealize.ShloMosaic.Pipeline (Dat Cfg Window)

open Cert.FlashIdeal.Gen

/-- A tile of queries or keys beside its own lanes of the decay, where those of the other side are one. -/
def aug (x a : Vec Ideal S256x128 .bf16) (w : FVec Ideal S1x128 .bf16) : FVec Ideal S256x256 .bf16 :=
  concatenate S256x256 1 [⟨S256x128, x⟩, ⟨S256x128, addf a (broadcastTo S256x128 w broadcasts_S1x128_S256x128)⟩] concatenates_S256x128_S256x128_S256x256_d1
/-- The scores of a tile of queries against a tile of keys, -/
def score (q k : FVec Ideal S256x256 .bf16) : FVec Ideal S256x256 .f32 :=
  matmul dot_S256x256_S256x256_S256x256_1_1_0_0_n_n none q k (constant S256x256 .f32 0x00000000#32)
/-- those after the query left out, -/
def masked (s : FVec Ideal S256x256 .f32) : FVec Ideal S256x256 .f32 :=
  select k0_pay2 s (broadcast S256x256 (Scalar.ofBits .f32 0xFF800000#32))
/-- in two halves. -/
def h0 (s : FVec Ideal S256x256 .f32) : FVec Ideal S256x128 .f32 := extractStridedSlice S256x128 ![0, 0] s slices_S256x256_o0_0_S256x128
def h1 (s : FVec Ideal S256x256 .f32) : FVec Ideal S256x128 .f32 := extractStridedSlice S256x128 ![0, 128] s slices_S256x256_o0_128_S256x128
def two {e : FTy} (a b : FVec Ideal S256x128 e) : FVec Ideal S256x256 e :=
  concatenate S256x256 1 [⟨S256x128, a⟩, ⟨S256x128, b⟩] concatenates_S256x128_S256x128_S256x256_d1
/-- The running maximum after one key tile -/
def mx (m : FVec Ideal S256x128 .f32) (s : FVec Ideal S256x256 .f32) : FVec Ideal S256x128 .f32 :=
  maximumf m (broadcastTo S256x128 (shapeCast S256x1 (multiReduction .maximumf [1] S256 (maximumf (h0 s) (h1 s)) 0xFF800000#32 reduces_S256x128_S256 (.inl rfl) rfl) shapeCasts_S256_S256x1) broadcasts_S256x1_S256x128)
/-- and the running sums, relative to it. -/
def ac (m : FVec Ideal S256x128 .f32) (a s : FVec Ideal S256x256 .f32) (v : Vec Ideal S256x128 .bf16) : FVec Ideal S256x256 .f32 :=
  addf (mulf a (two (exp2 (subf m (mx m s))) (exp2 (subf m (mx m s)))))
    (matmul dot_S256x256_S256x256_S256x256_1_0_0_1_n_n none (truncf .bf16 (two (exp2 (subf (h0 s) (mx m s))) (exp2 (subf (h1 s) (mx m s)))) bitsLt_bf16_f32)
      (two (e := .bf16) v k0_pay6) (constant S256x256 .f32 0x00000000#32))
/-- The tile's result from its running sums and the gate. -/
def fin (a : FVec Ideal S256x256 .f32) (z : Vec Ideal S256x128 .bf16) : FVec Ideal S256x128 .bf16 :=
  k0_pay1 (mulf (h0 a) (divf (broadcast S256x128 (Scalar.ofBits .f32 0x3F800000#32)) (h1 a))) z

def mxs (q : FVec Ideal S256x256 .bf16) (K : ℕ → FVec Ideal S256x256 .bf16) : ℕ → FVec Ideal S256x128 .f32
  | 0 => broadcast S256x128 (Scalar.ofBits .f32 0xFF800000#32)
  | j + 1 => mx (mxs q K j) (score q (K j))
def acs (q : FVec Ideal S256x256 .bf16) (K : ℕ → FVec Ideal S256x256 .bf16) (V : ℕ → Vec Ideal S256x128 .bf16) : ℕ → FVec Ideal S256x256 .f32
  | 0 => broadcast S256x256 (Scalar.ofBits .f32 0x00000000#32)
  | j + 1 => ac (mxs q K j) (acs q K V j) (score q (K j)) (V j)
def tile (q : FVec Ideal S256x256 .bf16) (K : ℕ → FVec Ideal S256x256 .bf16) (V : ℕ → Vec Ideal S256x128 .bf16) (z : Vec Ideal S256x128 .bf16) (i : ℕ) : FVec Ideal S256x128 .bf16 :=
  fin (ac (mxs q K i) (acs q K V i) (masked (score q (K i))) (V i)) z

/-- The eight row tiles of a block. -/
def ldt (x : Vec Ideal S2048x128 .bf16) : ℕ → Vec Ideal S256x128 .bf16
  | 0 => View.ld x r0_0
  | 1 => View.ld x r0_1
  | 2 => View.ld x r0_2
  | 3 => View.ld x r0_3
  | 4 => View.ld x r0_4
  | 5 => View.ld x r0_5
  | 6 => View.ld x r0_6
  | _ => View.ld x r0_7
theorem ldt_0 (x) : ldt x 0 = View.ld x r0_0 := rfl
theorem ldt_1 (x) : ldt x 1 = View.ld x r0_1 := rfl
theorem ldt_2 (x) : ldt x 2 = View.ld x r0_2 := rfl
theorem ldt_3 (x) : ldt x 3 = View.ld x r0_3 := rfl
theorem ldt_4 (x) : ldt x 4 = View.ld x r0_4 := rfl
theorem ldt_5 (x) : ldt x 5 = View.ld x r0_5 := rfl
theorem ldt_6 (x) : ldt x 6 = View.ld x r0_6 := rfl
theorem ldt_7 (x) : ldt x 7 = View.ld x r0_7 := rfl

variable (i : grid0.Coords) (x0 x1 x2 x3 x4 x5 : Vec Ideal S2048x128 .bf16)

/-- The block's row tile `n`. -/
def row (n : ℕ) : FVec Ideal S256x128 .bf16 :=
  tile (aug (ldt x0 n) (ldt x4 n) (k0_pay4 i)) (fun j => aug (ldt x1 j) (ldt x5 j) (k0_pay5 i)) (ldt x2) (ldt x3 n) n

set_option maxHeartbeats 4000000 in
theorem piece0 : k0_pay11 (k0_pay207 i x0 x1 x2 x3 x4 x5) (k0_pay210 i x0 x1 x2 x3 x4 x5) (k0_pay7 i (View.ld x0 r0_0) (View.ld x4 r0_0)) (k0_pay8 (F := Ideal)) (k0_pay9 (F := Ideal)) (k0_pay10 i (View.ld x1 r0_0) (View.ld x5 r0_0)) (View.ld x2 r0_0) (View.ld x3 r0_0)
    = row i x0 x1 x2 x3 x4 x5 0 := by
  simp only [row, tile, mxs, acs, fin, mx, ac, masked, score, aug, two, h0, h1, ldt_0, ldt_1, ldt_2, ldt_3, ldt_4, ldt_5, ldt_6, ldt_7,
    k0_pay7, k0_pay8, k0_pay9, k0_pay10, k0_pay11, k0_pay207, k0_pay210]
  first | done | rfl

set_option maxHeartbeats 4000000 in
theorem piece1 : k0_pay24 (k0_pay17 (k0_pay209 i x0 x1 x2 x3 x4 x5) (k0_pay211 i x0 x1 x2 x3 x4 x5) (k0_pay212 i x0 x1 x2 x3 x4 x5) (View.ld x1 r0_0) (View.ld x5 r0_0)) (k0_pay18 (k0_pay209 i x0 x1 x2 x3 x4 x5) (k0_pay210 i x0 x1 x2 x3 x4 x5) (k0_pay211 i x0 x1 x2 x3 x4 x5) (k0_pay212 i x0 x1 x2 x3 x4 x5) (Scalar.ofBits (F := Ideal) .f32 0x00000000#32) (View.ld x1 r0_0) (View.ld x5 r0_0) (View.ld x2 r0_0)) (k0_pay20 (k0_pay210 i x0 x1 x2 x3 x4 x5) (View.ld x2 r0_1)) (k0_pay21 (k0_pay207 i x0 x1 x2 x3 x4 x5) (k0_pay209 i x0 x1 x2 x3 x4 x5) (k0_pay211 i x0 x1 x2 x3 x4 x5) (View.ld x1 r0_1) (View.ld x5 r0_1)) (k0_pay22 (k0_pay207 i x0 x1 x2 x3 x4 x5) (k0_pay209 i x0 x1 x2 x3 x4 x5) (k0_pay211 i x0 x1 x2 x3 x4 x5) (View.ld x1 r0_1) (View.ld x5 r0_1)) (k0_pay23 (k0_pay207 i x0 x1 x2 x3 x4 x5) (k0_pay209 i x0 x1 x2 x3 x4 x5) (k0_pay211 i x0 x1 x2 x3 x4 x5) (View.ld x1 r0_1) (View.ld x5 r0_1)) (View.ld x3 r0_1)
    = row i x0 x1 x2 x3 x4 x5 1 := by
  simp only [row, tile, mxs, acs, fin, mx, ac, masked, score, aug, two, h0, h1, ldt_0, ldt_1, ldt_2, ldt_3, ldt_4, ldt_5, ldt_6, ldt_7,
    k0_pay12, k0_pay13, k0_pay14, k0_pay15, k0_pay16, k0_pay17, k0_pay18, k0_pay19, k0_pay20, k0_pay21, k0_pay22, k0_pay23, k0_pay24, k0_pay207, k0_pay208, k0_pay209, k0_pay210, k0_pay211, k0_pay212]
  first | done | rfl

set_option maxHeartbeats 4000000 in
theorem piece2 : k0_pay37 (k0_pay207 i x0 x1 x2 x3 x4 x5) (k0_pay209 i x0 x1 x2 x3 x4 x5) (k0_pay210 i x0 x1 x2 x3 x4 x5) (k0_pay213 i x0 x1 x2 x3 x4 x5) (k0_pay35 (k0_pay209 i x0 x1 x2 x3 x4 x5) (k0_pay213 i x0 x1 x2 x3 x4 x5) (k0_pay214 i x0 x1 x2 x3 x4 x5) (k0_pay215 i x0 x1 x2 x3 x4 x5) (View.ld x1 r0_1) (View.ld x5 r0_1)) (k0_pay36 (k0_pay209 i x0 x1 x2 x3 x4 x5) (k0_pay210 i x0 x1 x2 x3 x4 x5) (k0_pay213 i x0 x1 x2 x3 x4 x5) (k0_pay214 i x0 x1 x2 x3 x4 x5) (k0_pay27 (F := Ideal)) (k0_pay215 i x0 x1 x2 x3 x4 x5) (View.ld x2 r0_0) (View.ld x1 r0_1) (View.ld x5 r0_1) (View.ld x2 r0_1)) (View.ld x1 r0_2) (View.ld x5 r0_2) (View.ld x2 r0_2) (View.ld x3 r0_2)
    = row i x0 x1 x2 x3 x4 x5 2 := by
  simp only [row, tile, mxs, acs, fin, mx, ac, masked, score, aug, two, h0, h1, ldt_0, ldt_1, ldt_2, ldt_3, ldt_4, ldt_5, ldt_6, ldt_7,
    k0_pay25, k0_pay26, k0_pay27, k0_pay28, k0_pay29, k0_pay30, k0_pay31, k0_pay32, k0_pay33, k0_pay34, k0_pay35, k0_pay36, k0_pay37, k0_pay207, k0_pay208, k0_pay209, k0_pay210, k0_pay213, k0_pay214, k0_pay215]
  first | done | rfl

set_option maxHeartbeats 4000000 in
theorem piece3 : k0_pay55 (k0_pay207 i x0 x1 x2 x3 x4 x5) (k0_pay209 i x0 x1 x2 x3 x4 x5) (k0_pay210 i x0 x1 x2 x3 x4 x5) (k0_pay216 i x0 x1 x2 x3 x4 x5) (k0_pay53 (k0_pay209 i x0 x1 x2 x3 x4 x5) (k0_pay216 i x0 x1 x2 x3 x4 x5) (k0_pay217 i x0 x1 x2 x3 x4 x5) (k0_pay218 i x0 x1 x2 x3 x4 x5) (View.ld x1 r0_2) (View.ld x5 r0_2)) (k0_pay54 (k0_pay209 i x0 x1 x2 x3 x4 x5) (k0_pay210 i x0 x1 x2 x3 x4 x5) (k0_pay216 i x0 x1 x2 x3 x4 x5) (k0_pay217 i x0 x1 x2 x3 x4 x5) (k0_pay44 (k0_pay208 i x0 x1 x2 x3 x4 x5) (k0_pay209 i x0 x1 x2 x3 x4 x5) (k0_pay210 i x0 x1 x2 x3 x4 x5) (View.ld x0 r0_3) (View.ld x4 r0_3) (View.ld x1 r0_0) (View.ld x5 r0_0) (View.ld x2 r0_0)) (k0_pay218 i x0 x1 x2 x3 x4 x5) (k0_pay46 (k0_pay210 i x0 x1 x2 x3 x4 x5) (View.ld x2 r0_1)) (View.ld x1 r0_2) (View.ld x5 r0_2) (View.ld x2 r0_2)) (View.ld x1 r0_3) (View.ld x5 r0_3) (View.ld x2 r0_3) (View.ld x3 r0_3)
    = row i x0 x1 x2 x3 x4 x5 3 := by
  simp only [row, tile, mxs, acs, fin, mx, ac, masked, score, aug, two, h0, h1, ldt_0, ldt_1, ldt_2, ldt_3, ldt_4, ldt_5, ldt_6, ldt_7,
    k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay207, k0_pay208, k0_pay209, k0_pay210, k0_pay216, k0_pay217, k0_pay218]
  first | done | rfl

set_option maxHeartbeats 4000000 in
theorem piece4 : k0_pay85 (k0_pay77 (k0_pay209 i x0 x1 x2 x3 x4 x5) (k0_pay210 i x0 x1 x2 x3 x4 x5) (k0_pay219 i x0 x1 x2 x3 x4 x5) (k0_pay223 i x0 x1 x2 x3 x4 x5) (k0_pay72 (k0_pay209 i x0 x1 x2 x3 x4 x5) (k0_pay210 i x0 x1 x2 x3 x4 x5) (k0_pay219 i x0 x1 x2 x3 x4 x5) (k0_pay220 i x0 x1 x2 x3 x4 x5) (k0_pay62 (k0_pay208 i x0 x1 x2 x3 x4 x5) (k0_pay209 i x0 x1 x2 x3 x4 x5) (k0_pay210 i x0 x1 x2 x3 x4 x5) (View.ld x0 r0_4) (View.ld x4 r0_4) (View.ld x1 r0_0) (View.ld x5 r0_0) (View.ld x2 r0_0)) (k0_pay64 (k0_pay210 i x0 x1 x2 x3 x4 x5) (View.ld x2 r0_1)) (k0_pay221 i x0 x1 x2 x3 x4 x5) (k0_pay222 i x0 x1 x2 x3 x4 x5) (View.ld x1 r0_2) (View.ld x5 r0_2) (View.ld x2 r0_2)) (View.ld x1 r0_3) (View.ld x5 r0_3) (View.ld x2 r0_3)) (k0_pay79 (k0_pay210 i x0 x1 x2 x3 x4 x5) (View.ld x2 r0_4)) (k0_pay81 (k0_pay207 i x0 x1 x2 x3 x4 x5) (k0_pay209 i x0 x1 x2 x3 x4 x5) (k0_pay219 i x0 x1 x2 x3 x4 x5) (View.ld x1 r0_4) (View.ld x5 r0_4)) (k0_pay82 (k0_pay207 i x0 x1 x2 x3 x4 x5) (k0_pay209 i x0 x1 x2 x3 x4 x5) (k0_pay219 i x0 x1 x2 x3 x4 x5) (k0_pay223 i x0 x1 x2 x3 x4 x5) (View.ld x1 r0_3) (View.ld x5 r0_3) (View.ld x1 r0_4) (View.ld x5 r0_4)) (k0_pay83 (k0_pay207 i x0 x1 x2 x3 x4 x5) (k0_pay209 i x0 x1 x2 x3 x4 x5) (k0_pay219 i x0 x1 x2 x3 x4 x5) (k0_pay223 i x0 x1 x2 x3 x4 x5) (View.ld x1 r0_3) (View.ld x5 r0_3) (View.ld x1 r0_4) (View.ld x5 r0_4)) (k0_pay84 (k0_pay207 i x0 x1 x2 x3 x4 x5) (k0_pay209 i x0 x1 x2 x3 x4 x5) (k0_pay219 i x0 x1 x2 x3 x4 x5) (k0_pay223 i x0 x1 x2 x3 x4 x5) (View.ld x1 r0_3) (View.ld x5 r0_3) (View.ld x1 r0_4) (View.ld x5 r0_4)) (View.ld x3 r0_4)
    = row i x0 x1 x2 x3 x4 x5 4 := by
  simp only [row, tile, mxs, acs, fin, mx, ac, masked, score, aug, two, h0, h1, ldt_0, ldt_1, ldt_2, ldt_3, ldt_4, ldt_5, ldt_6, ldt_7,
    k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay207, k0_pay208, k0_pay209, k0_pay210, k0_pay219, k0_pay220, k0_pay221, k0_pay222, k0_pay223]
  first | done | rfl

set_option maxHeartbeats 4000000 in
theorem piece5 : k0_pay121 (k0_pay116 (k0_pay209 i x0 x1 x2 x3 x4 x5) (k0_pay224 i x0 x1 x2 x3 x4 x5) (k0_pay229 i x0 x1 x2 x3 x4 x5) (View.ld x1 r0_4) (View.ld x5 r0_4)) (k0_pay117 (k0_pay209 i x0 x1 x2 x3 x4 x5) (k0_pay210 i x0 x1 x2 x3 x4 x5) (k0_pay224 i x0 x1 x2 x3 x4 x5) (k0_pay105 (k0_pay210 i x0 x1 x2 x3 x4 x5) (k0_pay224 i x0 x1 x2 x3 x4 x5) (k0_pay227 i x0 x1 x2 x3 x4 x5) (k0_pay99 (k0_pay209 i x0 x1 x2 x3 x4 x5) (k0_pay210 i x0 x1 x2 x3 x4 x5) (k0_pay224 i x0 x1 x2 x3 x4 x5) (k0_pay225 i x0 x1 x2 x3 x4 x5) (k0_pay88 (F := Ideal)) (k0_pay90 (k0_pay210 i x0 x1 x2 x3 x4 x5) (View.ld x2 r0_0)) (k0_pay91 (k0_pay208 i x0 x1 x2 x3 x4 x5) (k0_pay209 i x0 x1 x2 x3 x4 x5) (View.ld x0 r0_5) (View.ld x4 r0_5) (View.ld x1 r0_0) (View.ld x5 r0_0)) (k0_pay92 (k0_pay208 i x0 x1 x2 x3 x4 x5) (k0_pay209 i x0 x1 x2 x3 x4 x5) (View.ld x0 r0_5) (View.ld x4 r0_5) (View.ld x1 r0_0) (View.ld x5 r0_0)) (k0_pay226 i x0 x1 x2 x3 x4 x5) (View.ld x1 r0_1) (View.ld x5 r0_1) (View.ld x2 r0_1)) (View.ld x1 r0_2) (View.ld x5 r0_2) (k0_pay228 i x0 x1 x2 x3 x4 x5) (View.ld x2 r0_2)) (k0_pay107 (k0_pay210 i x0 x1 x2 x3 x4 x5) (View.ld x2 r0_3)) (k0_pay229 i x0 x1 x2 x3 x4 x5) (k0_pay111 (k0_pay209 i x0 x1 x2 x3 x4 x5) (k0_pay224 i x0 x1 x2 x3 x4 x5) (k0_pay227 i x0 x1 x2 x3 x4 x5) (View.ld x1 r0_2) (View.ld x5 r0_2) (k0_pay228 i x0 x1 x2 x3 x4 x5) (View.ld x1 r0_3) (View.ld x5 r0_3)) (k0_pay112 (k0_pay209 i x0 x1 x2 x3 x4 x5) (k0_pay224 i x0 x1 x2 x3 x4 x5) (k0_pay227 i x0 x1 x2 x3 x4 x5) (View.ld x1 r0_2) (View.ld x5 r0_2) (k0_pay228 i x0 x1 x2 x3 x4 x5) (View.ld x1 r0_3) (View.ld x5 r0_3)) (View.ld x1 r0_4) (View.ld x5 r0_4) (View.ld x2 r0_4)) (k0_pay118 (k0_pay207 i x0 x1 x2 x3 x4 x5) (k0_pay209 i x0 x1 x2 x3 x4 x5) (k0_pay224 i x0 x1 x2 x3 x4 x5) (View.ld x1 r0_5) (View.ld x5 r0_5)) (k0_pay119 (k0_pay210 i x0 x1 x2 x3 x4 x5) (View.ld x2 r0_5)) (k0_pay120 (k0_pay207 i x0 x1 x2 x3 x4 x5) (k0_pay209 i x0 x1 x2 x3 x4 x5) (k0_pay224 i x0 x1 x2 x3 x4 x5) (View.ld x1 r0_5) (View.ld x5 r0_5)) (View.ld x3 r0_5)
    = row i x0 x1 x2 x3 x4 x5 5 := by
  simp only [row, tile, mxs, acs, fin, mx, ac, masked, score, aug, two, h0, h1, ldt_0, ldt_1, ldt_2, ldt_3, ldt_4, ldt_5, ldt_6, ldt_7,
    k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay207, k0_pay208, k0_pay209, k0_pay210, k0_pay224, k0_pay225, k0_pay226, k0_pay227, k0_pay228, k0_pay229]
  first | done | rfl

set_option maxHeartbeats 4000000 in
theorem piece6 : k0_pay166 (k0_pay158 (k0_pay210 i x0 x1 x2 x3 x4 x5) (k0_pay230 i x0 x1 x2 x3 x4 x5) (k0_pay236 i x0 x1 x2 x3 x4 x5) (k0_pay152 (k0_pay209 i x0 x1 x2 x3 x4 x5) (k0_pay210 i x0 x1 x2 x3 x4 x5) (k0_pay230 i x0 x1 x2 x3 x4 x5) (k0_pay234 i x0 x1 x2 x3 x4 x5) (k0_pay141 (k0_pay209 i x0 x1 x2 x3 x4 x5) (k0_pay210 i x0 x1 x2 x3 x4 x5) (k0_pay230 i x0 x1 x2 x3 x4 x5) (k0_pay131 (k0_pay210 i x0 x1 x2 x3 x4 x5) (View.ld x2 r0_1)) (k0_pay233 i x0 x1 x2 x3 x4 x5) (k0_pay135 (k0_pay209 i x0 x1 x2 x3 x4 x5) (k0_pay210 i x0 x1 x2 x3 x4 x5) (k0_pay230 i x0 x1 x2 x3 x4 x5) (k0_pay231 i x0 x1 x2 x3 x4 x5) (k0_pay124 (F := Ideal)) (k0_pay232 i x0 x1 x2 x3 x4 x5) (View.ld x2 r0_0) (View.ld x1 r0_1) (View.ld x5 r0_1)) (k0_pay136 (k0_pay209 i x0 x1 x2 x3 x4 x5) (k0_pay230 i x0 x1 x2 x3 x4 x5) (k0_pay231 i x0 x1 x2 x3 x4 x5) (k0_pay232 i x0 x1 x2 x3 x4 x5) (View.ld x1 r0_1) (View.ld x5 r0_1)) (View.ld x1 r0_2) (View.ld x5 r0_2) (View.ld x2 r0_2)) (k0_pay143 (k0_pay210 i x0 x1 x2 x3 x4 x5) (View.ld x2 r0_3)) (k0_pay144 (k0_pay209 i x0 x1 x2 x3 x4 x5) (k0_pay230 i x0 x1 x2 x3 x4 x5) (View.ld x1 r0_3) (View.ld x5 r0_3)) (k0_pay145 (k0_pay209 i x0 x1 x2 x3 x4 x5) (k0_pay230 i x0 x1 x2 x3 x4 x5) (View.ld x1 r0_3) (View.ld x5 r0_3)) (k0_pay235 i x0 x1 x2 x3 x4 x5) (View.ld x1 r0_4) (View.ld x5 r0_4) (View.ld x2 r0_4)) (k0_pay237 i x0 x1 x2 x3 x4 x5) (View.ld x2 r0_5)) (k0_pay160 (k0_pay210 i x0 x1 x2 x3 x4 x5) (View.ld x2 r0_6)) (k0_pay164 (k0_pay207 i x0 x1 x2 x3 x4 x5) (k0_pay209 i x0 x1 x2 x3 x4 x5) (k0_pay230 i x0 x1 x2 x3 x4 x5) (k0_pay236 i x0 x1 x2 x3 x4 x5) (k0_pay237 i x0 x1 x2 x3 x4 x5) (View.ld x1 r0_6) (View.ld x5 r0_6)) (k0_pay165 (k0_pay207 i x0 x1 x2 x3 x4 x5) (k0_pay209 i x0 x1 x2 x3 x4 x5) (k0_pay230 i x0 x1 x2 x3 x4 x5) (k0_pay236 i x0 x1 x2 x3 x4 x5) (k0_pay237 i x0 x1 x2 x3 x4 x5) (View.ld x1 r0_6) (View.ld x5 r0_6)) (View.ld x3 r0_6)
    = row i x0 x1 x2 x3 x4 x5 6 := by
  simp only [row, tile, mxs, acs, fin, mx, ac, masked, score, aug, two, h0, h1, ldt_0, ldt_1, ldt_2, ldt_3, ldt_4, ldt_5, ldt_6, ldt_7,
    k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay207, k0_pay208, k0_pay209, k0_pay210, k0_pay230, k0_pay231, k0_pay232, k0_pay233, k0_pay234, k0_pay235, k0_pay236, k0_pay237]
  first | done | rfl

set_option maxHeartbeats 4000000 in
theorem piece7 : k0_pay1 (k0_pay206 (k0_pay207 i x0 x1 x2 x3 x4 x5) (k0_pay210 i x0 x1 x2 x3 x4 x5) (k0_pay203 (k0_pay209 i x0 x1 x2 x3 x4 x5) (k0_pay238 i x0 x1 x2 x3 x4 x5) (k0_pay243 i x0 x1 x2 x3 x4 x5) (View.ld x1 r0_6) (View.ld x5 r0_6)) (k0_pay204 (k0_pay209 i x0 x1 x2 x3 x4 x5) (k0_pay210 i x0 x1 x2 x3 x4 x5) (k0_pay238 i x0 x1 x2 x3 x4 x5) (k0_pay193 (k0_pay209 i x0 x1 x2 x3 x4 x5) (k0_pay238 i x0 x1 x2 x3 x4 x5) (k0_pay242 i x0 x1 x2 x3 x4 x5) (View.ld x1 r0_4) (View.ld x5 r0_4)) (k0_pay194 (k0_pay209 i x0 x1 x2 x3 x4 x5) (k0_pay210 i x0 x1 x2 x3 x4 x5) (k0_pay238 i x0 x1 x2 x3 x4 x5) (k0_pay242 i x0 x1 x2 x3 x4 x5) (k0_pay188 (k0_pay209 i x0 x1 x2 x3 x4 x5) (k0_pay210 i x0 x1 x2 x3 x4 x5) (k0_pay238 i x0 x1 x2 x3 x4 x5) (k0_pay240 i x0 x1 x2 x3 x4 x5) (k0_pay179 (k0_pay209 i x0 x1 x2 x3 x4 x5) (k0_pay210 i x0 x1 x2 x3 x4 x5) (k0_pay238 i x0 x1 x2 x3 x4 x5) (k0_pay168 (F := Ideal)) (k0_pay169 (F := Ideal)) (k0_pay171 (k0_pay210 i x0 x1 x2 x3 x4 x5) (View.ld x2 r0_0)) (k0_pay172 (k0_pay208 i x0 x1 x2 x3 x4 x5) (k0_pay209 i x0 x1 x2 x3 x4 x5) (View.ld x0 r0_7) (View.ld x4 r0_7) (View.ld x1 r0_0) (View.ld x5 r0_0)) (k0_pay173 (k0_pay208 i x0 x1 x2 x3 x4 x5) (k0_pay209 i x0 x1 x2 x3 x4 x5) (View.ld x0 r0_7) (View.ld x4 r0_7) (View.ld x1 r0_0) (View.ld x5 r0_0)) (k0_pay239 i x0 x1 x2 x3 x4 x5) (View.ld x1 r0_1) (View.ld x5 r0_1) (View.ld x2 r0_1)) (k0_pay241 i x0 x1 x2 x3 x4 x5) (View.ld x2 r0_2) (View.ld x1 r0_3) (View.ld x5 r0_3)) (k0_pay189 (k0_pay209 i x0 x1 x2 x3 x4 x5) (k0_pay210 i x0 x1 x2 x3 x4 x5) (k0_pay238 i x0 x1 x2 x3 x4 x5) (k0_pay240 i x0 x1 x2 x3 x4 x5) (k0_pay241 i x0 x1 x2 x3 x4 x5) (View.ld x1 r0_3) (View.ld x5 r0_3) (View.ld x2 r0_3)) (View.ld x1 r0_4) (View.ld x5 r0_4) (View.ld x2 r0_4)) (k0_pay196 (k0_pay210 i x0 x1 x2 x3 x4 x5) (View.ld x2 r0_5)) (k0_pay197 (k0_pay209 i x0 x1 x2 x3 x4 x5) (k0_pay238 i x0 x1 x2 x3 x4 x5) (View.ld x1 r0_5) (View.ld x5 r0_5)) (k0_pay198 (k0_pay209 i x0 x1 x2 x3 x4 x5) (k0_pay238 i x0 x1 x2 x3 x4 x5) (View.ld x1 r0_5) (View.ld x5 r0_5)) (k0_pay243 i x0 x1 x2 x3 x4 x5) (View.ld x1 r0_6) (View.ld x5 r0_6) (View.ld x2 r0_6)) (k0_pay205 (k0_pay209 i x0 x1 x2 x3 x4 x5) (k0_pay238 i x0 x1 x2 x3 x4 x5) (View.ld x1 r0_7) (View.ld x5 r0_7)) (View.ld x2 r0_7)) (View.ld x3 r0_7)
    = row i x0 x1 x2 x3 x4 x5 7 := by
  simp only [row, tile, mxs, acs, fin, mx, ac, masked, score, aug, two, h0, h1, ldt_0, ldt_1, ldt_2, ldt_3, ldt_4, ldt_5, ldt_6, ldt_7,
    k0_pay1, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay238, k0_pay239, k0_pay240, k0_pay241, k0_pay242, k0_pay243]
  first | done | rfl

end Cert.FlashIdeal.Att

end
-- ==== Proof.FlashMath.lean ====
/- The attention's arithmetic over the extended reals: a weighted sum kept relative to a running maximum, and its
   rescaling when the maximum grows. -/
module

public import Idealize.ShloMosaic.Lib.Pointwise
public import Idealize.ShloMosaic.Lib.IdealHost

@[expose] public section

noncomputable section
namespace Cert.FlashMath

open Idealize.ShloMosaic

theorem exp2_nonneg (x : EReal) : 0 ≤ Ideal.exp2 x := by
  induction x with
  | bot => exact le_refl _
  | top => exact le_top
  | coe r => rw [Ideal.exp2_coe]; exact_mod_cast (Real.rpow_pos_of_pos (by norm_num) r).le

theorem exp2_ne_top {x : EReal} (h : x ≠ ⊤) : Ideal.exp2 x ≠ ⊤ := by
  induction x with
  | bot => exact EReal.zero_ne_top
  | top => exact absurd rfl h
  | coe r => rw [Ideal.exp2_coe]; exact EReal.coe_ne_top _

theorem bot_sub (x : EReal) : ⊥ - x = ⊥ := by rw [sub_eq_add_neg, EReal.bot_add]
theorem sub_top (x : EReal) : x - ⊤ = ⊥ := by rw [sub_eq_add_neg, EReal.neg_top, EReal.add_bot]

theorem sub_ne_top {a b : EReal} (h : a ≤ b) : a - b ≠ ⊤ := by
  induction b with
  | top => rw [sub_top]; exact bot_ne_top
  | bot => rw [le_bot_iff.1 h, bot_sub]; exact bot_ne_top
  | coe r =>
    induction a with
    | top => exact absurd (top_le_iff.1 h) (EReal.coe_ne_top r)
    | bot => rw [bot_sub]; exact bot_ne_top
    | coe q => exact EReal.coe_ne_top (q - r)

/-- A weight relative to one maximum, rescaled to a larger one. -/
theorem rescale {s a b : EReal} (h : s ≤ a) (h' : a ≤ b) : Ideal.exp2 (s - a) * Ideal.exp2 (a - b) = Ideal.exp2 (s - b) := by
  induction b with
  | top => rw [sub_top, sub_top, Ideal.exp2_bot, mul_zero]
  | bot =>
    obtain rfl := le_bot_iff.1 h'
    obtain rfl := le_bot_iff.1 h
    rw [bot_sub, Ideal.exp2_bot, mul_zero]
  | coe b =>
    induction a with
    | top => exact absurd (top_le_iff.1 h') (EReal.coe_ne_top b)
    | bot =>
      obtain rfl := le_bot_iff.1 h
      rw [bot_sub, bot_sub, Ideal.exp2_bot, mul_zero]
    | coe a =>
      induction s with
      | top => exact absurd (top_le_iff.1 h) (EReal.coe_ne_top a)
      | bot => rw [bot_sub, bot_sub, Ideal.exp2_bot, zero_mul]
      | coe s =>
        rw [← EReal.coe_sub, ← EReal.coe_sub, ← EReal.coe_sub, Ideal.exp2_coe, Ideal.exp2_coe, Ideal.exp2_coe, ← EReal.coe_mul]
        congr 1
        rw [← show (s - a) + (a - b) = s - b by ring]
        exact (Real.rpow_add (by norm_num) _ _).symm

theorem sum_mul {ι : Type} (s : Finset ι) (f : ι → EReal) {c : EReal} (h0 : 0 ≤ c) (ht : c ≠ ⊤) : (∑ i ∈ s, f i) * c = ∑ i ∈ s, f i * c := by
  classical
  induction s using Finset.induction_on with
  | empty => rw [Finset.sum_empty, Finset.sum_empty, zero_mul]
  | insert a s ha ih =>
    rw [Finset.sum_insert ha, Finset.sum_insert ha, EReal.right_distrib_of_nonneg_of_ne_top h0 ht, ih]

/-- The greatest of the first `n` scores. -/
def top (S : ℕ → EReal) (n : ℕ) : EReal := (Finset.range n).sup S

/-- The first `n` values, each weighted relative to the greatest of the `n` scores. -/
def acc (S V : ℕ → EReal) (n : ℕ) : EReal := ∑ k ∈ Finset.range n, Ideal.exp2 (S k - top S n) * V k

theorem top_mono (S : ℕ → EReal) {a b : ℕ} (h : a ≤ b) : top S a ≤ top S b :=
  Finset.sup_mono (Finset.range_subset_range.2 h)

theorem top_zero (S : ℕ → EReal) : top S 0 = ⊥ := rfl
theorem acc_zero (S V : ℕ → EReal) : acc S V 0 = 0 := rfl

theorem top_step (S : ℕ → EReal) (n : ℕ) : top S (n + 256)
    = max (top S n) (Finset.univ.fold max ⊥ fun x : Fin 128 => max (S (n + x.val)) (S (n + (128 + x.val)))) := by
  have e : (Finset.univ.fold max ⊥ fun x : Fin 128 => max (S (n + x.val)) (S (n + (128 + x.val))))
      = Finset.univ.sup fun x : Fin 128 => S (n + x.val) ⊔ S (n + (128 + x.val)) := rfl
  rw [e]
  refine le_antisymm (Finset.sup_le fun k hk => ?_) (max_le (top_mono S (by omega)) (Finset.sup_le fun x _ => sup_le ?_ ?_))
  · have hk' := Finset.mem_range.1 hk
    by_cases h : k < n
    · exact le_max_of_le_left (Finset.le_sup (f := S) (Finset.mem_range.2 h))
    · refine le_max_of_le_right ?_
      by_cases h2 : k - n < 128
      · refine le_trans ?_ (Finset.le_sup (f := fun x : Fin 128 => S (n + x.val) ⊔ S (n + (128 + x.val))) (Finset.mem_univ ⟨k - n, h2⟩))
        refine le_trans (le_of_eq (congrArg S ?_)) le_sup_left
        show k = n + (k - n)
        omega
      · refine le_trans ?_ (Finset.le_sup (f := fun x : Fin 128 => S (n + x.val) ⊔ S (n + (128 + x.val))) (Finset.mem_univ ⟨k - n - 128, by omega⟩))
        refine le_trans (le_of_eq (congrArg S ?_)) le_sup_right
        show k = n + (128 + (k - n - 128))
        omega
  · exact Finset.le_sup (f := S) (Finset.mem_range.2 (by omega))
  · exact Finset.le_sup (f := S) (Finset.mem_range.2 (by omega))

theorem acc_step (S V : ℕ → EReal) (n : ℕ) : acc S V (n + 256)
    = acc S V n * Ideal.exp2 (top S n - top S (n + 256)) + ∑ x : Fin 256, Ideal.exp2 (S (n + x.val) - top S (n + 256)) * V (n + x.val) := by
  unfold acc
  have hm := top_mono S (show n ≤ n + 256 by omega)
  rw [sum_mul _ _ (exp2_nonneg _) (exp2_ne_top (sub_ne_top hm)), Finset.sum_range_add,
    Fin.sum_univ_eq_sum_range (fun x => Ideal.exp2 (S (n + x) - top S (n + 256)) * V (n + x)) 256]
  congr 1
  refine Finset.sum_congr rfl fun k hk => ?_
  rw [mul_right_comm, rescale (show S k ≤ top S n from Finset.le_sup (f := S) hk) hm]

/-- Scores of minus infinity change neither, -/
theorem top_tail (S : ℕ → EReal) (n d : ℕ) (h : ∀ k, n ≤ k → S k = ⊥) : top S (n + d) = top S n := by
  refine le_antisymm (Finset.sup_le fun k hk => ?_) (top_mono S (by omega))
  by_cases hn : k < n
  · exact Finset.le_sup (f := S) (Finset.mem_range.2 hn)
  · rw [h k (by omega)]; exact bot_le

theorem acc_tail (S V : ℕ → EReal) (n d : ℕ) (h : ∀ k, n ≤ k → S k = ⊥) : acc S V (n + d) = acc S V n := by
  unfold acc
  rw [top_tail S n d h, Finset.sum_range_add]
  refine (congrArg _ (Finset.sum_eq_zero fun k _ => ?_)).trans (add_zero _)
  rw [h _ (by omega), bot_sub, Ideal.exp2_bot, zero_mul]

theorem ofBits_two : Ideal.ofBits FTy.f32 0x40000000#32 = ((2 : ℝ) : EReal) := by
  simp [Ideal.ofBits, Ideal.ieee, -EReal.coe_mul]; norm_num

/-- The base-two exponential is the power of two. -/
theorem pow_two (x : EReal) : Ideal.pow ((2 : ℝ) : EReal) x = Ideal.exp2 x := by
  induction x with
  | bot =>
    show (if (2 : ℝ) < 0 then _ else if 1 < (2 : ℝ) then _ else _) = _
    rw [if_neg (by norm_num), if_pos (by norm_num)]; rfl
  | top =>
    show (if (2 : ℝ) < 0 then _ else if 1 < (2 : ℝ) then _ else _) = _
    rw [if_neg (by norm_num), if_pos (by norm_num)]; rfl
  | coe r => rfl

end Cert.FlashMath

end
-- ==== Proof.FlashStep.lean ====
module

public import proofs.«01_k».proof.Defs
public import proofs.«01_k».proof.Proof.FlashTiles
public import proofs.«01_k».proof.Proof.FlashMath
public import proofs.«01_k».proof.Proof.Gen.FlashIdeal.Value
public import Idealize.ShloMosaic.Lib.Pointwise
public import Idealize.ShloMosaic.Lib.Routing.OpsOne
public import Idealize.ShloMosaic.Lib.Routing.OpsSet
public import Idealize.ShloMosaic.Lib.Pipeline.ReadBack
public import Idealize.ShloMosaic.Lib.Pipeline.ValueKit

@[expose] public section

set_option maxRecDepth 16384

noncomputable section
namespace Cert.FlashIdeal.Att
open Cert.FlashMath

open Idealize.ShloMosaic Idealize.ShloMosaic.TcCoe Idealize.ShloMosaic.Tactic
open Idealize.SL.Sem
open Idealize.ShloMosaic.Pipeline (Dat Cfg Window)

open Cert.FlashIdeal.Gen

theorem bits_bot : Ideal.ofBits .f32 0xFF800000#32 = ⊥ := by
  simp [Ideal.ofBits, Ideal.ieee]

theorem aug_apply (x a w) (r d : Fin 256) : aug x a w (ix2 r d) =
    if h : d.val < 128 then x (ix2 r ⟨d.val, h⟩)
    else a (ix2 r ⟨d.val - 128, by omega⟩) + w (ix2 0 ⟨d.val - 128, by omega⟩) := by
  pointwise [aug]

theorem score_apply (q k) (r x : Fin 256) : score q k (ix2 r x) = ∑ d : Fin 256, q (ix2 r d) * k (ix2 x d) := by
  pointwise [score]

theorem sle_bit (k l : ℕ) (hk : k < 256) (hl : l < 256) :
    IntOp.cmpi .sle (BitVec.ofNat 32 k) (BitVec.ofNat 32 l) = if k ≤ l then 1#1 else 0#1 := by
  have ek : (BitVec.ofNat 32 k).toInt = k := by
    rw [BitVec.toInt_ofNat']; exact Int.bmod_eq_of_le (by omega) (by omega)
  have el : (BitVec.ofNat 32 l).toInt = l := by
    rw [BitVec.toInt_ofNat']; exact Int.bmod_eq_of_le (by omega) (by omega)
  simp only [IntOp.cmpi, BitVec.sle, ek, el]
  by_cases h : k ≤ l
  · simp [h]
  · simp [h]

theorem masked_apply (s) (r x : Fin 256) :
    masked s (ix2 r x) = if x.val ≤ r.val then s (ix2 r x) else ⊥ := by
  pointwise [masked, k0_pay2]
  rw [sle_bit _ _ x.2 r.2]
  split
  · rfl
  · exact bits_bot

theorem mx_apply (m s) (r : Fin 256) (l : Fin 128) :
    mx m s (ix2 r l) = max (m (ix2 r l)) (Finset.univ.fold max ⊥ fun x : Fin 128 =>
      max (s (ix2 r ⟨x.val, by omega⟩)) (s (ix2 r ⟨128 + x.val, by omega⟩))) := by
  pointwise [mx, h0, h1]
  rw [bits_bot]

theorem ac_apply (m a s v) (r c : Fin 256) (M N : EReal) (hm : ∀ l, m (ix2 r l) = M)
    (hn : ∀ l, mx m s (ix2 r l) = N) :
    ac m a s v (ix2 r c) = a (ix2 r c) * Ideal.exp2 (M - N) +
      ∑ x : Fin 256, Ideal.exp2 (s (ix2 r x) - N) *
        (if h : c.val < 128 then v (ix2 x ⟨c.val, h⟩) else 1) := by
  pointwise [ac, h0, h1, two, k0_pay6]
  simp only [hm, hn]
  congr 1
  · split <;> rfl
  · exact (Fin.sum_univ_add (a := 128) (b := 128) fun x : Fin (128 + 128) => Ideal.exp2 (s (ix2 r x) - N) *
        (if h : c.val < 128 then v (ix2 x ⟨c.val, h⟩) else 1)).symm

theorem fin_apply (a z) (r : Fin 256) (d : Fin 128) :
    fin a z (ix2 r d) = a (ix2 r ⟨d.val, by omega⟩) * Ideal.div 1 (a (ix2 r ⟨128 + d.val, by omega⟩)) *
      (z (ix2 r d) * Ideal.logistic (z (ix2 r d))) := by
  pointwise [fin, h0, h1, k0_pay1]

theorem p4_bit : ∀ h : Fin 16, ∀ l : Fin 128, IntOp.andi
        (IntOp.cmpi CmpIPredicate.sge (IntOp.subi (BitVec.ofNat 32 l.val) (Scalar.muli (3#32) (BitVec.ofNat 32 h.val)))
          48#32)
        (IntOp.cmpi CmpIPredicate.slt (IntOp.subi (BitVec.ofNat 32 l.val) (Scalar.muli (3#32) (BitVec.ofNat 32 h.val)))
          51#32) = if 48 + 3 * h.val ≤ l.val ∧ l.val < 51 + 3 * h.val then 1#1 else 0#1 := by
  decide +kernel

theorem p5_bit : ∀ h : Fin 16, ∀ l : Fin 128, IntOp.andi
        (IntOp.cmpi CmpIPredicate.sge (IntOp.subi (BitVec.ofNat 32 l.val) (Scalar.muli (3#32) (BitVec.ofNat 32 h.val)))
          0#32)
        (IntOp.cmpi CmpIPredicate.slt (IntOp.subi (BitVec.ofNat 32 l.val) (Scalar.muli (3#32) (BitVec.ofNat 32 h.val)))
          3#32) = if 3 * h.val ≤ l.val ∧ l.val < 3 + 3 * h.val then 1#1 else 0#1 := by
  decide +kernel

theorem p4_apply (i : grid0.Coords) (l : Fin 128) : k0_pay4 (F := Ideal) i (ix2 0 l) =
    if 48 + 3 * (i 1).val ≤ l.val ∧ l.val < 51 + 3 * (i 1).val then 1 else 0 := by
  pointwise [k0_pay4, k0_pay3]
  rw [p4_bit (i 1) l]
  split <;> rfl

theorem p5_apply (i : grid0.Coords) (l : Fin 128) : k0_pay5 (F := Ideal) i (ix2 0 l) =
    if 3 * (i 1).val ≤ l.val ∧ l.val < 3 + 3 * (i 1).val then 1 else 0 := by
  pointwise [k0_pay5, k0_pay3]
  rw [p5_bit (i 1) l]
  split <;> rfl

theorem mx_top (m s) (r : Fin 256) (S : ℕ → EReal) (n : ℕ)
    (hm : ∀ l, m (ix2 r l) = top S n) (hs : ∀ x : Fin 256, s (ix2 r x) = S (n + x.val)) (l : Fin 128) :
    mx m s (ix2 r l) = top S (n + 256) := by
  rw [mx_apply, hm, top_step]
  simp only [hs]

theorem ac_acc (m a s v) (r c : Fin 256) (S W : ℕ → EReal) (n : ℕ)
    (hm : ∀ l, m (ix2 r l) = top S n) (hs : ∀ x : Fin 256, s (ix2 r x) = S (n + x.val))
    (ha : a (ix2 r c) = acc S W n)
    (hv : ∀ x : Fin 256, (if h : c.val < 128 then v (ix2 x ⟨c.val, h⟩) else 1) = W (n + x.val)) :
    ac m a s v (ix2 r c) = acc S W (n + 256) := by
  rw [ac_apply m a s v r c _ _ hm (mx_top m s r S n hm hs), ha, acc_step]
  simp only [hs, hv]

theorem mxs_top (q K) (r : Fin 256) (S : ℕ → EReal) (i : ℕ)
    (hs : ∀ j < i, ∀ x : Fin 256, score q (K j) (ix2 r x) = S (256 * j + x.val)) :
    ∀ j ≤ i, ∀ l, mxs q K j (ix2 r l) = top S (256 * j) := by
  intro j
  induction j with
  | zero =>
    intro _ l
    rw [Nat.mul_zero, top_zero]
    exact bits_bot
  | succ j ih =>
    intro hj l
    exact mx_top _ _ r S (256 * j) (ih (by omega)) (hs j hj) l

theorem acs_acc (q K V) (r c : Fin 256) (S W : ℕ → EReal) (i : ℕ)
    (hs : ∀ j < i, ∀ x : Fin 256, score q (K j) (ix2 r x) = S (256 * j + x.val))
    (hv : ∀ j < i, ∀ x : Fin 256, (if h : c.val < 128 then V j (ix2 x ⟨c.val, h⟩) else 1) = W (256 * j + x.val)) :
    ∀ j ≤ i, acs q K V j (ix2 r c) = acc S W (256 * j) := by
  intro j
  induction j with
  | zero =>
    intro _
    rw [Nat.mul_zero, acc_zero]
    exact Ideal.ofBits_zero_f32
  | succ j ih =>
    intro hj
    exact ac_acc _ _ _ _ r c S W (256 * j) (mxs_top q K r S i hs j (by omega)) (hs j hj) (ih (by omega)) (hv j hj)

theorem tile_apply (q K V z) (i : ℕ) (r : Fin 256) (d : Fin 128) (S W : ℕ → EReal)
    (hs : ∀ j < i, ∀ x : Fin 256, score q (K j) (ix2 r x) = S (256 * j + x.val))
    (hi : ∀ x : Fin 256, masked (score q (K i)) (ix2 r x) = S (256 * i + x.val))
    (hv : ∀ j ≤ i, ∀ x : Fin 256, V j (ix2 x d) = W (256 * j + x.val)) :
    tile q K V z i (ix2 r d) = acc S W (256 * i + 256) * Ideal.div 1 (acc S (fun _ => 1) (256 * i + 256)) *
      (z (ix2 r d) * Ideal.logistic (z (ix2 r d))) := by
  have key : ∀ (c : Fin 256) (W : ℕ → EReal),
      (∀ j ≤ i, ∀ x : Fin 256, (if h : c.val < 128 then V j (ix2 x ⟨c.val, h⟩) else 1) = W (256 * j + x.val)) →
      ac (mxs q K i) (acs q K V i) (masked (score q (K i))) (V i) (ix2 r c) = acc S W (256 * i + 256) :=
    fun c W hw => ac_acc _ _ _ _ r c S W (256 * i) (mxs_top q K r S i hs i le_rfl) hi
      (acs_acc q K V r c S W i hs (fun j hj => hw j hj.le) i le_rfl) (hw i le_rfl)
  rw [tile, fin_apply, key ⟨d.val, by omega⟩ W fun j hj x => by rw [dif_pos d.2]; exact hv j hj x,
    key ⟨128 + d.val, by omega⟩ (fun _ => 1) fun j hj x => by rw [dif_neg (by simp)]]

end Cert.FlashIdeal.Att

end
-- ==== Proof.FlashKernel.lean ====
module

public import proofs.«01_k».proof.Defs
public import proofs.«01_k».proof.Proof.FlashTiles
public import proofs.«01_k».proof.Proof.FlashMath
public import proofs.«01_k».proof.Proof.FlashStep
public import proofs.«01_k».proof.Proof.Gen.FlashIdeal.Value
public import Idealize.ShloMosaic.Lib.Pointwise
public import Idealize.ShloMosaic.Lib.Routing.OpsOne
public import Idealize.ShloMosaic.Lib.Routing.OpsSet
public import Idealize.ShloMosaic.Lib.Pipeline.ReadBack
public import Idealize.ShloMosaic.Lib.Pipeline.ValueKit

@[expose] public section

set_option maxRecDepth 16384

noncomputable section
namespace Cert.FlashIdeal.Att
open Cert.FlashMath

open Idealize.ShloMosaic Idealize.ShloMosaic.TcCoe Idealize.ShloMosaic.Tactic
open Idealize.SL.Sem
open Idealize.ShloMosaic.Pipeline (Dat Cfg Window)

open Cert.FlashIdeal.Gen

/-! ## Sums and maxima over a whole row -/

theorem top_univ (S : ℕ → EReal) (n : ℕ) (f : Fin n → EReal) (h : ∀ k, S k.val = f k) :
    top S n = Finset.univ.fold max ⊥ f := by
  have e : Finset.univ.fold max ⊥ f = Finset.univ.sup f := rfl
  rw [e]
  refine le_antisymm (Finset.sup_le fun k hk => ?_) (Finset.sup_le fun k _ => ?_)
  · have := h ⟨k, Finset.mem_range.1 hk⟩
    exact this ▸ Finset.le_sup (f := f) (Finset.mem_univ _)
  · exact h k ▸ Finset.le_sup (f := S) (Finset.mem_range.2 k.isLt)

theorem acc_univ (S V : ℕ → EReal) (n : ℕ) (f g : Fin n → EReal) (h : ∀ k, S k.val = f k) (h' : ∀ k, V k.val = g k) :
    acc S V n = ∑ k : Fin n, Ideal.exp2 (f k - Finset.univ.fold max ⊥ f) * g k := by
  unfold acc
  rw [← top_univ S n f h, ← Fin.sum_univ_eq_sum_range (fun k => Ideal.exp2 (S k - top S n) * V k) n]
  exact Finset.sum_congr rfl fun k _ => by rw [h, h']

theorem sum_window (f : Fin 128 → EReal) (lo : ℕ) (hl : lo + 3 ≤ 128) :
    (∑ l : Fin 128, if lo ≤ l.val ∧ l.val < lo + 3 then f l else 0) = ∑ x : Fin 3, f ⟨lo + x.val, by omega⟩ := by
  have e : ∀ l : Fin 128, (if lo ≤ l.val ∧ l.val < lo + 3 then f l else 0)
      = (fun n => if lo ≤ n ∧ n < lo + 3 then (if h : n < 128 then f ⟨n, h⟩ else 0) else 0) l.val := by
    intro l
    dsimp only
    rw [dif_pos l.isLt]
  rw [Finset.sum_congr rfl fun l _ => e l,
    Fin.sum_univ_eq_sum_range (fun n => if lo ≤ n ∧ n < lo + 3 then (if h : n < 128 then f ⟨n, h⟩ else 0) else 0) 128, ← Finset.sum_filter]
  have e' : (Finset.range 128).filter (fun n => lo ≤ n ∧ n < lo + 3) = Finset.Ico lo (lo + 3) := by
    ext n
    simp only [Finset.mem_range, Finset.mem_filter, Finset.mem_Ico]
    omega
  rw [e', Finset.sum_Ico_eq_sum_range, show lo + 3 - lo = 3 by omega,
    ← Fin.sum_univ_eq_sum_range (fun k => if h : lo + k < 128 then f ⟨lo + k, h⟩ else 0) 3]
  exact Finset.sum_congr rfl fun x _ => dif_pos (by omega)

/-! ## The scores of a block -/

/-- The lanes past the head's features add the two three-lane sums the head owns. -/
theorem lanes (i : grid0.Coords) (qa ka : Fin 128 → EReal) (hq : ∀ l, 48 ≤ l.val → qa l = 0)
    (hk : ∀ l, ¬(48 ≤ l.val ∧ l.val < 96) → ka l = 0) :
    (∑ l : Fin 128, (qa l + k0_pay4 (F := Ideal) i (ix2 0 l)) * (ka l + k0_pay5 (F := Ideal) i (ix2 0 l)))
      = (∑ x : Fin 3, qa ⟨(i 1).val * 3 + x.val, by have : (i 1).val < 16 := (i 1).2; omega⟩)
        + ∑ x : Fin 3, ka ⟨48 + ((i 1).val * 3 + x.val), by have : (i 1).val < 16 := (i 1).2; omega⟩ := by
  have hh : (i 1).val < 16 := (i 1).2
  have e : ∀ l : Fin 128, (qa l + k0_pay4 (F := Ideal) i (ix2 0 l)) * (ka l + k0_pay5 (F := Ideal) i (ix2 0 l))
      = (if (i 1).val * 3 ≤ l.val ∧ l.val < (i 1).val * 3 + 3 then qa l else 0)
        + (if 48 + (i 1).val * 3 ≤ l.val ∧ l.val < 48 + (i 1).val * 3 + 3 then ka l else 0) := by
    intro l
    rw [p4_apply, p5_apply]
    by_cases h1 : l.val < 48
    · rw [hk l (by omega), if_neg (show ¬(48 + 3 * (i 1).val ≤ l.val ∧ l.val < 51 + 3 * (i 1).val) by omega),
        if_neg (show ¬(48 + (i 1).val * 3 ≤ l.val ∧ l.val < 48 + (i 1).val * 3 + 3) by omega), add_zero, zero_add, add_zero]
      by_cases h2 : 3 * (i 1).val ≤ l.val ∧ l.val < 3 + 3 * (i 1).val
      · rw [if_pos h2, if_pos (by omega), mul_one]
      · rw [if_neg h2, if_neg (by omega), mul_zero]
    · rw [hq l (by omega), if_neg (show ¬(3 * (i 1).val ≤ l.val ∧ l.val < 3 + 3 * (i 1).val) by omega),
        if_neg (show ¬((i 1).val * 3 ≤ l.val ∧ l.val < (i 1).val * 3 + 3) by omega), add_zero, zero_add, zero_add]
      by_cases h2 : 48 + 3 * (i 1).val ≤ l.val ∧ l.val < 51 + 3 * (i 1).val
      · rw [if_pos h2, if_pos (by omega), one_mul]
      · rw [if_neg h2, if_neg (by omega), zero_mul]
  rw [Finset.sum_congr rfl fun l _ => e l, Finset.sum_add_distrib, sum_window qa _ (by omega), sum_window ka _ (by omega)]
  simp only [Nat.add_assoc]

variable (i : grid0.Coords) (x0 x1 x2 x3 x4 x5 : Vec Ideal S2048x128 .bf16)

theorem ldt_apply (x : Vec Ideal S2048x128 .bf16) (n : ℕ) (hn : n < 8) (r : Fin 256) (d : Fin 128) :
    ldt x n (ix2 r d) = x (ix2 ⟨256 * n + r.val, by omega⟩ d) := by
  interval_cases n
  all_goals
    refine View.ld_unit_apply_of _ _ _ _ _ _ ?_
    intro a
    fin_cases a
    · rfl
    · exact (Nat.zero_add _).symm

/-- The score of a query row against a key row. -/
def bs (t k : Fin 2048) : EReal :=
  (∑ d : Fin 128, x0 (ix2 t d) * x1 (ix2 k d))
    + (∑ x : Fin 3, x4 (ix2 t ⟨(i 1).val * 3 + x.val, by have : (i 1).val < 16 := (i 1).2; omega⟩))
    + ∑ x : Fin 3, x5 (ix2 k ⟨48 + ((i 1).val * 3 + x.val), by have : (i 1).val < 16 := (i 1).2; omega⟩)

/-- The score where the key is not after the query. -/
def ms (t k : Fin 2048) : EReal := if k.val ≤ t.val then bs i x0 x1 x4 x5 t k else ⊥

/-- The attention's row. -/
def att (t : Fin 2048) (d : Fin 128) : EReal :=
  (∑ k : Fin 2048, Ideal.exp2 (ms i x0 x1 x4 x5 t k - Finset.univ.fold max ⊥ (ms i x0 x1 x4 x5 t)) * x2 (ix2 k d))
    * Ideal.div 1 (∑ k : Fin 2048, Ideal.exp2 (ms i x0 x1 x4 x5 t k - Finset.univ.fold max ⊥ (ms i x0 x1 x4 x5 t)))
    * (x3 (ix2 t d) * Ideal.logistic (x3 (ix2 t d)))

variable (hq : ∀ t l, 48 ≤ l.val → x4 (ix2 t l) = 0) (hk : ∀ t l, ¬(48 ≤ l.val ∧ l.val < 96) → x5 (ix2 t l) = 0)
include hq hk

theorem score_bs (n j : ℕ) (hn : n < 8) (hj : j < 8) (r x : Fin 256) :
    score (aug (ldt x0 n) (ldt x4 n) (k0_pay4 i)) (aug (ldt x1 j) (ldt x5 j) (k0_pay5 i)) (ix2 r x)
      = bs i x0 x1 x4 x5 ⟨256 * n + r.val, by omega⟩ ⟨256 * j + x.val, by omega⟩ := by
  rw [score_apply]
  unfold bs
  rw [add_assoc, ← lanes i (fun l => x4 (ix2 ⟨256 * n + r.val, by omega⟩ l)) (fun l => x5 (ix2 ⟨256 * j + x.val, by omega⟩ l))
    (fun l => hq _ l) (fun l => hk _ l)]
  refine (Fin.sum_univ_add (a := 128) (b := 128) fun d : Fin (128 + 128) =>
    aug (ldt x0 n) (ldt x4 n) (k0_pay4 i) (ix2 r d) * aug (ldt x1 j) (ldt x5 j) (k0_pay5 i) (ix2 x d)).trans ?_
  congr 1
  · refine Finset.sum_congr rfl fun d _ => ?_
    rw [aug_apply, aug_apply, dif_pos (by exact d.2), dif_pos (by exact d.2), ldt_apply _ _ hn, ldt_apply _ _ hj]
    rfl
  · refine Finset.sum_congr rfl fun d _ => ?_
    have hd : ∀ h, (⟨(Fin.natAdd 128 d).val - 128, h⟩ : Fin 128) = d := fun h => Fin.ext (Nat.add_sub_cancel_left _ _)
    rw [aug_apply, aug_apply, dif_neg (by simp), dif_neg (by simp), ldt_apply _ _ hn, ldt_apply _ _ hj]
    simp only [hd]

theorem row_apply (n : ℕ) (hn : n < 8) (r : Fin 256) (d : Fin 128) :
    row i x0 x1 x2 x3 x4 x5 n (ix2 r d) = att i x0 x1 x2 x3 x4 x5 ⟨256 * n + r.val, by omega⟩ d := by
  have hr := r.2
  let S : ℕ → EReal := fun k => if h : k < 2048 then ms i x0 x1 x4 x5 ⟨256 * n + r.val, by omega⟩ ⟨k, h⟩ else ⊥
  let W : ℕ → EReal := fun k => if h : k < 2048 then x2 (ix2 ⟨k, h⟩ d) else 0
  have hS : ∀ k : Fin 2048, S k.val = ms i x0 x1 x4 x5 ⟨256 * n + r.val, by omega⟩ k := fun k => dif_pos k.2
  have hW : ∀ k : Fin 2048, W k.val = x2 (ix2 k d) := fun k => dif_pos k.2
  have hbot : ∀ k, 256 * n + 256 ≤ k → S k = ⊥ := by
    intro k hk
    show (if h : k < 2048 then ms i x0 x1 x4 x5 ⟨256 * n + r.val, by omega⟩ ⟨k, h⟩ else ⊥) = ⊥
    split
    · exact if_neg (by show ¬(k ≤ 256 * n + r.val); omega)
    · rfl
  have key := tile_apply (aug (ldt x0 n) (ldt x4 n) (k0_pay4 i)) (fun j => aug (ldt x1 j) (ldt x5 j) (k0_pay5 i)) (ldt x2) (ldt x3 n)
    n r d S W
    (fun j hj x => by
      refine (score_bs i x0 x1 x4 x5 hq hk n j hn (by omega) r x).trans ((hS ⟨256 * j + x.val, by omega⟩).trans ?_).symm
      exact if_pos (by show 256 * j + x.val ≤ 256 * n + r.val; omega))
    (fun x => by
      rw [masked_apply]
      refine Eq.trans ?_ (hS ⟨256 * n + x.val, by omega⟩).symm
      rw [score_bs i x0 x1 x4 x5 hq hk n n hn hn r x]
      exact if_congr (by show _ ↔ 256 * n + x.val ≤ 256 * n + r.val; omega) rfl rfl)
    (fun j hj x => (ldt_apply x2 j (by omega) x d).trans (hW ⟨256 * j + x.val, by omega⟩).symm)
  refine key.trans ?_
  have e : 256 * n + 256 + (2048 - (256 * n + 256)) = 2048 := by omega
  rw [← acc_tail S W _ (2048 - (256 * n + 256)) hbot, ← acc_tail S _ _ (2048 - (256 * n + 256)) hbot, e,
    acc_univ S W 2048 _ _ hS hW, acc_univ S _ 2048 _ (fun _ => 1) hS (fun _ => rfl), ldt_apply _ _ hn]
  simp only [mul_one]
  rfl

theorem tile_att (n : ℕ) (hn : n < 8) (y : S256x128.Idx) (t : Fin 2048) (d : Fin 128)
    (h0 : t.val = 256 * n + (y 0).val) (h1 : d.val = (y 1).val) :
    row i x0 x1 x2 x3 x4 x5 n y = att i x0 x1 x2 x3 x4 x5 t d := by
  idx_vars y
  have e : t = ⟨256 * n + y0.val, by have := y0.2; omega⟩ := Fin.ext h0
  have e' : d = y1 := Fin.ext h1
  rw [e, e']
  exact row_apply i x0 x1 x2 x3 x4 x5 hq hk n hn y0 y1

theorem out_apply (t : Fin 2048) (d : Fin 128) :
    out0_6 (F := Ideal) i x0 x1 x2 x3 x4 x5 (ix2 t d) = att i x0 x1 x2 x3 x4 x5 t d := by
  unfold out0_6
  rw [piece0, piece1, piece2, piece3, piece4, piece5, piece6, piece7]
  canon_tiles x h
  all_goals
    refine tile_att i x0 x1 x2 x3 x4 x5 hq hk _ (by decide) _ t d ?_ ?_
  all_goals first | exact h0 | exact h1 | exact h0.trans (Nat.zero_add _).symm

end Cert.FlashIdeal.Att

end
-- ==== Proof.FlashClaim.lean ====
/- The attention over the prompt: the reference read at an index, the precondition read at an element, the blocks a grid
   point reads and writes, and the claims. -/
module

public import proofs.«01_k».proof.Defs
public import proofs.«01_k».proof.Proof.FlashKernel
public import proofs.«01_k».proof.Proof.Gen.FlashIdeal.Value
public import proofs.«01_k».proof.Proof.Gen.Flash.Frame
public import proofs.«01_k».proof.Proof.Gen.FlashRefIdeal.Read
public import proofs.«01_k».proof.Proof.Gen.FlashRefIdeal.Run
public import proofs.«01_k».proof.Proof.Gen.Pre_own_lanes
public import Idealize.ShloMosaic.Lib.Pointwise
public import Idealize.ShloMosaic.Lib.ReduceAll
public import Idealize.ShloMosaic.Lib.Pipeline.ReadBack
public import Idealize.ShloMosaic.Lib.Pipeline.ValueKit

@[expose] public section

set_option maxRecDepth 16384

noncomputable section

namespace Cert.FlashIdeal.Att

open Idealize.ShloMosaic Idealize.ShloMosaic.TcCoe Idealize.ShloMosaic.Tactic
open Idealize.SL.Sem
open Idealize.ShloMosaic.Pipeline (Dat Cfg Window)

open Cert.FlashIdeal.Gen
open Cert.FlashRefIdeal.Read
open Cert.FlashMath

/-! ## The reference, read at an index -/

section Reference
variable (x0 : Vec Ideal Cert.FlashRefIdeal.S16384x8192 .bf16) (x1 x2 : Vec Ideal Cert.FlashRefIdeal.S16384x128 .bf16)

theorem v5_apply (b : Fin 8) (t c : Fin 2048) : val_main_v5 (F := Ideal) x0 (ix3 b t c) = x0 (ix2 ⟨b.val * 2048 + t.val, by omega⟩ ⟨6144 + c.val, by omega⟩) := by
  pointwise [val_main_v0, val_main_v1, val_main_v5]
theorem v6_apply (b : Fin 8) (h : Fin 16) (t : Fin 2048) (d : Fin 128) : val_main_v6 (F := Ideal) x0 (ix4 b t h d)
    = x0 (ix2 ⟨b.val * 2048 + t.val, by omega⟩ ⟨h.val * 128 + d.val, by omega⟩) := by
  pointwise [val_main_v0, val_main_v1, val_main_v2, val_main_v6]
theorem v7_apply (b : Fin 8) (h : Fin 16) (t : Fin 2048) (d : Fin 128) : val_main_v7 (F := Ideal) x0 (ix4 b t h d)
    = x0 (ix2 ⟨b.val * 2048 + t.val, by omega⟩ ⟨2048 + (h.val * 128 + d.val), by omega⟩) := by
  pointwise [val_main_v0, val_main_v1, val_main_v3, val_main_v7]
theorem v8_apply (b : Fin 8) (h : Fin 16) (t : Fin 2048) (d : Fin 128) : val_main_v8 (F := Ideal) x0 (ix4 b t h d)
    = x0 (ix2 ⟨b.val * 2048 + t.val, by omega⟩ ⟨4096 + (h.val * 128 + d.val), by omega⟩) := by
  pointwise [val_main_v0, val_main_v1, val_main_v4, val_main_v8]
theorem v15_apply (b : Fin 8) (h : Fin 16) (t : Fin 2048) : val_main_v15 (F := Ideal) x1 (ix3 b t h)
    = ∑ x : Fin 3, x1 (ix2 ⟨b.val * 2048 + t.val, by omega⟩ ⟨h.val * 3 + x.val, by omega⟩) := by
  pointwise [val_main_v9, val_main_v10, val_main_v11, val_main_v12, val_main_v13, val_main_v14, val_main_v15, val_main_cst]
theorem v18_apply (b : Fin 8) (h : Fin 16) (t : Fin 2048) : val_main_v18 (F := Ideal) x2 (ix3 b t h)
    = ∑ x : Fin 3, x2 (ix2 ⟨b.val * 2048 + t.val, by omega⟩ ⟨48 + (h.val * 3 + x.val), by omega⟩) := by
  pointwise [val_main_v9, val_main_v10, val_main_v11, val_main_v12, val_main_v16, val_main_v17, val_main_v18, val_main_cst_0]

/-- The reference's score. -/
def rs (b : Fin 8) (h : Fin 16) (t k : Fin 2048) : EReal :=
  (∑ d : Fin 128, x0 (ix2 ⟨b.val * 2048 + t.val, by omega⟩ ⟨h.val * 128 + d.val, by omega⟩)
      * x0 (ix2 ⟨b.val * 2048 + k.val, by omega⟩ ⟨2048 + (h.val * 128 + d.val), by omega⟩))
    + (∑ x : Fin 3, x1 (ix2 ⟨b.val * 2048 + t.val, by omega⟩ ⟨h.val * 3 + x.val, by omega⟩))
    + ∑ x : Fin 3, x2 (ix2 ⟨b.val * 2048 + k.val, by omega⟩ ⟨48 + (h.val * 3 + x.val), by omega⟩)

theorem v27_apply (b : Fin 8) (h : Fin 16) (t k : Fin 2048) : val_main_v27 (F := Ideal) x0 x1 x2 (ix4 b h t k) = rs x0 x1 x2 b h t k := by
  pointwise [val_main_v27, val_main_v26, val_main_v25, val_main_v24, val_main_v23, val_main_v22, val_main_v21, val_main_v20, val_main_v19]
  simp only [v6_apply, v7_apply, v15_apply, v18_apply]
  rfl

theorem sge_bit (k l : ℕ) (hk : k < 2048) (hl : l < 2048) :
    IntOp.cmpi .sge (BitVec.ofNat 32 k) (BitVec.ofNat 32 l) = if l ≤ k then 1#1 else 0#1 := by
  have ek : (BitVec.ofNat 32 k).toInt = k := by
    rw [BitVec.toInt_ofNat']; exact Int.bmod_eq_of_le (by omega) (by omega)
  have el : (BitVec.ofNat 32 l).toInt = l := by
    rw [BitVec.toInt_ofNat']; exact Int.bmod_eq_of_le (by omega) (by omega)
  simp only [IntOp.cmpi, BitVec.sle, ek, el]
  by_cases h : l ≤ k
  · simp [h]
  · simp [h]

/-- The reference's score where the key is not after the query. -/
def rm (b : Fin 8) (h : Fin 16) (t k : Fin 2048) : EReal := if k.val ≤ t.val then rs x0 x1 x2 b h t k else ⊥

theorem v34_apply (b : Fin 8) (h : Fin 16) (t k : Fin 2048) : val_main_v34 (F := Ideal) x0 x1 x2 (ix4 b h t k) = rm x0 x1 x2 b h t k := by
  pointwise [val_main_v34, val_main_call0_v0, val_main_call0_v1, val_main_call0_v2, val_main_v33, val_main_v32, val_main_v31, val_main_v30, val_main_v29, val_main_v28, val_main_cst_1]
  rw [sge_bit _ _ t.2 k.2, v27_apply]
  unfold rm
  split
  · rfl
  · exact bits_bot

theorem v49_apply (b : Fin 8) (h : Fin 16) (t : Fin 2048) (d : Fin 128) : val_main_v49 (F := Ideal) x0 x1 x2 (ix4 b t h d)
    = (∑ k : Fin 2048, Ideal.exp2 (rm x0 x1 x2 b h t k - Finset.univ.fold max ⊥ (rm x0 x1 x2 b h t))
          * x0 (ix2 ⟨b.val * 2048 + k.val, by omega⟩ ⟨4096 + (h.val * 128 + d.val), by omega⟩))
      * Ideal.div 1 (∑ k : Fin 2048, Ideal.exp2 (rm x0 x1 x2 b h t k - Finset.univ.fold max ⊥ (rm x0 x1 x2 b h t))) := by
  pointwise [val_main_v49, val_main_v48, val_main_v47, val_main_v46, val_main_v45, val_main_v44, val_main_v43, val_main_v42, val_main_v41, val_main_v40, val_main_v39, val_main_v38, val_main_v37, val_main_v36, val_main_v35, val_main_cst_5, val_main_cst_4, val_main_cst_3, val_main_cst_2]
  simp only [v34_apply, v8_apply, ofBits_two, pow_two, bits_bot]
  congr 1
  exact Finset.sum_congr rfl fun k _ => mul_comm _ _

theorem v54_apply (R : Fin 16384) (c : Fin 2048) (b : Fin 8) (h : Fin 16) (t : Fin 2048) (d : Fin 128)
    (hR : R.val = b.val * 2048 + t.val) (hc : c.val = h.val * 128 + d.val) : val_main_v54 (F := Ideal) x0 x1 x2 (ix2 R c)
    = (∑ k : Fin 2048, Ideal.exp2 (rm x0 x1 x2 b h t k - Finset.univ.fold max ⊥ (rm x0 x1 x2 b h t))
          * x0 (ix2 ⟨b.val * 2048 + k.val, by omega⟩ ⟨4096 + (h.val * 128 + d.val), by omega⟩))
      * Ideal.div 1 (∑ k : Fin 2048, Ideal.exp2 (rm x0 x1 x2 b h t k - Finset.univ.fold max ⊥ (rm x0 x1 x2 b h t)))
      * (x0 (ix2 ⟨b.val * 2048 + t.val, by omega⟩ ⟨6144 + (h.val * 128 + d.val), by omega⟩)
        * Ideal.logistic (x0 (ix2 ⟨b.val * 2048 + t.val, by omega⟩ ⟨6144 + (h.val * 128 + d.val), by omega⟩))) := by
  have e : val_main_v54 (F := Ideal) x0 x1 x2 (ix2 R c)
      = val_main_v49 x0 x1 x2 (ix4 ⟨R.val / 2048, by omega⟩ ⟨R.val % 2048, by omega⟩ ⟨c.val / 128, by omega⟩ ⟨c.val % 128, by omega⟩) *
      (val_main_v5 x0 (ix3 ⟨R.val / 2048, by omega⟩ ⟨R.val % 2048, by omega⟩ c) *
        Ideal.div 1 (1 + Ideal.exp (-val_main_v5 x0 (ix3 ⟨R.val / 2048, by omega⟩ ⟨R.val % 2048, by omega⟩ c)))) := by
    pointwise [val_main_v54, val_main_v53, val_main_v52, val_main_v51, val_main_v50, val_main_call1_v0, val_main_call1_v1, val_main_call1_v2, val_main_call1_v3, val_main_call1_v4, val_main_call1_v5, val_main_call1_cst, val_main_call1_cst_0]
  have e1 : ∀ p, (⟨R.val / 2048, p⟩ : Fin 8) = b := fun p => Fin.ext (by show R.val / 2048 = _; omega)
  have e2 : ∀ p, (⟨R.val % 2048, p⟩ : Fin 2048) = t := fun p => Fin.ext (by show R.val % 2048 = _; omega)
  have e3 : ∀ p, (⟨c.val / 128, p⟩ : Fin 16) = h := fun p => Fin.ext (by show c.val / 128 = _; omega)
  have e4 : ∀ p, (⟨c.val % 128, p⟩ : Fin 128) = d := fun p => Fin.ext (by show c.val % 128 = _; omega)
  rw [e]
  simp only [e1, e2, e3, e4]
  rw [v49_apply, v5_apply]
  simp only [hc]
  rfl

end Reference

/-! ## The precondition, read at an element -/

section Precondition
open Cert.Pre_own_lanes Cert.Pre_own_lanes.Facts

variable (y0 : Vec Ideal Cert.FlashRefIdeal.S16384x8192 .bf16) (y1 y2 : Vec Ideal Cert.FlashRefIdeal.S16384x128 .bf16)

theorem lo_bit : ∀ l : Fin 128, IntOp.cmpi .slt (BitVec.ofNat 32 l.val) 48#32 = if l.val < 48 then 1#1 else 0#1 := by decide +kernel
theorem mid_bit : ∀ l : Fin 128, IntOp.andi (IntOp.cmpi .sge (BitVec.ofNat 32 l.val) 48#32) (IntOp.cmpi .slt (BitVec.ofNat 32 l.val) 96#32)
    = if 48 ≤ l.val ∧ l.val < 96 then 1#1 else 0#1 := by decide +kernel

theorem and_bits : ∀ a b : BitVec 1, IntOp.andi a b = 1#1 → a = 1#1 ∧ b = 1#1 := by decide
theorem or_bits : ∀ b : Bool, IntOp.ori 0#1 (BitVec.ofBool b) = 1#1 → b = true := by decide

theorem own (h : Cert.Pre_own_lanes.fn (F := Ideal) y0 y1 y2 = fun _ => 1#1) :
    (∀ t l, 48 ≤ l.val → y1 (ix2 t l) = 0) ∧ ∀ t l, ¬(48 ≤ l.val ∧ l.val < 96) → y2 (ix2 t l) = 0 := by
  haveI : Subsingleton Cert.Pre_own_lanes.S_.Idx := ⟨fun a b => funext fun i => i.elim0⟩
  have h0 := congrFun h ix0
  dsimp only [Cert.Pre_own_lanes.fn, Cert.Pre_own_lanes.fn_part1] at h0
  obtain ⟨ha, hb⟩ := and_bits _ _ h0
  constructor
  · intro t l hl
    have e := Host.reduce_andi_all _ _ _ _ _ ha (ix2 t l)
    revert e
    pointwise
    rw [lo_bit, if_neg (by omega)]
    exact fun e => of_decide_eq_true (or_bits _ e)
  · intro t l hl
    have e := Host.reduce_andi_all _ _ _ _ _ hb (ix2 t l)
    revert e
    pointwise
    rw [mid_bit, if_neg hl]
    exact fun e => of_decide_eq_true (or_bits _ e)

end Precondition

/-! ## The blocks a point reads -/

variable (m : (ℓ : Loc nD τ sig) → Buf (Elt Ideal) ℓ) (ρ : Dev nD → PrngReg)

/-- The projected rows, -/
abbrev a0 (c : Dev nD) : Vec Ideal Cert.FlashRefIdeal.S16384x8192 .bf16 := m ((c : Thread nD τ).loc main_arg0)
/-- the queries' lanes -/
abbrev a1 (c : Dev nD) : Vec Ideal Cert.FlashRefIdeal.S16384x128 .bf16 := m ((c : Thread nD τ).loc main_arg1)
/-- and the keys'. -/
abbrev a2 (c : Dev nD) : Vec Ideal Cert.FlashRefIdeal.S16384x128 .bf16 := m ((c : Thread nD τ).loc main_arg2)

theorem idx0 : ∀ t : Fin grid0.N, win0_0.index t = ![t.val / 16, t.val % 16] := by decide +kernel
theorem idx1 : ∀ t : Fin grid0.N, win0_1.index t = ![t.val / 16, 16 + t.val % 16] := by decide +kernel
theorem idx2 : ∀ t : Fin grid0.N, win0_2.index t = ![t.val / 16, 32 + t.val % 16] := by decide +kernel
theorem idx3 : ∀ t : Fin grid0.N, win0_3.index t = ![t.val / 16, 48 + t.val % 16] := by decide +kernel
theorem idx4 : ∀ t : Fin grid0.N, win0_4.index t = ![t.val / 16, 0] := by decide +kernel
theorem idx5 : ∀ t : Fin grid0.N, win0_5.index t = ![t.val / 16, 0] := by decide +kernel
theorem idx6 : ∀ t : Fin grid0.N, win0_6.index t = ![t.val / 16, t.val % 16] := by decide +kernel
theorem head : ∀ t : Fin grid0.N, (grid0.coords t 1).val = t.val % 16 := by decide +kernel

/-- A point's sequence and head. -/
abbrev sq (t : Fin cfg0.N) : Fin 8 := ⟨t.val / 16, by have := Nat.lt_of_lt_of_eq t.isLt N_0; omega⟩
abbrev hd (t : Fin cfg0.N) : Fin 16 := ⟨t.val % 16, by omega⟩

theorem blk0 (c : Dev nD) (t : Fin cfg0.N) (r : Fin 2048) (d : Fin 128) : iblk m c 0 t (ix2 r d)
    = a0 m c (ix2 ⟨(sq t).val * 2048 + r.val, by omega⟩ ⟨(hd t).val * 128 + d.val, by omega⟩) := by
  blk_ext! [iblk, V, idx0 t]
theorem blk1 (c : Dev nD) (t : Fin cfg0.N) (r : Fin 2048) (d : Fin 128) : iblk m c 1 t (ix2 r d)
    = a0 m c (ix2 ⟨(sq t).val * 2048 + r.val, by omega⟩ ⟨2048 + ((hd t).val * 128 + d.val), by omega⟩) := by
  blk_ext! [iblk, V, idx1 t]
theorem blk2 (c : Dev nD) (t : Fin cfg0.N) (r : Fin 2048) (d : Fin 128) : iblk m c 2 t (ix2 r d)
    = a0 m c (ix2 ⟨(sq t).val * 2048 + r.val, by omega⟩ ⟨4096 + ((hd t).val * 128 + d.val), by omega⟩) := by
  blk_ext! [iblk, V, idx2 t]
theorem blk3 (c : Dev nD) (t : Fin cfg0.N) (r : Fin 2048) (d : Fin 128) : iblk m c 3 t (ix2 r d)
    = a0 m c (ix2 ⟨(sq t).val * 2048 + r.val, by omega⟩ ⟨6144 + ((hd t).val * 128 + d.val), by omega⟩) := by
  blk_ext! [iblk, V, idx3 t]
theorem blk4 (c : Dev nD) (t : Fin cfg0.N) (r : Fin 2048) (d : Fin 128) : iblk m c 4 t (ix2 r d)
    = a1 m c (ix2 ⟨(sq t).val * 2048 + r.val, by omega⟩ d) := by
  blk_ext! [iblk, V, idx4 t]
theorem blk5 (c : Dev nD) (t : Fin cfg0.N) (r : Fin 2048) (d : Fin 128) : iblk m c 5 t (ix2 r d)
    = a2 m c (ix2 ⟨(sq t).val * 2048 + r.val, by omega⟩ d) := by
  blk_ext! [iblk, V, idx5 t]

theorem bs_eq (c : Dev nD) (t : Fin cfg0.N) (r k : Fin 2048) :
    bs (grid0.coords t) (iblk m c 0 t) (iblk m c 1 t) (iblk m c 4 t) (iblk m c 5 t) r k
      = rs (a0 m c) (a1 m c) (a2 m c) (sq t) (hd t) r k := by
  unfold bs rs
  simp only [blk0, blk1, blk4, blk5, head t]

theorem ms_eq (c : Dev nD) (t : Fin cfg0.N) (r : Fin 2048) :
    ms (grid0.coords t) (iblk m c 0 t) (iblk m c 1 t) (iblk m c 4 t) (iblk m c 5 t) r
      = rm (a0 m c) (a1 m c) (a2 m c) (sq t) (hd t) r := by
  funext k
  unfold ms rm
  rw [bs_eq]

/-! ## The result array -/

theorem final6 (c : Dev nD) (hq : ∀ t l, 48 ≤ l.val → a1 m c (ix2 t l) = 0)
    (hk : ∀ t l, ¬(48 ≤ l.val ∧ l.val < 96) → a2 m c (ix2 t l) = 0) :
    (dats m 0 c).arrAt 6 cfg0.N = val_main_v54 (F := Ideal) (a0 m c) (a1 m c) (a2 m c) := by
  refine (dats m 0 c).arrAt_eq_of_covers 6 _ (by decide +kernel) fun t hf y => ?_
  have ht : t.val < 128 := Nat.lt_of_lt_of_eq t.isLt N_0
  blk_simp
  rw [after0_6]
  revert y
  show ∀ y : S2048x128.Idx, _
  intro y
  idx_vars y
  have e : ((win0_6.blk t).view.emb (ix2 y0 y1))
      = (ix2 ⟨(sq t).val * 2048 + y0.val, by omega⟩ ⟨(hd t).val * 128 + y1.val, by omega⟩ : S16384x2048.Idx) := by
    blk_ext [idx6 t]
  rw [e, v54_apply _ _ _ _ _ (sq t) (hd t) y0 y1 rfl rfl]
  refine (out_apply (grid0.coords t) _ _ _ _ _ _ (fun r l h => ?_) (fun r l h => ?_) y0 y1).trans ?_
  · rw [blk4]; exact hq _ l h
  · rw [blk5]; exact hk _ l h
  · unfold att
    rw [ms_eq]
    simp only [blk2, blk3]

end Cert.FlashIdeal.Att

namespace Cert.Proof.Flash

open Idealize.ShloMosaic Idealize.ShloMosaic.TcCoe Idealize.SL.Sem
open Cert.FlashIdeal.Att Cert.FlashRefIdeal.Read

theorem frame_kernel : Cert.quiescent_Flash := fun m ρ _ => Cert.Flash.Gen.frame m ρ
theorem frame_ideal : Cert.quiescent_FlashIdeal := fun m ρ _ => Cert.FlashIdeal.Gen.frame m ρ
theorem frame_ideal_pre : Cert.quiescent_FlashIdeal_pre_own_lanes := fun m ρ _ => Cert.FlashIdeal.Gen.frame m ρ

/-- The reference's frame: its run read at the arguments; it has no semaphore. -/
theorem frame_reference : Cert.quiescent_FlashRefIdeal := fun m ρ _ =>
  (θ_run Cert.FlashRefIdeal.defs _ _).mono (fun r h => ⟨fun c => (h c).2,
      Idealize.ShloMosaic.sem_eq_zero_of_no_sems (by decide) r.2⟩)
    (Cert.FlashRefIdeal.Value.run (F := Ideal) m ρ)
theorem frame_reference_pre : Cert.quiescent_FlashRefIdeal_pre_own_lanes := fun m ρ _ => frame_reference m ρ trivial

theorem preserves : Cert.preserves_Flash_FlashIdeal := trivial

/-- The results agree over the extended reals. -/
theorem algebraic : Cert.algebraic_FlashIdeal_FlashRefIdeal_pre_own_lanes := by
  intro m ρ m' ρ' hpre hag
  refine ⟨fun c => val_main_v54 (F := Ideal) (a0 m c) (a1 m c) (a2 m c), ?_, ?_⟩
  · exact (θ_run Cert.FlashIdeal.defs _ _).mono (fun _ h c => ⟨(h c).1.trans (final6 m c (own _ _ _ (hpre c)).1 (own _ _ _ (hpre c)).2), (h c).2⟩)
      (Cert.FlashIdeal.Value.run_blocks m ρ)
  refine (θ_run Cert.FlashRefIdeal.defs _ _).mono (fun _ h c => ⟨(h c).1.trans ?_, (h c).2⟩)
    (Cert.FlashRefIdeal.Value.run (F := Ideal) m' ρ')
  obtain ⟨h0, h1, h2⟩ := hag c
  rw [val_main_v54_eq, h0, h1, h2]

end Cert.Proof.Flash

end
-- ==== Proof.MlstmMath.lean ====
/- The recurrence's arithmetic: a weighted sum over the rows seen so far, kept relative to a running maximum, in blocks
   of rows and in one sweep. -/
module

public import Idealize.ShloMosaic.Lib.Pointwise
public import Idealize.ShloMosaic.Lib.IdealHost

@[expose] public section

noncomputable section
namespace Cert.MlstmMath

open Idealize.ShloMosaic

/-- The running maximum from zero. -/
def top (R : ℕ → ℝ) : ℕ → ℝ
  | 0 => 0
  | n + 1 => max (top R n) (R n)

/-- The sum of the first `n` values, each with its weight relative to the running maximum. -/
def acc (R V : ℕ → ℝ) (n : ℕ) : ℝ := ∑ s ∈ Finset.range n, Real.exp (R s - top R n) * V s

/-- The sum of the first `n` values. -/
def cum (L : ℕ → ℝ) (n : ℕ) : ℝ := ∑ s ∈ Finset.range n, L s

/-- A row's weight exponent: its input gate against the decay up to it. -/
def rel (L I : ℕ → ℝ) (s : ℕ) : ℝ := I s - cum L (s + 1)

theorem acc_add (R V : ℕ → ℝ) (n d : ℕ) : acc R V (n + d)
    = acc R V n * Real.exp (top R n - top R (n + d)) + ∑ x ∈ Finset.range d, Real.exp (R (n + x) - top R (n + d)) * V (n + x) := by
  unfold acc
  rw [Finset.sum_range_add, Finset.sum_mul]
  congr 1
  refine Finset.sum_congr rfl fun s _ => ?_
  rw [mul_right_comm, ← Real.exp_add, show R s - top R n + (top R n - top R (n + d)) = R s - top R (n + d) by ring]

theorem acc_sum {ι : Type} (T : Finset ι) (R : ℕ → ℝ) (V : ι → ℕ → ℝ) (a : ι → ℝ) (n : ℕ) :
    ∑ i ∈ T, a i * acc R (V i) n = acc R (fun s => ∑ i ∈ T, a i * V i s) n := by
  unfold acc
  simp only [Finset.mul_sum]
  rw [Finset.sum_comm]
  exact Finset.sum_congr rfl fun s _ => Finset.sum_congr rfl fun i _ => by ring

theorem acc_mul (R V : ℕ → ℝ) (a : ℝ) (n : ℕ) : a * acc R V n = acc R (fun s => a * V s) n := by
  unfold acc
  rw [Finset.mul_sum]
  exact Finset.sum_congr rfl fun s _ => by ring

theorem coe_sum {ι : Type} (T : Finset ι) (f : ι → ℝ) : (∑ i ∈ T, (f i : EReal)) = ((∑ i ∈ T, f i : ℝ) : EReal) := by
  classical
  induction T using Finset.induction_on with
  | empty => rfl
  | insert a s ha ih => rw [Finset.sum_insert ha, Finset.sum_insert ha, ih, EReal.coe_add]

theorem coe_max (a b : ℝ) : ((max a b : ℝ) : EReal) = max (a : EReal) (b : EReal) := EReal.coe_strictMono.monotone.map_max

theorem fin_cut (N : ℕ) (f : ℕ → ℝ) (t : ℕ) (ht : t < N) : (∑ x : Fin N, if x.val ≤ t then f x.val else 0) = ∑ x ∈ Finset.range (t + 1), f x := by
  rw [Fin.sum_univ_eq_sum_range (fun x => if x ≤ t then f x else 0) N, ← Finset.sum_filter]
  refine Finset.sum_congr ?_ fun _ _ => rfl
  ext x
  simp only [Finset.mem_range, Finset.mem_filter]
  omega

theorem top_le (R : ℕ → ℝ) (B : ℝ) (c : EReal) (n : ℕ) : ((top R n + B : ℝ) : EReal) ≤ c
    ↔ ((B : ℝ) : EReal) ≤ c ∧ ∀ s < n, ((R s + B : ℝ) : EReal) ≤ c := by
  induction n with
  | zero =>
    show ((0 + B : ℝ) : EReal) ≤ c ↔ _
    rw [zero_add]
    exact ⟨fun h => ⟨h, fun s hs => absurd hs (Nat.not_lt_zero s)⟩, And.left⟩
  | succ n ih =>
    show ((max (top R n) (R n) + B : ℝ) : EReal) ≤ c ↔ _
    rw [max_add, coe_max, max_le_iff, ih]
    constructor
    · rintro ⟨⟨h, h'⟩, h''⟩
      refine ⟨h, fun s hs => ?_⟩
      rcases Nat.lt_succ_iff_lt_or_eq.1 hs with hl | rfl
      · exact h' s hl
      · exact h''
    · rintro ⟨h, h'⟩
      exact ⟨⟨h, fun s hs => h' s (Nat.lt_succ_of_lt hs)⟩, h' n (Nat.lt_succ_self n)⟩

/-- The maximum over the rows of a block up to one of them, with the maximum before the block. -/
theorem max_cut (N : ℕ) (R : ℕ → ℝ) (B : ℝ) (n t : ℕ) (ht : t < N) :
    max (Finset.univ.fold max ⊥ fun x : Fin N => if x.val ≤ t then ((R (n + x.val) + B : ℝ) : EReal) else ⊥) ((top R n + B : ℝ) : EReal)
      = ((top R (n + t + 1) + B : ℝ) : EReal) := by
  refine eq_of_forall_ge_iff fun c => ?_
  rw [max_le_iff, Finset.fold_max_le, top_le, top_le]
  constructor
  · rintro ⟨⟨-, h⟩, h0, h'⟩
    refine ⟨h0, fun s hs => ?_⟩
    by_cases hl : s < n
    · exact h' s hl
    · have := h ⟨s - n, by omega⟩ (Finset.mem_univ _)
      rw [if_pos (show s - n ≤ t by omega)] at this
      rwa [show n + (s - n) = s by omega] at this
  · rintro ⟨h0, h⟩
    refine ⟨⟨bot_le, fun x _ => ?_⟩, h0, fun s hs => h s (by omega)⟩
    split
    · exact h _ (by omega)
    · exact bot_le

theorem max_all (N : ℕ) (R : ℕ → ℝ) (B : ℝ) (n : ℕ) :
    max (Finset.univ.fold max ⊥ fun x : Fin N => ((R (n + x.val) + B : ℝ) : EReal)) ((top R n + B : ℝ) : EReal)
      = ((top R (n + N) + B : ℝ) : EReal) := by
  refine eq_of_forall_ge_iff fun c => ?_
  rw [max_le_iff, Finset.fold_max_le, top_le, top_le]
  constructor
  · rintro ⟨⟨-, h⟩, h0, h'⟩
    refine ⟨h0, fun s hs => ?_⟩
    by_cases hl : s < n
    · exact h' s hl
    · have := h ⟨s - n, by omega⟩ (Finset.mem_univ _)
      dsimp only at this
      rwa [show n + (s - n) = s by omega] at this
  · rintro ⟨h0, h⟩
    exact ⟨⟨bot_le, fun x _ => h _ (by omega)⟩, h0, fun s hs => h s (by omega)⟩

theorem exp_cut (P : Prop) [Decidable P] (a b : ℝ) :
    Ideal.exp ((if P then (a : EReal) else ⊥) - (b : EReal)) = ((if P then Real.exp (a - b) else 0 : ℝ) : EReal) := by
  split
  · rw [← EReal.coe_sub, Ideal.exp_coe]
  · rw [sub_eq_add_neg, EReal.bot_add, Ideal.exp_bot, EReal.coe_zero]

/-! ## A block of rows, as the kernel computes it -/

/-- The decay within the block. -/
def kb (lf : Fin 128 → EReal) (t : Fin 128) : EReal := ∑ x : Fin 128, if x.val ≤ t.val then lf x else 0
/-- A row's input gate against it. -/
def kr (lf li : Fin 128 → EReal) (t : Fin 128) : EReal := li t - kb lf t
/-- The maximum up to a row. -/
def kmx (lf li : Fin 128 → EReal) (m0 : EReal) (t : Fin 128) : EReal :=
  max (Finset.univ.fold max ⊥ fun s : Fin 128 => if s.val ≤ t.val then kr lf li s else ⊥) m0
/-- The maximum after the block. -/
def kmn (lf li : Fin 128 → EReal) (m0 : EReal) : EReal :=
  max (kb lf 127 + m0) (Finset.univ.fold max ⊥ fun s : Fin 128 => kb lf 127 + kr lf li s)
/-- The weighted products of a row with the block's rows. -/
def ks (lf li : Fin 128 → EReal) (m0 σ : EReal) (q k : Fin 128 → Fin 128 → EReal) (t s : Fin 128) : EReal :=
  (∑ d : Fin 128, q t d * k s d) * σ * Ideal.exp ((if s.val ≤ t.val then kr lf li s else ⊥) - kmx lf li m0 t)
/-- The weight of the state before the block. -/
def kw (lf li : Fin 128 → EReal) (m0 σ : EReal) (t : Fin 128) : EReal := Ideal.exp (m0 - kmx lf li m0 t) * σ
def knum (lf li : Fin 128 → EReal) (m0 σ : EReal) (q k : Fin 128 → Fin 128 → EReal) (v C : Fin 128 → EReal) (t : Fin 128) : EReal :=
  (∑ s : Fin 128, ks lf li m0 σ q k t s * v s) + kw lf li m0 σ t * ∑ d : Fin 128, q t d * C d
def kden (lf li : Fin 128 → EReal) (m0 σ : EReal) (q k : Fin 128 → Fin 128 → EReal) (n : Fin 128 → EReal) (t : Fin 128) : EReal :=
  (∑ s : Fin 128, ks lf li m0 σ q k t s) + (∑ s : Fin 128, (ks lf li m0 σ q k t s - ks lf li m0 σ q k t s)) + kw lf li m0 σ t * ∑ d : Fin 128, q t d * n d
def kflr (lf li : Fin 128 → EReal) (m0 : EReal) (t : Fin 128) : EReal := Ideal.exp (0 - (kb lf t + kmx lf li m0 t))
/-- The decay of the state over the block, and the weights of its rows. -/
def kdec (lf li : Fin 128 → EReal) (m0 : EReal) : EReal := Ideal.exp (kb lf 127 + m0 - kmn lf li m0)
def kws (lf li : Fin 128 → EReal) (m0 : EReal) (s : Fin 128) : EReal := Ideal.exp (kb lf 127 + kr lf li s - kmn lf li m0)

section
variable (L I : ℕ → ℝ) (n : ℕ) (lf li : Fin 128 → EReal) (m0 : EReal)
  (hlf : ∀ x : Fin 128, lf x = (L (n + x.val) : EReal)) (hli : ∀ x : Fin 128, li x = (I (n + x.val) : EReal))
  (hm : m0 = ((top (rel L I) n + cum L n : ℝ) : EReal))
include hlf

theorem kb_eq (t : Fin 128) : kb lf t = ((cum L (n + t.val + 1) - cum L n : ℝ) : EReal) := by
  unfold kb
  rw [Finset.sum_congr rfl fun x _ => show (if x.val ≤ t.val then lf x else 0) = ((if x.val ≤ t.val then L (n + x.val) else 0 : ℝ) : EReal) by
    split
    · exact hlf x
    · rfl]
  rw [coe_sum, fin_cut 128 (fun x => L (n + x)) t.val t.isLt]
  congr 1
  unfold cum
  rw [add_assoc, Finset.sum_range_add (n := n) (m := t.val + 1), add_sub_cancel_left]

include hli

theorem kr_eq (t : Fin 128) : kr lf li t = ((rel L I (n + t.val) + cum L n : ℝ) : EReal) := by
  unfold kr rel
  rw [kb_eq L n lf hlf, hli, ← EReal.coe_sub]
  congr 1
  ring

include hm

theorem kmx_eq (t : Fin 128) : kmx lf li m0 t = ((top (rel L I) (n + t.val + 1) + cum L n : ℝ) : EReal) := by
  unfold kmx
  simp only [kr_eq L I n lf li hlf hli]
  rw [hm]
  exact max_cut 128 (rel L I) (cum L n) n t.val t.isLt

theorem kmn_eq : kmn lf li m0 = ((top (rel L I) (n + 128) + cum L (n + 128) : ℝ) : EReal) := by
  unfold kmn
  simp only [kr_eq L I n lf li hlf hli]
  rw [hm, kb_eq L n lf hlf, ← EReal.coe_add, max_comm]
  simp only [← EReal.coe_add]
  have e : cum L (n + (127 : Fin 128).val + 1) - cum L n + (top (rel L I) n + cum L n) = top (rel L I) n + cum L (n + 128) := by
    show cum L (n + 128) - cum L n + _ = _
    ring
  have e' : ∀ s : Fin 128, cum L (n + (127 : Fin 128).val + 1) - cum L n + (rel L I (n + s.val) + cum L n) = rel L I (n + s.val) + cum L (n + 128) := fun s => by
    show cum L (n + 128) - cum L n + _ = _
    ring
  simp only [e, e']
  exact max_all 128 (rel L I) (cum L (n + 128)) n

theorem kdec_eq : kdec lf li m0 = (Real.exp (top (rel L I) n - top (rel L I) (n + 128)) : EReal) := by
  unfold kdec
  rw [kmn_eq L I n lf li m0 hlf hli hm, kb_eq L n lf hlf, hm, ← EReal.coe_add, ← EReal.coe_sub, Ideal.exp_coe]
  congr 2
  show cum L (n + 128) - cum L n + _ - _ = _
  ring

theorem kws_eq (s : Fin 128) : kws lf li m0 s = (Real.exp (rel L I (n + s.val) - top (rel L I) (n + 128)) : EReal) := by
  unfold kws
  rw [kmn_eq L I n lf li m0 hlf hli hm, kb_eq L n lf hlf, kr_eq L I n lf li hlf hli, ← EReal.coe_add, ← EReal.coe_sub, Ideal.exp_coe]
  congr 2
  show cum L (n + 128) - cum L n + _ - _ = _
  ring

theorem kflr_eq (t : Fin 128) : kflr lf li m0 t = (Real.exp (-(cum L (n + t.val + 1) + top (rel L I) (n + t.val + 1))) : EReal) := by
  unfold kflr
  rw [kmx_eq L I n lf li m0 hlf hli hm, kb_eq L n lf hlf, ← EReal.coe_add, zero_sub, ← EReal.coe_neg, Ideal.exp_coe]
  congr 2
  ring

variable (σ' : ℝ) (σ : EReal) (hσ : σ = (σ' : EReal)) (Q K : ℕ → Fin 128 → ℝ) (q k : Fin 128 → Fin 128 → EReal)
  (hq : ∀ x d, q x d = (Q (n + x.val) d : EReal)) (hk : ∀ x d, k x d = (K (n + x.val) d : EReal))
include hσ hq hk

theorem ks_eq (t s : Fin 128) : ks lf li m0 σ q k t s = ((if s.val ≤ t.val then
    Real.exp (rel L I (n + s.val) - top (rel L I) (n + t.val + 1)) * ((∑ d, Q (n + t.val) d * K (n + s.val) d) * σ') else 0 : ℝ) : EReal) := by
  unfold ks
  rw [kmx_eq L I n lf li m0 hlf hli hm, kr_eq L I n lf li hlf hli, exp_cut, hσ]
  simp only [hq, hk, ← EReal.coe_mul]
  rw [coe_sum, ← EReal.coe_mul, ← EReal.coe_mul]
  congr 1
  split
  · rw [show rel L I (n + s.val) + cum L n - (top (rel L I) (n + t.val + 1) + cum L n) = rel L I (n + s.val) - top (rel L I) (n + t.val + 1) by ring]
    ring
  · ring

omit hq hk in
theorem kw_eq (t : Fin 128) : kw lf li m0 σ t = ((Real.exp (top (rel L I) n - top (rel L I) (n + t.val + 1)) * σ' : ℝ) : EReal) := by
  unfold kw
  rw [kmx_eq L I n lf li m0 hlf hli hm, hm, hσ, ← EReal.coe_sub, Ideal.exp_coe, ← EReal.coe_mul]
  congr 3
  ring

theorem knum_eq (V : ℕ → ℝ) (v C : Fin 128 → EReal) (hv : ∀ x, v x = (V (n + x.val) : EReal))
    (hC : ∀ d, C d = ((acc (rel L I) (fun s => K s d * V s) n : ℝ) : EReal)) (t : Fin 128) :
    knum lf li m0 σ q k v C t = ((acc (rel L I) (fun s => (∑ d, Q (n + t.val) d * K s d) * σ' * V s) (n + t.val + 1) : ℝ) : EReal) := by
  unfold knum
  simp only [ks_eq L I n lf li m0 hlf hli hm σ' σ hσ Q K q k hq hk, kw_eq L I n lf li m0 hlf hli hm σ' σ hσ, hv, hC, hq, ← EReal.coe_mul]
  rw [coe_sum, coe_sum, ← EReal.coe_mul, ← EReal.coe_add]
  congr 1
  rw [add_assoc n, acc_add, add_comm]
  congr 1
  · rw [acc_sum, mul_assoc, acc_mul, mul_comm]
    congr 2
    funext s
    rw [Finset.mul_sum, Finset.sum_mul, Finset.sum_mul]
    exact Finset.sum_congr rfl fun d _ => by ring
  · rw [← fin_cut 128 (fun x => Real.exp (rel L I (n + x) - top (rel L I) (n + (t.val + 1))) * ((∑ d, Q (n + t.val) d * K (n + x) d) * σ' * V (n + x))) t.val t.isLt]
    refine Finset.sum_congr rfl fun s _ => ?_
    split
    · ring
    · ring

theorem kden_eq (N : Fin 128 → EReal) (hN : ∀ d, N d = ((acc (rel L I) (fun s => K s d) n : ℝ) : EReal)) (t : Fin 128) :
    kden lf li m0 σ q k N t = ((acc (rel L I) (fun s => (∑ d, Q (n + t.val) d * K s d) * σ') (n + t.val + 1) : ℝ) : EReal) := by
  have e := knum_eq L I n lf li m0 hlf hli hm σ' σ hσ Q K q k hq hk (fun _ => 1) (fun _ => 1) N (fun _ => rfl)
    (fun d => by simp only [mul_one]; exact hN d) t
  simp only [mul_one] at e
  rw [← e]
  unfold kden knum
  simp only [mul_one]
  congr 1
  refine (congrArg₂ (· + ·) rfl ?_).trans (add_zero _)
  refine Finset.sum_eq_zero fun s _ => ?_
  rw [ks_eq L I n lf li m0 hlf hli hm σ' σ hσ Q K q k hq hk, ← EReal.coe_sub, sub_self, EReal.coe_zero]

end

section
variable (L I : ℕ → ℝ) (n : ℕ) (lf li : Fin 128 → EReal) (m0 : EReal)
  (hlf : ∀ x : Fin 128, lf x = (L (n + x.val) : EReal)) (hli : ∀ x : Fin 128, li x = (I (n + x.val) : EReal))
  (hm : m0 = ((top (rel L I) n + cum L n : ℝ) : EReal))
include hlf hli hm

theorem kstate_eq (V : ℕ → ℝ) (v : Fin 128 → EReal) (C : EReal) (hv : ∀ x, v x = (V (n + x.val) : EReal))
    (hC : C = ((acc (rel L I) V n : ℝ) : EReal)) :
    kdec lf li m0 * C + (∑ s : Fin 128, kws lf li m0 s * v s) = ((acc (rel L I) V (n + 128) : ℝ) : EReal) := by
  rw [kdec_eq L I n lf li m0 hlf hli hm, hC]
  simp only [kws_eq L I n lf li m0 hlf hli hm, hv, ← EReal.coe_mul]
  rw [coe_sum, ← EReal.coe_add]
  congr 1
  rw [acc_add, mul_comm, Fin.sum_univ_eq_sum_range (fun s => Real.exp (rel L I (n + s) - top (rel L I) (n + 128)) * V (n + s)) 128]

end

/-! ## All rows at once, as the reference computes them -/

section
variable (N : ℕ) (L I : ℕ → ℝ) (b li : Fin N → EReal)
  (hb : ∀ x : Fin N, b x = (cum L (x.val + 1) : EReal)) (hli : ∀ x : Fin N, li x = (I x.val : EReal))
include hb hli

theorem rd_eq (t s : Fin N) : b t - b s + li s = ((rel L I s.val + cum L (t.val + 1) : ℝ) : EReal) := by
  rw [hb, hb, hli, ← EReal.coe_sub, ← EReal.coe_add]
  congr 1
  unfold rel
  ring

theorem rm_eq (t : Fin N) : max (b t) (Finset.univ.fold max ⊥ fun s : Fin N => if s.val ≤ t.val then b t - b s + li s else ⊥)
    = ((top (rel L I) (t.val + 1) + cum L (t.val + 1) : ℝ) : EReal) := by
  have e := max_cut N (rel L I) (cum L (t.val + 1)) 0 t.val t.isLt
  simp only [Nat.zero_add] at e
  rw [← e, max_comm]
  simp only [rd_eq N L I b li hb hli]
  congr 1
  rw [hb]
  congr 1
  show _ = 0 + _
  rw [zero_add]

/-- The maximum after the last row. -/
theorem rlast_eq (t : Fin N) (ht : t.val + 1 = N) : max (b t) (Finset.univ.fold max ⊥ fun s : Fin N => b t - b s + li s)
    = ((top (rel L I) N + cum L N : ℝ) : EReal) := by
  have e := max_all N (rel L I) (cum L N) 0
  simp only [Nat.zero_add] at e
  rw [← e, max_comm]
  simp only [rd_eq N L I b li hb hli, ht]
  congr 1
  rw [hb, ht]
  congr 1
  show _ = 0 + _
  rw [zero_add]

theorem rexp_eq (t s : Fin N) : Ideal.exp ((if s.val ≤ t.val then b t - b s + li s else ⊥)
      - max (b t) (Finset.univ.fold max ⊥ fun s : Fin N => if s.val ≤ t.val then b t - b s + li s else ⊥))
    = ((if s.val ≤ t.val then Real.exp (rel L I s.val - top (rel L I) (t.val + 1)) else 0 : ℝ) : EReal) := by
  rw [rm_eq N L I b li hb hli, rd_eq N L I b li hb hli, exp_cut]
  congr 2
  congr 1
  ring

theorem racc_eq (A : ℕ → ℝ) (a : Fin N → EReal) (ha : ∀ s, a s = (A s.val : EReal)) (t : Fin N) :
    (∑ s : Fin N, a s * Ideal.exp ((if s.val ≤ t.val then b t - b s + li s else ⊥)
      - max (b t) (Finset.univ.fold max ⊥ fun s : Fin N => if s.val ≤ t.val then b t - b s + li s else ⊥)))
    = ((acc (rel L I) A (t.val + 1) : ℝ) : EReal) := by
  simp only [rexp_eq N L I b li hb hli, ha, ← EReal.coe_mul]
  rw [coe_sum]
  congr 1
  unfold acc
  rw [← fin_cut N (fun s => Real.exp (rel L I s - top (rel L I) (t.val + 1)) * A s) t.val t.isLt]
  refine Finset.sum_congr rfl fun s _ => ?_
  split <;> ring

theorem rstate_eq (A : ℕ → ℝ) (a : Fin N → EReal) (ha : ∀ s, a s = (A s.val : EReal)) (t : Fin N) (ht : t.val + 1 = N) :
    (∑ s : Fin N, Ideal.exp (b t - b s + li s - max (b t) (Finset.univ.fold max ⊥ fun s : Fin N => b t - b s + li s)) * a s)
    = ((acc (rel L I) A N : ℝ) : EReal) := by
  rw [rlast_eq N L I b li hb hli t ht]
  simp only [rd_eq N L I b li hb hli, ha, ht, ← EReal.coe_sub, Ideal.exp_coe, ← EReal.coe_mul]
  rw [coe_sum]
  congr 1
  unfold acc
  rw [← Fin.sum_univ_eq_sum_range (fun s => Real.exp (rel L I s - top (rel L I) N) * A s) N]
  refine Finset.sum_congr rfl fun s _ => ?_
  congr 2
  ring

end

/-- A quotient by a number not less than a positive one. -/
theorem div_flr (x : EReal) (d f : ℝ) (hf : 0 < f) : x * Ideal.div 1 (max ((d : ℝ) : EReal) (f : EReal)) = Ideal.div x (max ((d : ℝ) : EReal) (f : EReal)) := by
  rw [← coe_max]
  have h : max d f ≠ 0 := (lt_of_lt_of_le hf (le_max_right d f)).ne'
  rw [Ideal.div_coe h, Ideal.div_coe h, one_mul]

/-- The two gates' quotients in one. -/
theorem gates (o z x : ℝ) (y : EReal) : y * (z : EReal) * Ideal.div 1 ((1 + Ideal.exp (0 - (o : EReal))) * (1 + Ideal.exp (0 - (z : EReal))))
    = y * Ideal.logistic (o : EReal) * ((z : EReal) * Ideal.logistic (z : EReal)) := by
  have e : ∀ w : ℝ, 1 + Ideal.exp (0 - (w : EReal)) = ((1 + Real.exp (-w) : ℝ) : EReal) := fun w => by
    rw [zero_sub, ← EReal.coe_neg, Ideal.exp_coe, EReal.coe_add, EReal.coe_one]
  have h : ∀ w : ℝ, 1 + Real.exp (-w) ≠ 0 := fun w => by positivity
  have l : ∀ w : ℝ, Ideal.logistic (w : EReal) = ((1 / (1 + Real.exp (-w)) : ℝ) : EReal) := fun w => by
    have := e w
    rw [zero_sub] at this
    unfold Ideal.logistic
    rw [this, Ideal.div_coe (h w), one_mul]
  rw [e, e, l, l, ← EReal.coe_mul, Ideal.div_coe (mul_ne_zero (h o) (h z)), one_mul, mul_assoc, mul_assoc, ← EReal.coe_mul, ← EReal.coe_mul, ← EReal.coe_mul]
  congr 2
  field_simp

end Cert.MlstmMath
-- ==== Proof.MlstmKernel.lean ====
/- The recurrence: what the kernel computes of one block of rows, head by head. -/
module

public import proofs.«01_k».proof.Defs
public import proofs.«01_k».proof.Proof.FgateValue
public import proofs.«01_k».proof.Proof.MlstmMath
public import proofs.«01_k».proof.Proof.Gen.MlstmIdeal.Skeleton
public import Idealize.ShloMosaic.Lib.Pointwise

@[expose] public section

set_option maxRecDepth 16384

noncomputable section
namespace Cert.MlstmIdeal.Rec

open Idealize.ShloMosaic Idealize.ShloMosaic.TcCoe Idealize.ShloMosaic.Tactic
open Cert.MlstmIdeal.Gen
open Cert.MlstmMath
open Cert.FgateIdeal.Scan (lsig lsig_kernel pieces)

/-- The exponents of the rows not after each row. -/
def rV (rrow : FVec Ideal S1x128 .f32) : FVec Ideal S128x128 .f32 :=
  have cst_26 : Ideal .f32 := Scalar.ofBits .f32 0xFF800000#32
  have v77 : FVec Ideal S1x128 .f32 := shapeCast S1x128 rrow shapeCasts_S1x128_S1x128
  have v78 : FVec Ideal S128x128 .f32 := broadcastTo S128x128 v77 broadcasts_S1x128_S128x128
  have v79 : FVec Ideal S128x128 .f32 := broadcast S128x128 cst_26
  have v80 : FVec Ideal S128x128 .f32 := select k0_pay25 v78 v79
  v80

/-- Their maximum with the one before the block. -/
def xV (mh : FVec Ideal S1x1 .f32) (v80 : FVec Ideal S128x128 .f32) : FVec Ideal S128x128 .f32 :=
  have v81 : FVec Ideal S128 .f32 := multiReduction .maximumf [1] S128 v80 0xFF800000#32 reduces_S128x128_S128_2 (.inl rfl) rfl
  have v82 : FVec Ideal S128x1 .f32 := shapeCast S128x1 v81 shapeCasts_S128_S128x1
  have v83 : FVec Ideal S128x1 .f32 := broadcastTo S128x1 mh broadcasts_S1x1_S128x1
  have v84 : FVec Ideal S128x1 .f32 := maximumf v82 v83
  have v85 : FVec Ideal S128x1 .f32 := shapeCast S128x1 v84 shapeCasts_S128x1_S128x1
  have v86 : FVec Ideal S128x128 .f32 := broadcastTo S128x128 v85 broadcasts_S128x1_S128x128
  v86

/-- The weighted products. -/
def sV (q k : FVec Ideal S128x128 .bf16) (v80 v86 : FVec Ideal S128x128 .f32) : FVec Ideal S128x128 .f32 :=
  have v87 : FVec Ideal S128x128 .f32 := subf v80 v86
  have v88 : FVec Ideal S128x128 .f32 := exp v87
  have cst_29 : FVec Ideal S128x128 .f32 := constant S128x128 .f32 0x00000000#32
  have v94 : FVec Ideal S128x128 .f32 := matmul dot_S128x128_S128x128_S128x128_1_1_0_0_n_n none q k cst_29
  have cst_30 : Ideal .f32 := Scalar.ofBits .f32 0x3DB504F3#32
  have v95 : FVec Ideal S128x128 .f32 := broadcast S128x128 cst_30
  have v96 : FVec Ideal S128x128 .f32 := mulf v94 v95
  have v97 : FVec Ideal S128x128 .f32 := mulf v96 v88
  v97

/-- The weight of the state before the block. -/
def wV (mh : FVec Ideal S1x1 .f32) (v86 : FVec Ideal S128x128 .f32) : FVec Ideal S128x128 .f32 :=
  have v89 : FVec Ideal S128x128 .f32 := broadcastTo S128x128 mh broadcasts_S1x1_S128x128
  have v90 : FVec Ideal S128x128 .f32 := subf v89 v86
  have v91 : FVec Ideal S128x128 .f32 := exp v90
  have cst_28 : Ideal .f32 := Scalar.ofBits .f32 0x3DB504F3#32
  have v92 : FVec Ideal S128x128 .f32 := broadcast S128x128 cst_28
  have v93 : FVec Ideal S128x128 .f32 := mulf v91 v92
  v93

/-- The numerators. -/
def numV (q : FVec Ideal S128x128 .bf16) (v : FVec Ideal S128x256 .bf16) (v97 v93 : FVec Ideal S128x128 .f32) (v102 : FVec Ideal S1x128x256 .f32) : FVec Ideal S128x256 .f32 :=
  have v98 : FVec Ideal S128x128 .bf16 := truncf .bf16 v97 bitsLt_bf16_f32
  have cst_34 : FVec Ideal S128x256 .f32 := constant S128x256 .f32 0x00000000#32
  have v104 : FVec Ideal S128x256 .f32 := matmul dot_S128x128_S128x256_S128x256_1_0_0_1_n_n none v98 v cst_34
  have v105 : FVec Ideal S128x256 .f32 := concatenate S128x256 1 [⟨S128x128, v93⟩, ⟨S128x128, v93⟩] concatenates_S128x128_S128x128_S128x256_d1
  have v106 : FVec Ideal S128x256 .bf16 := truncf .bf16 (shapeCast S128x256 v102 shapeCasts_S1x128x256_S128x256) bitsLt_bf16_f32
  have cst_35 : FVec Ideal S128x256 .f32 := constant S128x256 .f32 0x00000000#32
  have v107 : FVec Ideal S128x256 .f32 := matmul dot_S128x128_S128x256_S128x256_1_0_0_1_n_n none q v106 cst_35
  have v108 : FVec Ideal S128x256 .f32 := mulf v105 v107
  have v109 : FVec Ideal S128x256 .f32 := addf v104 v108
  v109

/-- The denominators. -/
def denV (q : FVec Ideal S128x128 .bf16) (v97 v93 : FVec Ideal S128x128 .f32) (nrow : FVec Ideal S1x128 .f32) : FVec Ideal S128x128 .f32 :=
  have v98 : FVec Ideal S128x128 .bf16 := truncf .bf16 v97 bitsLt_bf16_f32
  have v99 : FVec Ideal S128x128 .f32 := extf .f32 v98 bitsLt_bf16_f32
  have v100 : FVec Ideal S128x128 .f32 := subf v97 v99
  have v101 : FVec Ideal S128x128 .bf16 := truncf .bf16 v100 bitsLt_bf16_f32
  have v111 : FVec Ideal S1x128 .f32 := shapeCast S1x128 nrow shapeCasts_S1x128_S1x128
  have v112 : FVec Ideal S128x128 .f32 := broadcastTo S128x128 v111 broadcasts_S1x128_S128x128
  have v113 : FVec Ideal S128x128 .bf16 := truncf .bf16 v112 bitsLt_bf16_f32
  have cst_36 : FVec Ideal S128x128 .f32 := constant S128x128 .f32 0x00000000#32
  have v114 : FVec Ideal S128x128 .f32 := matmul dot_S128x128_S128x128_S128x128_1_1_0_0_n_n none q v113 cst_36
  have cst_37 : FVec Ideal S128x128 .f32 := constant S128x128 .f32 0x00000000#32
  have v115 : FVec Ideal S128x128 .f32 := matmul dot_S128x128_S128x128_S128x128_1_0_0_1_n_n none v98 k0_pay35 cst_37
  have cst_38 : FVec Ideal S128x128 .f32 := constant S128x128 .f32 0x00000000#32
  have v116 : FVec Ideal S128x128 .f32 := matmul dot_S128x128_S128x128_S128x128_1_0_0_1_n_n none v101 k0_pay35 cst_38
  have v117 : FVec Ideal S128x128 .f32 := addf v115 v116
  have v118 : FVec Ideal S128x128 .f32 := mulf v93 v114
  have v119 : FVec Ideal S128x128 .f32 := addf v117 v118
  v119

/-- The floors. -/
def flV (v86 : FVec Ideal S128x128 .f32) (bcol : FVec Ideal S128x1 .f32) : FVec Ideal S128x128 .f32 :=
  have v121 : FVec Ideal S128x128 .f32 := broadcastTo S128x128 bcol broadcasts_S128x1_S128x128
  have v122 : FVec Ideal S128x128 .f32 := addf v121 v86
  have cst_39 : Ideal .f32 := Scalar.ofBits .f32 0x00000000#32
  have v123 : FVec Ideal S128x128 .f32 := broadcast S128x128 cst_39
  have v124 : FVec Ideal S128x128 .f32 := subf v123 v122
  have v125 : FVec Ideal S128x128 .f32 := exp v124
  v125

/-- The quotients. -/
def quoV (v109 : FVec Ideal S128x256 .f32) (v119 v125 : FVec Ideal S128x128 .f32) : FVec Ideal S128x256 .f32 :=
  have v126 : FVec Ideal S128x128 .f32 := absf v119
  have v127 : FVec Ideal S128x128 .f32 := maximumf v126 v125
  have cst_40 : Ideal .f32 := Scalar.ofBits .f32 0x3F800000#32
  have v128 : FVec Ideal S128x128 .f32 := broadcast S128x128 cst_40
  have v129 : FVec Ideal S128x128 .f32 := divf v128 v127
  have v130 : FVec Ideal S128x256 .f32 := concatenate S128x256 1 [⟨S128x128, v129⟩, ⟨S128x128, v129⟩] concatenates_S128x128_S128x128_S128x256_d1
  have v131 : FVec Ideal S128x256 .f32 := mulf v109 v130
  v131

/-- One head's rows of a block, from its slices of the inputs. -/
def hhV (q k : FVec Ideal S128x128 .bf16) (v : FVec Ideal S128x256 .bf16) (mh : FVec Ideal S1x1 .f32) (rrow : FVec Ideal S1x128 .f32)
    (bcol : FVec Ideal S128x1 .f32) (nrow : FVec Ideal S1x128 .f32) (C : FVec Ideal S1x128x256 .f32) : FVec Ideal S128x256 .f32 :=
  quoV (numV q v (sV q k (rV rrow) (xV mh (rV rrow))) (wV mh (xV mh (rV rrow))) C) (denV q (sV q k (rV rrow) (xV mh (rV rrow))) (wV mh (xV mh (rV rrow))) nrow)
    (flV (xV mh (rV rrow)) bcol)

/-- One head's row of the second state. -/
def nV (dh : FVec Ideal S1x1 .f32) (ws nrow : FVec Ideal S1x128 .f32) (k : FVec Ideal S128x128 .bf16) : FVec Ideal S1x128 .f32 :=
  have v183 : FVec Ideal S1x128 .f32 := shapeCast S1x128 ws shapeCasts_S1x128_S1x128
  have v184 : FVec Ideal S8x128 .f32 := broadcastTo S8x128 v183 broadcasts_S1x128_S8x128
  have v185 : FVec Ideal S8x128 .bf16 := truncf .bf16 v184 bitsLt_bf16_f32
  have v187 : FVec Ideal S1x128 .f32 := broadcastTo S1x128 dh broadcasts_S1x1_S1x128
  have v188 : FVec Ideal S1x128 .f32 := mulf v187 nrow
  have cst_61 : FVec Ideal S8x128 .f32 := constant S8x128 .f32 0x00000000#32
  have v189 : FVec Ideal S8x128 .f32 := matmul dot_S8x128_S128x128_S8x128_1_0_0_1_n_n none v185 k cst_61
  have v190 : FVec Ideal S1x128 .f32 := extractStridedSlice S1x128 ![0, 0] v189 slices_S8x128_o0_0_S1x128
  have v191 : FVec Ideal S1x128 .f32 := addf v188 v190
  have v194 : FVec Ideal S1x128 .f32 := shapeCast S1x128 v191 shapeCasts_S1x128_S1x128
  v194

/-- One head's matrix of the first state. -/
def cV (dh : FVec Ideal S1x1 .f32) (ws : FVec Ideal S1x128 .f32) (k : FVec Ideal S128x128 .bf16) (v : FVec Ideal S128x256 .bf16) (C : FVec Ideal S1x128x256 .f32) :
    FVec Ideal S1x128x256 .f32 :=
  k0_pay49 v (shapeCast S128x256 C shapeCasts_S1x128x256_S128x256)
    (truncf .bf16 (mulf (transpose S128x128 [1, 0] (extf .f32 k bitsLt_bf16_f32) transposes_S128x128_p1_0_S128x128) (broadcastTo S128x128 ws broadcasts_S1x128_S128x128)) bitsLt_bf16_f32) dh

theorem sl_qk (h : Fin 8) : S128x1024.Slices ![0, 128 * h.val] S128x128 := by revert h; decide
theorem sl_v (h : Fin 8) : S128x2048.Slices ![0, 256 * h.val] S128x256 := by revert h; decide
theorem sl_one (h : Fin 8) : S1x128.Slices ![0, h.val] S1x1 := by revert h; decide
theorem sl_row (h : Fin 8) : S128x128.Slices ![h.val, 0] S1x128 := by revert h; decide
theorem sl_col (h : Fin 8) : S128x128.Slices ![0, h.val] S128x1 := by revert h; decide
theorem sl_n (h : Fin 8) : S8x128.Slices ![h.val, 0] S1x128 := by revert h; decide

/-- A head's rows from the whole block. -/
def hhT (h : Fin 8) (q k : FVec Ideal S128x1024 .bf16) (v : FVec Ideal S128x2048 .bf16) (M : FVec Ideal S1x128 .f32) (RT B : FVec Ideal S128x128 .f32)
    (N : FVec Ideal S8x128 .f32) (C : FVec Ideal S1x128x256 .f32) : FVec Ideal S128x256 .f32 :=
  hhV (extractStridedSlice S128x128 ![0, 128 * h.val] q (sl_qk h)) (extractStridedSlice S128x128 ![0, 128 * h.val] k (sl_qk h))
    (extractStridedSlice S128x256 ![0, 256 * h.val] v (sl_v h)) (extractStridedSlice S1x1 ![0, h.val] M (sl_one h))
    (extractStridedSlice S1x128 ![h.val, 0] RT (sl_row h)) (extractStridedSlice S128x1 ![0, h.val] B (sl_col h)) (extractStridedSlice S1x128 ![h.val, 0] N (sl_n h)) C
def actT (h : Fin 8) (q k : FVec Ideal S128x1024 .bf16) (v : FVec Ideal S128x2048 .bf16) (M : FVec Ideal S1x128 .f32) (RT B : FVec Ideal S128x128 .f32)
    (N : FVec Ideal S8x128 .f32) (C : FVec Ideal S1x128x256 .f32) (hn : FVec Ideal S1x256 .f32) (o z : FVec Ideal S128x256 .bf16) : FVec Ideal S128x256 .bf16 :=
  k0_pay45 (hhT h q k v M RT B N C) (mulf (hhT h q k v M RT B N C) (hhT h q k v M RT B N C)) hn o z
def nT (h : Fin 8) (DC : FVec Ideal S1x128 .f32) (WS : FVec Ideal S128x128 .f32) (N : FVec Ideal S8x128 .f32) (k : FVec Ideal S128x1024 .bf16) : FVec Ideal S1x128 .f32 :=
  nV (extractStridedSlice S1x1 ![0, h.val] DC (sl_one h)) (extractStridedSlice S1x128 ![h.val, 0] WS (sl_row h)) (extractStridedSlice S1x128 ![h.val, 0] N (sl_n h))
    (extractStridedSlice S128x128 ![0, 128 * h.val] k (sl_qk h))
def cT (h : Fin 8) (DC : FVec Ideal S1x128 .f32) (WS : FVec Ideal S128x128 .f32) (k : FVec Ideal S128x1024 .bf16) (v : FVec Ideal S128x2048 .bf16) (C : FVec Ideal S1x128x256 .f32) :
    FVec Ideal S1x128x256 .f32 :=
  cV (extractStridedSlice S1x1 ![0, h.val] DC (sl_one h)) (extractStridedSlice S1x128 ![h.val, 0] WS (sl_row h)) (extractStridedSlice S128x128 ![0, 128 * h.val] k (sl_qk h))
    (extractStridedSlice S128x256 ![0, 256 * h.val] v (sl_v h)) C

theorem pay25_apply (t s : Fin 128) : k0_pay25 (ix2 t s) = if s.val ≤ t.val then 1#1 else 0#1 := by
  revert t s
  decide +kernel

theorem bits_bot : Ideal.ofBits .f32 0xFF800000#32 = ⊥ := by
  simp [Ideal.ofBits, Ideal.ieee]

theorem rV_apply (rrow) (t s : Fin 128) : rV rrow (ix2 t s) = if s.val ≤ t.val then rrow (ix2 0 s) else ⊥ := by
  have e : rV rrow (ix2 t s) = Scalar.select (k0_pay25 (ix2 t s)) (rrow (ix2 0 s)) (Ideal.ofBits .f32 0xFF800000#32) := by
    pointwise [rV]
  rw [e, pay25_apply, bits_bot]
  split <;> rfl
theorem xV_apply (mh r) (t s : Fin 128) : xV mh r (ix2 t s) = max (Finset.univ.fold max ⊥ fun x : Fin 128 => r (ix2 t x)) (mh (ix2 0 0)) := by
  rw [← bits_bot]
  pointwise [xV]
theorem sV_apply (q k r x) (t s : Fin 128) : sV q k r x (ix2 t s)
    = (∑ d : Fin 128, q (ix2 t d) * k (ix2 s d)) * Ideal.ofBits .f32 0x3DB504F3#32 * Ideal.exp (r (ix2 t s) - x (ix2 t s)) := by
  pointwise [sV]
theorem wV_apply (mh x) (t s : Fin 128) : wV mh x (ix2 t s) = Ideal.exp (mh (ix2 0 0) - x (ix2 t s)) * Ideal.ofBits .f32 0x3DB504F3#32 := by
  pointwise [wV]
theorem numV_apply (q v s w C) (t : Fin 128) (x : Fin 256) : numV q v s w C (ix2 t x)
    = (∑ y : Fin 128, s (ix2 t y) * v (ix2 y x)) + (if h : x.val < 128 then w (ix2 t ⟨x.val, h⟩) else w (ix2 t ⟨x.val - 128, by omega⟩)) * ∑ d : Fin 128, q (ix2 t d) * C (ix3 0 d x) := by
  pointwise [numV]
theorem denV_apply (q s w n) (t x : Fin 128) : denV q s w n (ix2 t x)
    = (∑ y : Fin 128, s (ix2 t y)) + (∑ y : Fin 128, (s (ix2 t y) - s (ix2 t y))) + w (ix2 t x) * ∑ d : Fin 128, q (ix2 t d) * n (ix2 0 d) := by
  have e : Ideal.ofBits .bf16 0x3F80#16 = 1 := Ideal.ofBits_one_bf16
  pointwise [denV, k0_pay35]
theorem flV_apply (x b) (t s : Fin 128) : flV x b (ix2 t s) = Ideal.exp (0 - (b (ix2 t 0) + x (ix2 t s))) := by
  pointwise [flV]
theorem quoV_apply (n d f) (t : Fin 128) (x : Fin 256) : quoV n d f (ix2 t x)
    = n (ix2 t x) * (if h : x.val < 128 then Ideal.div 1 (max (FloatOps.absf (F := Ideal) (φ := .f32) (d (ix2 t ⟨x.val, h⟩))) (f (ix2 t ⟨x.val, h⟩)))
      else Ideal.div 1 (max (FloatOps.absf (F := Ideal) (φ := .f32) (d (ix2 t ⟨x.val - 128, by omega⟩))) (f (ix2 t ⟨x.val - 128, by omega⟩)))) := by
  pointwise [quoV]

theorem cV_apply (dh ws k v C) (d : Fin 128) (x : Fin 256) : cV dh ws k v C (ix3 0 d x)
    = dh (ix2 0 0) * C (ix3 0 d x) + ∑ s : Fin 128, k (ix2 s d) * ws (ix2 0 s) * v (ix2 s x) := by
  pointwise [cV, k0_pay49]
theorem nV_apply (dh ws nrow k) (d : Fin 128) : nV dh ws nrow k (ix2 0 d) = dh (ix2 0 0) * nrow (ix2 0 d) + ∑ s : Fin 128, ws (ix2 0 s) * k (ix2 s d) := by
  pointwise [nV]
theorem pay45_apply (hh : FVec Ideal S128x256 .f32) (o z hn) (t : Fin 128) (x : Fin 256) : k0_pay45 hh (mulf hh hh) hn o z (ix2 t x)
    = (hh (ix2 t x) : EReal) * Ideal.rsqrt (Ideal.div (∑ w : Fin 256, (hh (ix2 t w) : EReal) * hh (ix2 t w)) (Ideal.ofBits FTy.f32 0x43800000#32) + Ideal.ofBits FTy.f32 0x358637BD#32)
      * hn (ix2 0 x) * z (ix2 t x) * Ideal.div 1 ((1 + Ideal.exp (0 - o (ix2 t x))) * (1 + Ideal.exp (0 - z (ix2 t x)))) := by
  pointwise [k0_pay45]
  simp only [dite_eq_ite, ite_self]

/-! ## The gates of a block -/

section
variable (ga : FVec Ideal S128x256 .f32) (bi : FVec Ideal S1x256 .f32) (M : FVec Ideal S1x128 .f32)

def LF (j s : Fin 128) : EReal := lsig ((ga (ix2 s ⟨128 + j.val, by omega⟩) : EReal) + bi (ix2 0 ⟨128 + j.val, by omega⟩))
def LI (j s : Fin 128) : EReal := (ga (ix2 s ⟨j.val, by omega⟩) : EReal) + bi (ix2 0 ⟨j.val, by omega⟩)
def RT : FVec Ideal S128x128 .f32 := k0_pay30 (k0_pay23 ga bi) (k0_pay24 ga bi) k0_pay26 (k0_pay27 ga bi)
def BB : FVec Ideal S128x128 .f32 := k0_pay28 (k0_pay24 ga bi) k0_pay26 (k0_pay27 ga bi)
def DC : FVec Ideal S1x128 .f32 := k0_pay33 (k0_pay23 ga bi) (k0_pay24 ga bi) k0_pay26 (k0_pay27 ga bi) M
def WS : FVec Ideal S128x128 .f32 := k0_pay34 (k0_pay23 ga bi) (k0_pay24 ga bi) k0_pay26 (k0_pay27 ga bi) M
def MN : FVec Ideal S1x128 .f32 := k0_pay32 (k0_pay23 ga bi) (k0_pay24 ga bi) k0_pay26 (k0_pay27 ga bi) M

theorem p23_apply (s j : Fin 128) : k0_pay23 (F := Ideal) ga bi (ix2 s j) = LI ga bi j s := by
  unfold LI
  pointwise [k0_pay23, k0_pay22]
theorem p24_apply (s j : Fin 128) : k0_pay24 (F := Ideal) ga bi (ix2 s j) = LF ga bi j s := by
  refine Eq.trans ?_ (lsig_kernel _)
  pointwise [k0_pay24, k0_pay22]
theorem p26_apply (i j : Fin 128) : k0_pay26 (F := Ideal) (ix2 i j) = if j.val ≤ i.val then 1 else 0 := by
  pointwise [k0_pay26]
  rw [pay25_apply]
  split <;> rfl

theorem BB_apply (t j : Fin 128) : BB ga bi (ix2 t j) = kb (LF ga bi j) t := by
  unfold BB kb
  pointwise [k0_pay28, k0_pay27]
  simp only [p26_apply, p24_apply]
  rw [← Finset.sum_add_distrib, ← Finset.sum_add_distrib]
  refine Finset.sum_congr rfl fun x _ => ?_
  split
  · simp only [one_mul]
    exact pieces _ (Cert.FgateIdeal.Scan.lsig_le _)
  · simp only [zero_mul, add_zero]
theorem p29_apply (t j : Fin 128) : k0_pay29 (F := Ideal) (k0_pay23 ga bi) (k0_pay24 ga bi) k0_pay26 (k0_pay27 ga bi) (ix2 t j) = kr (LF ga bi j) (LI ga bi j) t := by
  unfold kr
  rw [← BB_apply, ← p23_apply]
  unfold BB
  pointwise [k0_pay29]
theorem RT_apply (t j : Fin 128) : RT ga bi (ix2 j t) = kr (LF ga bi j) (LI ga bi j) t := by
  rw [← p29_apply]
  unfold RT
  pointwise [k0_pay30]
theorem p31_apply (j : Fin 128) : k0_pay31 (F := Ideal) (k0_pay24 ga bi) k0_pay26 (k0_pay27 ga bi) (ix2 0 j) = kb (LF ga bi j) 127 := by
  rw [← BB_apply]
  unfold BB
  pointwise [k0_pay31]
theorem MN_apply (j : Fin 128) : MN ga bi M (ix2 0 j) = kmn (LF ga bi j) (LI ga bi j) (M (ix2 0 j)) := by
  unfold kmn MN
  rw [← p31_apply, ← bits_bot]
  simp only [← p29_apply]
  pointwise [k0_pay32]
theorem DC_apply (j : Fin 128) : DC ga bi M (ix2 0 j) = kdec (LF ga bi j) (LI ga bi j) (M (ix2 0 j)) := by
  unfold kdec DC
  rw [← MN_apply, ← p31_apply]
  unfold MN
  pointwise [k0_pay33]
theorem WS_apply (j s : Fin 128) : WS ga bi M (ix2 j s) = kws (LF ga bi j) (LI ga bi j) (M (ix2 0 j)) s := by
  unfold kws WS
  rw [← MN_apply, ← p31_apply, ← p29_apply]
  unfold MN
  pointwise [k0_pay34]
end

/-! ## A head of a block -/

section
variable (h : Fin 8) (q k : FVec Ideal S128x1024 .bf16) (v : FVec Ideal S128x2048 .bf16) (ga : FVec Ideal S128x256 .f32) (bi : FVec Ideal S1x256 .f32)
  (M : FVec Ideal S1x128 .f32) (N : FVec Ideal S8x128 .f32) (C : FVec Ideal S1x128x256 .f32)

/-- A head as a lane. -/
abbrev ln (h : Fin 8) : Fin 128 := ⟨h.val, by omega⟩
/-- A head's slice of a block of queries or keys. -/
def hq (q : FVec Ideal S128x1024 .bf16) (h : Fin 8) (s d : Fin 128) : EReal := q (ix2 s ⟨128 * h.val + d.val, by omega⟩)
def hv (v : FVec Ideal S128x2048 .bf16) (h : Fin 8) (x : Fin 256) (s : Fin 128) : EReal := v (ix2 s ⟨256 * h.val + x.val, by omega⟩)

theorem hhT_apply (t : Fin 128) (x : Fin 256) : hhT h q k v M (RT ga bi) (BB ga bi) N C (ix2 t x)
    = knum (LF ga bi (ln h)) (LI ga bi (ln h)) (M (ix2 0 (ln h))) (Ideal.ofBits .f32 0x3DB504F3#32) (hq q h) (hq k h) (hv v h x) (fun d => C (ix3 0 d x)) t
      * Ideal.div 1 (max (FloatOps.absf (F := Ideal) (φ := .f32) (kden (LF ga bi (ln h)) (LI ga bi (ln h)) (M (ix2 0 (ln h))) (Ideal.ofBits .f32 0x3DB504F3#32) (hq q h) (hq k h) (fun d => N (ix2 h d)) t))
          (kflr (LF ga bi (ln h)) (LI ga bi (ln h)) (M (ix2 0 (ln h))) t)) := by
  have e1 : ∀ s d, extractStridedSlice S128x128 ![0, 128 * h.val] q (sl_qk h) (ix2 s d) = hq q h s d := fun s d => by
    unfold hq
    pointwise
  have e2 : ∀ s d, extractStridedSlice S128x128 ![0, 128 * h.val] k (sl_qk h) (ix2 s d) = hq k h s d := fun s d => by
    unfold hq
    pointwise
  have e3 : ∀ s x, extractStridedSlice S128x256 ![0, 256 * h.val] v (sl_v h) (ix2 s x) = hv v h x s := fun s x => by
    unfold hv
    pointwise
  have e4 : extractStridedSlice S1x1 ![0, h.val] M (sl_one h) (ix2 0 0) = M (ix2 0 (ln h)) := by pointwise
  have e5 : ∀ s, extractStridedSlice S1x128 ![h.val, 0] (RT ga bi) (sl_row h) (ix2 0 s) = kr (LF ga bi (ln h)) (LI ga bi (ln h)) s := fun s => by
    rw [← RT_apply]
    pointwise
  have e6 : extractStridedSlice S128x1 ![0, h.val] (BB ga bi) (sl_col h) (ix2 t 0) = kb (LF ga bi (ln h)) t := by
    rw [← BB_apply]
    pointwise
  have e7 : ∀ d, extractStridedSlice S1x128 ![h.val, 0] N (sl_n h) (ix2 0 d) = N (ix2 h d) := fun d => by pointwise
  unfold hhT hhV
  simp only [quoV_apply, numV_apply, denV_apply, flV_apply, wV_apply, sV_apply, xV_apply, rV_apply, e1, e2, e3, e4, e5, e6, e7, dite_eq_ite, ite_self]
  rfl

theorem nT_apply (d : Fin 128) : nT h (DC ga bi M) (WS ga bi M) N k (ix2 0 d)
    = kdec (LF ga bi (ln h)) (LI ga bi (ln h)) (M (ix2 0 (ln h))) * N (ix2 h d)
      + ∑ s : Fin 128, kws (LF ga bi (ln h)) (LI ga bi (ln h)) (M (ix2 0 (ln h))) s * hq k h s d := by
  have e2 : ∀ s d, extractStridedSlice S128x128 ![0, 128 * h.val] k (sl_qk h) (ix2 s d) = hq k h s d := fun s d => by
    unfold hq
    pointwise
  have e4 : extractStridedSlice S1x1 ![0, h.val] (DC ga bi M) (sl_one h) (ix2 0 0) = kdec (LF ga bi (ln h)) (LI ga bi (ln h)) (M (ix2 0 (ln h))) := by
    rw [← DC_apply]
    pointwise
  have e5 : ∀ s, extractStridedSlice S1x128 ![h.val, 0] (WS ga bi M) (sl_row h) (ix2 0 s) = kws (LF ga bi (ln h)) (LI ga bi (ln h)) (M (ix2 0 (ln h))) s := fun s => by
    rw [← WS_apply]
    pointwise
  have e7 : ∀ d, extractStridedSlice S1x128 ![h.val, 0] N (sl_n h) (ix2 0 d) = N (ix2 h d) := fun d => by pointwise
  unfold nT
  simp only [nV_apply, e2, e4, e5, e7]

theorem cT_apply (d : Fin 128) (x : Fin 256) : cT h (DC ga bi M) (WS ga bi M) k v C (ix3 0 d x)
    = kdec (LF ga bi (ln h)) (LI ga bi (ln h)) (M (ix2 0 (ln h))) * C (ix3 0 d x)
      + ∑ s : Fin 128, hq k h s d * kws (LF ga bi (ln h)) (LI ga bi (ln h)) (M (ix2 0 (ln h))) s * hv v h x s := by
  have e2 : ∀ s d, extractStridedSlice S128x128 ![0, 128 * h.val] k (sl_qk h) (ix2 s d) = hq k h s d := fun s d => by
    unfold hq
    pointwise
  have e3 : ∀ s x, extractStridedSlice S128x256 ![0, 256 * h.val] v (sl_v h) (ix2 s x) = hv v h x s := fun s x => by
    unfold hv
    pointwise
  have e4 : extractStridedSlice S1x1 ![0, h.val] (DC ga bi M) (sl_one h) (ix2 0 0) = kdec (LF ga bi (ln h)) (LI ga bi (ln h)) (M (ix2 0 (ln h))) := by
    rw [← DC_apply]
    pointwise
  have e5 : ∀ s, extractStridedSlice S1x128 ![h.val, 0] (WS ga bi M) (sl_row h) (ix2 0 s) = kws (LF ga bi (ln h)) (LI ga bi (ln h)) (M (ix2 0 (ln h))) s := fun s => by
    rw [← WS_apply]
    pointwise
  unfold cT
  simp only [cV_apply, e2, e3, e4, e5]
end

end Cert.MlstmIdeal.Rec
-- ==== Proof.MlstmStep.lean ====
/- The recurrence: what a point leaves in the carried scratch and in its results, head by head. -/
module

public import proofs.«01_k».proof.Defs
public import proofs.«01_k».proof.Proof.MlstmKernel
public import proofs.«01_k».proof.Proof.Gen.MlstmIdeal.Value
public import Idealize.ShloMosaic.Lib.Pointwise
public import Idealize.ShloMosaic.Lib.Routing.OpsOne
public import Idealize.ShloMosaic.Lib.Routing.OpsSet
public import Idealize.ShloMosaic.Lib.Pipeline.ReadBack
public import Idealize.ShloMosaic.Lib.Pipeline.ValueKit

@[expose] public section

set_option maxRecDepth 16384

noncomputable section
namespace Cert.MlstmIdeal.Rec

open Idealize.ShloMosaic Idealize.ShloMosaic.TcCoe Idealize.ShloMosaic.Tactic
open Idealize.SL.Sem
open Idealize.ShloMosaic.Pipeline (Dat Cfg Window)
open Cert.MlstmIdeal.Gen
open Cert.MlstmMath

/-- Eight writes that do not meet, then any: at a place of one of the eight, its payload. -/
theorem canon_map {S : Shape} {e : EltTy} (R : Fin 8 → Rect S) (Q : (g : Fin 8) → (R g).shape.Idx → Elt Ideal e) (T : List (View.Piece (Elt Ideal) S e)) (h : Fin 8)
    (x : (R h).shape.Idx) (hd : ∀ g, g ≠ h → (R h).emb x ∉ (R g).set) (gs : List (Fin 8)) (hm : h ∈ gs) :
    View.canon (Val := Elt Ideal) (gs.map (fun g => (⟨R g, Q g⟩ : View.Piece (Elt Ideal) S e)) ++ T) ((R h).emb x) = Q h x := by
  induction gs with
  | nil => cases hm
  | cons g gs ih =>
    by_cases hg : g = h
    · subst hg
      exact View.canon_cons_emb _ _ _ _
    · refine (View.canon_cons_of_not_mem _ _ (hd g hg)).trans (ih ?_)
      rcases List.mem_cons.1 hm with h' | h'
      · exact absurd h'.symm hg
      · exact h'

theorem all8 (h : Fin 8) : h ∈ ([7, 6, 5, 4, 3, 2, 1, 0] : List (Fin 8)) := by revert h; decide

theorem in_c (h : Fin 8) : ∀ a, (![h.val, 0, 0] : Fin 3 → ℕ) a + (![1, 128, 256] : Fin 3 → ℕ) a ≤ S8x128x256.size a := by revert h; decide
theorem in_n (h : Fin 8) : ∀ a, (![h.val, 0] : Fin 2 → ℕ) a + (![1, 128] : Fin 2 → ℕ) a ≤ S8x128.size a := by revert h; decide
theorem in_a (h : Fin 8) : ∀ a, (![0, 256 * h.val] : Fin 2 → ℕ) a + (![128, 256] : Fin 2 → ℕ) a ≤ S128x2048.size a := by revert h; decide
theorem in_h (h : Fin 8) : ∀ a, (![0, 256 * h.val] : Fin 2 → ℕ) a + (![1, 256] : Fin 2 → ℕ) a ≤ S1x2048.size a := by revert h; decide
theorem in_o (h : Fin 8) : ∀ a, (![0, h.val, 0, 0] : Fin 4 → ℕ) a + (![1, 1, 256, 128] : Fin 4 → ℕ) a ≤ S1x8x256x128.size a := by revert h; decide
theorem in_i (h : Fin 8) : ∀ a, (![0, 0, h.val, 0, 0] : Fin 5 → ℕ) a + (![1, 1, 1, 256, 128] : Fin 5 → ℕ) a ≤ S1x1x8x256x128.size a := by revert h; decide

def rc (h : Fin 8) : Rect S8x128x256 := Rect.unit ![h.val, 0, 0] ![1, 128, 256] (in_c h)
def rn (h : Fin 8) : Rect S8x128 := Rect.unit ![h.val, 0] ![1, 128] (in_n h)
def ra (h : Fin 8) : Rect S128x2048 := Rect.unit ![0, 256 * h.val] ![128, 256] (in_a h)
def rh (h : Fin 8) : Rect S1x2048 := Rect.unit ![0, 256 * h.val] ![1, 256] (in_h h)
def ro (h : Fin 8) : Rect S1x8x256x128 := Rect.unit ![0, h.val, 0, 0] ![1, 1, 256, 128] (in_o h)
def ri (h : Fin 8) : Rect S1x1x8x256x128 := Rect.unit ![0, 0, h.val, 0, 0] ![1, 1, 1, 256, 128] (in_i h)

theorem canon_c (Q : Fin 8 → Vec Ideal S1x128x256 .f32) (T : List (View.Piece (Elt Ideal) S8x128x256 .f32)) (h : Fin 8) (d : Fin 128) (x : Fin 256) :
    View.canon (Val := Elt Ideal) (s := S8x128x256) (e := .f32) (⟨rc 7, Q 7⟩ :: ⟨rc 6, Q 6⟩ :: ⟨rc 5, Q 5⟩ :: ⟨rc 4, Q 4⟩ :: ⟨rc 3, Q 3⟩ :: ⟨rc 2, Q 2⟩ :: ⟨rc 1, Q 1⟩ :: ⟨rc 0, Q 0⟩ :: T) (ix3 h d x) = Q h (ix3 0 d x) := by
  have e : (rc h).emb (ix3 0 d x) = (ix3 h d x : S8x128x256.Idx) := by
    funext a
    fin_cases a <;> refine Fin.ext ((Rect.idx_unit_val _ _ _ _ _).trans ?_) <;> simp [ix2, ix3, ix4]
  refine Eq.trans (congrArg _ e.symm) ?_
  refine canon_map rc Q T h (ix3 0 d x) (fun g hg hm => hg (Fin.ext ?_)) [7, 6, 5, 4, 3, 2, 1, 0] (all8 h)
  rw [e] at hm
  have hm' : (ix3 h d x : S8x128x256.Idx) ∈ (Rect.unit ![g.val, 0, 0] ![1, 128, 256] (in_c g)).set := hm
  have := (Rect.mem_set_unit.1 hm') 0
  have h1 : g.val ≤ h.val := this.1
  have h2 : h.val < g.val + 1 := this.2
  omega

theorem canon_n (Q : Fin 8 → Vec Ideal S1x128 .f32) (T : List (View.Piece (Elt Ideal) S8x128 .f32)) (h : Fin 8) (d : Fin 128) :
    View.canon (Val := Elt Ideal) (s := S8x128) (e := .f32) (⟨rn 7, Q 7⟩ :: ⟨rn 6, Q 6⟩ :: ⟨rn 5, Q 5⟩ :: ⟨rn 4, Q 4⟩ :: ⟨rn 3, Q 3⟩ :: ⟨rn 2, Q 2⟩ :: ⟨rn 1, Q 1⟩ :: ⟨rn 0, Q 0⟩ :: T) (ix2 h d) = Q h (ix2 0 d) := by
  have e : (rn h).emb (ix2 0 d) = (ix2 h d : S8x128.Idx) := by
    funext a
    fin_cases a <;> refine Fin.ext ((Rect.idx_unit_val _ _ _ _ _).trans ?_) <;> simp [ix2, ix3, ix4]
  refine Eq.trans (congrArg _ e.symm) ?_
  refine canon_map rn Q T h (ix2 0 d) (fun g hg hm => hg (Fin.ext ?_)) [7, 6, 5, 4, 3, 2, 1, 0] (all8 h)
  rw [e] at hm
  have hm' : (ix2 h d : S8x128.Idx) ∈ (Rect.unit ![g.val, 0] ![1, 128] (in_n g)).set := hm
  have := (Rect.mem_set_unit.1 hm') 0
  have h1 : g.val ≤ h.val := this.1
  have h2 : h.val < g.val + 1 := this.2
  omega

theorem canon_a (Q : Fin 8 → Vec Ideal S128x256 .bf16) (T : List (View.Piece (Elt Ideal) S128x2048 .bf16)) (h : Fin 8) (t : Fin 128) (x : Fin 256) :
    View.canon (Val := Elt Ideal) (s := S128x2048) (e := .bf16) (⟨ra 7, Q 7⟩ :: ⟨ra 6, Q 6⟩ :: ⟨ra 5, Q 5⟩ :: ⟨ra 4, Q 4⟩ :: ⟨ra 3, Q 3⟩ :: ⟨ra 2, Q 2⟩ :: ⟨ra 1, Q 1⟩ :: ⟨ra 0, Q 0⟩ :: T) (ix2 t ⟨256 * h.val + x.val, by omega⟩) = Q h (ix2 t x) := by
  have e : (ra h).emb (ix2 t x) = (ix2 t ⟨256 * h.val + x.val, by omega⟩ : S128x2048.Idx) := by
    funext a
    fin_cases a <;> refine Fin.ext ((Rect.idx_unit_val _ _ _ _ _).trans ?_) <;> simp [ix2, ix3, ix4]
  refine Eq.trans (congrArg _ e.symm) ?_
  refine canon_map ra Q T h (ix2 t x) (fun g hg hm => hg (Fin.ext ?_)) [7, 6, 5, 4, 3, 2, 1, 0] (all8 h)
  rw [e] at hm
  have hm' : (ix2 t ⟨256 * h.val + x.val, by omega⟩ : S128x2048.Idx) ∈ (Rect.unit ![0, 256 * g.val] ![128, 256] (in_a g)).set := hm
  have := (Rect.mem_set_unit.1 hm') 1
  have h1 : 256 * g.val ≤ 256 * h.val + x.val := this.1
  have h2 : 256 * h.val + x.val < 256 * g.val + 256 := this.2
  omega

theorem canon_o (Q : Fin 8 → Vec Ideal S1x1x256x128 .f32) (T : List (View.Piece (Elt Ideal) S1x8x256x128 .f32)) (h : Fin 8) (x : Fin 256) (d : Fin 128) :
    View.canon (Val := Elt Ideal) (s := S1x8x256x128) (e := .f32) (⟨ro 7, Q 7⟩ :: ⟨ro 6, Q 6⟩ :: ⟨ro 5, Q 5⟩ :: ⟨ro 4, Q 4⟩ :: ⟨ro 3, Q 3⟩ :: ⟨ro 2, Q 2⟩ :: ⟨ro 1, Q 1⟩ :: ⟨ro 0, Q 0⟩ :: T) (ix4 0 h x d) = Q h (ix4 0 0 x d) := by
  have e : (ro h).emb (ix4 0 0 x d) = (ix4 0 h x d : S1x8x256x128.Idx) := by
    funext a
    fin_cases a <;> refine Fin.ext ((Rect.idx_unit_val _ _ _ _ _).trans ?_) <;> simp [ix2, ix3, ix4]
  refine Eq.trans (congrArg _ e.symm) ?_
  refine canon_map ro Q T h (ix4 0 0 x d) (fun g hg hm => hg (Fin.ext ?_)) [7, 6, 5, 4, 3, 2, 1, 0] (all8 h)
  rw [e] at hm
  have hm' : (ix4 0 h x d : S1x8x256x128.Idx) ∈ (Rect.unit ![0, g.val, 0, 0] ![1, 1, 256, 128] (in_o g)).set := hm
  have := (Rect.mem_set_unit.1 hm') 1
  have h1 : g.val ≤ h.val := this.1
  have h2 : h.val < g.val + 1 := this.2
  omega

section
variable (m : (ℓ : Loc nD τ sig) → Buf (Elt Ideal) ℓ) (c : Dev nD) (t : Fin cfg0.N)

/-- What the point before left. -/
abbrev prev := outsAt0 m c (t.val - 1) (Nat.lt_of_le_of_lt (Nat.sub_le _ _) t.isLt)

/-- A head's matrix at the start of a sequence, -/
abbrev cZ (h : Fin 8) : FVec Ideal S1x128x256 .f32 :=
  shapeCast S1x128x256 (transpose S128x256 [1, 0] (shapeCast S256x128 (View.ld (iblk m c 8 t) (ri h)) shapeCasts_S1x1x1x256x128_S256x128) transposes_S256x128_p1_0_S128x256) shapeCasts_S128x256_S1x128x256
/-- and after the point before. -/
abbrev cP (h : Fin 8) : FVec Ideal S1x128x256 .f32 := View.ld (prev m c t).2.2.2.2.1 (rc h)
abbrev nZ : FVec Ideal S8x128 .f32 := k0_pay20 (F := Ideal) (iblk m c 9 t)
abbrev nP : FVec Ideal S8x128 .f32 := (prev m c t).2.2.2.2.2.1
abbrev mZ : FVec Ideal S1x128 .f32 := k0_pay21 (F := Ideal) (iblk m c 10 t)
abbrev mP : FVec Ideal S1x128 .f32 := (prev m c t).2.2.2.2.2.2

abbrev gA := (iblk m c 5 t : FVec Ideal S128x256 .f32)
abbrev bI := (iblk m c 6 t : FVec Ideal S1x256 .f32)

theorem ct_A (h0 : t.val % 16 = 0) (h : Fin 8) (d : Fin 128) (x : Fin 256) : (outsAt0 m c t.val t.isLt).2.2.2.2.1 (ix3 h d x)
    = cT h (DC (gA m c t) (bI m c t) (mZ m c t)) (WS (gA m c t) (bI m c t) (mZ m c t)) (iblk m c 1 t) (iblk m c 2 t) (cZ m c t h) (ix3 0 d x) := by
  rw [outsAt0_A m c t h0 (by omega)]; dsimp only; frame_out
  simp (disch := (first | rfl | decide)) only [↓View.readCov_skip, ↓View.readCov_cons_toLoadRect]
  exact canon_c (fun h => cT h (DC (gA m c t) (bI m c t) (mZ m c t)) (WS (gA m c t) (bI m c t) (mZ m c t)) (iblk m c 1 t) (iblk m c 2 t) (cZ m c t h)) _ h d x
theorem ct_B (h0 : ¬t.val % 16 = 0) (h : Fin 8) (d : Fin 128) (x : Fin 256) : (outsAt0 m c t.val t.isLt).2.2.2.2.1 (ix3 h d x)
    = cT h (DC (gA m c t) (bI m c t) (mP m c t)) (WS (gA m c t) (bI m c t) (mP m c t)) (iblk m c 1 t) (iblk m c 2 t) (cP m c t h) (ix3 0 d x) := by
  by_cases h1 : t.val % 16 = 15
  · rw [outsAt0_C m c t h0 h1]; dsimp only; frame_out
    simp only [read_unread_whole]
    exact canon_c (fun h => cT h (DC (gA m c t) (bI m c t) (mP m c t)) (WS (gA m c t) (bI m c t) (mP m c t)) (iblk m c 1 t) (iblk m c 2 t) (cP m c t h)) _ h d x
  · rw [outsAt0_B m c t h0 h1]; dsimp only; frame_out
    simp only [read_unread_whole]
    exact canon_c (fun h => cT h (DC (gA m c t) (bI m c t) (mP m c t)) (WS (gA m c t) (bI m c t) (mP m c t)) (iblk m c 1 t) (iblk m c 2 t) (cP m c t h)) _ h d x

theorem p1_apply (x : FVec Ideal S1x128 .f32) (j : Fin 128) : k0_pay1 (F := Ideal) x (ix2 0 j) = x (ix2 0 j) := by
  pointwise [k0_pay1]
theorem p2_apply (x : FVec Ideal S8x128 .f32) (h : Fin 8) (d : Fin 128) : k0_pay2 (F := Ideal) x (ix3 0 h d) = x (ix2 h d) := by
  pointwise [k0_pay2]
theorem p3_apply (x : FVec Ideal S1x128 .f32) (j : Fin 128) : k0_pay3 (F := Ideal) x (ix3 0 0 j) = x (ix2 0 j) := by
  pointwise [k0_pay3]
theorem p12_apply (x : FVec Ideal S1x128x256 .f32) (v : Fin 256) (d : Fin 128) : k0_pay12 (F := Ideal) x (ix4 0 0 v d) = x (ix3 0 d v) := by
  pointwise [k0_pay12]

theorem n_A (h0 : t.val % 16 = 0) (h : Fin 8) (d : Fin 128) : (outsAt0 m c t.val t.isLt).2.2.2.2.2.1 (ix2 h d)
    = nT h (DC (gA m c t) (bI m c t) (mZ m c t)) (WS (gA m c t) (bI m c t) (mZ m c t)) (nZ m c t) (iblk m c 1 t) (ix2 0 d) := by
  rw [outsAt0_A m c t h0 (by omega)]; dsimp only; frame_out
  exact canon_n (fun h => nT h (DC (gA m c t) (bI m c t) (mZ m c t)) (WS (gA m c t) (bI m c t) (mZ m c t)) (nZ m c t) (iblk m c 1 t)) _ h d
theorem n_B (h0 : ¬t.val % 16 = 0) (h : Fin 8) (d : Fin 128) : (outsAt0 m c t.val t.isLt).2.2.2.2.2.1 (ix2 h d)
    = nT h (DC (gA m c t) (bI m c t) (mP m c t)) (WS (gA m c t) (bI m c t) (mP m c t)) (nP m c t) (iblk m c 1 t) (ix2 0 d) := by
  by_cases h1 : t.val % 16 = 15
  · rw [outsAt0_C m c t h0 h1]; dsimp only; frame_out
    simp only [read_unread_whole]
    exact canon_n (fun h => nT h (DC (gA m c t) (bI m c t) (mP m c t)) (WS (gA m c t) (bI m c t) (mP m c t)) (nP m c t) (iblk m c 1 t)) _ h d
  · rw [outsAt0_B m c t h0 h1]; dsimp only; frame_out
    simp only [read_unread_whole]
    exact canon_n (fun h => nT h (DC (gA m c t) (bI m c t) (mP m c t)) (WS (gA m c t) (bI m c t) (mP m c t)) (nP m c t) (iblk m c 1 t)) _ h d

theorem act_A (h0 : t.val % 16 = 0) (h : Fin 8) (r : Fin 128) (x : Fin 256) : (outsAt0 m c t.val t.isLt).1 (ix2 r ⟨256 * h.val + x.val, by omega⟩)
    = actT h (iblk m c 0 t) (iblk m c 1 t) (iblk m c 2 t) (mZ m c t) (RT (gA m c t) (bI m c t)) (BB (gA m c t) (bI m c t)) (nZ m c t) (cZ m c t h) (View.ld (iblk m c 7 t) (rh h)) (View.ld (iblk m c 3 t) (ra h)) (View.ld (iblk m c 4 t) (ra h)) (ix2 r x) := by
  rw [outsAt0_A m c t h0 (by omega)]; dsimp only; frame_out
  simp (disch := (first | rfl | decide)) only [↓View.readCov_skip, ↓View.readCov_cons_toLoadRect]
  exact canon_a (fun h => actT h (iblk m c 0 t) (iblk m c 1 t) (iblk m c 2 t) (mZ m c t) (RT (gA m c t) (bI m c t)) (BB (gA m c t) (bI m c t)) (nZ m c t) (cZ m c t h) (View.ld (iblk m c 7 t) (rh h)) (View.ld (iblk m c 3 t) (ra h)) (View.ld (iblk m c 4 t) (ra h))) _ h r x
theorem act_B (h0 : ¬t.val % 16 = 0) (h : Fin 8) (r : Fin 128) (x : Fin 256) : (outsAt0 m c t.val t.isLt).1 (ix2 r ⟨256 * h.val + x.val, by omega⟩)
    = actT h (iblk m c 0 t) (iblk m c 1 t) (iblk m c 2 t) (mP m c t) (RT (gA m c t) (bI m c t)) (BB (gA m c t) (bI m c t)) (nP m c t) (cP m c t h) (View.ld (iblk m c 7 t) (rh h)) (View.ld (iblk m c 3 t) (ra h)) (View.ld (iblk m c 4 t) (ra h)) (ix2 r x) := by
  by_cases h1 : t.val % 16 = 15
  · rw [outsAt0_C m c t h0 h1]; dsimp only; frame_out
    simp only [read_unread_whole]
    exact canon_a (fun h => actT h (iblk m c 0 t) (iblk m c 1 t) (iblk m c 2 t) (mP m c t) (RT (gA m c t) (bI m c t)) (BB (gA m c t) (bI m c t)) (nP m c t) (cP m c t h) (View.ld (iblk m c 7 t) (rh h)) (View.ld (iblk m c 3 t) (ra h)) (View.ld (iblk m c 4 t) (ra h))) _ h r x
  · rw [outsAt0_B m c t h0 h1]; dsimp only; frame_out
    simp only [read_unread_whole]
    exact canon_a (fun h => actT h (iblk m c 0 t) (iblk m c 1 t) (iblk m c 2 t) (mP m c t) (RT (gA m c t) (bI m c t)) (BB (gA m c t) (bI m c t)) (nP m c t) (cP m c t h) (View.ld (iblk m c 7 t) (rh h)) (View.ld (iblk m c 3 t) (ra h)) (View.ld (iblk m c 4 t) (ra h))) _ h r x

theorem m_A (h0 : t.val % 16 = 0) (j : Fin 128) : (outsAt0 m c t.val t.isLt).2.2.2.2.2.2 (ix2 0 j)
    = MN (gA m c t) (bI m c t) (mZ m c t) (ix2 0 j) := by
  rw [outsAt0_A m c t h0 (by omega)]; dsimp only; frame_out
  exact p1_apply _ _
theorem m_B (h0 : ¬t.val % 16 = 0) (j : Fin 128) : (outsAt0 m c t.val t.isLt).2.2.2.2.2.2 (ix2 0 j)
    = MN (gA m c t) (bI m c t) (mP m c t) (ix2 0 j) := by
  by_cases h1 : t.val % 16 = 15
  · rw [outsAt0_C m c t h0 h1]; dsimp only; frame_out
    simp only [read_unread_whole]
    exact p1_apply _ _
  · rw [outsAt0_B m c t h0 h1]; dsimp only; frame_out
    simp only [read_unread_whole]
    exact p1_apply _ _

/-- At the last point of a sequence the results are what the scratch holds. -/
theorem c_last (h1 : t.val % 16 = 15) (h : Fin 8) (x : Fin 256) (d : Fin 128) : (outsAt0 m c t.val t.isLt).2.1 (ix4 0 h x d) = (outsAt0 m c t.val t.isLt).2.2.2.2.1 (ix3 h d x) := by
  rw [outsAt0_C m c t (by omega) h1]; dsimp only; frame_out
  simp only [read_unread_whole, View.readCov_eq_canon']
  refine (canon_o (fun g => k0_pay12 (F := Ideal) (fun j => View.canon _ ((rc g).toLoadRect.idx j))) [] h x d).trans ((p12_apply _ _ _).trans (congrArg _ ?_))
  funext a
  fin_cases a <;> refine Fin.ext ((Rect.idx_unit_val _ _ _ _ _).trans ?_) <;> simp [ix2, ix3, ix4]
theorem n_last (h1 : t.val % 16 = 15) (h : Fin 8) (d : Fin 128) : (outsAt0 m c t.val t.isLt).2.2.1 (ix3 0 h d) = (outsAt0 m c t.val t.isLt).2.2.2.2.2.1 (ix2 h d) := by
  rw [outsAt0_C m c t (by omega) h1]; dsimp only; frame_out
  simp only [read_unread_whole, View.readCov_eq_canon']
  refine (p2_apply _ _ _).trans (congrArg _ ?_)
  funext a
  fin_cases a <;> refine Fin.ext ((Rect.idx_unit_val _ _ _ _ _).trans ?_) <;> simp [ix2, ix3, ix4]
theorem m_last (h1 : t.val % 16 = 15) (j : Fin 128) : (outsAt0 m c t.val t.isLt).2.2.2.1 (ix3 0 0 j) = (outsAt0 m c t.val t.isLt).2.2.2.2.2.2 (ix2 0 j) := by
  rw [outsAt0_C m c t (by omega) h1]; dsimp only; frame_out
  try simp only [read_unread_whole]
  try simp (disch := (first | rfl | decide)) only [↓View.readCov_skip, ↓View.readCov_cons_toLoadRect]
  exact p3_apply _ _

end

end Cert.MlstmIdeal.Rec
-- ==== Proof.MlstmRef.lean ====
/- The recurrence: the reference's arrays at their places over the extended reals. -/
module

public import proofs.«01_k».proof.Defs
public import proofs.«01_k».proof.Proof.FgateValue
public import proofs.«01_k».proof.Proof.MlstmMath
public import proofs.«01_k».proof.Proof.Gen.MlstmRefIdeal.Read
public import Idealize.ShloMosaic.Lib.Pointwise

@[expose] public section

set_option maxRecDepth 16384

noncomputable section
namespace Cert.MlstmRefIdeal.Rec

open Idealize.ShloMosaic Idealize.ShloMosaic.TcCoe Idealize.ShloMosaic.Tactic
open Cert.MlstmRefIdeal.Read
open Cert.FgateIdeal.Scan (lsig lsig_reference)

variable (x0 : Vec Ideal S16384x8192 .bf16) (x1 : Vec Ideal S16384x256 .f32) (x2 x3 : Vec Ideal S8 .f32) (x4 : Vec Ideal S2048 .f32)

/-- A row of a sequence among all rows. -/
abbrev at_ (b : Fin 8) (s : Fin 2048) : Fin 16384 := ⟨b.val * 2048 + s.val, by omega⟩

/-- The bias of a lane. -/
def bias8 (w : Vec Ideal S8 .f32) (j : Fin 128) : EReal := if h : j.val < 8 then w (ix1 ⟨j.val, h⟩) else FloatOps.sitofp (F := Ideal) FTy.f32 (0#32 : BitVec 32)

/-- The input gate at a row and a lane, and the forget gate's logarithm. -/
def ig (b : Fin 8) (s : Fin 2048) (j : Fin 128) : EReal := x1 (ix2 (at_ b s) ⟨j.val, by omega⟩) + bias8 x2 j
def fg (b : Fin 8) (s : Fin 2048) (j : Fin 128) : EReal := lsig (x1 (ix2 (at_ b s) ⟨128 + j.val, by omega⟩) + bias8 x3 j)

theorem v16_apply (b : Fin 8) (s : Fin 2048) (j : Fin 128) : val_main_v16 (F := Ideal) x1 x2 (ix3 b s j) = ig x1 x2 b s j := by
  unfold ig bias8
  pointwise [val_main_v16, val_main_v15, val_main_v14, val_main_v13, val_main_call0_v0, val_main_c, val_main_v11, val_main_v10]

theorem v21_apply (b : Fin 8) (s : Fin 2048) (j : Fin 128) : val_main_v21 (F := Ideal) x1 x3 (ix3 b s j) = fg x1 x3 b s j := by
  refine Eq.trans ?_ (lsig_reference _)
  unfold bias8
  pointwise [val_main_v21, val_main_call2_v1, val_main_call2_call0_v11, val_main_call2_call0_v10, val_main_call2_call0_v9,
    val_main_call2_call0_v8, val_main_call2_call0_v7, val_main_call2_call0_v6, val_main_call2_call0_v5, val_main_call2_call0_v4, val_main_call2_call0_v3,
    val_main_call2_call0_v2, val_main_call2_call0_v1, val_main_call2_call0_v0, val_main_call2_call0_cst, val_main_call2_v0, val_main_v20, val_main_v19, val_main_v18, val_main_v17, val_main_v12, val_main_v10, val_main_call1_v0, val_main_c_0]

theorem v22_apply (b : Fin 8) (s : Fin 2048) (j : Fin 128) : val_main_v22 (F := Ideal) x1 x3 (ix3 b s j)
    = ∑ n ∈ Finset.range (s.val + 1), if h : n < 2048 then fg x1 x3 b ⟨n, h⟩ j else 0 := by
  unfold val_main_v22
  refine (Prefix.window_apply _ _ _ _ (fun i => ?_) b s j).trans (Finset.sum_congr rfl fun n hn => ?_)
  · obtain rfl : i = ix0 := funext fun a => a.elim0
    pointwise [val_main_call3_call0_v0, val_main_call3_call0_cst]
  · have := Finset.mem_range.1 hn
    rw [dif_pos (by omega), dif_pos (by omega), v21_apply]

theorem v7_apply (b : Fin 8) (s : Fin 2048) (h : Fin 8) (d : Fin 128) : val_main_v7 (F := Ideal) x0 (ix4 b s h d) = x0 (ix2 (at_ b s) ⟨h.val * 128 + d.val, by omega⟩) := by
  pointwise [val_main_v7, val_main_v2, val_main_v1, val_main_v0]
theorem v8_apply (b : Fin 8) (s : Fin 2048) (h : Fin 8) (d : Fin 128) : val_main_v8 (F := Ideal) x0 (ix4 b s h d) = x0 (ix2 (at_ b s) ⟨1024 + (h.val * 128 + d.val), by omega⟩) := by
  pointwise [val_main_v8, val_main_v3, val_main_v1, val_main_v0]
theorem v9_apply (b : Fin 8) (s : Fin 2048) (h : Fin 8) (d : Fin 256) : val_main_v9 (F := Ideal) x0 (ix4 b s h d) = x0 (ix2 (at_ b s) ⟨2048 + (h.val * 256 + d.val), by omega⟩) := by
  pointwise [val_main_v9, val_main_v4, val_main_v1, val_main_v0]

theorem v28_apply (b : Fin 8) (s : Fin 2048) (j : Fin 128) : val_main_v28 (F := Ideal) x1 x2 x3 (ix3 b s j)
    = val_main_v22 (F := Ideal) x1 x3 (ix3 b 2047 j) - val_main_v22 (F := Ideal) x1 x3 (ix3 b s j) + ig x1 x2 b s j := by
  simp only [← v16_apply]
  pointwise [val_main_v28, val_main_v27, val_main_v26, val_main_v25, val_main_v24, val_main_v23]

theorem bits_bot : Ideal.ofBits .f32 0xFF800000#32 = ⊥ := by
  simp [Ideal.ofBits, Ideal.ieee]

theorem v29_apply (b : Fin 8) (j : Fin 128) : val_main_v29 (F := Ideal) x1 x2 x3 (ix2 b j)
    = Finset.univ.fold max (Ideal.ofBits FTy.f32 0xFF800000#32) fun s : Fin 2048 => val_main_v28 (F := Ideal) x1 x2 x3 (ix3 b s j) := by
  pointwise [val_main_v29, val_main_cst]

theorem v30_apply (b : Fin 8) (j : Fin 128) : val_main_v30 (F := Ideal) x1 x2 x3 (ix2 b j)
    = max (val_main_v22 (F := Ideal) x1 x3 (ix3 b 2047 j)) (Finset.univ.fold max ⊥ fun s : Fin 2048 =>
        val_main_v22 (F := Ideal) x1 x3 (ix3 b 2047 j) - val_main_v22 (F := Ideal) x1 x3 (ix3 b s j) + ig x1 x2 b s j) := by
  have e : val_main_v30 (F := Ideal) x1 x2 x3 (ix2 b j) = max (val_main_v22 (F := Ideal) x1 x3 (ix3 b 2047 j)) (val_main_v29 (F := Ideal) x1 x2 x3 (ix2 b j)) := by
    pointwise [val_main_v30, val_main_v24, val_main_v23]
  rw [e, v29_apply, bits_bot]
  simp only [v28_apply]

theorem v35_apply (b : Fin 8) (s : Fin 2048) (h : Fin 8) : val_main_v35 (F := Ideal) x1 x2 x3 (ix3 b s h)
    = Ideal.exp (val_main_v22 (F := Ideal) x1 x3 (ix3 b 2047 ⟨h.val, by omega⟩) - val_main_v22 (F := Ideal) x1 x3 (ix3 b s ⟨h.val, by omega⟩)
      + ig x1 x2 b s ⟨h.val, by omega⟩ - val_main_v30 (F := Ideal) x1 x2 x3 (ix2 b ⟨h.val, by omega⟩)) := by
  simp only [← v16_apply]
  pointwise [val_main_v35, val_main_v34, val_main_v33, val_main_v32, val_main_v31, val_main_v28, val_main_v27, val_main_v26, val_main_v25, val_main_v24, val_main_v23]

theorem v39_apply (b h : Fin 8) (v : Fin 256) (d : Fin 128) : val_main_v39 (F := Ideal) x0 x1 x2 x3 (ix4 b h v d)
    = ∑ s : Fin 2048, val_main_v35 (F := Ideal) x1 x2 x3 (ix3 b s h) * val_main_v9 (F := Ideal) x0 (ix4 b s h v) * val_main_v8 (F := Ideal) x0 (ix4 b s h d) := by
  pointwise [val_main_v39, val_main_v38, val_main_v37, val_main_v36]

theorem v40_apply (b h : Fin 8) (d : Fin 128) : val_main_v40 (F := Ideal) x0 x1 x2 x3 (ix3 b h d)
    = ∑ s : Fin 2048, val_main_v35 (F := Ideal) x1 x2 x3 (ix3 b s h) * val_main_v8 (F := Ideal) x0 (ix4 b s h d) := by
  pointwise [val_main_v40]

theorem v51_apply (b : Fin 8) (t s : Fin 2048) (h : Fin 8) : val_main_v51 (F := Ideal) x1 x2 x3 (ix4 b t s h)
    = val_main_v22 (F := Ideal) x1 x3 (ix3 b t ⟨h.val, by omega⟩) - val_main_v22 (F := Ideal) x1 x3 (ix3 b s ⟨h.val, by omega⟩) + ig x1 x2 b s ⟨h.val, by omega⟩ := by
  simp only [← v16_apply]
  pointwise [val_main_v51, val_main_v50, val_main_v49, val_main_v48, val_main_v47, val_main_v46, val_main_v45, val_main_v44, val_main_v43, val_main_v42, val_main_v41]

theorem sge_bit (k l : ℕ) (hk : k < 2048) (hl : l < 2048) :
    IntOp.cmpi .sge (BitVec.ofNat 32 k) (BitVec.ofNat 32 l) = if l ≤ k then 1#1 else 0#1 := by
  have ek : (BitVec.ofNat 32 k).toInt = k := by
    rw [BitVec.toInt_ofNat']; exact Int.bmod_eq_of_le (by omega) (by omega)
  have el : (BitVec.ofNat 32 l).toInt = l := by
    rw [BitVec.toInt_ofNat']; exact Int.bmod_eq_of_le (by omega) (by omega)
  simp only [IntOp.cmpi, BitVec.sle, ek, el]
  by_cases h : l ≤ k
  · simp [h]
  · simp [h]

theorem v58_apply (b : Fin 8) (t s : Fin 2048) (h : Fin 8) : val_main_v58 (F := Ideal) x1 x2 x3 (ix4 b t s h)
    = if s.val ≤ t.val then val_main_v22 (F := Ideal) x1 x3 (ix3 b t ⟨h.val, by omega⟩) - val_main_v22 (F := Ideal) x1 x3 (ix3 b s ⟨h.val, by omega⟩) + ig x1 x2 b s ⟨h.val, by omega⟩ else ⊥ := by
  have e : val_main_v58 (F := Ideal) x1 x2 x3 (ix4 b t s h) = Scalar.select (IntOp.cmpi .sge (BitVec.ofNat 32 t.val) (BitVec.ofNat 32 s.val))
      (val_main_v51 (F := Ideal) x1 x2 x3 (ix4 b t s h)) (Ideal.ofBits FTy.f32 0xFF800000#32) := by
    pointwise [val_main_v58, val_main_call4_v1, val_main_call4_v2, val_main_call4_v0, val_main_cst_1, val_main_v57, val_main_v56, val_main_v55, val_main_v54, val_main_v53, val_main_v52]
    rfl
  rw [e, sge_bit _ _ t.2 s.2, v51_apply, bits_bot]
  split <;> rfl

theorem v59_apply (b : Fin 8) (t : Fin 2048) (h : Fin 8) : val_main_v59 (F := Ideal) x1 x2 x3 (ix3 b t h)
    = Finset.univ.fold max (Ideal.ofBits FTy.f32 0xFF800000#32) fun s : Fin 2048 => val_main_v58 (F := Ideal) x1 x2 x3 (ix4 b t s h) := by
  pointwise [val_main_v59, val_main_cst_2]

theorem v60_apply (b : Fin 8) (t : Fin 2048) (h : Fin 8) : val_main_v60 (F := Ideal) x1 x2 x3 (ix3 b t h)
    = max (val_main_v22 (F := Ideal) x1 x3 (ix3 b t ⟨h.val, by omega⟩)) (Finset.univ.fold max ⊥ fun s : Fin 2048 => val_main_v58 (F := Ideal) x1 x2 x3 (ix4 b t s h)) := by
  have e : val_main_v60 (F := Ideal) x1 x2 x3 (ix3 b t h) = max (val_main_v22 (F := Ideal) x1 x3 (ix3 b t ⟨h.val, by omega⟩)) (val_main_v59 (F := Ideal) x1 x2 x3 (ix3 b t h)) := by
    pointwise [val_main_v60, val_main_v42]
  rw [e, v59_apply, bits_bot]

theorem v69_apply (b : Fin 8) (t s : Fin 2048) (h : Fin 8) : val_main_v69 (F := Ideal) x0 x1 x2 x3 (ix4 b t s h)
    = (∑ d : Fin 128, val_main_v8 (F := Ideal) x0 (ix4 b s h d) * (val_main_v7 (F := Ideal) x0 (ix4 b t h d) * Ideal.ofBits FTy.f32 0x3DB504F3#32))
      * Ideal.exp (val_main_v58 (F := Ideal) x1 x2 x3 (ix4 b t s h) - val_main_v60 (F := Ideal) x1 x2 x3 (ix3 b t h)) := by
  pointwise [val_main_v69, val_main_v68, val_main_v67, val_main_v66, val_main_v65, val_main_v64, val_main_v63, val_main_v62, val_main_v61, val_main_cst_3]

theorem v79_apply (b : Fin 8) (t : Fin 2048) (h : Fin 8) (v : Fin 256) : val_main_v79 (F := Ideal) x0 x1 x2 x3 (ix4 b t h v)
    = Ideal.div (∑ s : Fin 2048, val_main_v9 (F := Ideal) x0 (ix4 b s h v) * val_main_v69 (F := Ideal) x0 x1 x2 x3 (ix4 b t s h))
      (max (FloatOps.absf (F := Ideal) (φ := .f32) (∑ s : Fin 2048, val_main_v69 (F := Ideal) x0 x1 x2 x3 (ix4 b t s h))) (Ideal.exp (-(val_main_v60 (F := Ideal) x1 x2 x3 (ix3 b t h))))) := by
  pointwise [val_main_v79, val_main_v78, val_main_v77, val_main_v76, val_main_v75, val_main_v74, val_main_v73, val_main_v72, val_main_v71, val_main_v70, val_main_cst_4]

theorem v5_apply (b : Fin 8) (s c : Fin 2048) : val_main_v5 (F := Ideal) x0 (ix3 b s c) = x0 (ix2 (at_ b s) ⟨4096 + c.val, by omega⟩) := by
  pointwise [val_main_v5, val_main_v1, val_main_v0]
theorem v6_apply (b : Fin 8) (s c : Fin 2048) : val_main_v6 (F := Ideal) x0 (ix3 b s c) = x0 (ix2 (at_ b s) ⟨6144 + c.val, by omega⟩) := by
  pointwise [val_main_v6, val_main_v1, val_main_v0]

theorem v90_apply (b : Fin 8) (s c : Fin 2048) : val_main_v90 (F := Ideal) x0 x1 x2 x3 (ix3 b s c)
    = val_main_v79 (F := Ideal) x0 x1 x2 x3 (ix4 b s ⟨c.val / 256, by omega⟩ ⟨c.val % 256, by omega⟩)
      * Ideal.rsqrt (Ideal.div (∑ w : Fin 256, val_main_v79 (F := Ideal) x0 x1 x2 x3 (ix4 b s ⟨c.val / 256, by omega⟩ w) * val_main_v79 (F := Ideal) x0 x1 x2 x3 (ix4 b s ⟨c.val / 256, by omega⟩ w)) (Ideal.ofBits FTy.f32 0x43800000#32) + Ideal.ofBits FTy.f32 0x358637BD#32) := by
  pointwise [val_main_v90, val_main_v89, val_main_v88, val_main_v87, val_main_v86, val_main_v85, val_main_cst_7, val_main_v84, val_main_v83, val_main_cst_6, val_main_v82, val_main_v81,
    val_main_cst_5, val_main_v80]

theorem v102_apply (b : Fin 8) (t c : Fin 2048) : val_main_v102 (F := Ideal) x0 x1 x2 x3 x4 (ix3 b t c)
    = val_main_v90 (F := Ideal) x0 x1 x2 x3 (ix3 b t c) * x4 (ix1 c)
      * Ideal.div 1 (1 + Ideal.exp (-val_main_v5 (F := Ideal) x0 (ix3 b t c)))
      * (val_main_v6 (F := Ideal) x0 (ix3 b t c) * Ideal.div 1 (1 + Ideal.exp (-val_main_v6 (F := Ideal) x0 (ix3 b t c)))) := by
  have e1 : val_main_v99 (F := Ideal) x0 (ix3 b t c) = Ideal.div 1 (1 + Ideal.exp (-val_main_v5 (F := Ideal) x0 (ix3 b t c))) := by
    pointwise [val_main_v99, val_main_v98, val_main_cst_9, val_main_v97, val_main_v96, val_main_cst_8, val_main_v95, val_main_v94]
  have e2 : val_main_call5_v5 (F := Ideal) x0 (ix3 b t c) = Ideal.div 1 (1 + Ideal.exp (-val_main_v6 (F := Ideal) x0 (ix3 b t c))) := by
    pointwise [val_main_call5_v5, val_main_call5_v4, val_main_call5_cst_0, val_main_call5_v3, val_main_call5_v2, val_main_call5_cst, val_main_call5_v1, val_main_call5_v0]
  have e3 : val_main_v92 (F := Ideal) x4 (ix3 b t c) = x4 (ix1 c) := by
    pointwise [val_main_v92, val_main_v91]
  rw [val_main_v102_apply, val_main_v100_apply, val_main_v93_apply, val_main_v101_apply, e1, e2, e3]
  rfl

theorem v104_apply (R : Fin 16384) (c : Fin 2048) : val_main_v104 (F := Ideal) x0 x1 x2 x3 x4 (ix2 R c)
    = val_main_v102 (F := Ideal) x0 x1 x2 x3 x4 (ix3 ⟨R.val / 2048, by omega⟩ ⟨R.val % 2048, by omega⟩ c) := by
  pointwise [val_main_v104, val_main_v103]

theorem v105_apply (b : Fin 8) (j : Fin 128) : val_main_v105 (F := Ideal) x1 x2 x3 (ix3 b 0 j) = val_main_v30 (F := Ideal) x1 x2 x3 (ix2 b j) := by
  pointwise [val_main_v105]

end Cert.MlstmRefIdeal.Rec
-- ==== Proof.MlstmReal.lean ====
/- The recurrence: the reference's results in closed form, where the inputs are real. -/
module

public import proofs.«01_k».proof.Defs
public import proofs.«01_k».proof.Proof.MlstmRef
public import proofs.«01_k».proof.Proof.MlstmMath

@[expose] public section

set_option maxRecDepth 16384

noncomputable section
namespace Cert.MlstmRefIdeal.Rec

open Idealize.ShloMosaic Idealize.ShloMosaic.TcCoe Idealize.ShloMosaic.Tactic
open Idealize.SL.Sem
open Cert.MlstmRefIdeal.Read
open Cert.MlstmMath
open Cert.FgateIdeal.Scan (lsig)

/-- A value that is a real. -/
def IsR (x : EReal) : Prop := ((x.toReal : ℝ) : EReal) = x

theorem isR_coe (r : ℝ) : IsR (r : EReal) := rfl

theorem isR_of {x : EReal} (r : ℝ) (h : x = (r : EReal)) : IsR x := by subst h; rfl

theorem isR_add {x y : EReal} (hx : IsR x) (hy : IsR y) : IsR (x + y) :=
  isR_of (x.toReal + y.toReal) (by rw [EReal.coe_add, hx, hy])

/-- The logarithm of a real's sigmoid is a real. -/
theorem isR_lsig {x : EReal} (hx : IsR x) : IsR (lsig x) := by
  obtain ⟨r, h0, hr⟩ := Cert.FgateIdeal.Scan.exp_abs x
  have e1 : min x 0 = ((min x.toReal 0 : ℝ) : EReal) := by
    rw [← hx]
    exact (EReal.coe_strictMono.monotone.map_min (a := x.toReal) (b := 0)).symm
  have e2 : Ideal.log1p (r : EReal) = ((Real.log (1 + r) : ℝ) : EReal) := by
    have h : (1 : EReal) + (r : EReal) = ((1 + r : ℝ) : EReal) := by rw [EReal.coe_add, EReal.coe_one]
    unfold Ideal.log1p
    rw [h]
    have : ¬(1 + r ≤ 0) := by linarith
    exact if_neg this
  refine isR_of (min x.toReal 0 - Real.log (1 + r)) ?_
  unfold lsig
  rw [hr, e1, e2, EReal.coe_sub]

/-- The scale of the products. -/
def sc : ℝ := (Ideal.ofBits FTy.f32 0x3DB504F3#32).toReal

theorem sc_eq : Ideal.ofBits FTy.f32 0x3DB504F3#32 = (sc : EReal) := by
  refine (show IsR _ from ?_).symm
  simp only [Ideal.ofBits, Ideal.ieee]
  simp
  exact isR_coe _

variable (x0 : Vec Ideal S16384x8192 .bf16) (x1 : Vec Ideal S16384x256 .f32) (x2 x3 : Vec Ideal S8 .f32) (x4 : Vec Ideal S2048 .f32)

/-- The logarithm of the forget gate, the input gate, and a head's query, key and value at a row, as reals. -/
def rL (b : Fin 8) (j : Fin 128) (n : ℕ) : ℝ := if h : n < 2048 then (fg x1 x3 b ⟨n, h⟩ j).toReal else 0
def rI (b : Fin 8) (j : Fin 128) (n : ℕ) : ℝ := if h : n < 2048 then (ig x1 x2 b ⟨n, h⟩ j).toReal else 0
def rQ (b h : Fin 8) (n : ℕ) (d : Fin 128) : ℝ := if l : n < 2048 then (x0 (ix2 (at_ b ⟨n, l⟩) ⟨h.val * 128 + d.val, by omega⟩)).toReal else 0
def rK (b h : Fin 8) (n : ℕ) (d : Fin 128) : ℝ := if l : n < 2048 then (x0 (ix2 (at_ b ⟨n, l⟩) ⟨1024 + (h.val * 128 + d.val), by omega⟩)).toReal else 0
def rU (b h : Fin 8) (x : Fin 256) (n : ℕ) : ℝ := if l : n < 2048 then (x0 (ix2 (at_ b ⟨n, l⟩) ⟨2048 + (h.val * 256 + x.val), by omega⟩)).toReal else 0

abbrev hl (h : Fin 8) : Fin 128 := ⟨h.val, by omega⟩
abbrev rR (b : Fin 8) (j : Fin 128) : ℕ → ℝ := rel (rL x1 x3 b j) (rI x1 x2 b j)

/-- A row of a head before its norm: the quotient of the two weighted sums, the denominator kept from below. -/
def HH (b h : Fin 8) (x : Fin 256) (n : ℕ) : EReal :=
  ((acc (rR x1 x2 x3 b (hl h)) (fun s => (∑ d, rQ x0 b h n d * rK x0 b h s d) * sc * rU x0 b h x s) (n + 1) : ℝ) : EReal)
    * Ideal.div 1 (max (FloatOps.absf (F := Ideal) (φ := .f32) ((acc (rR x1 x2 x3 b (hl h)) (fun s => (∑ d, rQ x0 b h n d * rK x0 b h s d) * sc) (n + 1) : ℝ) : EReal))
      ((Real.exp (-(cum (rL x1 x3 b (hl h)) (n + 1) + top (rR x1 x2 x3 b (hl h)) (n + 1))) : ℝ) : EReal))

/-- The inputs are reals. -/
structure Fin_ : Prop where
  h0 : ∀ R k, IsR (x0 (ix2 R k))
  h1 : ∀ R k, IsR (x1 (ix2 R k))
  h2 : ∀ j, IsR (x2 (ix1 j))
  h3 : ∀ j, IsR (x3 (ix1 j))

section
variable {x0 x1 x2 x3} (hf : Fin_ x0 x1 x2 x3)
include hf

theorem isR_bias2 (j : Fin 128) : IsR (bias8 x2 j) := by
  unfold bias8
  split
  · exact hf.h2 _
  · exact isR_of 0 Cert.FgateIdeal.Scan.sitofp_zero
theorem isR_bias3 (j : Fin 128) : IsR (bias8 x3 j) := by
  unfold bias8
  split
  · exact hf.h3 _
  · exact isR_of 0 Cert.FgateIdeal.Scan.sitofp_zero

theorem fg_eq (b : Fin 8) (s : Fin 2048) (j : Fin 128) : fg x1 x3 b s j = (rL x1 x3 b j s.val : EReal) := by
  unfold rL
  rw [dif_pos s.isLt]
  exact (show IsR (fg x1 x3 b s j) from isR_lsig (isR_add (hf.h1 _ _) (isR_bias3 hf j))).symm
theorem ig_eq (b : Fin 8) (s : Fin 2048) (j : Fin 128) : ig x1 x2 b s j = (rI x1 x2 b j s.val : EReal) := by
  unfold rI
  rw [dif_pos s.isLt]
  exact (show IsR (ig x1 x2 b s j) from isR_add (hf.h1 _ _) (isR_bias2 hf j)).symm
theorem q_eq (b h : Fin 8) (s : Fin 2048) (d : Fin 128) : x0 (ix2 (at_ b s) ⟨h.val * 128 + d.val, by omega⟩) = (rQ x0 b h s.val d : EReal) := by
  unfold rQ
  rw [dif_pos s.isLt]
  exact (hf.h0 _ _).symm
theorem k_eq (b h : Fin 8) (s : Fin 2048) (d : Fin 128) : x0 (ix2 (at_ b s) ⟨1024 + (h.val * 128 + d.val), by omega⟩) = (rK x0 b h s.val d : EReal) := by
  unfold rK
  rw [dif_pos s.isLt]
  exact (hf.h0 _ _).symm
theorem v_eq (b h : Fin 8) (s : Fin 2048) (x : Fin 256) : x0 (ix2 (at_ b s) ⟨2048 + (h.val * 256 + x.val), by omega⟩) = (rU x0 b h x s.val : EReal) := by
  unfold rU
  rw [dif_pos s.isLt]
  exact (hf.h0 _ _).symm

theorem v22_eq (b : Fin 8) (j : Fin 128) (s : Fin 2048) : val_main_v22 (F := Ideal) x1 x3 (ix3 b s j) = (cum (rL x1 x3 b j) (s.val + 1) : EReal) := by
  rw [v22_apply]
  refine (Finset.sum_congr rfl fun n hn => ?_).trans (coe_sum _ _)
  have := Finset.mem_range.1 hn
  rw [dif_pos (by omega), fg_eq hf]

theorem v30_eq (b : Fin 8) (j : Fin 128) : val_main_v30 (F := Ideal) x1 x2 x3 (ix2 b j)
    = ((top (rR x1 x2 x3 b j) 2048 + cum (rL x1 x3 b j) 2048 : ℝ) : EReal) := by
  rw [v30_apply]
  simp only [v28_apply]
  exact rlast_eq 2048 (rL x1 x3 b j) (rI x1 x2 b j) (fun s => val_main_v22 (F := Ideal) x1 x3 (ix3 b s j)) (fun s => ig x1 x2 b s j)
    (v22_eq hf b j) (fun s => ig_eq hf b s j) 2047 rfl

theorem v35_sum (b h : Fin 8) (A : ℕ → ℝ) (a : Fin 2048 → EReal) (ha : ∀ s, a s = (A s.val : EReal)) :
    (∑ s : Fin 2048, val_main_v35 (F := Ideal) x1 x2 x3 (ix3 b s h) * a s) = ((acc (rR x1 x2 x3 b (hl h)) A 2048 : ℝ) : EReal) := by
  simp only [v35_apply, v30_apply, v28_apply]
  exact rstate_eq 2048 (rL x1 x3 b (hl h)) (rI x1 x2 b (hl h)) (fun s => val_main_v22 (F := Ideal) x1 x3 (ix3 b s (hl h))) (fun s => ig x1 x2 b s (hl h))
    (v22_eq hf b _) (fun s => ig_eq hf b s _) A a ha 2047 rfl

theorem v39_eq (b h : Fin 8) (x : Fin 256) (d : Fin 128) : val_main_v39 (F := Ideal) x0 x1 x2 x3 (ix4 b h x d)
    = ((acc (rR x1 x2 x3 b (hl h)) (fun s => rK x0 b h s d * rU x0 b h x s) 2048 : ℝ) : EReal) := by
  rw [v39_apply]
  simp only [mul_assoc]
  refine v35_sum hf b h _ _ fun s => ?_
  rw [v9_apply, v8_apply, v_eq hf, k_eq hf, ← EReal.coe_mul, mul_comm]

theorem v40_eq (b h : Fin 8) (d : Fin 128) : val_main_v40 (F := Ideal) x0 x1 x2 x3 (ix3 b h d)
    = ((acc (rR x1 x2 x3 b (hl h)) (fun s => rK x0 b h s d) 2048 : ℝ) : EReal) := by
  rw [v40_apply]
  refine v35_sum hf b h _ _ fun s => ?_
  rw [v8_apply, k_eq hf]

theorem v60_eq (b : Fin 8) (t : Fin 2048) (h : Fin 8) : val_main_v60 (F := Ideal) x1 x2 x3 (ix3 b t h)
    = ((top (rR x1 x2 x3 b (hl h)) (t.val + 1) + cum (rL x1 x3 b (hl h)) (t.val + 1) : ℝ) : EReal) := by
  rw [v60_apply]
  simp only [v58_apply]
  exact rm_eq 2048 (rL x1 x3 b (hl h)) (rI x1 x2 b (hl h)) (fun s => val_main_v22 (F := Ideal) x1 x3 (ix3 b s (hl h))) (fun s => ig x1 x2 b s (hl h))
    (v22_eq hf b _) (fun s => ig_eq hf b s _) t

theorem v58_sum (b : Fin 8) (t : Fin 2048) (h : Fin 8) (A : ℕ → ℝ) (a : Fin 2048 → EReal) (ha : ∀ s, a s = (A s.val : EReal)) :
    (∑ s : Fin 2048, a s * Ideal.exp (val_main_v58 (F := Ideal) x1 x2 x3 (ix4 b t s h) - val_main_v60 (F := Ideal) x1 x2 x3 (ix3 b t h)))
    = ((acc (rR x1 x2 x3 b (hl h)) A (t.val + 1) : ℝ) : EReal) := by
  simp only [v60_apply, v58_apply]
  exact racc_eq 2048 (rL x1 x3 b (hl h)) (rI x1 x2 b (hl h)) (fun s => val_main_v22 (F := Ideal) x1 x3 (ix3 b s (hl h))) (fun s => ig x1 x2 b s (hl h))
    (v22_eq hf b _) (fun s => ig_eq hf b s _) A a ha t

theorem qk_eq (b : Fin 8) (t s : Fin 2048) (h : Fin 8) :
    (∑ d : Fin 128, val_main_v8 (F := Ideal) x0 (ix4 b s h d) * (val_main_v7 (F := Ideal) x0 (ix4 b t h d) * Ideal.ofBits FTy.f32 0x3DB504F3#32))
    = (((∑ d, rQ x0 b h t.val d * rK x0 b h s.val d) * sc : ℝ) : EReal) := by
  simp only [v8_apply, v7_apply, k_eq hf, q_eq hf, sc_eq, ← EReal.coe_mul]
  rw [coe_sum, Finset.sum_mul]
  congr 1
  exact Finset.sum_congr rfl fun d _ => by ring

theorem v79_eq (b : Fin 8) (t : Fin 2048) (h : Fin 8) (x : Fin 256) : val_main_v79 (F := Ideal) x0 x1 x2 x3 (ix4 b t h x) = HH x0 x1 x2 x3 b h x t.val := by
  have en : (∑ s : Fin 2048, val_main_v9 (F := Ideal) x0 (ix4 b s h x) * val_main_v69 (F := Ideal) x0 x1 x2 x3 (ix4 b t s h))
      = ((acc (rR x1 x2 x3 b (hl h)) (fun s => (∑ d, rQ x0 b h t.val d * rK x0 b h s d) * sc * rU x0 b h x s) (t.val + 1) : ℝ) : EReal) := by
    simp only [v69_apply, ← mul_assoc]
    refine v58_sum hf b t h _ _ fun s => ?_
    simp only [mul_assoc]
    rw [qk_eq hf, v9_apply, v_eq hf, ← EReal.coe_mul, mul_comm]
    simp only [mul_assoc]
  have ed : (∑ s : Fin 2048, val_main_v69 (F := Ideal) x0 x1 x2 x3 (ix4 b t s h))
      = ((acc (rR x1 x2 x3 b (hl h)) (fun s => (∑ d, rQ x0 b h t.val d * rK x0 b h s d) * sc) (t.val + 1) : ℝ) : EReal) := by
    simp only [v69_apply]
    exact v58_sum hf b t h _ _ fun s => qk_eq hf b t s h
  rw [v79_apply, en, ed, v60_eq hf, ← EReal.coe_neg, Ideal.exp_coe]
  unfold HH
  rw [add_comm (cum _ _)]
  exact (div_flr _ _ _ (Real.exp_pos _)).symm

end

end Cert.MlstmRefIdeal.Rec
-- ==== Proof.MlstmBlk.lean ====
/- The recurrence: the blocks a point reads are the argument arrays' rows, the biases' lanes and zeros. -/
module

public import proofs.«01_k».proof.Defs
public import proofs.«01_k».proof.Proof.MlstmStep
public import proofs.«01_k».proof.Proof.MlstmReal

@[expose] public section

set_option maxRecDepth 16384

noncomputable section
namespace Cert.MlstmIdeal.Rec

open Idealize.ShloMosaic Idealize.ShloMosaic.TcCoe Idealize.ShloMosaic.Tactic
open Idealize.SL.Sem
open Idealize.ShloMosaic.Pipeline (Dat Cfg Window)
open Cert.MlstmIdeal.Gen
open Cert.MlstmMath
open Cert.MlstmRefIdeal.Rec (at_ bias8)
open Cert.FgateIdeal.Scan (sitofp_zero)

variable (m : (ℓ : Loc nD τ sig) → Buf (Elt Ideal) ℓ)

abbrev a0 (c : Dev nD) : Vec Ideal S16384x8192 .bf16 := m ((c : Thread nD τ).loc main_arg0)
abbrev a1 (c : Dev nD) : Vec Ideal S16384x256 .f32 := m ((c : Thread nD τ).loc main_arg1)
abbrev a2 (c : Dev nD) : Vec Ideal S8 .f32 := m ((c : Thread nD τ).loc main_arg2)
abbrev a3 (c : Dev nD) : Vec Ideal S8 .f32 := m ((c : Thread nD τ).loc main_arg3)
abbrev a4 (c : Dev nD) : Vec Ideal S2048 .f32 := m ((c : Thread nD τ).loc main_arg4)

theorem N_0 : grid0.N = 128 := by decide +kernel
theorem idx0 : ∀ t : Fin grid0.N, win0_0.index t = ![t.val, 0] := by decide +kernel
theorem idx1 : ∀ t : Fin grid0.N, win0_1.index t = ![t.val, 1] := by decide +kernel
theorem idx2 : ∀ t : Fin grid0.N, win0_2.index t = ![t.val, 1] := by decide +kernel
theorem idx3 : ∀ t : Fin grid0.N, win0_3.index t = ![t.val, 2] := by decide +kernel
theorem idx4 : ∀ t : Fin grid0.N, win0_4.index t = ![t.val, 3] := by decide +kernel
theorem idx5 : ∀ t : Fin grid0.N, win0_5.index t = ![t.val, 0] := by decide +kernel
theorem idx6 : ∀ t : Fin grid0.N, win0_6.index t = ![0, 0] := by decide +kernel
theorem idx7 : ∀ t : Fin grid0.N, win0_7.index t = ![0, 0] := by decide +kernel
theorem idx11 : ∀ t : Fin grid0.N, win0_11.index t = ![t.val, 0] := by decide +kernel
theorem idx12 : ∀ t : Fin grid0.N, win0_12.index t = ![t.val / 16, 0, 0, 0] := by decide +kernel
theorem idx13 : ∀ t : Fin grid0.N, win0_13.index t = ![t.val / 16, 0, 0] := by decide +kernel
theorem idx14 : ∀ t : Fin grid0.N, win0_14.index t = ![t.val / 16, 0, 0] := by decide +kernel

theorem last_of (n : ℕ) (h : n % 16 = 15) : 128 * (n % 16) + 128 = 2048 := by omega
theorem flush12 : ∀ t : Fin grid0.N, win0_12.flush t = true → t.val % 16 = 15 := by decide +kernel
theorem flush13 : ∀ t : Fin grid0.N, win0_13.flush t = true → t.val % 16 = 15 := by decide +kernel
theorem flush14 : ∀ t : Fin grid0.N, win0_14.flush t = true → t.val % 16 = 15 := by decide +kernel

/-! ## A bias laid into the first lanes of a row -/

def laneRow (w : FVec Ideal S8 .f32) : FVec Ideal S1x128 .f32 :=
  Host.scatter scatter_S1x128_S2_S8_0_0_01_0 (fun _ b => b)
    (broadcastInDim S1x128 ![] bcast_S_S1x128 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) w

attribute [local irreducible] Host.scatter in
theorem V_v10 (c : Dev nD) : V m c main_v10 = concatenate S1x256 1 [⟨S1x128, laneRow (a2 m c)⟩, ⟨S1x128, laneRow (a3 m c)⟩] concatenates_S1x128_S1x128_S1x256_d1 := by
  unfold laneRow
  rfl

theorem lands (k : Fin 8) (e : Fin 128) :
    scatter_S1x128_S2_S8_0_0_01_0.resultIdx? (ix1 k) (concatenate S2 0 [⟨S1, broadcastInDim S1 ![] bcast_S_S1 (constantI S_ 32 0#32)⟩, ⟨S1, broadcastInDim S1 ![] bcast_S_S1 (constantI S_ 32 0#32)⟩] concatenates_S1_S1_S2_d0)
      = some (ix2 0 e) ↔ e.val = k.val := by
  generalize hI : (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) = I
  have hI0 : ∀ i : S2.Idx, I i = 0#32 := by
    intro i
    rw [← hI]
    revert i
    decide +kernel
  have hstart : ∀ a, scatter_S1x128_S2_S8_0_0_01_0.start (ix1 k) I a = 0 := by
    intro a
    unfold ScatterDims.start
    split
    · rw [hI0]; rfl
    · rfl
  have hwin0 : scatter_S1x128_S2_S8_0_0_01_0.window (ix1 k) 0 = 0 := by
    unfold ScatterDims.window
    rw [dif_neg (by decide)]
  have hwin : scatter_S1x128_S2_S8_0_0_01_0.window (ix1 k) 1 = k.val := by
    unfold ScatterDims.window
    rw [dif_pos (by decide)]
    have q : ∀ X : Fin 1, (ix1 k X).val = k.val := fun X => by
      obtain rfl : X = 0 := Subsingleton.elim _ _
      rfl
    exact q _
  refine (Routing.resultIdx?_ix2 (R := 1) (C := 128) _ _ _ 0 e).trans ?_
  rw [hstart, hstart, hwin0, hwin]
  constructor
  · intro h
    have := h.2
    omega
  · intro h
    exact ⟨rfl, by omega⟩

theorem laneRow_apply (w : FVec Ideal S8 .f32) (n : Fin 128) : laneRow w (ix2 0 n) = bias8 w n := by
  unfold laneRow bias8
  split
  · rename_i h
    exact Routing.scatter_set_hit _ _ _ _ _ _ (fun k' hk' => by
      have := (lands (k' 0) n).1 ((congrArg (fun z => scatter_S1x128_S2_S8_0_0_01_0.resultIdx? z _) (eq_ix1 k').symm).trans hk')
      rw [eq_ix1 k']
      exact congrArg (fun e => w (ix1 e)) (Fin.ext this.symm)) (ix1 ⟨n.val, h⟩) ((lands ⟨n.val, h⟩ n).2 rfl)
  · rename_i h
    refine (Routing.scatter_set_miss _ _ _ _ _ fun k hk => h ?_).trans (Ideal.ofBits_zero_f32.trans sitofp_zero.symm)
    have := (lands (k 0) n).1 ((congrArg (fun z => scatter_S1x128_S2_S8_0_0_01_0.resultIdx? z _) (eq_ix1 k).symm).trans hk)
    have h0 : (k 0).val < 8 := (k 0).isLt
    omega

/-! ## The blocks -/

/-- The sequence of a point, and its block's rows in it. -/
abbrev sq (t : Fin cfg0.N) : Fin 8 := ⟨t.val / 16, by have := Nat.lt_of_lt_of_eq t.isLt N_0; omega⟩
abbrev rw_ (t : Fin cfg0.N) (r : Fin 128) : Fin 2048 := ⟨128 * (t.val % 16) + r.val, by omega⟩

variable (c : Dev nD) (t : Fin cfg0.N)

theorem blk0 (r : Fin 128) (k : Fin 1024) : iblk m c 0 t (ix2 r k) = a0 m c (ix2 (at_ (sq t) (rw_ t r)) ⟨k.val, by omega⟩) := by
  blk_ext! [iblk, V, idx0 t]
theorem blk1 (r : Fin 128) (k : Fin 1024) : iblk m c 1 t (ix2 r k) = a0 m c (ix2 (at_ (sq t) (rw_ t r)) ⟨1024 + k.val, by omega⟩) := by
  blk_ext! [iblk, V, idx1 t]
theorem blk2 (r : Fin 128) (k : Fin 2048) : iblk m c 2 t (ix2 r k) = a0 m c (ix2 (at_ (sq t) (rw_ t r)) ⟨2048 + k.val, by omega⟩) := by
  blk_ext! [iblk, V, idx2 t]
theorem blk3 (r : Fin 128) (k : Fin 2048) : iblk m c 3 t (ix2 r k) = a0 m c (ix2 (at_ (sq t) (rw_ t r)) ⟨4096 + k.val, by omega⟩) := by
  blk_ext! [iblk, V, idx3 t]
theorem blk4 (r : Fin 128) (k : Fin 2048) : iblk m c 4 t (ix2 r k) = a0 m c (ix2 (at_ (sq t) (rw_ t r)) ⟨6144 + k.val, by omega⟩) := by
  blk_ext! [iblk, V, idx4 t]
theorem blk5 (r : Fin 128) (k : Fin 256) : iblk m c 5 t (ix2 r k) = a1 m c (ix2 (at_ (sq t) (rw_ t r)) k) := by
  blk_ext! [iblk, V, idx5 t]
theorem emb6 (k : Fin 256) : ((cfg0.win 6).blk t).view.emb (ix2 0 k) = (ix2 0 k : S1x256.Idx) := by
  blk_ext [idx6 t]
theorem blk6_lo (k : Fin 128) : iblk m c 6 t (ix2 0 ⟨k.val, by omega⟩) = bias8 (a2 m c) k := by
  show V m c main_v10 (((cfg0.win 6).blk t).view.emb (ix2 0 ⟨k.val, by omega⟩)) = _
  rw [emb6]
  refine (congrFun (V_v10 m c) _).trans (Eq.trans ?_ (laneRow_apply _ k))
  generalize laneRow (a2 m c) = A
  generalize laneRow (a3 m c) = B
  pointwise
theorem blk6_hi (k : Fin 128) : iblk m c 6 t (ix2 0 ⟨128 + k.val, by omega⟩) = bias8 (a3 m c) k := by
  show V m c main_v10 (((cfg0.win 6).blk t).view.emb (ix2 0 ⟨128 + k.val, by omega⟩)) = _
  rw [emb6]
  refine (congrFun (V_v10 m c) _).trans (Eq.trans ?_ (laneRow_apply _ k))
  generalize laneRow (a2 m c) = A
  generalize laneRow (a3 m c) = B
  pointwise
theorem emb7 (k : Fin 2048) : ((cfg0.win 7).blk t).view.emb (ix2 0 k) = (ix2 0 k : S1x2048.Idx) := by
  blk_ext [idx7 t]
theorem blk7 (k : Fin 2048) : iblk m c 7 t (ix2 0 k) = a4 m c (ix1 k) := by
  show V m c main_v11 (((cfg0.win 7).blk t).view.emb (ix2 0 k)) = _
  rw [emb7]
  have e : V m c main_v11 = shapeCast S1x2048 (a4 m c) shapeCasts_S2048_S1x2048 := rfl
  refine (congrFun e _).trans ?_
  generalize a4 m c = A
  pointwise
theorem blk8 (y) : iblk m c 8 t y = (0 : EReal) := Ideal.ofBits_zero_f32
theorem blk9 (y) : iblk m c 9 t y = (0 : EReal) := Ideal.ofBits_zero_f32
theorem blk10 (y) : iblk m c 10 t y = (0 : EReal) := Ideal.ofBits_zero_f32

theorem cZ_apply (h : Fin 8) (y) : cZ m c t h y = (0 : EReal) := blk8 m c t _
theorem p20_apply (A : FVec Ideal S1x1x8x128 .f32) (h : Fin 8) (d : Fin 128) : k0_pay20 (F := Ideal) A (ix2 h d) = A (ix4 0 0 h d) := by
  pointwise [k0_pay20]
theorem p21_apply (A : FVec Ideal S1x1x128 .f32) (j : Fin 128) : k0_pay21 (F := Ideal) A (ix2 0 j) = A (ix3 0 0 j) := by
  pointwise [k0_pay21]
theorem nZ_apply (h : Fin 8) (d : Fin 128) : nZ m c t (ix2 h d) = (0 : EReal) := (p20_apply _ h d).trans (blk9 m c t _)
theorem mZ_apply (j : Fin 128) : mZ m c t (ix2 0 j) = (0 : EReal) := (p21_apply _ j).trans (blk10 m c t _)

end Cert.MlstmIdeal.Rec
-- ==== Proof.MlstmClaim.lean ====
/- The recurrence: the carried state is the reference's weighted sums, and the four results are the reference's. -/
module

public import proofs.«01_k».proof.Defs
public import proofs.«01_k».proof.Proof.MlstmBlk
public import proofs.«01_k».proof.Proof.Gen.Mlstm.Frame
public import proofs.«01_k».proof.Proof.Gen.MlstmRefIdeal.Run
public import proofs.«01_k».proof.Proof.Gen.Pre_finite
public import Idealize.ShloMosaic.Lib.ReduceAll

@[expose] public section

set_option maxRecDepth 16384

noncomputable section
namespace Cert.MlstmIdeal.Rec

open Idealize.ShloMosaic Idealize.ShloMosaic.TcCoe Idealize.ShloMosaic.Tactic
open Idealize.SL.Sem
open Idealize.ShloMosaic.Pipeline (Dat Cfg Window)
open Cert.MlstmIdeal.Gen
open Cert.MlstmMath
open Cert.MlstmRefIdeal.Read
open Cert.MlstmRefIdeal.Rec (at_ bias8 rL rI rQ rK rU rR hl sc sc_eq HH Fin_ IsR fg_eq ig_eq q_eq k_eq v_eq v30_eq v39_eq v40_eq v79_eq v5_apply v6_apply v90_apply
  v102_apply v104_apply v105_apply)

variable (m : (ℓ : Loc nD τ sig) → Buf (Elt Ideal) ℓ) (c : Dev nD) (t : Fin cfg0.N)

/-! ## The state before a point -/

def pC (h : Fin 8) : FVec Ideal S1x128x256 .f32 := if t.val % 16 = 0 then cZ m c t h else cP m c t h
def pN : FVec Ideal S8x128 .f32 := if t.val % 16 = 0 then nZ m c t else nP m c t
def pM : FVec Ideal S1x128 .f32 := if t.val % 16 = 0 then mZ m c t else mP m c t

theorem ct_out (h : Fin 8) (d : Fin 128) (x : Fin 256) : (outsAt0 m c t.val t.isLt).2.2.2.2.1 (ix3 h d x)
    = cT h (DC (gA m c t) (bI m c t) (pM m c t)) (WS (gA m c t) (bI m c t) (pM m c t)) (iblk m c 1 t) (iblk m c 2 t) (pC m c t h) (ix3 0 d x) := by
  unfold pC pM
  split
  · rename_i h0; exact ct_A m c t h0 h d x
  · rename_i h0; exact ct_B m c t h0 h d x
theorem n_out (h : Fin 8) (d : Fin 128) : (outsAt0 m c t.val t.isLt).2.2.2.2.2.1 (ix2 h d)
    = nT h (DC (gA m c t) (bI m c t) (pM m c t)) (WS (gA m c t) (bI m c t) (pM m c t)) (pN m c t) (iblk m c 1 t) (ix2 0 d) := by
  unfold pN pM
  split
  · rename_i h0; exact n_A m c t h0 h d
  · rename_i h0; exact n_B m c t h0 h d
theorem m_out (j : Fin 128) : (outsAt0 m c t.val t.isLt).2.2.2.2.2.2 (ix2 0 j) = MN (gA m c t) (bI m c t) (pM m c t) (ix2 0 j) := by
  unfold pM
  split
  · rename_i h0; exact m_A m c t h0 j
  · rename_i h0; exact m_B m c t h0 j
theorem act_out (h : Fin 8) (r : Fin 128) (x : Fin 256) : (outsAt0 m c t.val t.isLt).1 (ix2 r ⟨256 * h.val + x.val, by omega⟩)
    = actT h (iblk m c 0 t) (iblk m c 1 t) (iblk m c 2 t) (pM m c t) (RT (gA m c t) (bI m c t)) (BB (gA m c t) (bI m c t)) (pN m c t) (pC m c t h)
      (View.ld (iblk m c 7 t) (rh h)) (View.ld (iblk m c 3 t) (ra h)) (View.ld (iblk m c 4 t) (ra h)) (ix2 r x) := by
  unfold pN pM pC
  split
  · rename_i h0; exact act_A m c t h0 h r x
  · rename_i h0; exact act_B m c t h0 h r x

/-- The state of a sequence after its first `n` rows. -/
structure St (b : Fin 8) (n : ℕ) (C : Fin 8 → Fin 128 → Fin 256 → EReal) (N : Fin 8 → Fin 128 → EReal) (M : Fin 128 → EReal) : Prop where
  hC : ∀ h d x, C h d x = ((acc (rR (a1 m c) (a2 m c) (a3 m c) b (hl h)) (fun s => rK (a0 m c) b h s d * rU (a0 m c) b h x s) n : ℝ) : EReal)
  hN : ∀ h d, N h d = ((acc (rR (a1 m c) (a2 m c) (a3 m c) b (hl h)) (fun s => rK (a0 m c) b h s d) n : ℝ) : EReal)
  hM : ∀ j, M j = ((top (rR (a1 m c) (a2 m c) (a3 m c) b j) n + cum (rL (a1 m c) (a3 m c) b j) n : ℝ) : EReal)

/-- What a point leaves, and what it finds. -/
def after_ : Prop := St m c (sq t) (128 * (t.val % 16) + 128) (fun h d x => (outsAt0 m c t.val t.isLt).2.2.2.2.1 (ix3 h d x))
  (fun h d => (outsAt0 m c t.val t.isLt).2.2.2.2.2.1 (ix2 h d)) fun j => (outsAt0 m c t.val t.isLt).2.2.2.2.2.2 (ix2 0 j)
def before_ : Prop := St m c (sq t) (128 * (t.val % 16)) (fun h d x => pC m c t h (ix3 0 d x)) (fun h d => pN m c t (ix2 h d)) fun j => pM m c t (ix2 0 j)

theorem before_zero (h0 : t.val % 16 = 0) : before_ m c t := by
  constructor
  · intro h d x
    show pC m c t h (ix3 0 d x) = _
    unfold pC
    rw [if_pos h0, h0, cZ_apply]
    exact (congrArg Real.toEReal (Finset.sum_range_zero _).symm : (((0 : ℝ)) : EReal) = _)
  · intro h d
    show pN m c t (ix2 h d) = _
    unfold pN
    rw [if_pos h0, h0, nZ_apply]
    exact (congrArg Real.toEReal (Finset.sum_range_zero _).symm : (((0 : ℝ)) : EReal) = _)
  · intro j
    show pM m c t (ix2 0 j) = _
    unfold pM
    rw [if_pos h0, h0, mZ_apply]
    exact (congrArg Real.toEReal ((congrArg (0 + ·) (Finset.sum_range_zero (rL (a1 m c) (a3 m c) (sq t) j))).trans (add_zero (0 : ℝ))).symm : (((0 : ℝ)) : EReal) = _)

theorem before_succ (h0 : ¬t.val % 16 = 0) (p : after_ m c ⟨t.val - 1, Nat.lt_of_le_of_lt (Nat.sub_le _ _) t.isLt⟩) : before_ m c t := by
  have e1 : sq ⟨t.val - 1, Nat.lt_of_le_of_lt (Nat.sub_le _ _) t.isLt⟩ = sq t := Fin.ext (show (t.val - 1) / 16 = t.val / 16 by omega)
  have e2 : 128 * ((t.val - 1) % 16) + 128 = 128 * (t.val % 16) := by omega
  unfold after_ at p
  dsimp only at p
  rw [e1, e2] at p
  constructor
  · intro h d x
    show pC m c t h (ix3 0 d x) = _
    unfold pC
    rw [if_neg h0, ← p.hC h d x]
    refine View.ld_unit_apply_of _ _ _ _ _ (ix3 h d x) fun a => ?_
    fin_cases a <;> simp [ix3]
  · intro h d
    show pN m c t (ix2 h d) = _
    unfold pN
    rw [if_neg h0, ← p.hN h d]
  · intro j
    show pM m c t (ix2 0 j) = _
    unfold pM
    rw [if_neg h0, ← p.hM j]

theorem mul_swap (x y z : EReal) : x * y * z = y * (x * z) := by rw [mul_comm x, mul_assoc]

section
variable (hf : Fin_ (a0 m c) (a1 m c) (a2 m c) (a3 m c))
include hf

theorem hlf (j r : Fin 128) : LF (gA m c t) (bI m c t) j r = (rL (a1 m c) (a3 m c) (sq t) j (128 * (t.val % 16) + r.val) : EReal) :=
  (congrArg _ (congr (congrArg _ (blk5 m c t r ⟨128 + j.val, by omega⟩)) (blk6_hi m c t j))).trans (fg_eq hf (sq t) (rw_ t r) j)
theorem hli (j r : Fin 128) : LI (gA m c t) (bI m c t) j r = (rI (a1 m c) (a2 m c) (sq t) j (128 * (t.val % 16) + r.val) : EReal) :=
  (congr (congrArg _ (blk5 m c t r ⟨j.val, by omega⟩)) (blk6_lo m c t j)).trans (ig_eq hf (sq t) (rw_ t r) j)
theorem hqq (h : Fin 8) (r d : Fin 128) : hq (iblk m c 0 t) h r d = (rQ (a0 m c) (sq t) h (128 * (t.val % 16) + r.val) d : EReal) := by
  unfold hq
  rw [blk0]
  refine Eq.trans (congrArg (fun k => a0 m c (ix2 (at_ (sq t) (rw_ t r)) k)) (Fin.ext ?_)) (q_eq hf (sq t) h (rw_ t r) d)
  show 128 * h.val + d.val = h.val * 128 + d.val
  omega
theorem hkk (h : Fin 8) (r d : Fin 128) : hq (iblk m c 1 t) h r d = (rK (a0 m c) (sq t) h (128 * (t.val % 16) + r.val) d : EReal) := by
  unfold hq
  rw [blk1]
  refine Eq.trans (congrArg (fun k => a0 m c (ix2 (at_ (sq t) (rw_ t r)) k)) (Fin.ext ?_)) (k_eq hf (sq t) h (rw_ t r) d)
  show 1024 + (128 * h.val + d.val) = 1024 + (h.val * 128 + d.val)
  omega
theorem hvv (h : Fin 8) (x : Fin 256) (r : Fin 128) : hv (iblk m c 2 t) h x r = (rU (a0 m c) (sq t) h x (128 * (t.val % 16) + r.val) : EReal) := by
  unfold hv
  rw [blk2]
  refine Eq.trans (congrArg (fun k => a0 m c (ix2 (at_ (sq t) (rw_ t r)) k)) (Fin.ext ?_)) (v_eq hf (sq t) h (rw_ t r) x)
  show 2048 + (256 * h.val + x.val) = 2048 + (h.val * 256 + x.val)
  omega

theorem step (p : before_ m c t) : after_ m c t := by
  constructor
  · intro h d x
    show (outsAt0 m c t.val t.isLt).2.2.2.2.1 (ix3 h d x) = _
    refine (ct_out m c t h d x).trans ((cT_apply _ _ _ _ _ _ _ _ _).trans ((congrArg (_ + ·) (Finset.sum_congr rfl fun s _ => mul_swap _ _ _)).trans (kstate_eq (rL (a1 m c) (a3 m c) (sq t) (hl h)) (rI (a1 m c) (a2 m c) (sq t) (hl h)) (128 * (t.val % 16)) _ _ _
      (hlf m c t hf (hl h)) (hli m c t hf (hl h)) (p.hM (hl h)) (fun s => rK (a0 m c) (sq t) h s d * rU (a0 m c) (sq t) h x s)
      (fun s => hq (iblk m c 1 t) h s d * hv (iblk m c 2 t) h x s) _ (fun s => by rw [hkk m c t hf, hvv m c t hf, EReal.coe_mul]) (p.hC h d x))))
  · intro h d
    show (outsAt0 m c t.val t.isLt).2.2.2.2.2.1 (ix2 h d) = _
    refine (n_out m c t h d).trans ((nT_apply _ _ _ _ _ _ _).trans (kstate_eq (rL (a1 m c) (a3 m c) (sq t) (hl h)) (rI (a1 m c) (a2 m c) (sq t) (hl h)) (128 * (t.val % 16)) _ _ _
      (hlf m c t hf (hl h)) (hli m c t hf (hl h)) (p.hM (hl h)) (fun s => rK (a0 m c) (sq t) h s d)
      (fun s => hq (iblk m c 1 t) h s d) _ (fun s => hkk m c t hf h s d) (p.hN h d)))
  · intro j
    show (outsAt0 m c t.val t.isLt).2.2.2.2.2.2 (ix2 0 j) = _
    refine (m_out m c t j).trans ((MN_apply _ _ _ _).trans (kmn_eq (rL (a1 m c) (a3 m c) (sq t) j) (rI (a1 m c) (a2 m c) (sq t) j) (128 * (t.val % 16)) _ _ _
      (hlf m c t hf j) (hli m c t hf j) (p.hM j)))

theorem before_all : ∀ (n : ℕ) (hn : n < cfg0.N), before_ m c ⟨n, hn⟩ := by
  intro n
  induction n with
  | zero => exact fun hn => before_zero m c _ rfl
  | succ n ih =>
    intro hn
    by_cases h0 : (n + 1) % 16 = 0
    · exact before_zero m c _ h0
    · exact before_succ m c ⟨n + 1, hn⟩ h0 (step m c _ hf (ih (by omega)))

theorem after_all : after_ m c t := step m c t hf (before_all m c hf t.val t.isLt)

/-- A row of a head before its norm. -/
theorem hh_eq (h : Fin 8) (r : Fin 128) (x : Fin 256) :
    hhT h (iblk m c 0 t) (iblk m c 1 t) (iblk m c 2 t) (pM m c t) (RT (gA m c t) (bI m c t)) (BB (gA m c t) (bI m c t)) (pN m c t) (pC m c t h) (ix2 r x)
    = HH (a0 m c) (a1 m c) (a2 m c) (a3 m c) (sq t) h x (rw_ t r).val := by
  have p := before_all m c hf t.val t.isLt
  rw [hhT_apply]
  unfold HH
  have e1 := knum_eq (rL (a1 m c) (a3 m c) (sq t) (hl h)) (rI (a1 m c) (a2 m c) (sq t) (hl h)) (128 * (t.val % 16)) _ _ _
    (hlf m c t hf (hl h)) (hli m c t hf (hl h)) (p.hM (hl h)) sc _ sc_eq (rQ (a0 m c) (sq t) h) (rK (a0 m c) (sq t) h) _ _ (hqq m c t hf h) (hkk m c t hf h)
    (rU (a0 m c) (sq t) h x) (hv (iblk m c 2 t) h x) (fun d => pC m c t h (ix3 0 d x)) (hvv m c t hf h x) (fun d => p.hC h d x) r
  have e2 := kden_eq (rL (a1 m c) (a3 m c) (sq t) (hl h)) (rI (a1 m c) (a2 m c) (sq t) (hl h)) (128 * (t.val % 16)) _ _ _
    (hlf m c t hf (hl h)) (hli m c t hf (hl h)) (p.hM (hl h)) sc _ sc_eq (rQ (a0 m c) (sq t) h) (rK (a0 m c) (sq t) h) _ _ (hqq m c t hf h) (hkk m c t hf h)
    (fun d => pN m c t (ix2 h d)) (fun d => p.hN h d) r
  have e3 := kflr_eq (rL (a1 m c) (a3 m c) (sq t) (hl h)) (rI (a1 m c) (a2 m c) (sq t) (hl h)) (128 * (t.val % 16)) _ _ _
    (hlf m c t hf (hl h)) (hli m c t hf (hl h)) (p.hM (hl h)) r
  exact (congr (congrArg _ e1) (congrArg _ (congr (congrArg _ (congrArg _ e2)) e3)))

theorem act_eq (h : Fin 8) (r : Fin 128) (x : Fin 256) : (outsAt0 m c t.val t.isLt).1 (ix2 r ⟨256 * h.val + x.val, by omega⟩)
    = val_main_v102 (F := Ideal) (a0 m c) (a1 m c) (a2 m c) (a3 m c) (a4 m c) (ix3 (sq t) (rw_ t r) ⟨256 * h.val + x.val, by omega⟩) := by
  have eh : View.ld (iblk m c 7 t) (rh h) (ix2 0 x) = a4 m c (ix1 ⟨256 * h.val + x.val, by omega⟩) :=
    (View.ld_unit_apply_of _ _ _ _ _ (ix2 0 ⟨256 * h.val + x.val, by omega⟩) (fun a => by fin_cases a <;> simp [ix2])).trans (blk7 m c t _)
  have eo : View.ld (iblk m c 3 t) (ra h) (ix2 r x) = a0 m c (ix2 (at_ (sq t) (rw_ t r)) ⟨4096 + (256 * h.val + x.val), by omega⟩) :=
    (View.ld_unit_apply_of _ _ _ _ _ (ix2 r ⟨256 * h.val + x.val, by omega⟩) (fun a => by fin_cases a <;> simp [ix2])).trans (blk3 m c t _ _)
  have ez : View.ld (iblk m c 4 t) (ra h) (ix2 r x) = a0 m c (ix2 (at_ (sq t) (rw_ t r)) ⟨6144 + (256 * h.val + x.val), by omega⟩) :=
    (View.ld_unit_apply_of _ _ _ _ _ (ix2 r ⟨256 * h.val + x.val, by omega⟩) (fun a => by fin_cases a <;> simp [ix2])).trans (blk4 m c t _ _)
  have d1 : (⟨(256 * h.val + x.val) / 256, by omega⟩ : Fin 8) = h := Fin.ext (show (256 * h.val + x.val) / 256 = h.val by omega)
  have d2 : (⟨(256 * h.val + x.val) % 256, by omega⟩ : Fin 256) = x := Fin.ext (show (256 * h.val + x.val) % 256 = x.val by omega)
  refine (act_out m c t h r x).trans ((pay45_apply _ _ _ _ r x).trans ?_)
  rw [eh, eo, ez]
  simp only [hh_eq m c t hf]
  rw [v102_apply, v90_apply, v5_apply, v6_apply]
  dsimp only
  simp only [d1, d2, v79_eq hf]
  rw [← hf.h0 (at_ (sq t) (rw_ t r)) ⟨4096 + (256 * h.val + x.val), by omega⟩, ← hf.h0 (at_ (sq t) (rw_ t r)) ⟨6144 + (256 * h.val + x.val), by omega⟩]
  exact gates _ _ 0 _

/-! ## The result arrays -/

theorem final11_eq : (dats m 0 c).arrAt 11 cfg0.N = val_main_v104 (F := Ideal) (a0 m c) (a1 m c) (a2 m c) (a3 m c) (a4 m c) := by
  refine (dats m 0 c).arrAt_eq_of_covers 11 _ (by decide +kernel) fun t hw y => ?_
  have ht : t.val < 128 := Nat.lt_of_lt_of_eq t.isLt N_0
  blk_simp
  rw [after0_11]
  revert y
  show ∀ y : S128x2048.Idx, _
  intro y
  idx_vars y
  have e : ((win0_11.blk t).view.emb (ix2 y0 y1)) = (ix2 (⟨128 * t.val + y0.val, by omega⟩ : Fin 16384) y1 : S16384x2048.Idx) := by
    blk_ext [idx11 t]
  have ey : y1 = (⟨256 * (⟨y1.val / 256, by omega⟩ : Fin 8).val + (⟨y1.val % 256, by omega⟩ : Fin 256).val, by dsimp only; omega⟩ : Fin 2048) :=
    Fin.ext (show y1.val = 256 * (y1.val / 256) + y1.val % 256 by omega)
  have er : (⟨(128 * t.val + y0.val) % 2048, by omega⟩ : Fin 2048) = rw_ t y0 := Fin.ext (show (128 * t.val + y0.val) % 2048 = 128 * (t.val % 16) + y0.val by omega)
  have es : (⟨(128 * t.val + y0.val) / 2048, by omega⟩ : Fin 8) = sq t := Fin.ext (show (128 * t.val + y0.val) / 2048 = t.val / 16 by omega)
  rw [e, v104_apply]
  dsimp only
  rw [er, es, ey]
  exact act_eq m c t hf _ y0 _

theorem final12_eq : (dats m 0 c).arrAt 12 cfg0.N = val_main_v39 (F := Ideal) (a0 m c) (a1 m c) (a2 m c) (a3 m c) := by
  refine (dats m 0 c).arrAt_eq_of_covers 12 _ (by decide +kernel) fun t hw y => ?_
  have h1 : t.val % 16 = 15 := flush12 t hw
  blk_simp
  rw [after0_12]
  revert y
  show ∀ y : S1x8x256x128.Idx, _
  intro y
  idx_vars y
  obtain rfl : y0 = 0 := Subsingleton.elim _ _
  have e : ((win0_12.blk t).view.emb (ix4 0 y1 y2 y3)) = (ix4 (sq t) y1 y2 y3 : S8x8x256x128.Idx) := by
    blk_ext [idx12 t]
  rw [e, v39_eq hf]
  have p := (after_all m c t hf).hC y1 y3 y2
  rw [last_of t.val h1] at p
  exact (c_last m c t h1 y1 y2 y3).trans p

theorem final13_eq : (dats m 0 c).arrAt 13 cfg0.N = val_main_v40 (F := Ideal) (a0 m c) (a1 m c) (a2 m c) (a3 m c) := by
  refine (dats m 0 c).arrAt_eq_of_covers 13 _ (by decide +kernel) fun t hw y => ?_
  have h1 : t.val % 16 = 15 := flush13 t hw
  blk_simp
  rw [after0_13]
  revert y
  show ∀ y : S1x8x128.Idx, _
  intro y
  idx_vars y
  obtain rfl : y0 = 0 := Subsingleton.elim _ _
  have e : ((win0_13.blk t).view.emb (ix3 0 y1 y2)) = (ix3 (sq t) y1 y2 : S8x8x128.Idx) := by
    blk_ext [idx13 t]
  rw [e, v40_eq hf]
  have p := (after_all m c t hf).hN y1 y2
  rw [last_of t.val h1] at p
  exact (n_last m c t h1 y1 y2).trans p

theorem final14_eq : (dats m 0 c).arrAt 14 cfg0.N = val_main_v105 (F := Ideal) (a1 m c) (a2 m c) (a3 m c) := by
  refine (dats m 0 c).arrAt_eq_of_covers 14 _ (by decide +kernel) fun t hw y => ?_
  have h1 : t.val % 16 = 15 := flush14 t hw
  blk_simp
  rw [after0_14]
  revert y
  show ∀ y : S1x1x128.Idx, _
  intro y
  idx_vars y
  obtain rfl : y0 = 0 := Subsingleton.elim _ _
  obtain rfl : y1 = 0 := Subsingleton.elim _ _
  have e : ((win0_14.blk t).view.emb (ix3 0 0 y2)) = (ix3 (sq t) 0 y2 : S8x1x128.Idx) := by
    blk_ext [idx14 t]
  rw [e, v105_apply, v30_eq hf]
  have p := (after_all m c t hf).hM y2
  rw [last_of t.val h1] at p
  exact (m_last m c t h1 y2).trans p

end

/-! ## The precondition -/

section
open Cert.Pre_finite Cert.Pre_finite.Facts

theorem and_bits (a b : BitVec 1) (h : IntOp.andi a b = 1#1) : a = 1#1 ∧ b = 1#1 := by
  revert a b
  decide

theorem of_bit (b : Bool) (h : BitVec.ofBool b = 1#1) : b = true := by
  revert b
  decide

theorem real_of (x : EReal) (h : FloatOps.cmpf (F := Ideal) (φ := .f32) .olt (FloatOps.absf (F := Ideal) (φ := .f32) x) (Ideal.ofBits .f32 0x7F800000#32) = 1#1) : IsR x := by
  have e : Ideal.ofBits .f32 0x7F800000#32 = ⊤ := by simp [Ideal.ofBits, Ideal.ieee]
  rw [e] at h
  have h' : FloatOps.absf (F := Ideal) (φ := .f32) x < ⊤ := of_decide_eq_true (of_bit _ h)
  induction x using EReal.rec with
  | bot => exact absurd h' (lt_irrefl _)
  | top => exact absurd h' (lt_irrefl _)
  | coe r => rfl

theorem finite (y0 : FVec Ideal Cert.Pre_finite.S16384x8192 .bf16) (y1 : FVec Ideal Cert.Pre_finite.S16384x256 .f32) (y2 y3 : FVec Ideal Cert.Pre_finite.S8 .f32)
    (y4 : FVec Ideal Cert.Pre_finite.S2048 .f32) (h : Cert.Pre_finite.fn (F := Ideal) y0 y1 y2 y3 y4 = fun _ => 1#1) : Fin_ y0 y1 y2 y3 := by
  haveI : Subsingleton Cert.Pre_finite.S_.Idx := ⟨fun a b => funext fun i => i.elim0⟩
  have h0 := congrFun h ix0
  dsimp only [Cert.Pre_finite.fn, Cert.Pre_finite.fn_part1] at h0
  obtain ⟨h012, h3⟩ := and_bits _ _ h0
  obtain ⟨h01, h2⟩ := and_bits _ _ h012
  obtain ⟨h0, h1⟩ := and_bits _ _ h01
  constructor
  · intro R k
    have e := Host.reduce_andi_all _ _ _ _ _ h0 (ix2 R k)
    revert e
    pointwise
    exact fun e => real_of _ e
  · intro R k
    have e := Host.reduce_andi_all _ _ _ _ _ h1 (ix2 R k)
    revert e
    pointwise
    exact fun e => real_of _ e
  · intro j
    have e := Host.reduce_andi_all _ _ _ _ _ h2 (ix1 j)
    revert e
    pointwise
    exact fun e => real_of _ e
  · intro j
    have e := Host.reduce_andi_all _ _ _ _ _ h3 (ix1 j)
    revert e
    pointwise
    exact fun e => real_of _ e
end

end Cert.MlstmIdeal.Rec

namespace Cert.Proof.Mlstm

open Idealize.ShloMosaic Idealize.ShloMosaic.TcCoe Idealize.SL.Sem
open Cert.MlstmIdeal.Rec Cert.MlstmRefIdeal.Read

theorem frame_kernel : Cert.quiescent_Mlstm := fun m ρ _ => Cert.Mlstm.Gen.frame m ρ
theorem frame_ideal : Cert.quiescent_MlstmIdeal := fun m ρ _ => Cert.MlstmIdeal.Gen.frame m ρ
theorem frame_ideal_pre : Cert.quiescent_MlstmIdeal_pre_finite := fun m ρ _ => Cert.MlstmIdeal.Gen.frame m ρ

/-- The reference's frame: its run read at the arguments; it has no semaphore. -/
theorem frame_reference : Cert.quiescent_MlstmRefIdeal := fun m ρ _ =>
  (θ_run Cert.MlstmRefIdeal.defs _ _).mono (fun r h => ⟨fun c => (h c).2.2.2.2,
      Idealize.ShloMosaic.sem_eq_zero_of_no_sems (by decide) r.2⟩)
    (Cert.MlstmRefIdeal.Value.run (F := Ideal) m ρ)
theorem frame_reference_pre : Cert.quiescent_MlstmRefIdeal_pre_finite := fun m ρ _ => frame_reference m ρ trivial

theorem preserves : Cert.preserves_Mlstm_MlstmIdeal := trivial

/-- The four results agree over the extended reals. -/
theorem algebraic : Cert.algebraic_MlstmIdeal_MlstmRefIdeal_pre_finite := by
  intro m ρ m' ρ' hpre hag
  refine ⟨fun c => val_main_v104 (F := Ideal) (a0 m c) (a1 m c) (a2 m c) (a3 m c) (a4 m c), fun c => val_main_v39 (F := Ideal) (a0 m c) (a1 m c) (a2 m c) (a3 m c),
    fun c => val_main_v40 (F := Ideal) (a0 m c) (a1 m c) (a2 m c) (a3 m c), fun c => val_main_v105 (F := Ideal) (a1 m c) (a2 m c) (a3 m c), ?_, ?_⟩
  · exact (θ_run Cert.MlstmIdeal.defs _ _).mono (fun _ h c => by
      have hf := finite _ _ _ _ _ (hpre c)
      exact ⟨(h c).1.trans (final11_eq m c hf), (h c).2.1.trans (final12_eq m c hf),
        (h c).2.2.1.trans (final13_eq m c hf), (h c).2.2.2.1.trans (final14_eq m c hf), (h c).2.2.2.2⟩)
      (Cert.MlstmIdeal.Value.run_blocks m ρ)
  refine (θ_run Cert.MlstmRefIdeal.defs _ _).mono (fun _ h c => ⟨(h c).1.trans ?_, (h c).2.1.trans ?_, (h c).2.2.1.trans ?_, (h c).2.2.2.1.trans ?_, (h c).2.2.2.2⟩)
    (Cert.MlstmRefIdeal.Value.run (F := Ideal) m' ρ')
  · obtain ⟨h0, h1, h2, h3, h4⟩ := hag c
    exact (val_main_v104_eq _).trans (congr (congr (congr (congr (congrArg (val_main_v104 (F := Ideal)) h0) h1) h2) h3) h4)
  · obtain ⟨h0, h1, h2, h3, h4⟩ := hag c
    exact (val_main_v39_eq _).trans (congr (congr (congr (congrArg (val_main_v39 (F := Ideal)) h0) h1) h2) h3)
  · obtain ⟨h0, h1, h2, h3, h4⟩ := hag c
    exact (val_main_v40_eq _).trans (congr (congr (congr (congrArg (val_main_v40 (F := Ideal)) h0) h1) h2) h3)
  · obtain ⟨h0, h1, h2, h3, h4⟩ := hag c
    exact (val_main_v105_eq _).trans (congr (congr (congrArg (val_main_v105 (F := Ideal)) h1) h2) h3)

end Cert.Proof.Mlstm

end
-- ==== Proof.lean ====
module

public import proofs.«01_k».proof.Defs
public import proofs.«01_k».proof.Proof.ConvClaim
public import proofs.«01_k».proof.Proof.FoxProjClaim
public import proofs.«01_k».proof.Proof.MProjClaim
public import proofs.«01_k».proof.Proof.OutClaim
public import proofs.«01_k».proof.Proof.FgateClaim
public import proofs.«01_k».proof.Proof.FlashClaim
public import proofs.«01_k».proof.Proof.MlstmClaim
public import proofs.«01_k».proof.Proof.Gen.Kernel
public import proofs.«01_k».proof.Proof.Gen.KernelIdeal
public import proofs.«01_k».proof.Proof.Gen.ReferenceIdeal
public import proofs.«01_k».proof.Proof.Gen.FoxProj
public import proofs.«01_k».proof.Proof.Gen.FoxProjIdeal
public import proofs.«01_k».proof.Proof.Gen.FoxProjRefIdeal
public import proofs.«01_k».proof.Proof.Gen.MProj
public import proofs.«01_k».proof.Proof.Gen.MProjIdeal
public import proofs.«01_k».proof.Proof.Gen.MProjRefIdeal
public import proofs.«01_k».proof.Proof.Gen.Out
public import proofs.«01_k».proof.Proof.Gen.OutIdeal
public import proofs.«01_k».proof.Proof.Gen.OutRefIdeal
public import proofs.«01_k».proof.Proof.Gen.Fgate
public import proofs.«01_k».proof.Proof.Gen.FgateIdeal
public import proofs.«01_k».proof.Proof.Gen.FgateRefIdeal
public import proofs.«01_k».proof.Proof.Gen.Flash
public import proofs.«01_k».proof.Proof.Gen.FlashIdeal
public import proofs.«01_k».proof.Proof.Gen.FlashRefIdeal
public import proofs.«01_k».proof.Proof.Gen.Mlstm
public import proofs.«01_k».proof.Proof.Gen.MlstmIdeal
public import proofs.«01_k».proof.Proof.Gen.MlstmRefIdeal
public import proofs.«01_k».proof.Proof.Gen.Pre_own_lanes
public import proofs.«01_k».proof.Proof.Gen.Pre_finite
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts,
  Cert.FoxProj.Gen.facts, Cert.FoxProjIdeal.Gen.facts, Cert.FoxProjRefIdeal.Gen.facts,
  Cert.MProj.Gen.facts, Cert.MProjIdeal.Gen.facts, Cert.MProjRefIdeal.Gen.facts,
  Cert.Out.Gen.facts, Cert.OutIdeal.Gen.facts, Cert.OutRefIdeal.Gen.facts,
  Cert.Fgate.Gen.facts, Cert.FgateIdeal.Gen.facts, Cert.FgateRefIdeal.Gen.facts,
  Cert.Flash.Gen.facts, Cert.FlashIdeal.Gen.facts, Cert.FlashRefIdeal.Gen.facts,
  Cert.Mlstm.Gen.facts, Cert.MlstmIdeal.Gen.facts, Cert.MlstmRefIdeal.Gen.facts, Cert.Pre_own_lanes.Gen.facts, Cert.Pre_finite.Gen.facts,
  Conv.frame_kernel, Conv.frame_ideal, Conv.frame_reference,
  FoxProj.frame_kernel, FoxProj.frame_ideal, FoxProj.frame_reference,
  MProj.frame_kernel, MProj.frame_ideal, MProj.frame_reference,
  Out.frame_kernel, Out.frame_ideal, Out.frame_reference,
  Fgate.frame_kernel, Fgate.frame_ideal, Fgate.frame_reference,
  Flash.frame_kernel, Flash.frame_ideal, Flash.frame_ideal_pre, Flash.frame_reference, Flash.frame_reference_pre,
  Mlstm.frame_kernel, Mlstm.frame_ideal, Mlstm.frame_ideal_pre, Mlstm.frame_reference, Mlstm.frame_reference_pre,
  Conv.preserves, Conv.algebraic,
  FoxProj.preserves, FoxProj.algebraic,
  MProj.preserves, MProj.algebraic,
  Out.preserves, Out.algebraic,
  Fgate.preserves, Fgate.algebraic,
  Flash.preserves, Flash.algebraic,
  Mlstm.preserves, Mlstm.algebraic⟩

end Cert.Proof

end
